-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .bf16) (main_arg1 : FVec F S1024x1024 .bf16) (main_arg2 : FVec F S1x2048x64x128 .bf16) (main_arg3 : FVec F S1x2048x64x128 .bf16) (main_arg4 : FVec F S1024x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_c_1 : IVec S_ 1 := constantI S_ 1 1#1
  let main_v9 : IVec S_ 1 := (fun x v => Host.reduce IntOp.andi x v reducesTo_S1024x1024_S_d0_1 h_S_) main_v8 main_c_1
  let main_v10 : IVec S_ 1 := andi main_v4 main_v9
  let main_v11 : FVec F S1x2048x64x128 .f32 := (extf .f32 · bitsLt_bf16_f32) main_arg2
  let main_v12 : FVec F S1x2048x64x128 .f32 := Host.absf main_v11
  let main_cst_2 : FVec F S_ .f32 := constant S_ .f32 0x7F800000#32
  let main_v13 : FVec F S1x2048x64x128 .f32 := broadcastInDim S1x2048x64x128 ![] bcast_S_S1x2048x64x128 main_cst_2
  let main_v14 : IVec S1x2048x64x128 1 := cmpf .olt main_v12 main_v13
  let main_c_3 : IVec S_ 1 := constantI S_ 1 1#1
  let main_v15 : IVec S_ 1 := (fun x v => Host.reduce IntOp.andi x v reducesTo_S1x2048x64x128_S_d0_1_2_3 h_S_) main_v14 main_c_3
  let main_v16 : IVec S_ 1 := andi main_v10 main_v15
  main_v16
-- ==== Pre_finite_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bitsLt_bf16_f32 : FTy.bits .bf16 < FTy.bits .f32
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .bf16) (main_arg1 : FVec F S1024x8192 .bf16) (main_arg2 : FVec F S1x2048x64x128 .bf16) (main_arg3 : FVec F S1x2048x64x128 .bf16) (main_arg4 : FVec F S8192x1024 .bf16) : IVec S_ 1 :=
  let main_v0 : FVec F S1x2048x1024 .f32 := (extf .f32 · bitsLt_bf16_f32) main_arg0
  let main_v1 : FVec F S1x2048x1024 .f32 := Host.absf main_v0
  let main_cst : FVec F S_ .f32 := constant S_ .f32 0x7F800000#32
  let main_v2 : FVec F S1x2048x1024 .f32 := broadcastInDim S1x2048x1024 ![] bcast_S_S1x2048x1024 main_cst
  let main_v3 : IVec S1x2048x1024 1 := cmpf .olt main_v1 main_v2
  let main_c : IVec S_ 1 := constantI S_ 1 1#1
  let main_v4 : IVec S_ 1 := (fun x v => Host.reduce IntOp.andi x v reducesTo_S1x2048x1024_S_d0_1_2 h_S_) main_v3 main_c
  let main_v5 : FVec F S1024x8192 .f32 := (extf .f32 · bitsLt_bf16_f32) main_arg1
  let main_v6 : FVec F S1024x8192 .f32 := Host.absf main_v5
  let main_cst_0 : FVec F S_ .f32 := constant S_ .f32 0x7F800000#32
  let main_v7 : FVec F S1024x8192 .f32 := broadcastInDim S1024x8192 ![] bcast_S_S1024x8192 main_cst_0
  let main_v8 : IVec S1024x8192 1 := cmpf .olt main_v6 main_v7
  let main_c_1 : IVec S_ 1 := constantI S_ 1 1#1
  let main_v9 : IVec S_ 1 := (fun x v => Host.reduce IntOp.andi x v reducesTo_S1024x8192_S_d0_1 h_S_) main_v8 main_c_1
  let main_v10 : IVec S_ 1 := andi main_v4 main_v9
  let main_v11 : FVec F S1x2048x64x128 .f32 := (extf .f32 · bitsLt_bf16_f32) main_arg2
  let main_v12 : FVec F S1x2048x64x128 .f32 := Host.absf main_v11
  let main_cst_2 : FVec F S_ .f32 := constant S_ .f32 0x7F800000#32
  let main_v13 : FVec F S1x2048x64x128 .f32 := broadcastInDim S1x2048x64x128 ![] bcast_S_S1x2048x64x128 main_cst_2
  let main_v14 : IVec S1x2048x64x128 1 := cmpf .olt main_v12 main_v13
  let main_c_3 : IVec S_ 1 := constantI S_ 1 1#1
  let main_v15 : IVec S_ 1 := (fun x v => Host.reduce IntOp.andi x v reducesTo_S1x2048x64x128_S_d0_1_2_3 h_S_) main_v14 main_c_3
  let main_v16 : IVec S_ 1 := andi main_v10 main_v15
  main_v16
-- ==== Kernel.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩
abbrev S2048x64x128 : Shape := ⟨3, ![2048, 64, 128]⟩
abbrev S2048x8x128 : Shape := ⟨3, ![2048, 8, 128]⟩
abbrev S2048x1024 : Shape := ⟨2, ![2048, 1024]⟩
abbrev S7x256x512 : Shape := ⟨3, ![7, 256, 512]⟩
abbrev S128x2048 : Shape := ⟨2, ![128, 2048]⟩
abbrev S384x768 : Shape := ⟨2, ![384, 768]⟩
abbrev S512x768 : Shape := ⟨2, ![512, 768]⟩
abbrev S512x128 : Shape := ⟨2, ![512, 128]⟩
abbrev S14 : Shape := ⟨1, ![14]⟩
abbrev S1x512x1024 : Shape := ⟨3, ![1, 512, 1024]⟩
abbrev S512x1024 : Shape := ⟨2, ![512, 1024]⟩
abbrev S128x128 : Shape := ⟨2, ![128, 128]⟩
abbrev S2048x128 : Shape := ⟨2, ![2048, 128]⟩
abbrev S128 : Shape := ⟨1, ![128]⟩
abbrev S128x1 : Shape := ⟨2, ![128, 1]⟩
abbrev S384x128 : Shape := ⟨2, ![384, 128]⟩
abbrev S768x128 : Shape := ⟨2, ![768, 128]⟩
abbrev S384 : Shape := ⟨1, ![384]⟩
abbrev S384x1 : Shape := ⟨2, ![384, 1]⟩
abbrev S512 : Shape := ⟨1, ![512]⟩
abbrev S512x1 : Shape := ⟨2, ![512, 1]⟩
abbrev S1 : Shape := ⟨1, ![1]⟩
abbrev S1x256x512 : Shape := ⟨3, ![1, 256, 512]⟩
abbrev S256x512 : Shape := ⟨2, ![256, 512]⟩

abbrev nBuf : Space → Nat
  | .hbm => 36
  | .vmem => 15
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x64x128, .bf16⟩
  | .hbm, ⟨3, _⟩ => ⟨S1x2048x64x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x64x128, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048x8x128, .bf16⟩
  | .hbm, ⟨22, _⟩ => ⟨S2048x1024, .bf16⟩
  | .hbm, ⟨23, _⟩ => ⟨S2048x64x128, .bf16⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S2048x8x128, .bf16⟩
  | .hbm, ⟨34, _⟩ => ⟨S2048x1024, .bf16⟩
  | .hbm, ⟨35, _⟩ => ⟨S1x2048x1024, .f32⟩
  | .local _ .vmem, ⟨0, _⟩ => ⟨S1x2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1x2048x1024, .f32⟩
  | .local _ .vmem, ⟨6, _⟩ => ⟨S2048x1024, .bf16⟩
  | .local _ .vmem, ⟨7, _⟩ => ⟨S2048x1024, .bf16⟩
  | .local _ .vmem, ⟨8, _⟩ => ⟨S2048x1024, .bf16⟩
  | .local _ .vmem, ⟨9, _⟩ => ⟨S7x256x512, .bf16⟩
  | .local _ .vmem, ⟨10, _⟩ => ⟨S7x256x512, .bf16⟩
  | .local _ .vmem, ⟨11, _⟩ => ⟨S128x2048, .f32⟩
  | .local _ .vmem, ⟨12, _⟩ => ⟨S384x768, .f32⟩
  | .local _ .vmem, ⟨13, _⟩ => ⟨S512x768, .f32⟩
  | .local _ .vmem, ⟨14, _⟩ => ⟨S512x128, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_31 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_30 : BitVec 32 := 1#32
  let v72 : BitVec 32 := Scalar.muli v54 c1_i32_30
  let v73 : BitVec 32 := Scalar.addi c0_i32_31 v72
  v73.toNat
def k0_dev2 (d0 : Dev nD) : Nat :=
  let c0_i32_34 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_33 : BitVec 32 := 1#32
  let v74 : BitVec 32 := Scalar.muli v60 c1_i32_33
  let v75 : BitVec 32 := Scalar.addi c0_i32_34 v74
  v75.toNat
def k0_dev3 (d0 : Dev nD) : Nat :=
  let c0_i32_37 : BitVec 32 := 0#32
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v61 : BitVec 32 := Scalar.subi c1_i32_24 v20
  let v62 : BitVec 32 := Scalar.muli c4_i32_25 v61
  let c2_i32_26 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v63 : BitVec 32 := Scalar.muli c2_i32_26 v37
  let v64 : BitVec 32 := Scalar.addi v62 v63
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v65 : BitVec 32 := Scalar.xori v48 v37
  let v66 : BitVec 32 := Scalar.addi v64 v65
  let c1_i32_36 : BitVec 32 := 1#32
  let v76 : BitVec 32 := Scalar.muli v66 c1_i32_36
  let v77 : BitVec 32 := Scalar.addi c0_i32_37 v76
  v77.toNat
def k0_off1 (d0 : Dev nD) (c0_i32_959 : BitVec 32) (c0_i32_960 : BitVec 32) : Fin 2 → Nat :=
  let c1_i32_958 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let v1590 : BitVec 32 := Scalar.subi c1_i32_958 v48
  let v1591 : BitVec 32 := Scalar.addi v1590 c0_i32_959
  let v1592 : BitVec 32 := Scalar.addi v1591 c0_i32_960
  let c256_i32 : BitVec 32 := 256#32
  let v1714 : BitVec 32 := Scalar.muli v1592 c256_i32
  let c0_i32_1073 : BitVec 32 := 0#32
  ![v1714.toNat, 0]
def k0_dev4 (d0 : Dev nD) : Nat :=
  let c0_i32_1070 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1069 : BitVec 32 := 1#32
  let v1715 : BitVec 32 := Scalar.muli v54 c1_i32_1069
  let v1716 : BitVec 32 := Scalar.addi c0_i32_1070 v1715
  v1716.toNat
def k0_dev5 (d0 : Dev nD) : Nat :=
  let c0_i32_1079 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1078 : BitVec 32 := 1#32
  let v1725 : BitVec 32 := Scalar.muli v54 c1_i32_1078
  let v1726 : BitVec 32 := Scalar.addi c0_i32_1079 v1725
  v1726.toNat
def k0_dev6 (d0 : Dev nD) : Nat :=
  let c0_i32_1088 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1087 : BitVec 32 := 1#32
  let v1735 : BitVec 32 := Scalar.muli v54 c1_i32_1087
  let v1736 : BitVec 32 := Scalar.addi c0_i32_1088 v1735
  v1736.toNat
def k0_dev7 (d0 : Dev nD) : Nat :=
  let c0_i32_1097 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1096 : BitVec 32 := 1#32
  let v1745 : BitVec 32 := Scalar.muli v54 c1_i32_1096
  let v1746 : BitVec 32 := Scalar.addi c0_i32_1097 v1745
  v1746.toNat
def k0_off2 (d0 : Dev nD) (c0_i32_993 : BitVec 32) (c0_i32_994 : BitVec 32) : Fin 2 → Nat :=
  let c2_i32_992 : BitVec 32 := 2#32
  let c1_i32_991 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v1629 : BitVec 32 := Scalar.subi c1_i32_991 v37
  let v1630 : BitVec 32 := Scalar.muli c2_i32_992 v1629
  let v1631 : BitVec 32 := Scalar.addi c0_i32_993 v1630
  let v1632 : BitVec 32 := Scalar.addi v1631 c0_i32_994
  let c256_i32_1101 : BitVec 32 := 256#32
  let v1754 : BitVec 32 := Scalar.muli v1632 c256_i32_1101
  let c512_i32_1109 : BitVec 32 := 512#32
  ![v1754.toNat, 512]
def k0_dev8 (d0 : Dev nD) : Nat :=
  let c0_i32_1106 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1105 : BitVec 32 := 1#32
  let v1755 : BitVec 32 := Scalar.muli v60 c1_i32_1105
  let v1756 : BitVec 32 := Scalar.addi c0_i32_1106 v1755
  v1756.toNat
def k0_dev9 (d0 : Dev nD) : Nat :=
  let c0_i32_1115 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1114 : BitVec 32 := 1#32
  let v1765 : BitVec 32 := Scalar.muli v60 c1_i32_1114
  let v1766 : BitVec 32 := Scalar.addi c0_i32_1115 v1765
  v1766.toNat
def k0_dev10 (d0 : Dev nD) : Nat :=
  let c0_i32_1124 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1123 : BitVec 32 := 1#32
  let v1775 : BitVec 32 := Scalar.muli v60 c1_i32_1123
  let v1776 : BitVec 32 := Scalar.addi c0_i32_1124 v1775
  v1776.toNat
def k0_dev11 (d0 : Dev nD) : Nat :=
  let c0_i32_1133 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1132 : BitVec 32 := 1#32
  let v1785 : BitVec 32 := Scalar.muli v60 c1_i32_1132
  let v1786 : BitVec 32 := Scalar.addi c0_i32_1133 v1785
  v1786.toNat
def k0_off3 (d0 : Dev nD) (c0_i32_961 : BitVec 32) (c0_i32_962 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let v1593 : BitVec 32 := Scalar.addi v48 c0_i32_961
  let v1594 : BitVec 32 := Scalar.addi v1593 c0_i32_962
  let c256_i32_1257 : BitVec 32 := 256#32
  let v1890 : BitVec 32 := Scalar.muli v1594 c256_i32_1257
  let v1891 : Index := Scalar.indexCast v1890
  let c0_1258 : Index := 0#32
  ![v1891.toNat, 0]
def k0_off4 (d0 : Dev nD) (c0_i32_996 : BitVec 32) (c0_i32_997 : BitVec 32) : Fin 2 → Nat :=
  let c2_i32_995 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v1633 : BitVec 32 := Scalar.muli c2_i32_995 v37
  let v1634 : BitVec 32 := Scalar.addi c0_i32_996 v1633
  let v1635 : BitVec 32 := Scalar.addi v1634 c0_i32_997
  let c256_i32_1278 : BitVec 32 := 256#32
  let v1930 : BitVec 32 := Scalar.muli v1635 c256_i32_1278
  let v1931 : Index := Scalar.indexCast v1930
  let c512_1279 : Index := 512#32
  ![v1931.toNat, 512]
def k0_off5 (d0 : Dev nD) (c0_i32_980 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_979 : BitVec 32 := 2#32
  let c1_i32_978 : BitVec 32 := 1#32
  let v1610 : BitVec 32 := Scalar.subi c1_i32_978 v37
  let v1611 : BitVec 32 := Scalar.muli c2_i32_979 v1610
  let v1612 : BitVec 32 := Scalar.addi v48 v1611
  let v1613 : BitVec 32 := Scalar.addi v1612 c0_i32_980
  let c256_i32_1302 : BitVec 32 := 256#32
  let v1970 : BitVec 32 := Scalar.muli v1613 c256_i32_1302
  let c0_i32_1310 : BitVec 32 := 0#32
  ![v1970.toNat, 0]
def k0_dev12 (d0 : Dev nD) : Nat :=
  let c0_i32_1307 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1306 : BitVec 32 := 1#32
  let v1971 : BitVec 32 := Scalar.muli v60 c1_i32_1306
  let v1972 : BitVec 32 := Scalar.addi c0_i32_1307 v1971
  v1972.toNat
def k0_dev13 (d0 : Dev nD) : Nat :=
  let c0_i32_1315 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1314 : BitVec 32 := 1#32
  let v1981 : BitVec 32 := Scalar.muli v60 c1_i32_1314
  let v1982 : BitVec 32 := Scalar.addi c0_i32_1315 v1981
  v1982.toNat
def k0_off6 (d0 : Dev nD) (c0_i32_1020 : BitVec 32) : Fin 2 → Nat :=
  let c2_i32_1019 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v1657 : BitVec 32 := Scalar.muli c2_i32_1019 v37
  let v1658 : BitVec 32 := Scalar.addi c0_i32_1020 v1657
  let c4_i32_1022 : BitVec 32 := 4#32
  let c1_i32_1021 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1659 : BitVec 32 := Scalar.subi c1_i32_1021 v20
  let v1660 : BitVec 32 := Scalar.muli c4_i32_1022 v1659
  let v1661 : BitVec 32 := Scalar.addi v1658 v1660
  let c256_i32_1319 : BitVec 32 := 256#32
  let v1990 : BitVec 32 := Scalar.muli v1661 c256_i32_1319
  let c512_i32_1327 : BitVec 32 := 512#32
  ![v1990.toNat, 512]
def k0_dev14 (d0 : Dev nD) : Nat :=
  let c0_i32_1324 : BitVec 32 := 0#32
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v61 : BitVec 32 := Scalar.subi c1_i32_24 v20
  let v62 : BitVec 32 := Scalar.muli c4_i32_25 v61
  let c2_i32_26 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v63 : BitVec 32 := Scalar.muli c2_i32_26 v37
  let v64 : BitVec 32 := Scalar.addi v62 v63
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v65 : BitVec 32 := Scalar.xori v48 v37
  let v66 : BitVec 32 := Scalar.addi v64 v65
  let c1_i32_1323 : BitVec 32 := 1#32
  let v1991 : BitVec 32 := Scalar.muli v66 c1_i32_1323
  let v1992 : BitVec 32 := Scalar.addi c0_i32_1324 v1991
  v1992.toNat
def k0_dev15 (d0 : Dev nD) : Nat :=
  let c0_i32_1333 : BitVec 32 := 0#32
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v61 : BitVec 32 := Scalar.subi c1_i32_24 v20
  let v62 : BitVec 32 := Scalar.muli c4_i32_25 v61
  let c2_i32_26 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v63 : BitVec 32 := Scalar.muli c2_i32_26 v37
  let v64 : BitVec 32 := Scalar.addi v62 v63
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v65 : BitVec 32 := Scalar.xori v48 v37
  let v66 : BitVec 32 := Scalar.addi v64 v65
  let c1_i32_1332 : BitVec 32 := 1#32
  let v2001 : BitVec 32 := Scalar.muli v66 c1_i32_1332
  let v2002 : BitVec 32 := Scalar.addi c0_i32_1333 v2001
  v2002.toNat
def k0_off7 (d0 : Dev nD) (c0_i32_982 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_981 : BitVec 32 := 2#32
  let v1614 : BitVec 32 := Scalar.muli c2_i32_981 v37
  let v1615 : BitVec 32 := Scalar.addi v48 v1614
  let v1616 : BitVec 32 := Scalar.addi v1615 c0_i32_982
  let c256_i32_1397 : BitVec 32 := 256#32
  let v2058 : BitVec 32 := Scalar.muli v1616 c256_i32_1397
  let v2059 : Index := Scalar.indexCast v2058
  let c0_1398 : Index := 0#32
  ![v2059.toNat, 0]
def k0_off8 (d0 : Dev nD) (c0_i32_1024 : BitVec 32) : Fin 2 → Nat :=
  let c2_i32_1023 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v1662 : BitVec 32 := Scalar.muli c2_i32_1023 v37
  let v1663 : BitVec 32 := Scalar.addi c0_i32_1024 v1662
  let c4_i32_1025 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1664 : BitVec 32 := Scalar.muli c4_i32_1025 v20
  let v1665 : BitVec 32 := Scalar.addi v1663 v1664
  let c256_i32_1407 : BitVec 32 := 256#32
  let v2078 : BitVec 32 := Scalar.muli v1665 c256_i32_1407
  let v2079 : Index := Scalar.indexCast v2078
  let c512_1408 : Index := 512#32
  ![v2079.toNat, 512]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_988 : BitVec 32 := 2#32
  let v1624 : BitVec 32 := Scalar.muli c2_i32_988 v37
  let v1625 : BitVec 32 := Scalar.addi v48 v1624
  let c4_i32_990 : BitVec 32 := 4#32
  let c1_i32_989 : BitVec 32 := 1#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1626 : BitVec 32 := Scalar.subi c1_i32_989 v20
  let v1627 : BitVec 32 := Scalar.muli c4_i32_990 v1626
  let v1628 : BitVec 32 := Scalar.addi v1625 v1627
  let c256_i32_1419 : BitVec 32 := 256#32
  let v2098 : BitVec 32 := Scalar.muli v1628 c256_i32_1419
  let c0_i32_1426 : BitVec 32 := 0#32
  ![v2098.toNat, 0]
def k0_dev16 (d0 : Dev nD) : Nat :=
  let c0_i32_1423 : BitVec 32 := 0#32
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v61 : BitVec 32 := Scalar.subi c1_i32_24 v20
  let v62 : BitVec 32 := Scalar.muli c4_i32_25 v61
  let c2_i32_26 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v63 : BitVec 32 := Scalar.muli c2_i32_26 v37
  let v64 : BitVec 32 := Scalar.addi v62 v63
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v65 : BitVec 32 := Scalar.xori v48 v37
  let v66 : BitVec 32 := Scalar.addi v64 v65
  let c1_i32_1422 : BitVec 32 := 1#32
  let v2099 : BitVec 32 := Scalar.muli v66 c1_i32_1422
  let v2100 : BitVec 32 := Scalar.addi c0_i32_1423 v2099
  v2100.toNat
def k0_off10 (d0 : Dev nD) : Fin 2 → Nat :=
  let c1_i32_1033 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let v1675 : BitVec 32 := Scalar.subi c1_i32_1033 v48
  let c2_i32_1034 : BitVec 32 := 2#32
  let v1676 : BitVec 32 := Scalar.muli c2_i32_1034 v37
  let v1677 : BitVec 32 := Scalar.addi v1675 v1676
  let c4_i32_1035 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1678 : BitVec 32 := Scalar.muli c4_i32_1035 v20
  let v1679 : BitVec 32 := Scalar.addi v1677 v1678
  let c256_i32_1427 : BitVec 32 := 256#32
  let v2108 : BitVec 32 := Scalar.muli v1679 c256_i32_1427
  let c512_i32_1435 : BitVec 32 := 512#32
  ![v2108.toNat, 512]
def k0_dev17 (d0 : Dev nD) : Nat :=
  let c0_i32_1432 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1431 : BitVec 32 := 1#32
  let v2109 : BitVec 32 := Scalar.muli v54 c1_i32_1431
  let v2110 : BitVec 32 := Scalar.addi c0_i32_1432 v2109
  v2110.toNat
def k0_off11 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_27 : BitVec 32 := 2#32
  let v67 : BitVec 32 := Scalar.muli c2_i32_27 v37
  let v68 : BitVec 32 := Scalar.addi v48 v67
  let c4_i32_28 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v69 : BitVec 32 := Scalar.muli c4_i32_28 v20
  let v70 : BitVec 32 := Scalar.addi v68 v69
  let c256_i32_1466 : BitVec 32 := 256#32
  let v2142 : BitVec 32 := Scalar.muli v70 c256_i32_1466
  let v2143 : Index := Scalar.indexCast v2142
  let c0_1467 : Index := 0#32
  ![v2143.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_27 : BitVec 32 := 2#32
  let v67 : BitVec 32 := Scalar.muli c2_i32_27 v37
  let v68 : BitVec 32 := Scalar.addi v48 v67
  let c4_i32_28 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v69 : BitVec 32 := Scalar.muli c4_i32_28 v20
  let v70 : BitVec 32 := Scalar.addi v68 v69
  let c256_i32_1471 : BitVec 32 := 256#32
  let v2152 : BitVec 32 := Scalar.muli v70 c256_i32_1471
  let v2153 : Index := Scalar.indexCast v2152
  let c512_1472 : Index := 512#32
  ![v2153.toNat, 512]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_27 : BitVec 32 := 2#32
  let v67 : BitVec 32 := Scalar.muli c2_i32_27 v37
  let v68 : BitVec 32 := Scalar.addi v48 v67
  let c4_i32_28 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v69 : BitVec 32 := Scalar.muli c4_i32_28 v20
  let v70 : BitVec 32 := Scalar.addi v68 v69
  let c256_i32_1477 : BitVec 32 := 256#32
  let v2162 : BitVec 32 := Scalar.muli v70 c256_i32_1477
  let c0_i32_1482 : BitVec 32 := 0#32
  ![v2162.toNat, 0]
def k0_dev18 (d0 : Dev nD) : Nat :=
  let c0_i32_1481 : BitVec 32 := 0#32
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v61 : BitVec 32 := Scalar.subi c1_i32_24 v20
  let v62 : BitVec 32 := Scalar.muli c4_i32_25 v61
  let c2_i32_26 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v63 : BitVec 32 := Scalar.muli c2_i32_26 v37
  let v64 : BitVec 32 := Scalar.addi v62 v63
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v65 : BitVec 32 := Scalar.xori v48 v37
  let v66 : BitVec 32 := Scalar.addi v64 v65
  let c1_i32_1480 : BitVec 32 := 1#32
  let v2164 : BitVec 32 := Scalar.muli v66 c1_i32_1480
  let v2165 : BitVec 32 := Scalar.addi c0_i32_1481 v2164
  v2165.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_27 : BitVec 32 := 2#32
  let v67 : BitVec 32 := Scalar.muli c2_i32_27 v37
  let v68 : BitVec 32 := Scalar.addi v48 v67
  let c4_i32_28 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v69 : BitVec 32 := Scalar.muli c4_i32_28 v20
  let v70 : BitVec 32 := Scalar.addi v68 v69
  let c256_i32_1484 : BitVec 32 := 256#32
  let v2172 : BitVec 32 := Scalar.muli v70 c256_i32_1484
  let c512_i32_1490 : BitVec 32 := 512#32
  ![v2172.toNat, 512]
def k0_dev19 (d0 : Dev nD) : Nat :=
  let c0_i32_1489 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1488 : BitVec 32 := 1#32
  let v2174 : BitVec 32 := Scalar.muli v54 c1_i32_1488
  let v2175 : BitVec 32 := Scalar.addi c0_i32_1489 v2174
  v2175.toNat
def k0_off15 (d0 : Dev nD) (c0_i32_1037 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let c2_i32_1036 : BitVec 32 := 2#32
  let v1680 : BitVec 32 := Scalar.muli c2_i32_1036 v37
  let v1681 : BitVec 32 := Scalar.addi v48 v1680
  let v1682 : BitVec 32 := Scalar.addi v1681 c0_i32_1037
  let c256_i32_1514 : BitVec 32 := 256#32
  let v2202 : BitVec 32 := Scalar.muli v1682 c256_i32_1514
  let c0_i32_1520 : BitVec 32 := 0#32
  ![v2202.toNat, 0]
def k0_dev20 (d0 : Dev nD) : Nat :=
  let c0_i32_1519 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1518 : BitVec 32 := 1#32
  let v2204 : BitVec 32 := Scalar.muli v60 c1_i32_1518
  let v2205 : BitVec 32 := Scalar.addi c0_i32_1519 v2204
  v2205.toNat
def k0_dev21 (d0 : Dev nD) : Nat :=
  let c0_i32_1526 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1525 : BitVec 32 := 1#32
  let v2214 : BitVec 32 := Scalar.muli v60 c1_i32_1525
  let v2215 : BitVec 32 := Scalar.addi c0_i32_1526 v2214
  v2215.toNat
def k0_off16 (d0 : Dev nD) (c0_i32_1049 : BitVec 32) : Fin 2 → Nat :=
  let c2_i32_1048 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v1694 : BitVec 32 := Scalar.muli c2_i32_1048 v37
  let v1695 : BitVec 32 := Scalar.addi c0_i32_1049 v1694
  let c4_i32_1050 : BitVec 32 := 4#32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v1696 : BitVec 32 := Scalar.muli c4_i32_1050 v20
  let v1697 : BitVec 32 := Scalar.addi v1695 v1696
  let c256_i32_1529 : BitVec 32 := 256#32
  let v2222 : BitVec 32 := Scalar.muli v1697 c256_i32_1529
  let c512_i32_1535 : BitVec 32 := 512#32
  ![v2222.toNat, 512]
def k0_dev22 (d0 : Dev nD) : Nat :=
  let c0_i32_1534 : BitVec 32 := 0#32
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v61 : BitVec 32 := Scalar.subi c1_i32_24 v20
  let v62 : BitVec 32 := Scalar.muli c4_i32_25 v61
  let c2_i32_26 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v63 : BitVec 32 := Scalar.muli c2_i32_26 v37
  let v64 : BitVec 32 := Scalar.addi v62 v63
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v65 : BitVec 32 := Scalar.xori v48 v37
  let v66 : BitVec 32 := Scalar.addi v64 v65
  let c1_i32_1533 : BitVec 32 := 1#32
  let v2224 : BitVec 32 := Scalar.muli v66 c1_i32_1533
  let v2225 : BitVec 32 := Scalar.addi c0_i32_1534 v2224
  v2225.toNat
def k0_dev23 (d0 : Dev nD) : Nat :=
  let c0_i32_1542 : BitVec 32 := 0#32
  let c4_i32_25 : BitVec 32 := 4#32
  let c1_i32_24 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v61 : BitVec 32 := Scalar.subi c1_i32_24 v20
  let v62 : BitVec 32 := Scalar.muli c4_i32_25 v61
  let c2_i32_26 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v63 : BitVec 32 := Scalar.muli c2_i32_26 v37
  let v64 : BitVec 32 := Scalar.addi v62 v63
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v65 : BitVec 32 := Scalar.xori v48 v37
  let v66 : BitVec 32 := Scalar.addi v64 v65
  let c1_i32_1541 : BitVec 32 := 1#32
  let v2234 : BitVec 32 := Scalar.muli v66 c1_i32_1541
  let v2235 : BitVec 32 := Scalar.addi c0_i32_1542 v2234
  v2235.toNat
def k0_off17 (d0 : Dev nD) (c0_i32_1040 : BitVec 32) (c0_i32_1041 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v48 : BitVec 32 := Scalar.xori v47 v37
  let v1686 : BitVec 32 := Scalar.addi v48 c0_i32_1040
  let v1687 : BitVec 32 := Scalar.addi v1686 c0_i32_1041
  let c256_i32_1589 : BitVec 32 := 256#32
  let v2282 : BitVec 32 := Scalar.muli v1687 c256_i32_1589
  let c0_i32_1594 : BitVec 32 := 0#32
  ![v2282.toNat, 0]
def k0_dev24 (d0 : Dev nD) : Nat :=
  let c0_i32_1593 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1592 : BitVec 32 := 1#32
  let v2284 : BitVec 32 := Scalar.muli v54 c1_i32_1592
  let v2285 : BitVec 32 := Scalar.addi c0_i32_1593 v2284
  v2285.toNat
def k0_dev25 (d0 : Dev nD) : Nat :=
  let c0_i32_1600 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1599 : BitVec 32 := 1#32
  let v2294 : BitVec 32 := Scalar.muli v54 c1_i32_1599
  let v2295 : BitVec 32 := Scalar.addi c0_i32_1600 v2294
  v2295.toNat
def k0_dev26 (d0 : Dev nD) : Nat :=
  let c0_i32_1607 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1606 : BitVec 32 := 1#32
  let v2304 : BitVec 32 := Scalar.muli v54 c1_i32_1606
  let v2305 : BitVec 32 := Scalar.addi c0_i32_1607 v2304
  v2305.toNat
def k0_dev27 (d0 : Dev nD) : Nat :=
  let c0_i32_1614 : BitVec 32 := 0#32
  let c4_i32_19 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v50 : BitVec 32 := Scalar.muli c4_i32_19 v20
  let c2_i32_20 : BitVec 32 := 2#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v51 : BitVec 32 := Scalar.muli c2_i32_20 v37
  let v52 : BitVec 32 := Scalar.addi v50 v51
  let c1_i32_18 : BitVec 32 := 1#32
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v49 : BitVec 32 := Scalar.subi c1_i32_18 v48
  let v53 : BitVec 32 := Scalar.xori v49 v37
  let v54 : BitVec 32 := Scalar.addi v52 v53
  let c1_i32_1613 : BitVec 32 := 1#32
  let v2314 : BitVec 32 := Scalar.muli v54 c1_i32_1613
  let v2315 : BitVec 32 := Scalar.addi c0_i32_1614 v2314
  v2315.toNat
def k0_off18 (d0 : Dev nD) (c0_i32_1055 : BitVec 32) (c0_i32_1056 : BitVec 32) : Fin 2 → Nat :=
  let c2_i32_1054 : BitVec 32 := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v1702 : BitVec 32 := Scalar.muli c2_i32_1054 v37
  let v1703 : BitVec 32 := Scalar.addi c0_i32_1055 v1702
  let v1704 : BitVec 32 := Scalar.addi v1703 c0_i32_1056
  let c256_i32_1617 : BitVec 32 := 256#32
  let v2322 : BitVec 32 := Scalar.muli v1704 c256_i32_1617
  let c512_i32_1623 : BitVec 32 := 512#32
  ![v2322.toNat, 512]
def k0_dev28 (d0 : Dev nD) : Nat :=
  let c0_i32_1622 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1621 : BitVec 32 := 1#32
  let v2324 : BitVec 32 := Scalar.muli v60 c1_i32_1621
  let v2325 : BitVec 32 := Scalar.addi c0_i32_1622 v2324
  v2325.toNat
def k0_dev29 (d0 : Dev nD) : Nat :=
  let c0_i32_1630 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1629 : BitVec 32 := 1#32
  let v2334 : BitVec 32 := Scalar.muli v60 c1_i32_1629
  let v2335 : BitVec 32 := Scalar.addi c0_i32_1630 v2334
  v2335.toNat
def k0_dev30 (d0 : Dev nD) : Nat :=
  let c0_i32_1638 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1637 : BitVec 32 := 1#32
  let v2344 : BitVec 32 := Scalar.muli v60 c1_i32_1637
  let v2345 : BitVec 32 := Scalar.addi c0_i32_1638 v2344
  v2345.toNat
def k0_dev31 (d0 : Dev nD) : Nat :=
  let c0_i32_1646 : BitVec 32 := 0#32
  let c4_i32_22 : BitVec 32 := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v56 : BitVec 32 := Scalar.muli c4_i32_22 v20
  let c2_i32_23 : BitVec 32 := 2#32
  let c1_i32_21 : BitVec 32 := 1#32
  let c4_i32 : BitVec 32 := 4#32
  let v3 : BitVec 32 := Scalar.remsi v2 c4_i32
  let c0_i32_6 : BitVec 32 := 0#32
  let v22 : BitVec 1 := Scalar.cmpi .sgt v3 c0_i32_6
  let v23 : BitVec 32 := Scalar.extui v22
  let c0_i32_7 : BitVec 32 := 0#32
  let v24 : BitVec 1 := Scalar.cmpi .slt v3 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v3 c2_i32
  let c0_i32_10 : BitVec 32 := 0#32
  let v34 : BitVec 1 := Scalar.cmpi .ne v33 c0_i32_10
  let v35 : BitVec 1 := Scalar.andi v32 v34
  let v21 : BitVec 32 := Scalar.divsi v3 c2_i32
  let c1_i32_11 : BitVec 32 := 1#32
  let v36 : BitVec 32 := Scalar.subi v21 c1_i32_11
  let v37 : BitVec 32 := Scalar.select v35 v36 v21
  let v55 : BitVec 32 := Scalar.subi c1_i32_21 v37
  let v57 : BitVec 32 := Scalar.muli c2_i32_23 v55
  let v58 : BitVec 32 := Scalar.addi v56 v57
  let c2_i32_12 : BitVec 32 := 2#32
  let c0_i32_13 : BitVec 32 := 0#32
  let v38 : BitVec 1 := Scalar.cmpi .eq c2_i32_12 c0_i32_13
  let c1_i32_14 : BitVec 32 := 1#32
  let v39 : BitVec 32 := Scalar.select v38 c1_i32_14 c2_i32_12
  let v40 : BitVec 32 := Scalar.remsi v3 v39
  let c0_i32_16 : BitVec 32 := 0#32
  let v42 : BitVec 1 := Scalar.cmpi .slt v40 c0_i32_16
  let c0_i32_17 : BitVec 32 := 0#32
  let v43 : BitVec 1 := Scalar.cmpi .slt v39 c0_i32_17
  let v44 : BitVec 1 := Scalar.xori v42 v43
  let c0_i32_15 : BitVec 32 := 0#32
  let v41 : BitVec 1 := Scalar.cmpi .ne v40 c0_i32_15
  let v45 : BitVec 1 := Scalar.andi v44 v41
  let v46 : BitVec 32 := Scalar.addi v40 v39
  let v47 : BitVec 32 := Scalar.select v45 v46 v40
  let v48 : BitVec 32 := Scalar.xori v47 v37
  let v59 : BitVec 32 := Scalar.xori v48 v55
  let v60 : BitVec 32 := Scalar.addi v58 v59
  let c1_i32_1645 : BitVec 32 := 1#32
  let v2354 : BitVec 32 := Scalar.muli v60 c1_i32_1645
  let v2355 : BitVec 32 := Scalar.addi c0_i32_1646 v2354
  v2355.toNat
abbrev stage0_0 : Fin 1 → Memref sig .tc .vmem S1x2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 72
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x64x128, .bf16⟩
  | .hbm, ⟨3, _⟩ => ⟨S1x2048x64x128, .bf16⟩
  | .hbm, ⟨4, _⟩ => ⟨S8192x1024, .bf16⟩
  | .hbm, ⟨5, _⟩ => ⟨S1x2048x1024, .f32⟩
  | .hbm, ⟨6, _⟩ => ⟨S1024x8192, .f32⟩
  | .hbm, ⟨7, _⟩ => ⟨S1x2048x64x128, .f32⟩
  | .hbm, ⟨8, _⟩ => ⟨S1x2048x64x128, .f32⟩
  | .hbm, ⟨9, _⟩ => ⟨S8192x1024, .f32⟩
  | .hbm, ⟨10, _⟩ => ⟨S1x2048x8192, .f32⟩
  | .hbm, ⟨11, _⟩ => ⟨S1x2048x64x128, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i1⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S_, .i32⟩
  | .hbm, ⟨27, _⟩ => ⟨S2048x1, .i32⟩
  | .hbm, ⟨28, _⟩ => ⟨S2048x1, .i1⟩
  | .hbm, ⟨29, _⟩ => ⟨S2048x2048, .i1⟩
  | .hbm, ⟨30, _⟩ => ⟨S2048x2048, .i1⟩
  | .hbm, ⟨31, _⟩ => ⟨S2048x2048, .i1⟩
  | .hbm, ⟨32, _⟩ => ⟨S2048x2048, .i1⟩
  | .hbm, ⟨33, _⟩ => ⟨S1x64x2048x2048, .f32⟩
  | .hbm, ⟨34, _⟩ => ⟨S_, .f32⟩
  | .hbm, ⟨35, _⟩ => ⟨S1x64x2048x2048, .f32⟩
  | .hbm, ⟨36, _⟩ => ⟨S1x64x2048x2048, .f32⟩
  | .hbm, ⟨37, _⟩ => ⟨S1x1x2048x2048, .i1⟩
  | .hbm, ⟨38, _⟩ => ⟨S_, .f32⟩
  | .hbm, ⟨39, _⟩ => ⟨S_, .f32⟩
  | .hbm, ⟨40, _⟩ => ⟨S1x64x2048x2048, .i1⟩
  | .hbm, ⟨41, _⟩ => ⟨S1x64x2048x2048, .f32⟩
  | .hbm, ⟨42, _⟩ => ⟨S1x64x2048x2048, .f32⟩
  | .hbm, ⟨43, _⟩ => ⟨S_, .f32⟩
  | .hbm, ⟨44, _⟩ => ⟨S1x64x2048, .f32⟩
  | .hbm, ⟨45, _⟩ => ⟨S1x64x2048x1, .f32⟩
  | .hbm, ⟨46, _⟩ => ⟨S1x64x2048x2048, .f32⟩
  | .hbm, ⟨47, _⟩ => ⟨S1x64x2048x2048, .f32⟩
  | .hbm, ⟨48, _⟩ => ⟨S1x64x2048x2048, .f32⟩
  | .hbm, ⟨49, _⟩ => ⟨S_, .i1⟩
  | .hbm, ⟨50, _⟩ => ⟨S2048, .i1⟩
  | .hbm, ⟨51, _⟩ => ⟨S1x1x2048x1, .i1⟩
  | .hbm, ⟨52, _⟩ => ⟨S_, .f32⟩
  | .hbm, ⟨53, _⟩ => ⟨S1x64x2048, .f32⟩
  | .hbm, ⟨54, _⟩ => ⟨S1x64x2048x1, .f32⟩
  | .hbm, ⟨55, _⟩ => ⟨S_, .f32⟩
  | .hbm, ⟨56, _⟩ => ⟨S_, .f32⟩
  | .hbm, ⟨57, _⟩ => ⟨S1x64x2048x1, .i1⟩
  | .hbm, ⟨58, _⟩ => ⟨S1x64x2048x1, .f32⟩
  | .hbm, ⟨59, _⟩ => ⟨S1x64x2048x1, .f32⟩
  | .hbm, ⟨60, _⟩ => ⟨S1x64x2048x2048, .f32⟩
  | .hbm, ⟨61, _⟩ => ⟨S1x64x2048x2048, .f32⟩
  | .hbm, ⟨62, _⟩ => ⟨S1x1x2048x1, .i1⟩
  | .hbm, ⟨63, _⟩ => ⟨S_, .f32⟩
  | .hbm, ⟨64, _⟩ => ⟨S_, .f32⟩
  | .hbm, ⟨65, _⟩ => ⟨S1x64x2048x2048, .i1⟩
  | .hbm, ⟨66, _⟩ => ⟨S1x64x2048x2048, .f32⟩
  | .hbm, ⟨67, _⟩ => ⟨S1x64x2048x2048, .f32⟩
  | .hbm, ⟨68, _⟩ => ⟨S1x64x128x2048, .f32⟩
  | .hbm, ⟨69, _⟩ => ⟨S1x2048x64x128, .f32⟩
  | .hbm, ⟨70, _⟩ => ⟨S1x2048x8192, .f32⟩
  | .hbm, ⟨71, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c : Ref sig .tc := ⟨.hbm, 20, rfl⟩
abbrev main_v15 : Ref sig .tc := ⟨.hbm, 21, rfl⟩
abbrev main_v16 : Ref sig .tc := ⟨.hbm, 22, rfl⟩
abbrev main_c_0 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.Base.lean ====
/-
  The run of the kernel: common ground. The weakest precondition every lemma is stated in, the assertion
  that a device's buffer holds given contents, and a load, a store and a return in front of a continuation.
-/
module

public import proofs.«01_k».proof.Proof.Gen.KernelIdeal
public import proofs.«01_k».proof.Proof.Gen.KernelIdeal.Launch
public import proofs.«01_k».proof.Proof.Gen.KernelIdeal.Points
public import proofs.«01_k».proof.Proof.Gen.KernelIdeal.Skeleton
public import Idealize.ShloMosaic.Lib.Rounds
public import Idealize.ShloMosaic.Lib.Pipeline.Kit
public import Idealize.ShloMosaic.Lib.Pipeline.RegionTalk
public import Idealize.ShloMosaic.Lib.Tactic

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

/-- The ghost state: the rounds of the staging pipeline's cells beside those of the kernel's own. -/
abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

/-- Device `c` runs `p` and ends in `Q`. -/
abbrev W (c : Dev nD) {α : Type} (p : Prog (TpuEff nD τ sig (Elt F) Λ₀ .tc) α) (Q : α → sProp 𝕄) : sProp 𝕄 :=
  wp frame (wpE (defs₀ (F := F)) 𝒱₀ c none) Set.univ p Q

/-- Device `c`'s whole buffer `b` holds `f`. -/
abbrev pt (c : Dev nD) (b : Ref sig .tc) (f : b.ty.Contents (Elt F)) : sProp 𝕄 :=
  (Memref.whole b).view.loc (c : Thread nD τ) ↦{fullShare} f

/-- A finished program: the postcondition at its answer. -/
theorem ret_of {c : Dev nD} {α : Type} {a : α} {P : sProp 𝕄} {Q : α → sProp 𝕄} (H : P ⊢ Q a) : P ⊢ W c (pure a) Q := by
  rw [W, wp_pure]
  exact H.trans fupd_intro

/-- A call followed by a continuation. -/
theorem bind_of {c : Dev nD} {α β : Type} {p : Prog (TpuEff nD τ sig (Elt F) Λ₀ .tc) α}
    {k : α → Prog (TpuEff nD τ sig (Elt F) Λ₀ .tc) β} {P : sProp 𝕄} {Q : β → sProp 𝕄}
    (H : P ⊢ W c p fun a => W c (k a) Q) : P ⊢ W c (p >>= k) Q := by
  rw [W, wp_bind]; exact H

/-- A load from a whole buffer that the assertion owns. -/
theorem load_of {c : Dev nD} {α : Type} {cs : CoreSpace} {s : Shape} {e : EltTy} {m : Memref sig .tc cs s e} {r : Rect s} {hl : m.view.LoadsAt r}
    {k : (r.shape.Idx → Elt F e) → Prog (TpuEff nD τ sig (Elt F) Λ₀ .tc) α} {P : sProp 𝕄} {Q : α → sProp 𝕄}
    {f : Buf (Elt F) (m.view.loc (c : Thread nD τ))}
    (A : P ⊢ iprop((m.view.loc (c : Thread nD τ) ↦{fullShare} f) ∗ ((m.view.loc (c : Thread nD τ) ↦{fullShare} f) -∗ P)))
    (H : P ⊢ W c (k (m.view.readAt (Elt F) r f)) Q) :
    P ⊢ W c (Prog.lift (.load m r hl) >>= k) Q := by
  refine A.trans ?_
  show _ ⊢ wp frame (wpE (defs₀ (F := F)) 𝒱₀ c none) Set.univ (.op (.load m r hl) k) Q
  iintro ⟨Hf, Hk⟩
  iapply (wp_load (Val := Elt F) (defs := defs₀ (F := F)) 𝒱₀ (c : Thread nD τ) none Set.univ (m := m) (r := r) (hl := hl) (k := k) (S := Finset.univ)
    (Finset.subset_univ _)) $$ [Hf]
  · iexact Hf
  · iintro Hf
    iapply H
    iapply Hk $$ Hf

/-- A store of every element of a rectangle of a whole buffer that the assertion owns; the assertion
    holds again, as `P'`, once the buffer holds the written contents. -/
theorem store_of {c : Dev nD} {α : Type} {cs : CoreSpace} {s : Shape} {e : EltTy} {m : Memref sig .tc cs s e} {r : Rect s}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {P P' : sProp 𝕄} {Q : α → sProp 𝕄}
    {f f' : Buf (Elt F) ((m.access r).loc (c : Thread nD τ))}
    (A : P ⊢ iprop(((m.access r).loc (c : Thread nD τ) ↦{fullShare} f) ∗ (((m.access r).loc (c : Thread nD τ) ↦{fullShare} f') -∗ P')))
    (hw : (m.access r).write (Elt F) f w Finset.univ = f')
    (H : P' ⊢ W c (k ⟨⟩) Q) :
    P ⊢ W c (Prog.lift (.store m r w Finset.univ hx hm) >>= k) Q := by
  subst hw
  refine A.trans ?_
  show _ ⊢ wp frame (wpE (defs₀ (F := F)) 𝒱₀ c none) Set.univ (.op (.store m r w Finset.univ hx hm) k) Q
  iintro ⟨Hf, Hk⟩
  iapply (wp_store (Val := Elt F) (defs := defs₀ (F := F)) 𝒱₀ (c : Thread nD τ) none Set.univ (m := m) (r := r) (w := w) (Mk := Finset.univ) (hx := hx) (hm := hm) (k := k) (S := Finset.univ)
    (Finset.subset_univ _)) $$ [Hf]
  · iexact Hf
  · iintro Hf
    iapply H
    iapply Hk $$ Hf

/-- Contents `z` with those of `G` at the indices whose ordinal is below `n`. -/
def upTo {ι α : Type} (ord : ι → ℕ) (G z : ι → α) (n : ℕ) : ι → α := fun i => if ord i < n then G i else z i

theorem upTo_zero {ι α : Type} (ord : ι → ℕ) (G z : ι → α) : upTo ord G z 0 = z := rfl

theorem upTo_all {ι α : Type} {ord : ι → ℕ} {G z : ι → α} {n : ℕ} (h : ∀ i, ord i < n) : upTo ord G z n = G :=
  funext fun i => if_pos (h i)

/-- Writing over a rectangle of a whole buffer what `g` holds there, where `f` and `g` agree off the
    rectangle, makes `g`. -/
theorem write_eq_of {b : Ref sig .tc} {r : Rect b.ty.shape} {f g : b.ty.Contents (Elt F)} {w : r.shape.Idx → Elt F b.ty.elt}
    (hin : ∀ j, w j = g (r.emb j)) (hout : ∀ i, i ∉ r.set → f i = g i) :
    ((Memref.whole b).access r).write (Elt F) f w Finset.univ = g := by
  funext i
  by_cases hi : i ∈ r.set
  · obtain ⟨j, rfl⟩ := r.exists_idx_of_mem hi
    have h := View.write_emb_of_mem (v := ((Memref.whole b).access r : View sig .tc _ _ _)) (Val := Elt F) f w
      (M := Finset.univ) (x := j) (Finset.mem_univ _)
    exact h.trans (hin j)
  · refine (View.write_of_not_mem _ _ _ ?_).trans (hout i hi)
    intro hm
    obtain ⟨x, -, hx⟩ := Finset.mem_map.mp hm
    exact hi (hx ▸ r.idx_mem x)

/-- Writing the rectangle of ordinal `n` carries the first `n` to the first `n + 1`. -/
theorem upTo_write {b : Ref sig .tc} {r : Rect b.ty.shape} {ord : b.ty.shape.Idx → ℕ} {G z : b.ty.Contents (Elt F)}
    {w : r.shape.Idx → Elt F b.ty.elt} {n : ℕ} (hmem : ∀ i, ord i = n → i ∈ r.set) (hord : ∀ j, ord (r.emb j) = n)
    (hpay : ∀ j, w j = G (r.emb j)) :
    ((Memref.whole b).access r).write (Elt F) (upTo ord G z n) w Finset.univ = upTo ord G z (n + 1) := by
  refine write_eq_of (fun j => ?_) fun i hi => ?_
  · rw [hpay, upTo, if_pos (by rw [hord]; exact Nat.lt_succ_self n)]
  · have : ord i ≠ n := fun h => hi (hmem i h)
    simp only [upTo]
    by_cases h : ord i < n
    · rw [if_pos h, if_pos (by omega)]
    · rw [if_neg h, if_neg (by omega)]

end Cert.KernelIdeal.Flow

end
-- ==== Proof.Values.lean ====
/-
  What the compute phase leaves in the buffers, as functions of a device's five inputs: the projected queries,
  the masks, the attention context block by block, and the partial output projection.
-/
module

public import proofs.«01_k».proof.Proof.Base

@[expose] public section

noncomputable section

namespace Cert.KernelIdeal.Flow

open Idealize.ShloMosaic Idealize.ShloMosaic.TcCoe Cert.KernelIdeal Cert.KernelIdeal.Gen

variable {F : FTy → Type} [FloatOps F] [Named F]

/-- What a load of a rectangle reads off the contents of a whole buffer. -/
abbrev ldR (b : Ref sig .tc) (f : b.ty.Contents (Elt F)) (r : Rect b.ty.shape) : r.shape.Idx → Elt F b.ty.elt :=
  (Memref.whole b).view.readAt (Elt F) r.toLoadRect f

/-- A device's five inputs, as the staging buffers hold them. -/
structure Inp (F : FTy → Type) where
  x : (cc0_stg0_0 : Ref sig .tc).ty.Contents (Elt F)
  wq : (cc0_stg1_0 : Ref sig .tc).ty.Contents (Elt F)
  k : (cc0_stg2_0 : Ref sig .tc).ty.Contents (Elt F)
  v : (cc0_stg3_0 : Ref sig .tc).ty.Contents (Elt F)
  wo : (cc0_stg4_0 : Ref sig .tc).ty.Contents (Elt F)

/-- The row block of an index: 512 rows each. -/
abbrev rowBlk (i : S2048x1024.Idx) : ℕ := (i 0).val / 512

theorem rowBlk_lt (i : S2048x1024.Idx) : rowBlk i < 4 := by
  have : (i 0).val < 2048 := (i 0).isLt
  unfold rowBlk; omega

theorem inbX (t : Fin 4) : ∀ a, (![0, 512 * t.val, 0] : Fin 3 → ℕ) a + S1x512x1024.size a ≤ S1x2048x1024.size a := by
  revert t; decide
theorem inbR (t : Fin 4) : ∀ a, (![512 * t.val, 0] : Fin 2 → ℕ) a + S512x1024.size a ≤ S2048x1024.size a := by
  revert t; decide
theorem inbA (h : Fin 8) : ∀ a, (![0, 128 * h.val] : Fin 2 → ℕ) a + S128x128.size a ≤ S2048x1024.size a := by
  revert h; decide
theorem inbK (h : Fin 8) : ∀ a, (![0, 128 * h.val] : Fin 2 → ℕ) a + S2048x128.size a ≤ S2048x1024.size a := by
  revert h; decide
theorem inbB (h : Fin 8) : ∀ a, (![128, 128 * h.val] : Fin 2 → ℕ) a + S384x128.size a ≤ S2048x1024.size a := by
  revert h; decide
theorem inbL (h : Fin 8) : ∀ a, (![0, 128 * h.val] : Fin 2 → ℕ) a + S768x128.size a ≤ S2048x1024.size a := by
  revert h; decide
theorem inbC (t : Fin 4) (h : Fin 8) : ∀ a, (![512 * t.val, 128 * h.val] : Fin 2 → ℕ) a + S512x128.size a ≤ S2048x1024.size a := by
  revert t h; decide
/-- The first key of row block `t`'s window. -/
def win (t : Fin 4) : ℕ := ![0, 384, 896, 1280] t
theorem inbW (t : Fin 4) (h : Fin 8) : ∀ a, (![win t, 128 * h.val] : Fin 2 → ℕ) a + S768x128.size a ≤ S2048x1024.size a := by
  revert t h; decide
theorem inbWq : ∀ a, (![0, 0] : Fin 2 → ℕ) a + S1024x1024.size a ≤ S1024x1024.size a := by decide

/-- Row block `t` of the projected queries. -/
def qBlk (I : Inp F) (t : Fin 4) : Vec F S512x1024 .bf16 :=
  k0_pay2 (ldR cc0_stg0_0 I.x (Rect.unit (s := S1x2048x1024) ![0, 512 * t.val, 0] S1x512x1024.size (inbX t)))
    (ldR cc0_stg1_0 I.wq (Rect.unit (s := S1024x1024) ![0, 0] S1024x1024.size inbWq))

/-- An index of a row block, from an index of the whole. -/
def inRowBlk (i : S2048x1024.Idx) : S512x1024.Idx := Fin.cons ⟨(i 0).val % 512, Nat.mod_lt _ (by decide)⟩ (Fin.cons (i 1) nofun)

/-- The projected queries. -/
def qOf (I : Inp F) : (cc0_scratch0 : Ref sig .tc).ty.Contents (Elt F) :=
  fun i => qBlk I ⟨rowBlk i, rowBlk_lt i⟩ (inRowBlk i)

/-- The mask of the first 128 rows. -/
def bias0 : (cc0_scratch5 : Ref sig .tc).ty.Contents (Elt F) := k0_pay7 (F := F)
/-- The mask of rows 128 to 511. -/
def biasB : (cc0_scratch6 : Ref sig .tc).ty.Contents (Elt F) := k0_pay9 (F := F) k0_pay8
/-- The mask of the window of row blocks 1, 2 and 3. -/
def biasW (t : Fin 4) : (cc0_scratch7 : Ref sig .tc).ty.Contents (Elt F) :=
  if t = 1 then k0_pay40 (F := F) k0_pay39 else if t = 2 then k0_pay70 (F := F) else k0_pay103 (F := F)
/-- The mask of the first 128 keys. -/
def biasG : (cc0_scratch8 : Ref sig .tc).ty.Contents (Elt F) := k0_pay38 (F := F)

/-- What a load of a whole mask reads. -/
abbrev m0 : Vec F S128x2048 .f32 := ldR cc0_scratch5 (bias0 (F := F)) (Rect.unit (s := S128x2048) ![0, 0] S128x2048.size inb_S128x2048_S128x2048_0_0)
abbrev mB : Vec F S384x768 .f32 := ldR cc0_scratch6 (biasB (F := F)) (Rect.unit (s := S384x768) ![0, 0] S384x768.size inb_S384x768_S384x768_0_0)
abbrev mW (t : Fin 4) : Vec F S512x768 .f32 := ldR cc0_scratch7 (biasW (F := F) t) (Rect.unit (s := S512x768) ![0, 0] S512x768.size inb_S512x768_S512x768_0_0)
abbrev mG : Vec F S512x128 .f32 := ldR cc0_scratch8 (biasG (F := F)) (Rect.unit (s := S512x128) ![0, 0] S512x128.size inb_S512x128_S512x128_0_0)

/-- The context of head `h`, rows 0 to 127: all keys. -/
def ctxA (I : Inp F) (h : Fin 8) : Vec F S128x128 .bf16 :=
  k0_pay10 (ldR cc0_scratch0 (qOf I) (Rect.unit (s := S2048x1024) ![0, 128 * h.val] S128x128.size (inbA h)))
    (ldR cc0_stg2_0 I.k (Rect.unit (s := S2048x1024) ![0, 128 * h.val] S2048x128.size (inbK h))) m0
    (ldR cc0_stg3_0 I.v (Rect.unit (s := S2048x1024) ![0, 128 * h.val] S2048x128.size (inbK h)))

/-- The context of head `h`, rows 128 to 511: keys 0 to 767. -/
def ctxB (I : Inp F) (h : Fin 8) : Vec F S384x128 .bf16 :=
  k0_pay16 (ldR cc0_scratch0 (qOf I) (Rect.unit (s := S2048x1024) ![128, 128 * h.val] S384x128.size (inbB h)))
    (ldR cc0_stg2_0 I.k (Rect.unit (s := S2048x1024) ![0, 128 * h.val] S768x128.size (inbL h))) mB
    (ldR cc0_stg3_0 I.v (Rect.unit (s := S2048x1024) ![0, 128 * h.val] S768x128.size (inbL h)))

/-- The context of head `h`, row block `t` from 1 to 3: the window's keys and keys 0 to 127. -/
def ctxC (I : Inp F) (t : Fin 4) (h : Fin 8) : Vec F S512x128 .bf16 :=
  k0_pay104 (ldR cc0_scratch0 (qOf I) (Rect.unit (s := S2048x1024) ![512 * t.val, 128 * h.val] S512x128.size (inbC t h)))
    (ldR cc0_stg2_0 I.k (Rect.unit (s := S2048x1024) ![win t, 128 * h.val] S768x128.size (inbW t h))) (mW t)
    (ldR cc0_stg2_0 I.k (Rect.unit (s := S2048x1024) ![0, 128 * h.val] S128x128.size (inbA h))) mG
    (ldR cc0_stg3_0 I.v (Rect.unit (s := S2048x1024) ![win t, 128 * h.val] S768x128.size (inbW t h)))
    (ldR cc0_stg3_0 I.v (Rect.unit (s := S2048x1024) ![0, 128 * h.val] S128x128.size (inbA h)))

/-- The head of an index: 128 columns each. -/
def headOf (i : S2048x1024.Idx) : Fin 8 := ⟨(i 1).val / 128, by have : (i 1).val < 1024 := (i 1).isLt; omega⟩

/-- A multi-index of rank two from its two coordinates. -/
def ix2 {n m : ℕ} (a : Fin n) (b : Fin m) : Shape.Idx ⟨2, ![n, m]⟩ := Fin.cons a (Fin.cons b nofun)

/-- The context. -/
def ctxOf (I : Inp F) : (cc0_scratch1 : Ref sig .tc).ty.Contents (Elt F) := fun i =>
  if hA : (i 0).val < 128 then ctxA I (headOf i) (ix2 ⟨(i 0).val, hA⟩ ⟨(i 1).val % 128, Nat.mod_lt _ (by decide)⟩)
  else if hB : (i 0).val < 512 then
    ctxB I (headOf i) (ix2 ⟨(i 0).val - 128, by omega⟩ ⟨(i 1).val % 128, Nat.mod_lt _ (by decide)⟩)
  else ctxC I ⟨rowBlk i, rowBlk_lt i⟩ (headOf i)
    (ix2 ⟨(i 0).val % 512, Nat.mod_lt _ (by decide)⟩ ⟨(i 1).val % 128, Nat.mod_lt _ (by decide)⟩)

/-- The place of an index's block in the order the context is written. -/
def ctxOrd (i : S2048x1024.Idx) : ℕ :=
  if (i 0).val < 128 then 2 * (headOf i).val
  else if (i 0).val < 512 then 2 * (headOf i).val + 1
  else 8 * rowBlk i + 8 + (headOf i).val

/-- Row block `t` of the partial output projection. -/
def accBlk (I : Inp F) (t : Fin 4) : Vec F S512x1024 .bf16 :=
  k0_pay137 (ldR cc0_scratch1 (ctxOf I) (Rect.unit (s := S2048x1024) ![512 * t.val, 0] S512x1024.size (inbR t)))
    (ldR cc0_stg4_0 I.wo (Rect.unit (s := S1024x1024) ![0, 0] S1024x1024.size inbWq))

/-- The partial output projection. -/
def accOf (I : Inp F) : (cc0_scratch2 : Ref sig .tc).ty.Contents (Elt F) :=
  fun i => accBlk I ⟨rowBlk i, rowBlk_lt i⟩ (inRowBlk i)

end Cert.KernelIdeal.Flow

end
-- ==== Proof.Buffers.lean ====
/-
  The compute phase's assertion: the twelve whole buffers it reads and writes, each with its contents; a load
  from and a store to each of them.
-/
module

public import proofs.«01_k».proof.Proof.Values

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-- The buffers of the compute phase on device `c`: the five inputs of `I`, and the given contents of the
    queries, the context, the projection and the four masks. -/
def vm (c : Dev nD) (I : Inp F)
    (q : (cc0_scratch0 : Ref sig .tc).ty.Contents (Elt F))
    (ctx : (cc0_scratch1 : Ref sig .tc).ty.Contents (Elt F))
    (acc : (cc0_scratch2 : Ref sig .tc).ty.Contents (Elt F))
    (b0 : (cc0_scratch5 : Ref sig .tc).ty.Contents (Elt F))
    (bB : (cc0_scratch6 : Ref sig .tc).ty.Contents (Elt F))
    (bb : (cc0_scratch7 : Ref sig .tc).ty.Contents (Elt F))
    (bg : (cc0_scratch8 : Ref sig .tc).ty.Contents (Elt F)) : sProp 𝕄 :=
  iprop(pt c cc0_stg0_0 I.x ∗ pt c cc0_stg1_0 I.wq ∗ pt c cc0_stg2_0 I.k ∗ pt c cc0_stg3_0 I.v ∗ pt c cc0_stg4_0 I.wo ∗ pt c cc0_scratch0 q ∗ pt c cc0_scratch1 ctx ∗ pt c cc0_scratch2 acc ∗ pt c cc0_scratch5 b0 ∗ pt c cc0_scratch6 bB ∗ pt c cc0_scratch7 bb ∗ pt c cc0_scratch8 bg)

theorem foc_head {A B R : sProp 𝕄} : iprop(A ∗ R) ⊢ iprop(A ∗ (B -∗ B ∗ R)) := by
  iintro ⟨HA, HR⟩
  isplitl [HA]
  · iexact HA
  · iintro HB
    isplitl [HB]
    · iexact HB
    · iexact HR

theorem foc_last {A B : sProp 𝕄} : A ⊢ iprop(A ∗ (B -∗ B)) := by
  iintro HA
  isplitl [HA]
  · iexact HA
  · iintro HB
    iexact HB

theorem foc_tail {A B X R R' : sProp 𝕄} (h : R ⊢ iprop(X ∗ (B -∗ R'))) : iprop(A ∗ R) ⊢ iprop(X ∗ (B -∗ A ∗ R')) := by
  iintro ⟨HA, HR⟩
  ihave ⟨HX, HK⟩ := h $$ HR
  isplitl [HX]
  · iexact HX
  · iintro HB
    isplitl [HA]
    · iexact HA
    · iapply HK $$ HB

variable {c : Dev nD} {I : Inp F}
variable {q : (cc0_scratch0 : Ref sig .tc).ty.Contents (Elt F)}
variable {ctx : (cc0_scratch1 : Ref sig .tc).ty.Contents (Elt F)}
variable {acc : (cc0_scratch2 : Ref sig .tc).ty.Contents (Elt F)}
variable {b0 : (cc0_scratch5 : Ref sig .tc).ty.Contents (Elt F)}
variable {bB : (cc0_scratch6 : Ref sig .tc).ty.Contents (Elt F)}
variable {bb : (cc0_scratch7 : Ref sig .tc).ty.Contents (Elt F)}
variable {bg : (cc0_scratch8 : Ref sig .tc).ty.Contents (Elt F)}

theorem vm_acc_x : vm c I q ctx acc b0 bB bb bg ⊢ iprop((pt c cc0_stg0_0 I.x) ∗ ((pt c cc0_stg0_0 I.x) -∗ vm c I q ctx acc b0 bB bb bg)) := by
  exact foc_head

theorem load_x {r : Rect (cc0_stg0_0 : Ref sig .tc).ty.shape} {hl : (Memref.whole cc0_stg0_0).view.LoadsAt r.toLoadRect} {α : Type}
    {k : (r.shape.Idx → Elt F (cc0_stg0_0 : Ref sig .tc).ty.elt) → Prog (TpuEff nD τ sig (Elt F) Λ₀ .tc) α} {Q : α → sProp 𝕄}
    (H : vm c I q ctx acc b0 bB bb bg ⊢ W c (k ((Memref.whole cc0_stg0_0).view.readAt (Elt F) r.toLoadRect I.x)) Q) :
    vm c I q ctx acc b0 bB bb bg ⊢ W c (Prog.lift (.load (Memref.whole cc0_stg0_0) r.toLoadRect hl) >>= k) Q :=
  load_of (m := Memref.whole cc0_stg0_0) vm_acc_x H

theorem vm_acc_wq : vm c I q ctx acc b0 bB bb bg ⊢ iprop((pt c cc0_stg1_0 I.wq) ∗ ((pt c cc0_stg1_0 I.wq) -∗ vm c I q ctx acc b0 bB bb bg)) := by
  exact (foc_tail foc_head)

theorem load_wq {r : Rect (cc0_stg1_0 : Ref sig .tc).ty.shape} {hl : (Memref.whole cc0_stg1_0).view.LoadsAt r.toLoadRect} {α : Type}
    {k : (r.shape.Idx → Elt F (cc0_stg1_0 : Ref sig .tc).ty.elt) → Prog (TpuEff nD τ sig (Elt F) Λ₀ .tc) α} {Q : α → sProp 𝕄}
    (H : vm c I q ctx acc b0 bB bb bg ⊢ W c (k ((Memref.whole cc0_stg1_0).view.readAt (Elt F) r.toLoadRect I.wq)) Q) :
    vm c I q ctx acc b0 bB bb bg ⊢ W c (Prog.lift (.load (Memref.whole cc0_stg1_0) r.toLoadRect hl) >>= k) Q :=
  load_of (m := Memref.whole cc0_stg1_0) vm_acc_wq H

theorem vm_acc_k : vm c I q ctx acc b0 bB bb bg ⊢ iprop((pt c cc0_stg2_0 I.k) ∗ ((pt c cc0_stg2_0 I.k) -∗ vm c I q ctx acc b0 bB bb bg)) := by
  exact (foc_tail (foc_tail foc_head))

theorem load_k {r : Rect (cc0_stg2_0 : Ref sig .tc).ty.shape} {hl : (Memref.whole cc0_stg2_0).view.LoadsAt r.toLoadRect} {α : Type}
    {k : (r.shape.Idx → Elt F (cc0_stg2_0 : Ref sig .tc).ty.elt) → Prog (TpuEff nD τ sig (Elt F) Λ₀ .tc) α} {Q : α → sProp 𝕄}
    (H : vm c I q ctx acc b0 bB bb bg ⊢ W c (k ((Memref.whole cc0_stg2_0).view.readAt (Elt F) r.toLoadRect I.k)) Q) :
    vm c I q ctx acc b0 bB bb bg ⊢ W c (Prog.lift (.load (Memref.whole cc0_stg2_0) r.toLoadRect hl) >>= k) Q :=
  load_of (m := Memref.whole cc0_stg2_0) vm_acc_k H

theorem vm_acc_v : vm c I q ctx acc b0 bB bb bg ⊢ iprop((pt c cc0_stg3_0 I.v) ∗ ((pt c cc0_stg3_0 I.v) -∗ vm c I q ctx acc b0 bB bb bg)) := by
  exact (foc_tail (foc_tail (foc_tail foc_head)))

theorem load_v {r : Rect (cc0_stg3_0 : Ref sig .tc).ty.shape} {hl : (Memref.whole cc0_stg3_0).view.LoadsAt r.toLoadRect} {α : Type}
    {k : (r.shape.Idx → Elt F (cc0_stg3_0 : Ref sig .tc).ty.elt) → Prog (TpuEff nD τ sig (Elt F) Λ₀ .tc) α} {Q : α → sProp 𝕄}
    (H : vm c I q ctx acc b0 bB bb bg ⊢ W c (k ((Memref.whole cc0_stg3_0).view.readAt (Elt F) r.toLoadRect I.v)) Q) :
    vm c I q ctx acc b0 bB bb bg ⊢ W c (Prog.lift (.load (Memref.whole cc0_stg3_0) r.toLoadRect hl) >>= k) Q :=
  load_of (m := Memref.whole cc0_stg3_0) vm_acc_v H

theorem vm_acc_wo : vm c I q ctx acc b0 bB bb bg ⊢ iprop((pt c cc0_stg4_0 I.wo) ∗ ((pt c cc0_stg4_0 I.wo) -∗ vm c I q ctx acc b0 bB bb bg)) := by
  exact (foc_tail (foc_tail (foc_tail (foc_tail foc_head))))

theorem load_wo {r : Rect (cc0_stg4_0 : Ref sig .tc).ty.shape} {hl : (Memref.whole cc0_stg4_0).view.LoadsAt r.toLoadRect} {α : Type}
    {k : (r.shape.Idx → Elt F (cc0_stg4_0 : Ref sig .tc).ty.elt) → Prog (TpuEff nD τ sig (Elt F) Λ₀ .tc) α} {Q : α → sProp 𝕄}
    (H : vm c I q ctx acc b0 bB bb bg ⊢ W c (k ((Memref.whole cc0_stg4_0).view.readAt (Elt F) r.toLoadRect I.wo)) Q) :
    vm c I q ctx acc b0 bB bb bg ⊢ W c (Prog.lift (.load (Memref.whole cc0_stg4_0) r.toLoadRect hl) >>= k) Q :=
  load_of (m := Memref.whole cc0_stg4_0) vm_acc_wo H

theorem vm_acc_q : vm c I q ctx acc b0 bB bb bg ⊢ iprop((pt c cc0_scratch0 q) ∗ ((pt c cc0_scratch0 q) -∗ vm c I q ctx acc b0 bB bb bg)) := by
  exact (foc_tail (foc_tail (foc_tail (foc_tail (foc_tail foc_head)))))

theorem load_q {r : Rect (cc0_scratch0 : Ref sig .tc).ty.shape} {hl : (Memref.whole cc0_scratch0).view.LoadsAt r.toLoadRect} {α : Type}
    {k : (r.shape.Idx → Elt F (cc0_scratch0 : Ref sig .tc).ty.elt) → Prog (TpuEff nD τ sig (Elt F) Λ₀ .tc) α} {Q : α → sProp 𝕄}
    (H : vm c I q ctx acc b0 bB bb bg ⊢ W c (k ((Memref.whole cc0_scratch0).view.readAt (Elt F) r.toLoadRect q)) Q) :
    vm c I q ctx acc b0 bB bb bg ⊢ W c (Prog.lift (.load (Memref.whole cc0_scratch0) r.toLoadRect hl) >>= k) Q :=
  load_of (m := Memref.whole cc0_scratch0) vm_acc_q H

theorem vm_acc_ctx : vm c I q ctx acc b0 bB bb bg ⊢ iprop((pt c cc0_scratch1 ctx) ∗ ((pt c cc0_scratch1 ctx) -∗ vm c I q ctx acc b0 bB bb bg)) := by
  exact (foc_tail (foc_tail (foc_tail (foc_tail (foc_tail (foc_tail foc_head))))))

theorem load_ctx {r : Rect (cc0_scratch1 : Ref sig .tc).ty.shape} {hl : (Memref.whole cc0_scratch1).view.LoadsAt r.toLoadRect} {α : Type}
    {k : (r.shape.Idx → Elt F (cc0_scratch1 : Ref sig .tc).ty.elt) → Prog (TpuEff nD τ sig (Elt F) Λ₀ .tc) α} {Q : α → sProp 𝕄}
    (H : vm c I q ctx acc b0 bB bb bg ⊢ W c (k ((Memref.whole cc0_scratch1).view.readAt (Elt F) r.toLoadRect ctx)) Q) :
    vm c I q ctx acc b0 bB bb bg ⊢ W c (Prog.lift (.load (Memref.whole cc0_scratch1) r.toLoadRect hl) >>= k) Q :=
  load_of (m := Memref.whole cc0_scratch1) vm_acc_ctx H

theorem vm_acc_acc : vm c I q ctx acc b0 bB bb bg ⊢ iprop((pt c cc0_scratch2 acc) ∗ ((pt c cc0_scratch2 acc) -∗ vm c I q ctx acc b0 bB bb bg)) := by
  exact (foc_tail (foc_tail (foc_tail (foc_tail (foc_tail (foc_tail (foc_tail foc_head)))))))

theorem load_acc {r : Rect (cc0_scratch2 : Ref sig .tc).ty.shape} {hl : (Memref.whole cc0_scratch2).view.LoadsAt r.toLoadRect} {α : Type}
    {k : (r.shape.Idx → Elt F (cc0_scratch2 : Ref sig .tc).ty.elt) → Prog (TpuEff nD τ sig (Elt F) Λ₀ .tc) α} {Q : α → sProp 𝕄}
    (H : vm c I q ctx acc b0 bB bb bg ⊢ W c (k ((Memref.whole cc0_scratch2).view.readAt (Elt F) r.toLoadRect acc)) Q) :
    vm c I q ctx acc b0 bB bb bg ⊢ W c (Prog.lift (.load (Memref.whole cc0_scratch2) r.toLoadRect hl) >>= k) Q :=
  load_of (m := Memref.whole cc0_scratch2) vm_acc_acc H

theorem vm_acc_b0 : vm c I q ctx acc b0 bB bb bg ⊢ iprop((pt c cc0_scratch5 b0) ∗ ((pt c cc0_scratch5 b0) -∗ vm c I q ctx acc b0 bB bb bg)) := by
  exact (foc_tail (foc_tail (foc_tail (foc_tail (foc_tail (foc_tail (foc_tail (foc_tail foc_head))))))))

theorem load_b0 {r : Rect (cc0_scratch5 : Ref sig .tc).ty.shape} {hl : (Memref.whole cc0_scratch5).view.LoadsAt r.toLoadRect} {α : Type}
    {k : (r.shape.Idx → Elt F (cc0_scratch5 : Ref sig .tc).ty.elt) → Prog (TpuEff nD τ sig (Elt F) Λ₀ .tc) α} {Q : α → sProp 𝕄}
    (H : vm c I q ctx acc b0 bB bb bg ⊢ W c (k ((Memref.whole cc0_scratch5).view.readAt (Elt F) r.toLoadRect b0)) Q) :
    vm c I q ctx acc b0 bB bb bg ⊢ W c (Prog.lift (.load (Memref.whole cc0_scratch5) r.toLoadRect hl) >>= k) Q :=
  load_of (m := Memref.whole cc0_scratch5) vm_acc_b0 H

theorem vm_acc_bB : vm c I q ctx acc b0 bB bb bg ⊢ iprop((pt c cc0_scratch6 bB) ∗ ((pt c cc0_scratch6 bB) -∗ vm c I q ctx acc b0 bB bb bg)) := by
  exact (foc_tail (foc_tail (foc_tail (foc_tail (foc_tail (foc_tail (foc_tail (foc_tail (foc_tail foc_head)))))))))

theorem load_bB {r : Rect (cc0_scratch6 : Ref sig .tc).ty.shape} {hl : (Memref.whole cc0_scratch6).view.LoadsAt r.toLoadRect} {α : Type}
    {k : (r.shape.Idx → Elt F (cc0_scratch6 : Ref sig .tc).ty.elt) → Prog (TpuEff nD τ sig (Elt F) Λ₀ .tc) α} {Q : α → sProp 𝕄}
    (H : vm c I q ctx acc b0 bB bb bg ⊢ W c (k ((Memref.whole cc0_scratch6).view.readAt (Elt F) r.toLoadRect bB)) Q) :
    vm c I q ctx acc b0 bB bb bg ⊢ W c (Prog.lift (.load (Memref.whole cc0_scratch6) r.toLoadRect hl) >>= k) Q :=
  load_of (m := Memref.whole cc0_scratch6) vm_acc_bB H

theorem vm_acc_bb : vm c I q ctx acc b0 bB bb bg ⊢ iprop((pt c cc0_scratch7 bb) ∗ ((pt c cc0_scratch7 bb) -∗ vm c I q ctx acc b0 bB bb bg)) := by
  exact (foc_tail (foc_tail (foc_tail (foc_tail (foc_tail (foc_tail (foc_tail (foc_tail (foc_tail (foc_tail foc_head))))))))))

theorem load_bb {r : Rect (cc0_scratch7 : Ref sig .tc).ty.shape} {hl : (Memref.whole cc0_scratch7).view.LoadsAt r.toLoadRect} {α : Type}
    {k : (r.shape.Idx → Elt F (cc0_scratch7 : Ref sig .tc).ty.elt) → Prog (TpuEff nD τ sig (Elt F) Λ₀ .tc) α} {Q : α → sProp 𝕄}
    (H : vm c I q ctx acc b0 bB bb bg ⊢ W c (k ((Memref.whole cc0_scratch7).view.readAt (Elt F) r.toLoadRect bb)) Q) :
    vm c I q ctx acc b0 bB bb bg ⊢ W c (Prog.lift (.load (Memref.whole cc0_scratch7) r.toLoadRect hl) >>= k) Q :=
  load_of (m := Memref.whole cc0_scratch7) vm_acc_bb H

theorem vm_acc_bg : vm c I q ctx acc b0 bB bb bg ⊢ iprop((pt c cc0_scratch8 bg) ∗ ((pt c cc0_scratch8 bg) -∗ vm c I q ctx acc b0 bB bb bg)) := by
  exact (foc_tail (foc_tail (foc_tail (foc_tail (foc_tail (foc_tail (foc_tail (foc_tail (foc_tail (foc_tail (foc_tail foc_last)))))))))))

theorem load_bg {r : Rect (cc0_scratch8 : Ref sig .tc).ty.shape} {hl : (Memref.whole cc0_scratch8).view.LoadsAt r.toLoadRect} {α : Type}
    {k : (r.shape.Idx → Elt F (cc0_scratch8 : Ref sig .tc).ty.elt) → Prog (TpuEff nD τ sig (Elt F) Λ₀ .tc) α} {Q : α → sProp 𝕄}
    (H : vm c I q ctx acc b0 bB bb bg ⊢ W c (k ((Memref.whole cc0_scratch8).view.readAt (Elt F) r.toLoadRect bg)) Q) :
    vm c I q ctx acc b0 bB bb bg ⊢ W c (Prog.lift (.load (Memref.whole cc0_scratch8) r.toLoadRect hl) >>= k) Q :=
  load_of (m := Memref.whole cc0_scratch8) vm_acc_bg H

theorem vm_upd_q {q' : (cc0_scratch0 : Ref sig .tc).ty.Contents (Elt F)} :
    vm c I q ctx acc b0 bB bb bg ⊢ iprop((pt c cc0_scratch0 q) ∗ ((pt c cc0_scratch0 q') -∗ vm c I q' ctx acc b0 bB bb bg)) := by
  exact (foc_tail (foc_tail (foc_tail (foc_tail (foc_tail foc_head)))))

theorem store_q (q' : (cc0_scratch0 : Ref sig .tc).ty.Contents (Elt F)) {r : Rect (cc0_scratch0 : Ref sig .tc).ty.shape} {w : r.shape.Idx → Elt F (cc0_scratch0 : Ref sig .tc).ty.elt}
    {hx : ((Memref.whole cc0_scratch0).access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄}
    (hw : ((Memref.whole cc0_scratch0).access r).write (Elt F) q w Finset.univ = q')
    (H : vm c I q' ctx acc b0 bB bb bg ⊢ W c (k ⟨⟩) Q) :
    vm c I q ctx acc b0 bB bb bg ⊢ W c (Prog.lift (.store (Memref.whole cc0_scratch0) r w Finset.univ hx hm) >>= k) Q :=
  store_of (m := Memref.whole cc0_scratch0) (vm_upd_q (q' := q')) hw H

theorem vm_upd_ctx {ctx' : (cc0_scratch1 : Ref sig .tc).ty.Contents (Elt F)} :
    vm c I q ctx acc b0 bB bb bg ⊢ iprop((pt c cc0_scratch1 ctx) ∗ ((pt c cc0_scratch1 ctx') -∗ vm c I q ctx' acc b0 bB bb bg)) := by
  exact (foc_tail (foc_tail (foc_tail (foc_tail (foc_tail (foc_tail foc_head))))))

theorem store_ctx (ctx' : (cc0_scratch1 : Ref sig .tc).ty.Contents (Elt F)) {r : Rect (cc0_scratch1 : Ref sig .tc).ty.shape} {w : r.shape.Idx → Elt F (cc0_scratch1 : Ref sig .tc).ty.elt}
    {hx : ((Memref.whole cc0_scratch1).access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄}
    (hw : ((Memref.whole cc0_scratch1).access r).write (Elt F) ctx w Finset.univ = ctx')
    (H : vm c I q ctx' acc b0 bB bb bg ⊢ W c (k ⟨⟩) Q) :
    vm c I q ctx acc b0 bB bb bg ⊢ W c (Prog.lift (.store (Memref.whole cc0_scratch1) r w Finset.univ hx hm) >>= k) Q :=
  store_of (m := Memref.whole cc0_scratch1) (vm_upd_ctx (ctx' := ctx')) hw H

theorem vm_upd_acc {acc' : (cc0_scratch2 : Ref sig .tc).ty.Contents (Elt F)} :
    vm c I q ctx acc b0 bB bb bg ⊢ iprop((pt c cc0_scratch2 acc) ∗ ((pt c cc0_scratch2 acc') -∗ vm c I q ctx acc' b0 bB bb bg)) := by
  exact (foc_tail (foc_tail (foc_tail (foc_tail (foc_tail (foc_tail (foc_tail foc_head)))))))

theorem store_acc (acc' : (cc0_scratch2 : Ref sig .tc).ty.Contents (Elt F)) {r : Rect (cc0_scratch2 : Ref sig .tc).ty.shape} {w : r.shape.Idx → Elt F (cc0_scratch2 : Ref sig .tc).ty.elt}
    {hx : ((Memref.whole cc0_scratch2).access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄}
    (hw : ((Memref.whole cc0_scratch2).access r).write (Elt F) acc w Finset.univ = acc')
    (H : vm c I q ctx acc' b0 bB bb bg ⊢ W c (k ⟨⟩) Q) :
    vm c I q ctx acc b0 bB bb bg ⊢ W c (Prog.lift (.store (Memref.whole cc0_scratch2) r w Finset.univ hx hm) >>= k) Q :=
  store_of (m := Memref.whole cc0_scratch2) (vm_upd_acc (acc' := acc')) hw H

theorem vm_upd_b0 {b0' : (cc0_scratch5 : Ref sig .tc).ty.Contents (Elt F)} :
    vm c I q ctx acc b0 bB bb bg ⊢ iprop((pt c cc0_scratch5 b0) ∗ ((pt c cc0_scratch5 b0') -∗ vm c I q ctx acc b0' bB bb bg)) := by
  exact (foc_tail (foc_tail (foc_tail (foc_tail (foc_tail (foc_tail (foc_tail (foc_tail foc_head))))))))

theorem store_b0 (b0' : (cc0_scratch5 : Ref sig .tc).ty.Contents (Elt F)) {r : Rect (cc0_scratch5 : Ref sig .tc).ty.shape} {w : r.shape.Idx → Elt F (cc0_scratch5 : Ref sig .tc).ty.elt}
    {hx : ((Memref.whole cc0_scratch5).access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄}
    (hw : ((Memref.whole cc0_scratch5).access r).write (Elt F) b0 w Finset.univ = b0')
    (H : vm c I q ctx acc b0' bB bb bg ⊢ W c (k ⟨⟩) Q) :
    vm c I q ctx acc b0 bB bb bg ⊢ W c (Prog.lift (.store (Memref.whole cc0_scratch5) r w Finset.univ hx hm) >>= k) Q :=
  store_of (m := Memref.whole cc0_scratch5) (vm_upd_b0 (b0' := b0')) hw H

theorem vm_upd_bB {bB' : (cc0_scratch6 : Ref sig .tc).ty.Contents (Elt F)} :
    vm c I q ctx acc b0 bB bb bg ⊢ iprop((pt c cc0_scratch6 bB) ∗ ((pt c cc0_scratch6 bB') -∗ vm c I q ctx acc b0 bB' bb bg)) := by
  exact (foc_tail (foc_tail (foc_tail (foc_tail (foc_tail (foc_tail (foc_tail (foc_tail (foc_tail foc_head)))))))))

theorem store_bB (bB' : (cc0_scratch6 : Ref sig .tc).ty.Contents (Elt F)) {r : Rect (cc0_scratch6 : Ref sig .tc).ty.shape} {w : r.shape.Idx → Elt F (cc0_scratch6 : Ref sig .tc).ty.elt}
    {hx : ((Memref.whole cc0_scratch6).access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄}
    (hw : ((Memref.whole cc0_scratch6).access r).write (Elt F) bB w Finset.univ = bB')
    (H : vm c I q ctx acc b0 bB' bb bg ⊢ W c (k ⟨⟩) Q) :
    vm c I q ctx acc b0 bB bb bg ⊢ W c (Prog.lift (.store (Memref.whole cc0_scratch6) r w Finset.univ hx hm) >>= k) Q :=
  store_of (m := Memref.whole cc0_scratch6) (vm_upd_bB (bB' := bB')) hw H

theorem vm_upd_bb {bb' : (cc0_scratch7 : Ref sig .tc).ty.Contents (Elt F)} :
    vm c I q ctx acc b0 bB bb bg ⊢ iprop((pt c cc0_scratch7 bb) ∗ ((pt c cc0_scratch7 bb') -∗ vm c I q ctx acc b0 bB bb' bg)) := by
  exact (foc_tail (foc_tail (foc_tail (foc_tail (foc_tail (foc_tail (foc_tail (foc_tail (foc_tail (foc_tail foc_head))))))))))

theorem store_bb (bb' : (cc0_scratch7 : Ref sig .tc).ty.Contents (Elt F)) {r : Rect (cc0_scratch7 : Ref sig .tc).ty.shape} {w : r.shape.Idx → Elt F (cc0_scratch7 : Ref sig .tc).ty.elt}
    {hx : ((Memref.whole cc0_scratch7).access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄}
    (hw : ((Memref.whole cc0_scratch7).access r).write (Elt F) bb w Finset.univ = bb')
    (H : vm c I q ctx acc b0 bB bb' bg ⊢ W c (k ⟨⟩) Q) :
    vm c I q ctx acc b0 bB bb bg ⊢ W c (Prog.lift (.store (Memref.whole cc0_scratch7) r w Finset.univ hx hm) >>= k) Q :=
  store_of (m := Memref.whole cc0_scratch7) (vm_upd_bb (bb' := bb')) hw H

theorem vm_upd_bg {bg' : (cc0_scratch8 : Ref sig .tc).ty.Contents (Elt F)} :
    vm c I q ctx acc b0 bB bb bg ⊢ iprop((pt c cc0_scratch8 bg) ∗ ((pt c cc0_scratch8 bg') -∗ vm c I q ctx acc b0 bB bb bg')) := by
  exact (foc_tail (foc_tail (foc_tail (foc_tail (foc_tail (foc_tail (foc_tail (foc_tail (foc_tail (foc_tail (foc_tail foc_last)))))))))))

theorem store_bg (bg' : (cc0_scratch8 : Ref sig .tc).ty.Contents (Elt F)) {r : Rect (cc0_scratch8 : Ref sig .tc).ty.shape} {w : r.shape.Idx → Elt F (cc0_scratch8 : Ref sig .tc).ty.elt}
    {hx : ((Memref.whole cc0_scratch8).access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄}
    (hw : ((Memref.whole cc0_scratch8).access r).write (Elt F) bg w Finset.univ = bg')
    (H : vm c I q ctx acc b0 bB bb bg' ⊢ W c (k ⟨⟩) Q) :
    vm c I q ctx acc b0 bB bb bg ⊢ W c (Prog.lift (.store (Memref.whole cc0_scratch8) r w Finset.univ hx hm) >>= k) Q :=
  store_of (m := Memref.whole cc0_scratch8) (vm_upd_bg (bg' := bg')) hw H

end Cert.KernelIdeal.Flow

end
-- ==== Proof.Stores.lean ====
/-
  Each store of the compute phase, as the step from one ordinal to the next.
-/
module

public import proofs.«01_k».proof.Proof.Buffers

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

theorem mem_unit2 {a b n m r0 c0 : ℕ} {inb} {i : Shape.Idx ⟨2, ![a, b]⟩} (h0 : r0 ≤ (i 0).val) (h0' : (i 0).val < r0 + n) (h1 : c0 ≤ (i 1).val) (h1' : (i 1).val < c0 + m) :
    i ∈ (Rect.unit (s := ⟨2, ![a, b]⟩) ![r0, c0] ![n, m] inb).set :=
  Rect.mem_set_unit.mpr (Fin.forall_fin_two.mpr ⟨⟨h0, h0'⟩, h1, h1'⟩)

theorem emb_unit2_0 {a b n m r0 c0 : ℕ} {inb} (j : (Rect.unit (s := ⟨2, ![a, b]⟩) ![r0, c0] ![n, m] inb).shape.Idx) :
    ((Rect.unit (s := ⟨2, ![a, b]⟩) ![r0, c0] ![n, m] inb).emb j 0).val = r0 + (j 0).val := by
  rw [Rect.emb_apply]; simp [Rect.unit]

theorem emb_unit2_1 {a b n m r0 c0 : ℕ} {inb} (j : (Rect.unit (s := ⟨2, ![a, b]⟩) ![r0, c0] ![n, m] inb).shape.Idx) :
    ((Rect.unit (s := ⟨2, ![a, b]⟩) ![r0, c0] ![n, m] inb).emb j 1).val = c0 + (j 1).val := by
  rw [Rect.emb_apply]; simp [Rect.unit]

theorem inRowBlk_eq {i : S2048x1024.Idx} {j : S512x1024.Idx} (h0 : (i 0).val % 512 = (j 0).val) (h1 : (i 1).val = (j 1).val) :
    inRowBlk i = j := by
  funext a
  refine Fin.cases (Fin.ext h0) (fun a => ?_) a
  obtain rfl : a = 0 := Subsingleton.elim _ _
  exact Fin.ext h1

/-- A store of row block `t` of the queries. -/
theorem write_q (I : Inp F) (z) (t : Fin 4) {off : Fin 2 → ℕ} {inb} (hoff : off = ![512 * t.val, 0])
    {w : Vec F S512x1024 .bf16} (hw : w = qBlk I t) :
    ((Memref.whole cc0_scratch0).access (Rect.unit (s := S2048x1024) off S512x1024.size inb)).write (Elt F) (upTo rowBlk (qOf I) z t.val) w Finset.univ
      = upTo rowBlk (qOf I) z (t.val + 1) := by
  subst hoff hw
  have key : ∀ j, ∀ i : S2048x1024.Idx, (i 0).val = 512 * t.val + (j 0).val → (i 1).val = 0 + (j 1).val →
      rowBlk i = t.val ∧ qBlk I t j = qOf I i := by
    intro (j : S512x1024.Idx) i e0 e1
    have h0 : (j 0).val < 512 := (j 0).isLt
    have hr : rowBlk i = t.val := by show (i 0).val / 512 = _; omega
    refine ⟨hr, ?_⟩
    rw [qOf, show (⟨rowBlk i, rowBlk_lt i⟩ : Fin 4) = t from Fin.ext hr]
    exact congrArg _ (inRowBlk_eq (by omega) (by omega)).symm
  refine upTo_write (b := cc0_scratch0) (fun i hi => ?_) (fun j => ?_) fun j => ?_
  · have : (i 1).val < 1024 := (i 1).isLt
    have hi : (i 0).val / 512 = t.val := hi
    exact mem_unit2 (by omega) (by omega) (by omega) (by omega)
  all_goals
    have e0 := emb_unit2_0 (a := 2048) (b := 1024) (n := 512) (m := 1024) (r0 := 512 * t.val) (c0 := 0) (inb := inb) j
    have e1 := emb_unit2_1 (a := 2048) (b := 1024) (n := 512) (m := 1024) (r0 := 512 * t.val) (c0 := 0) (inb := inb) j
  exacts [(key j _ e0 e1).1, (key j _ e0 e1).2]

/-- A store of row block `t` of the projection. -/
theorem write_acc (I : Inp F) (z) (t : Fin 4) {off : Fin 2 → ℕ} {inb} (hoff : off = ![512 * t.val, 0])
    {w : Vec F S512x1024 .bf16} (hw : w = accBlk I t) :
    ((Memref.whole cc0_scratch2).access (Rect.unit (s := S2048x1024) off S512x1024.size inb)).write (Elt F) (upTo rowBlk (accOf I) z t.val) w Finset.univ
      = upTo rowBlk (accOf I) z (t.val + 1) := by
  subst hoff hw
  have key : ∀ j, ∀ i : S2048x1024.Idx, (i 0).val = 512 * t.val + (j 0).val → (i 1).val = 0 + (j 1).val →
      rowBlk i = t.val ∧ accBlk I t j = accOf I i := by
    intro (j : S512x1024.Idx) i e0 e1
    have h0 : (j 0).val < 512 := (j 0).isLt
    have hr : rowBlk i = t.val := by show (i 0).val / 512 = _; omega
    refine ⟨hr, ?_⟩
    rw [accOf, show (⟨rowBlk i, rowBlk_lt i⟩ : Fin 4) = t from Fin.ext hr]
    exact congrArg _ (inRowBlk_eq (by omega) (by omega)).symm
  refine upTo_write (b := cc0_scratch2) (fun i hi => ?_) (fun j => ?_) fun j => ?_
  · have : (i 1).val < 1024 := (i 1).isLt
    have hi : (i 0).val / 512 = t.val := hi
    exact mem_unit2 (by omega) (by omega) (by omega) (by omega)
  all_goals
    have e0 := emb_unit2_0 (a := 2048) (b := 1024) (n := 512) (m := 1024) (r0 := 512 * t.val) (c0 := 0) (inb := inb) j
    have e1 := emb_unit2_1 (a := 2048) (b := 1024) (n := 512) (m := 1024) (r0 := 512 * t.val) (c0 := 0) (inb := inb) j
  exacts [(key j _ e0 e1).1, (key j _ e0 e1).2]

theorem ix2_eq {n m : ℕ} {a : Fin n} {b : Fin m} {j : Shape.Idx ⟨2, ![n, m]⟩} (h0 : a.val = (j 0).val) (h1 : b.val = (j 1).val) : ix2 a b = j := by
  funext x
  refine Fin.cases (Fin.ext h0) (fun x => ?_) x
  obtain rfl : x = 0 := Subsingleton.elim _ _
  exact Fin.ext h1

theorem ctxOrd_of_val {i : S2048x1024.Idx} {n : ℕ} (h : ctxOrd i = n) :
    ((i 0).val < 128 ∧ 2 * ((i 1).val / 128) = n) ∨ (128 ≤ (i 0).val ∧ (i 0).val < 512 ∧ 2 * ((i 1).val / 128) + 1 = n)
      ∨ (512 ≤ (i 0).val ∧ 8 * ((i 0).val / 512) + 8 + (i 1).val / 128 = n) := by
  simp only [ctxOrd, headOf, rowBlk] at h
  split_ifs at h <;> omega

/-- A store of the context of head `h`, rows 0 to 127. -/
theorem write_ctxA (I : Inp F) (z) (h : Fin 8) {off : Fin 2 → ℕ} {inb} (hoff : off = ![0, 128 * h.val])
    {w : Vec F S128x128 .bf16} (hw : w = ctxA I h) :
    ((Memref.whole cc0_scratch1).access (Rect.unit (s := S2048x1024) off S128x128.size inb)).write (Elt F) (upTo ctxOrd (ctxOf I) z (2 * h.val)) w Finset.univ
      = upTo ctxOrd (ctxOf I) z (2 * h.val + 1) := by
  subst hoff hw
  have hl : h.val < 8 := h.isLt
  have key : ∀ j, ∀ i : S2048x1024.Idx, (i 0).val = (j 0).val → (i 1).val = 128 * h.val + (j 1).val →
      ctxOrd i = 2 * h.val ∧ ctxA I h j = ctxOf I i := by
    intro (j : S128x128.Idx) i e0 e1
    have h0 : (j 0).val < 128 := (j 0).isLt
    have h1 : (j 1).val < 128 := (j 1).isLt
    have hh : headOf i = h := Fin.ext (by show (i 1).val / 128 = _; omega)
    refine ⟨?_, ?_⟩
    · rw [ctxOrd, if_pos (by omega), hh]
    · rw [ctxOf, dif_pos (by omega), hh]
      exact congrArg _ (ix2_eq (by simp only; omega) (by simp only; omega)).symm
  refine upTo_write (b := cc0_scratch1) (fun i hi => ?_) (fun j => ?_) fun j => ?_
  · have : (i 1).val < 1024 := (i 1).isLt
    have : (i 0).val < 2048 := (i 0).isLt
    have := ctxOrd_of_val hi
    exact mem_unit2 (by omega) (by omega) (by omega) (by omega)
  all_goals
    have e0 := emb_unit2_0 (a := 2048) (b := 1024) (n := 128) (m := 128) (r0 := 0) (c0 := 128 * h.val) (inb := inb) j
    have e1 := emb_unit2_1 (a := 2048) (b := 1024) (n := 128) (m := 128) (r0 := 0) (c0 := 128 * h.val) (inb := inb) j
    rw [Nat.zero_add] at e0
  exacts [(key j _ e0 e1).1, (key j _ e0 e1).2]

/-- A store of the context of head `h`, rows 128 to 511. -/
theorem write_ctxB (I : Inp F) (z) (h : Fin 8) {off : Fin 2 → ℕ} {inb} (hoff : off = ![128, 128 * h.val])
    {w : Vec F S384x128 .bf16} (hw : w = ctxB I h) :
    ((Memref.whole cc0_scratch1).access (Rect.unit (s := S2048x1024) off S384x128.size inb)).write (Elt F) (upTo ctxOrd (ctxOf I) z (2 * h.val + 1)) w Finset.univ
      = upTo ctxOrd (ctxOf I) z (2 * h.val + 2) := by
  subst hoff hw
  have hl : h.val < 8 := h.isLt
  have key : ∀ j, ∀ i : S2048x1024.Idx, (i 0).val = 128 + (j 0).val → (i 1).val = 128 * h.val + (j 1).val →
      ctxOrd i = 2 * h.val + 1 ∧ ctxB I h j = ctxOf I i := by
    intro (j : S384x128.Idx) i e0 e1
    have h0 : (j 0).val < 384 := (j 0).isLt
    have h1 : (j 1).val < 128 := (j 1).isLt
    have hh : headOf i = h := Fin.ext (by show (i 1).val / 128 = _; omega)
    refine ⟨?_, ?_⟩
    · rw [ctxOrd, if_neg (by omega), if_pos (by omega), hh]
    · rw [ctxOf, dif_neg (by omega), dif_pos (by omega), hh]
      exact congrArg _ (ix2_eq (by simp only; omega) (by simp only; omega)).symm
  refine upTo_write (b := cc0_scratch1) (fun i hi => ?_) (fun j => ?_) fun j => ?_
  · have : (i 1).val < 1024 := (i 1).isLt
    have : (i 0).val < 2048 := (i 0).isLt
    have := ctxOrd_of_val hi
    exact mem_unit2 (by omega) (by omega) (by omega) (by omega)
  all_goals
    have e0 := emb_unit2_0 (a := 2048) (b := 1024) (n := 384) (m := 128) (r0 := 128) (c0 := 128 * h.val) (inb := inb) j
    have e1 := emb_unit2_1 (a := 2048) (b := 1024) (n := 384) (m := 128) (r0 := 128) (c0 := 128 * h.val) (inb := inb) j
  exacts [(key j _ e0 e1).1, (key j _ e0 e1).2]

/-- A store of the context of head `h`, row block `t` from 1 to 3. -/
theorem write_ctxC (I : Inp F) (z) (t : Fin 4) (ht : t ≠ 0) (h : Fin 8) {off : Fin 2 → ℕ} {inb} (hoff : off = ![512 * t.val, 128 * h.val])
    {w : Vec F S512x128 .bf16} (hw : w = ctxC I t h) :
    ((Memref.whole cc0_scratch1).access (Rect.unit (s := S2048x1024) off S512x128.size inb)).write (Elt F) (upTo ctxOrd (ctxOf I) z (8 * t.val + 8 + h.val)) w Finset.univ
      = upTo ctxOrd (ctxOf I) z (8 * t.val + 8 + h.val + 1) := by
  subst hoff hw
  have hl : h.val < 8 := h.isLt
  have ht' : 0 < t.val := Nat.pos_of_ne_zero fun h0 => ht (Fin.ext h0)
  have key : ∀ j, ∀ i : S2048x1024.Idx, (i 0).val = 512 * t.val + (j 0).val → (i 1).val = 128 * h.val + (j 1).val →
      ctxOrd i = 8 * t.val + 8 + h.val ∧ ctxC I t h j = ctxOf I i := by
    intro (j : S512x128.Idx) i e0 e1
    have h0 : (j 0).val < 512 := (j 0).isLt
    have h1 : (j 1).val < 128 := (j 1).isLt
    have hh : headOf i = h := Fin.ext (by show (i 1).val / 128 = _; omega)
    have hr : rowBlk i = t.val := by show (i 0).val / 512 = _; omega
    refine ⟨?_, ?_⟩
    · rw [ctxOrd, if_neg (by omega), if_neg (by omega), hh, hr]
    · rw [ctxOf, dif_neg (by omega), dif_neg (by omega), hh, show (⟨rowBlk i, rowBlk_lt i⟩ : Fin 4) = t from Fin.ext hr]
      exact congrArg _ (ix2_eq (by simp only; omega) (by simp only; omega)).symm
  refine upTo_write (b := cc0_scratch1) (fun i hi => ?_) (fun j => ?_) fun j => ?_
  · have : (i 1).val < 1024 := (i 1).isLt
    have : (i 0).val < 2048 := (i 0).isLt
    have := ctxOrd_of_val hi
    exact mem_unit2 (by omega) (by omega) (by omega) (by omega)
  all_goals
    have e0 := emb_unit2_0 (a := 2048) (b := 1024) (n := 512) (m := 128) (r0 := 512 * t.val) (c0 := 128 * h.val) (inb := inb) j
    have e1 := emb_unit2_1 (a := 2048) (b := 1024) (n := 512) (m := 128) (r0 := 512 * t.val) (c0 := 128 * h.val) (inb := inb) j
  exacts [(key j _ e0 e1).1, (key j _ e0 e1).2]

theorem ctxOrd_lt (i : S2048x1024.Idx) : ctxOrd i < 40 := by
  have : (i 1).val < 1024 := (i 1).isLt
  have : (i 0).val < 2048 := (i 0).isLt
  have := ctxOrd_of_val (i := i) rfl
  omega

theorem upTo_q (I : Inp F) (z) : upTo rowBlk (qOf I) z 4 = qOf I := upTo_all rowBlk_lt
theorem upTo_ctx (I : Inp F) (z) : upTo ctxOrd (ctxOf I) z 40 = ctxOf I := upTo_all ctxOrd_lt
theorem upTo_acc (I : Inp F) (z) : upTo rowBlk (accOf I) z 4 = accOf I := upTo_all rowBlk_lt

end Cert.KernelIdeal.Flow

end
-- ==== Proof.PartsA.lean ====
/-
  The compute phase, parts 3 to 14 of the body: each part carries the buffers from one stage to the next
  and answers the stated values.
-/
module

public import proofs.«01_k».proof.Proof.Stores

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {c : Dev nD} {I : Inp F}
  {zq : (cc0_scratch0 : Ref sig .tc).ty.Contents (Elt F)} {zc : (cc0_scratch1 : Ref sig .tc).ty.Contents (Elt F)} {za : (cc0_scratch2 : Ref sig .tc).ty.Contents (Elt F)}
  {zb0 : (cc0_scratch5 : Ref sig .tc).ty.Contents (Elt F)} {zbB : (cc0_scratch6 : Ref sig .tc).ty.Contents (Elt F)} {zbb : (cc0_scratch7 : Ref sig .tc).ty.Contents (Elt F)} {zbg : (cc0_scratch8 : Ref sig .tc).ty.Contents (Elt F)}

/-- Part 3 of the body: from the first assertion to the second, given that its signal and its wait lead to the one they start from. -/
theorem part3_run (d0 : Dev nD) (v66 : BitVec 32) (v71 : Sems sig S_) {P : sProp 𝕄} {Q Q' : (FVec F S512x1024 .bf16) → sProp 𝕄}
    (H0 : ∀ k : PUnit → Prog (TpuEff nD τ sig (Elt F) Λ₀ .tc) ((FVec F S512x1024 .bf16)), (vm c I (upTo rowBlk (qOf I) zq 0) (upTo ctxOrd (ctxOf I) zc 0) (upTo rowBlk (accOf I) za 0) zb0 zbB zbb zbg ⊢ W c (k ⟨⟩) Q') →
      P ⊢ W c (semSignalWord (⟨k0_dev3 d0, k0_dev3_lt d0⟩ : Dev nD) v71.sem 1#32 >>= fun _ => semWaitWord v71.sem 3#32 >>= k) Q)
    (H : vm c I (upTo rowBlk (qOf I) zq 2) (upTo ctxOrd (ctxOf I) zc 0) (upTo rowBlk (accOf I) za 0) zb0 zbB zbb zbg ⊢ Q' ((k0_pay4 (ldR cc0_stg0_0 I.x (Rect.unit (s := S1x2048x1024) ![0, 1024, 0] S1x512x1024.size inb_S1x2048x1024_S1x512x1024_0_1024_0)) (ldR cc0_stg1_0 I.wq (Rect.unit (s := S1024x1024) ![0, 0] S1024x1024.size inb_S1024x1024_S1024x1024_0_0))))) :
    P ⊢ W c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 d0 v66 v71) Q := by
  rw [k0_part3_eq_skeleton]; unfold k0_part3_skel
  refine H0 _ ?_
  refine load_x ?_
  refine load_wq ?_
  refine load_q ?_
  refine store_q (upTo rowBlk (qOf I) zq 1) (write_q I zq 0 rfl rfl) ?_
  refine load_x ?_
  refine load_wq ?_
  refine load_q ?_
  refine store_q (upTo rowBlk (qOf I) zq 2) (write_q I zq 1 rfl rfl) ?_
  refine load_x ?_
  refine load_wq ?_
  refine load_q ?_
  exact ret_of H

/-- Part 4 of the body: from the first assertion to the second. -/
theorem part4_run  {Q : (IVec S384x768 1) → sProp 𝕄} (H : vm c I (qOf I) (upTo ctxOrd (ctxOf I) zc 0) (upTo rowBlk (accOf I) za 0) bias0 zbB zbb zbg ⊢ Q (k0_pay8)) :
    vm c I (upTo rowBlk (qOf I) zq 2) (upTo ctxOrd (ctxOf I) zc 0) (upTo rowBlk (accOf I) za 0) zb0 zbB zbb zbg ⊢ W c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((k0_pay4 (ldR cc0_stg0_0 I.x (Rect.unit (s := S1x2048x1024) ![0, 1024, 0] S1x512x1024.size inb_S1x2048x1024_S1x512x1024_0_1024_0)) (ldR cc0_stg1_0 I.wq (Rect.unit (s := S1024x1024) ![0, 0] S1024x1024.size inb_S1024x1024_S1024x1024_0_0))))) Q := by
  rw [k0_part4_eq_skeleton]; unfold k0_part4_skel
  refine store_q (upTo rowBlk (qOf I) zq 3) (write_q I zq 2 rfl rfl) ?_
  refine load_x ?_
  refine load_wq ?_
  refine load_q ?_
  refine store_q (upTo rowBlk (qOf I) zq 4) (write_q I zq 3 rfl rfl) ?_
  rw [upTo_q]
  refine load_b0 ?_
  refine store_b0 bias0 (Memref.write_access_unit_zero_univ (Elt F) cc0_scratch5 (by decide) _ _ _) ?_
  exact ret_of H

/-- Part 5 of the body: from the first assertion to the second. -/
theorem part5_run  {Q : (Σ' (v175 : FVec F S384x768 .f32), F .f32) → sProp 𝕄} (H : vm c I (qOf I) (upTo ctxOrd (ctxOf I) zc 1) (upTo rowBlk (accOf I) za 0) bias0 biasB zbb zbg ⊢ Q (⟨k0_pay11 (ldR cc0_scratch0 (qOf I) (Rect.unit (s := S2048x1024) ![128, 0] S384x128.size inb_S2048x1024_S384x128_128_0)) (ldR cc0_stg2_0 I.k (Rect.unit (s := S2048x1024) ![0, 0] S768x128.size inb_S2048x1024_S768x128_0_0)), (Scalar.ofBits .f32 0x3DB504F3#32)⟩)) :
    vm c I (qOf I) (upTo ctxOrd (ctxOf I) zc 0) (upTo rowBlk (accOf I) za 0) bias0 zbB zbb zbg ⊢ W c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay8)) Q := by
  rw [k0_part5_eq_skeleton]; unfold k0_part5_skel
  refine load_bB ?_
  refine store_bB biasB (Memref.write_access_unit_zero_univ (Elt F) cc0_scratch6 (by decide) _ _ _) ?_
  refine load_q ?_
  refine load_k ?_
  refine load_b0 ?_
  refine load_v ?_
  refine load_ctx ?_
  refine store_ctx (upTo ctxOrd (ctxOf I) zc 1) (write_ctxA I zc 0 rfl rfl) ?_
  refine load_q ?_
  refine load_k ?_
  exact ret_of H

/-- Part 6 of the body: from the first assertion to the second. -/
theorem part6_run  {Q : (Σ' (v210 : FVec F S128x2048 .bf16) (v212 : FVec F S2048x128 .bf16), FVec F S128x128 .f32) → sProp 𝕄} (H : vm c I (qOf I) (upTo ctxOrd (ctxOf I) zc 2) (upTo rowBlk (accOf I) za 0) bias0 biasB zbb zbg ⊢ Q (⟨k0_pay13 (ldR cc0_scratch0 (qOf I) (Rect.unit (s := S2048x1024) ![0, 128] S128x128.size inb_S2048x1024_S128x128_0_128)) (ldR cc0_stg2_0 I.k (Rect.unit (s := S2048x1024) ![0, 128] S2048x128.size inb_S2048x1024_S2048x128_0_128)) (m0), k0_pay14 (ldR cc0_stg3_0 I.v (Rect.unit (s := S2048x1024) ![0, 128] S2048x128.size inb_S2048x1024_S2048x128_0_128)), (constant S128x128 .f32 0x00000000#32)⟩)) :
    vm c I (qOf I) (upTo ctxOrd (ctxOf I) zc 1) (upTo rowBlk (accOf I) za 0) bias0 biasB zbb zbg ⊢ W c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay11 (ldR cc0_scratch0 (qOf I) (Rect.unit (s := S2048x1024) ![128, 0] S384x128.size inb_S2048x1024_S384x128_128_0)) (ldR cc0_stg2_0 I.k (Rect.unit (s := S2048x1024) ![0, 0] S768x128.size inb_S2048x1024_S768x128_0_0))) ((Scalar.ofBits .f32 0x3DB504F3#32))) Q := by
  rw [k0_part6_eq_skeleton]; unfold k0_part6_skel
  refine load_bB ?_
  refine load_v ?_
  refine load_ctx ?_
  refine store_ctx (upTo ctxOrd (ctxOf I) zc 2) (write_ctxB I zc 0 rfl rfl) ?_
  refine load_q ?_
  refine load_k ?_
  refine load_b0 ?_
  refine load_v ?_
  exact ret_of H

/-- Part 7 of the body: from the first assertion to the second. -/
theorem part7_run  {Q : (FVec F S128x2048 .f32) → sProp 𝕄} (H : vm c I (qOf I) (upTo ctxOrd (ctxOf I) zc 4) (upTo rowBlk (accOf I) za 0) bias0 biasB zbb zbg ⊢ Q ((k0_pay17 (ldR cc0_scratch0 (qOf I) (Rect.unit (s := S2048x1024) ![0, 256] S128x128.size inb_S2048x1024_S128x128_0_256)) (ldR cc0_stg2_0 I.k (Rect.unit (s := S2048x1024) ![0, 256] S2048x128.size inb_S2048x1024_S2048x128_0_256))))) :
    vm c I (qOf I) (upTo ctxOrd (ctxOf I) zc 2) (upTo rowBlk (accOf I) za 0) bias0 biasB zbb zbg ⊢ W c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay13 (ldR cc0_scratch0 (qOf I) (Rect.unit (s := S2048x1024) ![0, 128] S128x128.size inb_S2048x1024_S128x128_0_128)) (ldR cc0_stg2_0 I.k (Rect.unit (s := S2048x1024) ![0, 128] S2048x128.size inb_S2048x1024_S2048x128_0_128)) (m0)) (k0_pay14 (ldR cc0_stg3_0 I.v (Rect.unit (s := S2048x1024) ![0, 128] S2048x128.size inb_S2048x1024_S2048x128_0_128))) ((constant S128x128 .f32 0x00000000#32))) Q := by
  rw [k0_part7_eq_skeleton]; unfold k0_part7_skel
  refine load_ctx ?_
  refine store_ctx (upTo ctxOrd (ctxOf I) zc 3) (write_ctxA I zc 1 rfl rfl) ?_
  refine load_q ?_
  refine load_k ?_
  refine load_bB ?_
  refine load_v ?_
  refine load_ctx ?_
  refine store_ctx (upTo ctxOrd (ctxOf I) zc 4) (write_ctxB I zc 1 rfl rfl) ?_
  refine load_q ?_
  refine load_k ?_
  exact ret_of H

/-- Part 8 of the body: from the first assertion to the second. -/
theorem part8_run  {Q : (FVec F S384x128 .bf16) → sProp 𝕄} (H : vm c I (qOf I) (upTo ctxOrd (ctxOf I) zc 5) (upTo rowBlk (accOf I) za 0) bias0 biasB zbb zbg ⊢ Q ((k0_pay19 (ldR cc0_scratch0 (qOf I) (Rect.unit (s := S2048x1024) ![128, 256] S384x128.size inb_S2048x1024_S384x128_128_256)) (ldR cc0_stg2_0 I.k (Rect.unit (s := S2048x1024) ![0, 256] S768x128.size inb_S2048x1024_S768x128_0_256)) (mB) (ldR cc0_stg3_0 I.v (Rect.unit (s := S2048x1024) ![0, 256] S768x128.size inb_S2048x1024_S768x128_0_256))))) :
    vm c I (qOf I) (upTo ctxOrd (ctxOf I) zc 4) (upTo rowBlk (accOf I) za 0) bias0 biasB zbb zbg ⊢ W c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((k0_pay17 (ldR cc0_scratch0 (qOf I) (Rect.unit (s := S2048x1024) ![0, 256] S128x128.size inb_S2048x1024_S128x128_0_256)) (ldR cc0_stg2_0 I.k (Rect.unit (s := S2048x1024) ![0, 256] S2048x128.size inb_S2048x1024_S2048x128_0_256))))) Q := by
  rw [k0_part8_eq_skeleton]; unfold k0_part8_skel
  refine load_b0 ?_
  refine load_v ?_
  refine load_ctx ?_
  refine store_ctx (upTo ctxOrd (ctxOf I) zc 5) (write_ctxA I zc 2 rfl rfl) ?_
  refine load_q ?_
  refine load_k ?_
  refine load_bB ?_
  refine load_v ?_
  exact ret_of H

/-- Part 9 of the body: from the first assertion to the second. -/
theorem part9_run  {Q : (FVec F S384x768 .f32) → sProp 𝕄} (H : vm c I (qOf I) (upTo ctxOrd (ctxOf I) zc 7) (upTo rowBlk (accOf I) za 0) bias0 biasB zbb zbg ⊢ Q ((k0_pay22 (ldR cc0_scratch0 (qOf I) (Rect.unit (s := S2048x1024) ![128, 384] S384x128.size inb_S2048x1024_S384x128_128_384)) (ldR cc0_stg2_0 I.k (Rect.unit (s := S2048x1024) ![0, 384] S768x128.size inb_S2048x1024_S768x128_0_384)) (mB)))) :
    vm c I (qOf I) (upTo ctxOrd (ctxOf I) zc 5) (upTo rowBlk (accOf I) za 0) bias0 biasB zbb zbg ⊢ W c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((k0_pay19 (ldR cc0_scratch0 (qOf I) (Rect.unit (s := S2048x1024) ![128, 256] S384x128.size inb_S2048x1024_S384x128_128_256)) (ldR cc0_stg2_0 I.k (Rect.unit (s := S2048x1024) ![0, 256] S768x128.size inb_S2048x1024_S768x128_0_256)) (mB) (ldR cc0_stg3_0 I.v (Rect.unit (s := S2048x1024) ![0, 256] S768x128.size inb_S2048x1024_S768x128_0_256))))) Q := by
  rw [k0_part9_eq_skeleton]; unfold k0_part9_skel
  refine load_ctx ?_
  refine store_ctx (upTo ctxOrd (ctxOf I) zc 6) (write_ctxB I zc 2 rfl rfl) ?_
  refine load_q ?_
  refine load_k ?_
  refine load_b0 ?_
  refine load_v ?_
  refine load_ctx ?_
  refine store_ctx (upTo ctxOrd (ctxOf I) zc 7) (write_ctxA I zc 3 rfl rfl) ?_
  refine load_q ?_
  refine load_k ?_
  refine load_bB ?_
  exact ret_of H

/-- Part 10 of the body: from the first assertion to the second. -/
theorem part10_run  {Q : (FVec F S128x128 .bf16) → sProp 𝕄} (H : vm c I (qOf I) (upTo ctxOrd (ctxOf I) zc 8) (upTo rowBlk (accOf I) za 0) bias0 biasB zbb zbg ⊢ Q ((k0_pay24 (ldR cc0_scratch0 (qOf I) (Rect.unit (s := S2048x1024) ![0, 512] S128x128.size inb_S2048x1024_S128x128_0_512)) (ldR cc0_stg2_0 I.k (Rect.unit (s := S2048x1024) ![0, 512] S2048x128.size inb_S2048x1024_S2048x128_0_512)) (m0) (ldR cc0_stg3_0 I.v (Rect.unit (s := S2048x1024) ![0, 512] S2048x128.size inb_S2048x1024_S2048x128_0_512))))) :
    vm c I (qOf I) (upTo ctxOrd (ctxOf I) zc 7) (upTo rowBlk (accOf I) za 0) bias0 biasB zbb zbg ⊢ W c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((k0_pay22 (ldR cc0_scratch0 (qOf I) (Rect.unit (s := S2048x1024) ![128, 384] S384x128.size inb_S2048x1024_S384x128_128_384)) (ldR cc0_stg2_0 I.k (Rect.unit (s := S2048x1024) ![0, 384] S768x128.size inb_S2048x1024_S768x128_0_384)) (mB)))) Q := by
  rw [k0_part10_eq_skeleton]; unfold k0_part10_skel
  refine load_v ?_
  refine load_ctx ?_
  refine store_ctx (upTo ctxOrd (ctxOf I) zc 8) (write_ctxB I zc 3 rfl rfl) ?_
  refine load_q ?_
  refine load_k ?_
  refine load_b0 ?_
  refine load_v ?_
  refine load_ctx ?_
  exact ret_of H

/-- Part 11 of the body: from the first assertion to the second. -/
theorem part11_run  {Q : (Σ' (v387 : FVec F S128x2048 .f32), FVec F S128 .f32) → sProp 𝕄} (H : vm c I (qOf I) (upTo ctxOrd (ctxOf I) zc 10) (upTo rowBlk (accOf I) za 0) bias0 biasB zbb zbg ⊢ Q (⟨k0_pay27 (ldR cc0_scratch0 (qOf I) (Rect.unit (s := S2048x1024) ![0, 640] S128x128.size inb_S2048x1024_S128x128_0_640)) (ldR cc0_stg2_0 I.k (Rect.unit (s := S2048x1024) ![0, 640] S2048x128.size inb_S2048x1024_S2048x128_0_640)) (m0), k0_pay28 (ldR cc0_scratch0 (qOf I) (Rect.unit (s := S2048x1024) ![0, 640] S128x128.size inb_S2048x1024_S128x128_0_640)) (ldR cc0_stg2_0 I.k (Rect.unit (s := S2048x1024) ![0, 640] S2048x128.size inb_S2048x1024_S2048x128_0_640)) (m0)⟩)) :
    vm c I (qOf I) (upTo ctxOrd (ctxOf I) zc 8) (upTo rowBlk (accOf I) za 0) bias0 biasB zbb zbg ⊢ W c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((k0_pay24 (ldR cc0_scratch0 (qOf I) (Rect.unit (s := S2048x1024) ![0, 512] S128x128.size inb_S2048x1024_S128x128_0_512)) (ldR cc0_stg2_0 I.k (Rect.unit (s := S2048x1024) ![0, 512] S2048x128.size inb_S2048x1024_S2048x128_0_512)) (m0) (ldR cc0_stg3_0 I.v (Rect.unit (s := S2048x1024) ![0, 512] S2048x128.size inb_S2048x1024_S2048x128_0_512))))) Q := by
  rw [k0_part11_eq_skeleton]; unfold k0_part11_skel
  refine store_ctx (upTo ctxOrd (ctxOf I) zc 9) (write_ctxA I zc 4 rfl rfl) ?_
  refine load_q ?_
  refine load_k ?_
  refine load_bB ?_
  refine load_v ?_
  refine load_ctx ?_
  refine store_ctx (upTo ctxOrd (ctxOf I) zc 10) (write_ctxB I zc 4 rfl rfl) ?_
  refine load_q ?_
  refine load_k ?_
  refine load_b0 ?_
  exact ret_of H

/-- Part 12 of the body: from the first assertion to the second. -/
theorem part12_run  {Q : (PUnit) → sProp 𝕄} (H : vm c I (qOf I) (upTo ctxOrd (ctxOf I) zc 12) (upTo rowBlk (accOf I) za 0) bias0 biasB zbb zbg ⊢ Q (⟨⟩)) :
    vm c I (qOf I) (upTo ctxOrd (ctxOf I) zc 10) (upTo rowBlk (accOf I) za 0) bias0 biasB zbb zbg ⊢ W c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay27 (ldR cc0_scratch0 (qOf I) (Rect.unit (s := S2048x1024) ![0, 640] S128x128.size inb_S2048x1024_S128x128_0_640)) (ldR cc0_stg2_0 I.k (Rect.unit (s := S2048x1024) ![0, 640] S2048x128.size inb_S2048x1024_S2048x128_0_640)) (m0)) (k0_pay28 (ldR cc0_scratch0 (qOf I) (Rect.unit (s := S2048x1024) ![0, 640] S128x128.size inb_S2048x1024_S128x128_0_640)) (ldR cc0_stg2_0 I.k (Rect.unit (s := S2048x1024) ![0, 640] S2048x128.size inb_S2048x1024_S2048x128_0_640)) (m0))) Q := by
  rw [k0_part12_eq_skeleton]; unfold k0_part12_skel
  refine load_v ?_
  refine load_ctx ?_
  refine store_ctx (upTo ctxOrd (ctxOf I) zc 11) (write_ctxA I zc 5 rfl rfl) ?_
  refine load_q ?_
  refine load_k ?_
  refine load_bB ?_
  refine load_v ?_
  refine load_ctx ?_
  refine store_ctx (upTo ctxOrd (ctxOf I) zc 12) (write_ctxB I zc 5 rfl rfl) ?_
  exact ret_of H

/-- Part 13 of the body: from the first assertion to the second. -/
theorem part13_run  {Q : (Σ' (v456 : FVec F S384x768 .f32) (v458 : FVec F S384x1 .f32), FVec F S384x1 .f32) → sProp 𝕄} (H : vm c I (qOf I) (upTo ctxOrd (ctxOf I) zc 13) (upTo rowBlk (accOf I) za 0) bias0 biasB zbb zbg ⊢ Q (⟨k0_pay32 (ldR cc0_scratch0 (qOf I) (Rect.unit (s := S2048x1024) ![128, 768] S384x128.size inb_S2048x1024_S384x128_128_768)) (ldR cc0_stg2_0 I.k (Rect.unit (s := S2048x1024) ![0, 768] S768x128.size inb_S2048x1024_S768x128_0_768)) (mB), k0_pay33 (ldR cc0_scratch0 (qOf I) (Rect.unit (s := S2048x1024) ![128, 768] S384x128.size inb_S2048x1024_S384x128_128_768)) (ldR cc0_stg2_0 I.k (Rect.unit (s := S2048x1024) ![0, 768] S768x128.size inb_S2048x1024_S768x128_0_768)) (mB), k0_pay34 (F := F)⟩)) :
    vm c I (qOf I) (upTo ctxOrd (ctxOf I) zc 12) (upTo rowBlk (accOf I) za 0) bias0 biasB zbb zbg ⊢ W c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ) Q := by
  rw [k0_part13_eq_skeleton]; unfold k0_part13_skel
  refine load_q ?_
  refine load_k ?_
  refine load_b0 ?_
  refine load_v ?_
  refine load_ctx ?_
  refine store_ctx (upTo ctxOrd (ctxOf I) zc 13) (write_ctxA I zc 6 rfl rfl) ?_
  refine load_q ?_
  refine load_k ?_
  refine load_bB ?_
  exact ret_of H

/-- Part 14 of the body: from the first assertion to the second. -/
theorem part14_run  {Q : (Vec F S384x128 .bf16) → sProp 𝕄} (H : vm c I (qOf I) (upTo ctxOrd (ctxOf I) zc 15) (upTo rowBlk (accOf I) za 0) bias0 biasB zbb zbg ⊢ Q ((ldR cc0_scratch0 (qOf I) (Rect.unit (s := S2048x1024) ![128, 896] S384x128.size inb_S2048x1024_S384x128_128_896)))) :
    vm c I (qOf I) (upTo ctxOrd (ctxOf I) zc 13) (upTo rowBlk (accOf I) za 0) bias0 biasB zbb zbg ⊢ W c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay32 (ldR cc0_scratch0 (qOf I) (Rect.unit (s := S2048x1024) ![128, 768] S384x128.size inb_S2048x1024_S384x128_128_768)) (ldR cc0_stg2_0 I.k (Rect.unit (s := S2048x1024) ![0, 768] S768x128.size inb_S2048x1024_S768x128_0_768)) (mB)) (k0_pay33 (ldR cc0_scratch0 (qOf I) (Rect.unit (s := S2048x1024) ![128, 768] S384x128.size inb_S2048x1024_S384x128_128_768)) (ldR cc0_stg2_0 I.k (Rect.unit (s := S2048x1024) ![0, 768] S768x128.size inb_S2048x1024_S768x128_0_768)) (mB)) (k0_pay34 (F := F))) Q := by
  rw [k0_part14_eq_skeleton]; unfold k0_part14_skel
  refine load_v ?_
  refine load_ctx ?_
  refine store_ctx (upTo ctxOrd (ctxOf I) zc 14) (write_ctxB I zc 6 rfl rfl) ?_
  refine load_q ?_
  refine load_k ?_
  refine load_b0 ?_
  refine load_v ?_
  refine load_ctx ?_
  refine store_ctx (upTo ctxOrd (ctxOf I) zc 15) (write_ctxA I zc 7 rfl rfl) ?_
  refine load_q ?_
  exact ret_of H

end Cert.KernelIdeal.Flow

end
-- ==== Proof.PartsB.lean ====
/-
  The compute phase, parts 15 to 24 of the body: each part carries the buffers from one stage to the next
  and answers the stated values.
-/
module

public import proofs.«01_k».proof.Proof.Stores

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {c : Dev nD} {I : Inp F}
  {zq : (cc0_scratch0 : Ref sig .tc).ty.Contents (Elt F)} {zc : (cc0_scratch1 : Ref sig .tc).ty.Contents (Elt F)} {za : (cc0_scratch2 : Ref sig .tc).ty.Contents (Elt F)}
  {zb0 : (cc0_scratch5 : Ref sig .tc).ty.Contents (Elt F)} {zbB : (cc0_scratch6 : Ref sig .tc).ty.Contents (Elt F)} {zbb : (cc0_scratch7 : Ref sig .tc).ty.Contents (Elt F)} {zbg : (cc0_scratch8 : Ref sig .tc).ty.Contents (Elt F)}

/-- Part 15 of the body: from the first assertion to the second. -/
theorem part15_run  {Q : (IVec S512x768 32) → sProp 𝕄} (H : vm c I (qOf I) (upTo ctxOrd (ctxOf I) zc 16) (upTo rowBlk (accOf I) za 0) bias0 biasB zbb biasG ⊢ Q (k0_pay39)) :
    vm c I (qOf I) (upTo ctxOrd (ctxOf I) zc 15) (upTo rowBlk (accOf I) za 0) bias0 biasB zbb zbg ⊢ W c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![128, 896] S384x128.size inb_S2048x1024_S384x128_128_896)))) Q := by
  rw [k0_part15_eq_skeleton]; unfold k0_part15_skel
  refine load_k ?_
  refine load_bB ?_
  refine load_v ?_
  refine load_ctx ?_
  refine store_ctx (upTo ctxOrd (ctxOf I) zc 16) (write_ctxB I zc 7 rfl rfl) ?_
  refine load_bg ?_
  refine store_bg biasG (Memref.write_access_unit_zero_univ (Elt F) cc0_scratch8 (by decide) _ _ _) ?_
  exact ret_of H

/-- Part 16 of the body: from the first assertion to the second. -/
theorem part16_run  {Q : (Σ' (v558 : FVec F S512x128 .f32) (v565 : FVec F S512x1 .f32), FVec F S512x768 .bf16) → sProp 𝕄} (H : vm c I (qOf I) (upTo ctxOrd (ctxOf I) zc 16) (upTo rowBlk (accOf I) za 0) bias0 biasB (biasW 1) biasG ⊢ Q (⟨k0_pay42 (ldR cc0_scratch0 (qOf I) (Rect.unit (s := S2048x1024) ![512, 0] S512x128.size inb_S2048x1024_S512x128_512_0)) (ldR cc0_stg2_0 I.k (Rect.unit (s := S2048x1024) ![0, 0] S128x128.size inb_S2048x1024_S128x128_0_0)) (mG), k0_pay43 (ldR cc0_scratch0 (qOf I) (Rect.unit (s := S2048x1024) ![512, 0] S512x128.size inb_S2048x1024_S512x128_512_0)) (ldR cc0_stg2_0 I.k (Rect.unit (s := S2048x1024) ![384, 0] S768x128.size inb_S2048x1024_S768x128_384_0)) (mW 1) (ldR cc0_stg2_0 I.k (Rect.unit (s := S2048x1024) ![0, 0] S128x128.size inb_S2048x1024_S128x128_0_0)) (mG), k0_pay44 (ldR cc0_scratch0 (qOf I) (Rect.unit (s := S2048x1024) ![512, 0] S512x128.size inb_S2048x1024_S512x128_512_0)) (ldR cc0_stg2_0 I.k (Rect.unit (s := S2048x1024) ![384, 0] S768x128.size inb_S2048x1024_S768x128_384_0)) (mW 1) (ldR cc0_stg2_0 I.k (Rect.unit (s := S2048x1024) ![0, 0] S128x128.size inb_S2048x1024_S128x128_0_0)) (mG)⟩)) :
    vm c I (qOf I) (upTo ctxOrd (ctxOf I) zc 16) (upTo rowBlk (accOf I) za 0) bias0 biasB zbb biasG ⊢ W c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay39)) Q := by
  rw [k0_part16_eq_skeleton]; unfold k0_part16_skel
  refine load_bb ?_
  refine store_bb (biasW 1) (Memref.write_access_unit_zero_univ (Elt F) cc0_scratch7 (by decide) _ _ _) ?_
  refine load_q ?_
  refine load_k ?_
  refine load_bb ?_
  refine load_k ?_
  refine load_bg ?_
  exact ret_of H

/-- Part 17 of the body: from the first assertion to the second. -/
theorem part17_run  {Q : (Σ' (v598 : FVec F S512x768 .f32) (v599 : FVec F S512x128 .f32) (v604 : FVec F S512x1 .f32), F .f32) → sProp 𝕄} (H : vm c I (qOf I) (upTo ctxOrd (ctxOf I) zc 17) (upTo rowBlk (accOf I) za 0) bias0 biasB (biasW 1) biasG ⊢ Q (⟨k0_pay46 (ldR cc0_scratch0 (qOf I) (Rect.unit (s := S2048x1024) ![512, 128] S512x128.size inb_S2048x1024_S512x128_512_128)) (ldR cc0_stg2_0 I.k (Rect.unit (s := S2048x1024) ![384, 128] S768x128.size inb_S2048x1024_S768x128_384_128)) (mW 1), k0_pay47 (ldR cc0_scratch0 (qOf I) (Rect.unit (s := S2048x1024) ![512, 128] S512x128.size inb_S2048x1024_S512x128_512_128)) (ldR cc0_stg2_0 I.k (Rect.unit (s := S2048x1024) ![0, 128] S128x128.size inb_S2048x1024_S128x128_0_128)) (mG), k0_pay48 (ldR cc0_scratch0 (qOf I) (Rect.unit (s := S2048x1024) ![512, 128] S512x128.size inb_S2048x1024_S512x128_512_128)) (ldR cc0_stg2_0 I.k (Rect.unit (s := S2048x1024) ![384, 128] S768x128.size inb_S2048x1024_S768x128_384_128)) (mW 1) (ldR cc0_stg2_0 I.k (Rect.unit (s := S2048x1024) ![0, 128] S128x128.size inb_S2048x1024_S128x128_0_128)) (mG), (Scalar.ofBits .f32 0x3F800000#32)⟩)) :
    vm c I (qOf I) (upTo ctxOrd (ctxOf I) zc 16) (upTo rowBlk (accOf I) za 0) bias0 biasB (biasW 1) biasG ⊢ W c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay42 (ldR cc0_scratch0 (qOf I) (Rect.unit (s := S2048x1024) ![512, 0] S512x128.size inb_S2048x1024_S512x128_512_0)) (ldR cc0_stg2_0 I.k (Rect.unit (s := S2048x1024) ![0, 0] S128x128.size inb_S2048x1024_S128x128_0_0)) (mG)) (k0_pay43 (ldR cc0_scratch0 (qOf I) (Rect.unit (s := S2048x1024) ![512, 0] S512x128.size inb_S2048x1024_S512x128_512_0)) (ldR cc0_stg2_0 I.k (Rect.unit (s := S2048x1024) ![384, 0] S768x128.size inb_S2048x1024_S768x128_384_0)) (mW 1) (ldR cc0_stg2_0 I.k (Rect.unit (s := S2048x1024) ![0, 0] S128x128.size inb_S2048x1024_S128x128_0_0)) (mG)) (k0_pay44 (ldR cc0_scratch0 (qOf I) (Rect.unit (s := S2048x1024) ![512, 0] S512x128.size inb_S2048x1024_S512x128_512_0)) (ldR cc0_stg2_0 I.k (Rect.unit (s := S2048x1024) ![384, 0] S768x128.size inb_S2048x1024_S768x128_384_0)) (mW 1) (ldR cc0_stg2_0 I.k (Rect.unit (s := S2048x1024) ![0, 0] S128x128.size inb_S2048x1024_S128x128_0_0)) (mG))) Q := by
  rw [k0_part17_eq_skeleton]; unfold k0_part17_skel
  refine load_v ?_
  refine load_v ?_
  refine load_ctx ?_
  refine store_ctx (upTo ctxOrd (ctxOf I) zc 17) (write_ctxC I zc 1 (by decide) 0 rfl rfl) ?_
  refine load_q ?_
  refine load_k ?_
  refine load_bb ?_
  refine load_k ?_
  refine load_bg ?_
  exact ret_of H

/-- Part 18 of the body: from the first assertion to the second. -/
theorem part18_run  {Q : (Σ' (v639 : FVec F S512x768 .f32), FVec F S512x128 .f32) → sProp 𝕄} (H : vm c I (qOf I) (upTo ctxOrd (ctxOf I) zc 18) (upTo rowBlk (accOf I) za 0) bias0 biasB (biasW 1) biasG ⊢ Q (⟨k0_pay50 (ldR cc0_scratch0 (qOf I) (Rect.unit (s := S2048x1024) ![512, 256] S512x128.size inb_S2048x1024_S512x128_512_256)) (ldR cc0_stg2_0 I.k (Rect.unit (s := S2048x1024) ![384, 256] S768x128.size inb_S2048x1024_S768x128_384_256)) (mW 1), k0_pay51 (ldR cc0_scratch0 (qOf I) (Rect.unit (s := S2048x1024) ![512, 256] S512x128.size inb_S2048x1024_S512x128_512_256)) (ldR cc0_stg2_0 I.k (Rect.unit (s := S2048x1024) ![0, 256] S128x128.size inb_S2048x1024_S128x128_0_256)) (mG)⟩)) :
    vm c I (qOf I) (upTo ctxOrd (ctxOf I) zc 17) (upTo rowBlk (accOf I) za 0) bias0 biasB (biasW 1) biasG ⊢ W c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay46 (ldR cc0_scratch0 (qOf I) (Rect.unit (s := S2048x1024) ![512, 128] S512x128.size inb_S2048x1024_S512x128_512_128)) (ldR cc0_stg2_0 I.k (Rect.unit (s := S2048x1024) ![384, 128] S768x128.size inb_S2048x1024_S768x128_384_128)) (mW 1)) (k0_pay47 (ldR cc0_scratch0 (qOf I) (Rect.unit (s := S2048x1024) ![512, 128] S512x128.size inb_S2048x1024_S512x128_512_128)) (ldR cc0_stg2_0 I.k (Rect.unit (s := S2048x1024) ![0, 128] S128x128.size inb_S2048x1024_S128x128_0_128)) (mG)) (k0_pay48 (ldR cc0_scratch0 (qOf I) (Rect.unit (s := S2048x1024) ![512, 128] S512x128.size inb_S2048x1024_S512x128_512_128)) (ldR cc0_stg2_0 I.k (Rect.unit (s := S2048x1024) ![384, 128] S768x128.size inb_S2048x1024_S768x128_384_128)) (mW 1) (ldR cc0_stg2_0 I.k (Rect.unit (s := S2048x1024) ![0, 128] S128x128.size inb_S2048x1024_S128x128_0_128)) (mG)) ((Scalar.ofBits .f32 0x3F800000#32))) Q := by
  rw [k0_part18_eq_skeleton]; unfold k0_part18_skel
  refine load_v ?_
  refine load_v ?_
  refine load_ctx ?_
  refine store_ctx (upTo ctxOrd (ctxOf I) zc 18) (write_ctxC I zc 1 (by decide) 1 rfl rfl) ?_
  refine load_q ?_
  refine load_k ?_
  refine load_bb ?_
  refine load_k ?_
  refine load_bg ?_
  exact ret_of H

/-- Part 19 of the body: from the first assertion to the second. -/
theorem part19_run  {Q : (Σ' (v672 : FVec F S512x768 .f32), FVec F S512x128 .f32) → sProp 𝕄} (H : vm c I (qOf I) (upTo ctxOrd (ctxOf I) zc 19) (upTo rowBlk (accOf I) za 0) bias0 biasB (biasW 1) biasG ⊢ Q (⟨k0_pay53 (ldR cc0_scratch0 (qOf I) (Rect.unit (s := S2048x1024) ![512, 384] S512x128.size inb_S2048x1024_S512x128_512_384)) (ldR cc0_stg2_0 I.k (Rect.unit (s := S2048x1024) ![384, 384] S768x128.size inb_S2048x1024_S768x128_384_384)) (mW 1), k0_pay54 (ldR cc0_scratch0 (qOf I) (Rect.unit (s := S2048x1024) ![512, 384] S512x128.size inb_S2048x1024_S512x128_512_384)) (ldR cc0_stg2_0 I.k (Rect.unit (s := S2048x1024) ![0, 384] S128x128.size inb_S2048x1024_S128x128_0_384))⟩)) :
    vm c I (qOf I) (upTo ctxOrd (ctxOf I) zc 18) (upTo rowBlk (accOf I) za 0) bias0 biasB (biasW 1) biasG ⊢ W c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay50 (ldR cc0_scratch0 (qOf I) (Rect.unit (s := S2048x1024) ![512, 256] S512x128.size inb_S2048x1024_S512x128_512_256)) (ldR cc0_stg2_0 I.k (Rect.unit (s := S2048x1024) ![384, 256] S768x128.size inb_S2048x1024_S768x128_384_256)) (mW 1)) (k0_pay51 (ldR cc0_scratch0 (qOf I) (Rect.unit (s := S2048x1024) ![512, 256] S512x128.size inb_S2048x1024_S512x128_512_256)) (ldR cc0_stg2_0 I.k (Rect.unit (s := S2048x1024) ![0, 256] S128x128.size inb_S2048x1024_S128x128_0_256)) (mG))) Q := by
  rw [k0_part19_eq_skeleton]; unfold k0_part19_skel
  refine load_v ?_
  refine load_v ?_
  refine load_ctx ?_
  refine store_ctx (upTo ctxOrd (ctxOf I) zc 19) (write_ctxC I zc 1 (by decide) 2 rfl rfl) ?_
  refine load_q ?_
  refine load_k ?_
  refine load_bb ?_
  refine load_k ?_
  exact ret_of H

/-- Part 20 of the body: from the first assertion to the second. -/
theorem part20_run  {Q : (Σ' (v706 : Vec F S512x128 .bf16), FVec F S512x768 .f32) → sProp 𝕄} (H : vm c I (qOf I) (upTo ctxOrd (ctxOf I) zc 20) (upTo rowBlk (accOf I) za 0) bias0 biasB (biasW 1) biasG ⊢ Q (⟨(ldR cc0_scratch0 (qOf I) (Rect.unit (s := S2048x1024) ![512, 512] S512x128.size inb_S2048x1024_S512x128_512_512)), k0_pay56 (ldR cc0_scratch0 (qOf I) (Rect.unit (s := S2048x1024) ![512, 512] S512x128.size inb_S2048x1024_S512x128_512_512)) (ldR cc0_stg2_0 I.k (Rect.unit (s := S2048x1024) ![384, 512] S768x128.size inb_S2048x1024_S768x128_384_512)) (mW 1)⟩)) :
    vm c I (qOf I) (upTo ctxOrd (ctxOf I) zc 19) (upTo rowBlk (accOf I) za 0) bias0 biasB (biasW 1) biasG ⊢ W c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay53 (ldR cc0_scratch0 (qOf I) (Rect.unit (s := S2048x1024) ![512, 384] S512x128.size inb_S2048x1024_S512x128_512_384)) (ldR cc0_stg2_0 I.k (Rect.unit (s := S2048x1024) ![384, 384] S768x128.size inb_S2048x1024_S768x128_384_384)) (mW 1)) (k0_pay54 (ldR cc0_scratch0 (qOf I) (Rect.unit (s := S2048x1024) ![512, 384] S512x128.size inb_S2048x1024_S512x128_512_384)) (ldR cc0_stg2_0 I.k (Rect.unit (s := S2048x1024) ![0, 384] S128x128.size inb_S2048x1024_S128x128_0_384)))) Q := by
  rw [k0_part20_eq_skeleton]; unfold k0_part20_skel
  refine load_bg ?_
  refine load_v ?_
  refine load_v ?_
  refine load_ctx ?_
  refine store_ctx (upTo ctxOrd (ctxOf I) zc 20) (write_ctxC I zc 1 (by decide) 3 rfl rfl) ?_
  refine load_q ?_
  refine load_k ?_
  refine load_bb ?_
  exact ret_of H

/-- Part 21 of the body: from the first assertion to the second. -/
theorem part21_run  {Q : (Σ' (v747 : Vec F S512x128 .bf16) (v750 : FVec F S512x768 .f32), FVec F S512x768 .f32) → sProp 𝕄} (H : vm c I (qOf I) (upTo ctxOrd (ctxOf I) zc 21) (upTo rowBlk (accOf I) za 0) bias0 biasB (biasW 1) biasG ⊢ Q (⟨(ldR cc0_scratch0 (qOf I) (Rect.unit (s := S2048x1024) ![512, 640] S512x128.size inb_S2048x1024_S512x128_512_640)), k0_pay58 (ldR cc0_scratch0 (qOf I) (Rect.unit (s := S2048x1024) ![512, 640] S512x128.size inb_S2048x1024_S512x128_512_640)) (ldR cc0_stg2_0 I.k (Rect.unit (s := S2048x1024) ![384, 640] S768x128.size inb_S2048x1024_S768x128_384_640)), k0_pay59 (F := F)⟩)) :
    vm c I (qOf I) (upTo ctxOrd (ctxOf I) zc 20) (upTo rowBlk (accOf I) za 0) bias0 biasB (biasW 1) biasG ⊢ W c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![512, 512] S512x128.size inb_S2048x1024_S512x128_512_512))) (k0_pay56 (ldR cc0_scratch0 (qOf I) (Rect.unit (s := S2048x1024) ![512, 512] S512x128.size inb_S2048x1024_S512x128_512_512)) (ldR cc0_stg2_0 I.k (Rect.unit (s := S2048x1024) ![384, 512] S768x128.size inb_S2048x1024_S768x128_384_512)) (mW 1))) Q := by
  rw [k0_part21_eq_skeleton]; unfold k0_part21_skel
  refine load_k ?_
  refine load_bg ?_
  refine load_v ?_
  refine load_v ?_
  refine load_ctx ?_
  refine store_ctx (upTo ctxOrd (ctxOf I) zc 21) (write_ctxC I zc 1 (by decide) 4 rfl rfl) ?_
  refine load_q ?_
  refine load_k ?_
  exact ret_of H

/-- Part 22 of the body: from the first assertion to the second. -/
theorem part22_run  {Q : (Vec F S512x128 .bf16) → sProp 𝕄} (H : vm c I (qOf I) (upTo ctxOrd (ctxOf I) zc 22) (upTo rowBlk (accOf I) za 0) bias0 biasB (biasW 1) biasG ⊢ Q ((ldR cc0_scratch0 (qOf I) (Rect.unit (s := S2048x1024) ![512, 768] S512x128.size inb_S2048x1024_S512x128_512_768)))) :
    vm c I (qOf I) (upTo ctxOrd (ctxOf I) zc 21) (upTo rowBlk (accOf I) za 0) bias0 biasB (biasW 1) biasG ⊢ W c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![512, 640] S512x128.size inb_S2048x1024_S512x128_512_640))) (k0_pay58 (ldR cc0_scratch0 (qOf I) (Rect.unit (s := S2048x1024) ![512, 640] S512x128.size inb_S2048x1024_S512x128_512_640)) (ldR cc0_stg2_0 I.k (Rect.unit (s := S2048x1024) ![384, 640] S768x128.size inb_S2048x1024_S768x128_384_640))) (k0_pay59 (F := F))) Q := by
  rw [k0_part22_eq_skeleton]; unfold k0_part22_skel
  refine load_bb ?_
  refine load_k ?_
  refine load_bg ?_
  refine load_v ?_
  refine load_v ?_
  refine load_ctx ?_
  refine store_ctx (upTo ctxOrd (ctxOf I) zc 22) (write_ctxC I zc 1 (by decide) 5 rfl rfl) ?_
  refine load_q ?_
  exact ret_of H

/-- Part 23 of the body: from the first assertion to the second. -/
theorem part23_run  {Q : (Σ' (v825 : FVec F S512x128 .bf16), Vec F S512x128 .bf16) → sProp 𝕄} (H : vm c I (qOf I) (upTo ctxOrd (ctxOf I) zc 22) (upTo rowBlk (accOf I) za 0) bias0 biasB (biasW 1) biasG ⊢ Q (⟨k0_pay61 ((ldR cc0_scratch0 (qOf I) (Rect.unit (s := S2048x1024) ![512, 768] S512x128.size inb_S2048x1024_S512x128_512_768))) (ldR cc0_stg2_0 I.k (Rect.unit (s := S2048x1024) ![384, 768] S768x128.size inb_S2048x1024_S768x128_384_768)) (mW 1) (ldR cc0_stg2_0 I.k (Rect.unit (s := S2048x1024) ![0, 768] S128x128.size inb_S2048x1024_S128x128_0_768)) (mG) (ldR cc0_stg3_0 I.v (Rect.unit (s := S2048x1024) ![384, 768] S768x128.size inb_S2048x1024_S768x128_384_768)) (ldR cc0_stg3_0 I.v (Rect.unit (s := S2048x1024) ![0, 768] S128x128.size inb_S2048x1024_S128x128_0_768)), (ldR cc0_scratch1 (upTo ctxOrd (ctxOf I) zc 22) (Rect.unit (s := S2048x1024) ![512, 768] S512x128.size inb_S2048x1024_S512x128_512_768))⟩)) :
    vm c I (qOf I) (upTo ctxOrd (ctxOf I) zc 22) (upTo rowBlk (accOf I) za 0) bias0 biasB (biasW 1) biasG ⊢ W c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![512, 768] S512x128.size inb_S2048x1024_S512x128_512_768)))) Q := by
  rw [k0_part23_eq_skeleton]; unfold k0_part23_skel
  refine load_k ?_
  refine load_bb ?_
  refine load_k ?_
  refine load_bg ?_
  refine load_v ?_
  refine load_v ?_
  refine load_ctx ?_
  exact ret_of H

/-- Part 24 of the body: from the first assertion to the second. -/
theorem part24_run  {Q : (Σ' (v858 : FVec F S512x128 .f32) (v861 : FVec F S512x128 .bf16), FVec F S128x128 .bf16) → sProp 𝕄} (H : vm c I (qOf I) (upTo ctxOrd (ctxOf I) zc 23) (upTo rowBlk (accOf I) za 0) bias0 biasB (biasW 1) biasG ⊢ Q (⟨k0_pay66 (ldR cc0_scratch0 (qOf I) (Rect.unit (s := S2048x1024) ![512, 896] S512x128.size inb_S2048x1024_S512x128_512_896)) (ldR cc0_stg2_0 I.k (Rect.unit (s := S2048x1024) ![384, 896] S768x128.size inb_S2048x1024_S768x128_384_896)) (mW 1) (ldR cc0_stg2_0 I.k (Rect.unit (s := S2048x1024) ![0, 896] S128x128.size inb_S2048x1024_S128x128_0_896)) (mG) (ldR cc0_stg3_0 I.v (Rect.unit (s := S2048x1024) ![384, 896] S768x128.size inb_S2048x1024_S768x128_384_896)), k0_pay67 (ldR cc0_scratch0 (qOf I) (Rect.unit (s := S2048x1024) ![512, 896] S512x128.size inb_S2048x1024_S512x128_512_896)) (ldR cc0_stg2_0 I.k (Rect.unit (s := S2048x1024) ![384, 896] S768x128.size inb_S2048x1024_S768x128_384_896)) (mW 1) (ldR cc0_stg2_0 I.k (Rect.unit (s := S2048x1024) ![0, 896] S128x128.size inb_S2048x1024_S128x128_0_896)) (mG), k0_pay68 (ldR cc0_stg3_0 I.v (Rect.unit (s := S2048x1024) ![0, 896] S128x128.size inb_S2048x1024_S128x128_0_896))⟩)) :
    vm c I (qOf I) (upTo ctxOrd (ctxOf I) zc 22) (upTo rowBlk (accOf I) za 0) bias0 biasB (biasW 1) biasG ⊢ W c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay61 ((ldR cc0_scratch0 (qOf I) (Rect.unit (s := S2048x1024) ![512, 768] S512x128.size inb_S2048x1024_S512x128_512_768))) (ldR cc0_stg2_0 I.k (Rect.unit (s := S2048x1024) ![384, 768] S768x128.size inb_S2048x1024_S768x128_384_768)) (mW 1) (ldR cc0_stg2_0 I.k (Rect.unit (s := S2048x1024) ![0, 768] S128x128.size inb_S2048x1024_S128x128_0_768)) (mG) (ldR cc0_stg3_0 I.v (Rect.unit (s := S2048x1024) ![384, 768] S768x128.size inb_S2048x1024_S768x128_384_768)) (ldR cc0_stg3_0 I.v (Rect.unit (s := S2048x1024) ![0, 768] S128x128.size inb_S2048x1024_S128x128_0_768))) ((ldR cc0_scratch1 (upTo ctxOrd (ctxOf I) zc 22) (Rect.unit (s := S2048x1024) ![512, 768] S512x128.size inb_S2048x1024_S512x128_512_768)))) Q := by
  rw [k0_part24_eq_skeleton]; unfold k0_part24_skel
  refine store_ctx (upTo ctxOrd (ctxOf I) zc 23) (write_ctxC I zc 1 (by decide) 6 rfl rfl) ?_
  refine load_q ?_
  refine load_k ?_
  refine load_bb ?_
  refine load_k ?_
  refine load_bg ?_
  refine load_v ?_
  refine load_v ?_
  exact ret_of H

end Cert.KernelIdeal.Flow

end
-- ==== Proof.PartsC.lean ====
/-
  The compute phase, parts 25 to 34 of the body: each part carries the buffers from one stage to the next
  and answers the stated values.
-/
module

public import proofs.«01_k».proof.Proof.Stores

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {c : Dev nD} {I : Inp F}
  {zq : (cc0_scratch0 : Ref sig .tc).ty.Contents (Elt F)} {zc : (cc0_scratch1 : Ref sig .tc).ty.Contents (Elt F)} {za : (cc0_scratch2 : Ref sig .tc).ty.Contents (Elt F)}
  {zb0 : (cc0_scratch5 : Ref sig .tc).ty.Contents (Elt F)} {zbB : (cc0_scratch6 : Ref sig .tc).ty.Contents (Elt F)} {zbb : (cc0_scratch7 : Ref sig .tc).ty.Contents (Elt F)} {zbg : (cc0_scratch8 : Ref sig .tc).ty.Contents (Elt F)}

/-- Part 25 of the body: from the first assertion to the second. -/
theorem part25_run  {Q : (Σ' (v893 : FVec F S512x768 .f32), FVec F S512x128 .f32) → sProp 𝕄} (H : vm c I (qOf I) (upTo ctxOrd (ctxOf I) zc 24) (upTo rowBlk (accOf I) za 0) bias0 biasB (biasW 2) biasG ⊢ Q (⟨k0_pay71 (ldR cc0_scratch0 (qOf I) (Rect.unit (s := S2048x1024) ![1024, 0] S512x128.size inb_S2048x1024_S512x128_1024_0)) (ldR cc0_stg2_0 I.k (Rect.unit (s := S2048x1024) ![896, 0] S768x128.size inb_S2048x1024_S768x128_896_0)) (mW 2), k0_pay72 (ldR cc0_scratch0 (qOf I) (Rect.unit (s := S2048x1024) ![1024, 0] S512x128.size inb_S2048x1024_S512x128_1024_0)) (ldR cc0_stg2_0 I.k (Rect.unit (s := S2048x1024) ![0, 0] S128x128.size inb_S2048x1024_S128x128_0_0))⟩)) :
    vm c I (qOf I) (upTo ctxOrd (ctxOf I) zc 23) (upTo rowBlk (accOf I) za 0) bias0 biasB (biasW 1) biasG ⊢ W c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay66 (ldR cc0_scratch0 (qOf I) (Rect.unit (s := S2048x1024) ![512, 896] S512x128.size inb_S2048x1024_S512x128_512_896)) (ldR cc0_stg2_0 I.k (Rect.unit (s := S2048x1024) ![384, 896] S768x128.size inb_S2048x1024_S768x128_384_896)) (mW 1) (ldR cc0_stg2_0 I.k (Rect.unit (s := S2048x1024) ![0, 896] S128x128.size inb_S2048x1024_S128x128_0_896)) (mG) (ldR cc0_stg3_0 I.v (Rect.unit (s := S2048x1024) ![384, 896] S768x128.size inb_S2048x1024_S768x128_384_896))) (k0_pay67 (ldR cc0_scratch0 (qOf I) (Rect.unit (s := S2048x1024) ![512, 896] S512x128.size inb_S2048x1024_S512x128_512_896)) (ldR cc0_stg2_0 I.k (Rect.unit (s := S2048x1024) ![384, 896] S768x128.size inb_S2048x1024_S768x128_384_896)) (mW 1) (ldR cc0_stg2_0 I.k (Rect.unit (s := S2048x1024) ![0, 896] S128x128.size inb_S2048x1024_S128x128_0_896)) (mG)) (k0_pay68 (ldR cc0_stg3_0 I.v (Rect.unit (s := S2048x1024) ![0, 896] S128x128.size inb_S2048x1024_S128x128_0_896)))) Q := by
  rw [k0_part25_eq_skeleton]; unfold k0_part25_skel
  refine load_ctx ?_
  refine store_ctx (upTo ctxOrd (ctxOf I) zc 24) (write_ctxC I zc 1 (by decide) 7 rfl rfl) ?_
  refine load_bb ?_
  refine store_bb (biasW 2) (Memref.write_access_unit_zero_univ (Elt F) cc0_scratch7 (by decide) _ _ _) ?_
  refine load_q ?_
  refine load_k ?_
  refine load_bb ?_
  refine load_k ?_
  exact ret_of H

/-- Part 26 of the body: from the first assertion to the second. -/
theorem part26_run  {Q : (Σ' (v927 : Vec F S512x128 .bf16) (v934 : FVec F S512x768 .f32), Vec F S128x128 .bf16) → sProp 𝕄} (H : vm c I (qOf I) (upTo ctxOrd (ctxOf I) zc 25) (upTo rowBlk (accOf I) za 0) bias0 biasB (biasW 2) biasG ⊢ Q (⟨(ldR cc0_scratch0 (qOf I) (Rect.unit (s := S2048x1024) ![1024, 128] S512x128.size inb_S2048x1024_S512x128_1024_128)), k0_pay74 (ldR cc0_scratch0 (qOf I) (Rect.unit (s := S2048x1024) ![1024, 128] S512x128.size inb_S2048x1024_S512x128_1024_128)) (ldR cc0_stg2_0 I.k (Rect.unit (s := S2048x1024) ![896, 128] S768x128.size inb_S2048x1024_S768x128_896_128)) (mW 2), (ldR cc0_stg2_0 I.k (Rect.unit (s := S2048x1024) ![0, 128] S128x128.size inb_S2048x1024_S128x128_0_128))⟩)) :
    vm c I (qOf I) (upTo ctxOrd (ctxOf I) zc 24) (upTo rowBlk (accOf I) za 0) bias0 biasB (biasW 2) biasG ⊢ W c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay71 (ldR cc0_scratch0 (qOf I) (Rect.unit (s := S2048x1024) ![1024, 0] S512x128.size inb_S2048x1024_S512x128_1024_0)) (ldR cc0_stg2_0 I.k (Rect.unit (s := S2048x1024) ![896, 0] S768x128.size inb_S2048x1024_S768x128_896_0)) (mW 2)) (k0_pay72 (ldR cc0_scratch0 (qOf I) (Rect.unit (s := S2048x1024) ![1024, 0] S512x128.size inb_S2048x1024_S512x128_1024_0)) (ldR cc0_stg2_0 I.k (Rect.unit (s := S2048x1024) ![0, 0] S128x128.size inb_S2048x1024_S128x128_0_0)))) Q := by
  rw [k0_part26_eq_skeleton]; unfold k0_part26_skel
  refine load_bg ?_
  refine load_v ?_
  refine load_v ?_
  refine load_ctx ?_
  refine store_ctx (upTo ctxOrd (ctxOf I) zc 25) (write_ctxC I zc 2 (by decide) 0 rfl rfl) ?_
  refine load_q ?_
  refine load_k ?_
  refine load_bb ?_
  refine load_k ?_
  exact ret_of H

/-- Part 27 of the body: from the first assertion to the second. -/
theorem part27_run  {Q : (Σ' (v968 : Vec F S512x128 .bf16), FVec F S512x768 .f32) → sProp 𝕄} (H : vm c I (qOf I) (upTo ctxOrd (ctxOf I) zc 26) (upTo rowBlk (accOf I) za 0) bias0 biasB (biasW 2) biasG ⊢ Q (⟨(ldR cc0_scratch0 (qOf I) (Rect.unit (s := S2048x1024) ![1024, 256] S512x128.size inb_S2048x1024_S512x128_1024_256)), k0_pay76 (ldR cc0_scratch0 (qOf I) (Rect.unit (s := S2048x1024) ![1024, 256] S512x128.size inb_S2048x1024_S512x128_1024_256)) (ldR cc0_stg2_0 I.k (Rect.unit (s := S2048x1024) ![896, 256] S768x128.size inb_S2048x1024_S768x128_896_256))⟩)) :
    vm c I (qOf I) (upTo ctxOrd (ctxOf I) zc 25) (upTo rowBlk (accOf I) za 0) bias0 biasB (biasW 2) biasG ⊢ W c (k0_part27 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![1024, 128] S512x128.size inb_S2048x1024_S512x128_1024_128))) (k0_pay74 (ldR cc0_scratch0 (qOf I) (Rect.unit (s := S2048x1024) ![1024, 128] S512x128.size inb_S2048x1024_S512x128_1024_128)) (ldR cc0_stg2_0 I.k (Rect.unit (s := S2048x1024) ![896, 128] S768x128.size inb_S2048x1024_S768x128_896_128)) (mW 2)) ((ldR cc0_stg2_0 I.k (Rect.unit (s := S2048x1024) ![0, 128] S128x128.size inb_S2048x1024_S128x128_0_128)))) Q := by
  rw [k0_part27_eq_skeleton]; unfold k0_part27_skel
  refine load_bg ?_
  refine load_v ?_
  refine load_v ?_
  refine load_ctx ?_
  refine store_ctx (upTo ctxOrd (ctxOf I) zc 26) (write_ctxC I zc 2 (by decide) 1 rfl rfl) ?_
  refine load_q ?_
  refine load_k ?_
  exact ret_of H

/-- Part 28 of the body: from the first assertion to the second. -/
theorem part28_run  {Q : (Vec F S512x128 .bf16) → sProp 𝕄} (H : vm c I (qOf I) (upTo ctxOrd (ctxOf I) zc 27) (upTo rowBlk (accOf I) za 0) bias0 biasB (biasW 2) biasG ⊢ Q ((ldR cc0_scratch0 (qOf I) (Rect.unit (s := S2048x1024) ![1024, 384] S512x128.size inb_S2048x1024_S512x128_1024_384)))) :
    vm c I (qOf I) (upTo ctxOrd (ctxOf I) zc 26) (upTo rowBlk (accOf I) za 0) bias0 biasB (biasW 2) biasG ⊢ W c (k0_part28 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![1024, 256] S512x128.size inb_S2048x1024_S512x128_1024_256))) (k0_pay76 (ldR cc0_scratch0 (qOf I) (Rect.unit (s := S2048x1024) ![1024, 256] S512x128.size inb_S2048x1024_S512x128_1024_256)) (ldR cc0_stg2_0 I.k (Rect.unit (s := S2048x1024) ![896, 256] S768x128.size inb_S2048x1024_S768x128_896_256)))) Q := by
  rw [k0_part28_eq_skeleton]; unfold k0_part28_skel
  refine load_bb ?_
  refine load_k ?_
  refine load_bg ?_
  refine load_v ?_
  refine load_v ?_
  refine load_ctx ?_
  refine store_ctx (upTo ctxOrd (ctxOf I) zc 27) (write_ctxC I zc 2 (by decide) 2 rfl rfl) ?_
  refine load_q ?_
  exact ret_of H

/-- Part 29 of the body: from the first assertion to the second. -/
theorem part29_run  {Q : (FVec F S512x128 .bf16) → sProp 𝕄} (H : vm c I (qOf I) (upTo ctxOrd (ctxOf I) zc 27) (upTo rowBlk (accOf I) za 0) bias0 biasB (biasW 2) biasG ⊢ Q ((k0_pay78 ((ldR cc0_scratch0 (qOf I) (Rect.unit (s := S2048x1024) ![1024, 384] S512x128.size inb_S2048x1024_S512x128_1024_384))) (ldR cc0_stg2_0 I.k (Rect.unit (s := S2048x1024) ![896, 384] S768x128.size inb_S2048x1024_S768x128_896_384)) (mW 2) (ldR cc0_stg2_0 I.k (Rect.unit (s := S2048x1024) ![0, 384] S128x128.size inb_S2048x1024_S128x128_0_384)) (mG) (ldR cc0_stg3_0 I.v (Rect.unit (s := S2048x1024) ![896, 384] S768x128.size inb_S2048x1024_S768x128_896_384)) (ldR cc0_stg3_0 I.v (Rect.unit (s := S2048x1024) ![0, 384] S128x128.size inb_S2048x1024_S128x128_0_384))))) :
    vm c I (qOf I) (upTo ctxOrd (ctxOf I) zc 27) (upTo rowBlk (accOf I) za 0) bias0 biasB (biasW 2) biasG ⊢ W c (k0_part29 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![1024, 384] S512x128.size inb_S2048x1024_S512x128_1024_384)))) Q := by
  rw [k0_part29_eq_skeleton]; unfold k0_part29_skel
  refine load_k ?_
  refine load_bb ?_
  refine load_k ?_
  refine load_bg ?_
  refine load_v ?_
  refine load_v ?_
  refine load_ctx ?_
  exact ret_of H

/-- Part 30 of the body: from the first assertion to the second. -/
theorem part30_run  {Q : (Σ' (v1079 : FVec F S512x128 .f32) (v1082 : FVec F S512x128 .bf16) (v1084 : FVec F S128x128 .bf16), FVec F S512x128 .f32) → sProp 𝕄} (H : vm c I (qOf I) (upTo ctxOrd (ctxOf I) zc 28) (upTo rowBlk (accOf I) za 0) bias0 biasB (biasW 2) biasG ⊢ Q (⟨k0_pay83 (ldR cc0_scratch0 (qOf I) (Rect.unit (s := S2048x1024) ![1024, 512] S512x128.size inb_S2048x1024_S512x128_1024_512)) (ldR cc0_stg2_0 I.k (Rect.unit (s := S2048x1024) ![896, 512] S768x128.size inb_S2048x1024_S768x128_896_512)) (mW 2) (ldR cc0_stg2_0 I.k (Rect.unit (s := S2048x1024) ![0, 512] S128x128.size inb_S2048x1024_S128x128_0_512)) (mG) (ldR cc0_stg3_0 I.v (Rect.unit (s := S2048x1024) ![896, 512] S768x128.size inb_S2048x1024_S768x128_896_512)), k0_pay84 (ldR cc0_scratch0 (qOf I) (Rect.unit (s := S2048x1024) ![1024, 512] S512x128.size inb_S2048x1024_S512x128_1024_512)) (ldR cc0_stg2_0 I.k (Rect.unit (s := S2048x1024) ![896, 512] S768x128.size inb_S2048x1024_S768x128_896_512)) (mW 2) (ldR cc0_stg2_0 I.k (Rect.unit (s := S2048x1024) ![0, 512] S128x128.size inb_S2048x1024_S128x128_0_512)) (mG), k0_pay85 (ldR cc0_stg3_0 I.v (Rect.unit (s := S2048x1024) ![0, 512] S128x128.size inb_S2048x1024_S128x128_0_512)), (constant S512x128 .f32 0x00000000#32)⟩)) :
    vm c I (qOf I) (upTo ctxOrd (ctxOf I) zc 27) (upTo rowBlk (accOf I) za 0) bias0 biasB (biasW 2) biasG ⊢ W c (k0_part30 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((k0_pay78 ((ldR cc0_scratch0 (qOf I) (Rect.unit (s := S2048x1024) ![1024, 384] S512x128.size inb_S2048x1024_S512x128_1024_384))) (ldR cc0_stg2_0 I.k (Rect.unit (s := S2048x1024) ![896, 384] S768x128.size inb_S2048x1024_S768x128_896_384)) (mW 2) (ldR cc0_stg2_0 I.k (Rect.unit (s := S2048x1024) ![0, 384] S128x128.size inb_S2048x1024_S128x128_0_384)) (mG) (ldR cc0_stg3_0 I.v (Rect.unit (s := S2048x1024) ![896, 384] S768x128.size inb_S2048x1024_S768x128_896_384)) (ldR cc0_stg3_0 I.v (Rect.unit (s := S2048x1024) ![0, 384] S128x128.size inb_S2048x1024_S128x128_0_384))))) Q := by
  rw [k0_part30_eq_skeleton]; unfold k0_part30_skel
  refine store_ctx (upTo ctxOrd (ctxOf I) zc 28) (write_ctxC I zc 2 (by decide) 3 rfl rfl) ?_
  refine load_q ?_
  refine load_k ?_
  refine load_bb ?_
  refine load_k ?_
  refine load_bg ?_
  refine load_v ?_
  refine load_v ?_
  exact ret_of H

/-- Part 31 of the body: from the first assertion to the second. -/
theorem part31_run  {Q : (Σ' (v1107 : FVec F S512x128 .f32) (v1120 : FVec F S512x128 .f32), FVec F S512x128 .f32) → sProp 𝕄} (H : vm c I (qOf I) (upTo ctxOrd (ctxOf I) zc 29) (upTo rowBlk (accOf I) za 0) bias0 biasB (biasW 2) biasG ⊢ Q (⟨k0_pay88 (ldR cc0_scratch0 (qOf I) (Rect.unit (s := S2048x1024) ![1024, 640] S512x128.size inb_S2048x1024_S512x128_1024_640)) (ldR cc0_stg2_0 I.k (Rect.unit (s := S2048x1024) ![0, 640] S128x128.size inb_S2048x1024_S128x128_0_640)) (mG), k0_pay90 (ldR cc0_scratch0 (qOf I) (Rect.unit (s := S2048x1024) ![1024, 640] S512x128.size inb_S2048x1024_S512x128_1024_640)) (ldR cc0_stg2_0 I.k (Rect.unit (s := S2048x1024) ![896, 640] S768x128.size inb_S2048x1024_S768x128_896_640)) (mW 2) (ldR cc0_stg2_0 I.k (Rect.unit (s := S2048x1024) ![0, 640] S128x128.size inb_S2048x1024_S128x128_0_640)) (mG) (ldR cc0_stg3_0 I.v (Rect.unit (s := S2048x1024) ![896, 640] S768x128.size inb_S2048x1024_S768x128_896_640)), k0_pay91 (ldR cc0_scratch0 (qOf I) (Rect.unit (s := S2048x1024) ![1024, 640] S512x128.size inb_S2048x1024_S512x128_1024_640)) (ldR cc0_stg2_0 I.k (Rect.unit (s := S2048x1024) ![896, 640] S768x128.size inb_S2048x1024_S768x128_896_640)) (mW 2) (ldR cc0_stg2_0 I.k (Rect.unit (s := S2048x1024) ![0, 640] S128x128.size inb_S2048x1024_S128x128_0_640)) (mG)⟩)) :
    vm c I (qOf I) (upTo ctxOrd (ctxOf I) zc 28) (upTo rowBlk (accOf I) za 0) bias0 biasB (biasW 2) biasG ⊢ W c (k0_part31 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay83 (ldR cc0_scratch0 (qOf I) (Rect.unit (s := S2048x1024) ![1024, 512] S512x128.size inb_S2048x1024_S512x128_1024_512)) (ldR cc0_stg2_0 I.k (Rect.unit (s := S2048x1024) ![896, 512] S768x128.size inb_S2048x1024_S768x128_896_512)) (mW 2) (ldR cc0_stg2_0 I.k (Rect.unit (s := S2048x1024) ![0, 512] S128x128.size inb_S2048x1024_S128x128_0_512)) (mG) (ldR cc0_stg3_0 I.v (Rect.unit (s := S2048x1024) ![896, 512] S768x128.size inb_S2048x1024_S768x128_896_512))) (k0_pay84 (ldR cc0_scratch0 (qOf I) (Rect.unit (s := S2048x1024) ![1024, 512] S512x128.size inb_S2048x1024_S512x128_1024_512)) (ldR cc0_stg2_0 I.k (Rect.unit (s := S2048x1024) ![896, 512] S768x128.size inb_S2048x1024_S768x128_896_512)) (mW 2) (ldR cc0_stg2_0 I.k (Rect.unit (s := S2048x1024) ![0, 512] S128x128.size inb_S2048x1024_S128x128_0_512)) (mG)) (k0_pay85 (ldR cc0_stg3_0 I.v (Rect.unit (s := S2048x1024) ![0, 512] S128x128.size inb_S2048x1024_S128x128_0_512))) ((constant S512x128 .f32 0x00000000#32))) Q := by
  rw [k0_part31_eq_skeleton]; unfold k0_part31_skel
  refine load_ctx ?_
  refine store_ctx (upTo ctxOrd (ctxOf I) zc 29) (write_ctxC I zc 2 (by decide) 4 rfl rfl) ?_
  refine load_q ?_
  refine load_k ?_
  refine load_bb ?_
  refine load_k ?_
  refine load_bg ?_
  refine load_v ?_
  exact ret_of H

/-- Part 32 of the body: from the first assertion to the second. -/
theorem part32_run  {Q : (Σ' (v1148 : FVec F S512x128 .f32) (v1155 : FVec F S512x1 .f32), FVec F S512x768 .bf16) → sProp 𝕄} (H : vm c I (qOf I) (upTo ctxOrd (ctxOf I) zc 30) (upTo rowBlk (accOf I) za 0) bias0 biasB (biasW 2) biasG ⊢ Q (⟨k0_pay94 (ldR cc0_scratch0 (qOf I) (Rect.unit (s := S2048x1024) ![1024, 768] S512x128.size inb_S2048x1024_S512x128_1024_768)) (ldR cc0_stg2_0 I.k (Rect.unit (s := S2048x1024) ![0, 768] S128x128.size inb_S2048x1024_S128x128_0_768)) (mG), k0_pay95 (ldR cc0_scratch0 (qOf I) (Rect.unit (s := S2048x1024) ![1024, 768] S512x128.size inb_S2048x1024_S512x128_1024_768)) (ldR cc0_stg2_0 I.k (Rect.unit (s := S2048x1024) ![896, 768] S768x128.size inb_S2048x1024_S768x128_896_768)) (mW 2) (ldR cc0_stg2_0 I.k (Rect.unit (s := S2048x1024) ![0, 768] S128x128.size inb_S2048x1024_S128x128_0_768)) (mG), k0_pay96 (ldR cc0_scratch0 (qOf I) (Rect.unit (s := S2048x1024) ![1024, 768] S512x128.size inb_S2048x1024_S512x128_1024_768)) (ldR cc0_stg2_0 I.k (Rect.unit (s := S2048x1024) ![896, 768] S768x128.size inb_S2048x1024_S768x128_896_768)) (mW 2) (ldR cc0_stg2_0 I.k (Rect.unit (s := S2048x1024) ![0, 768] S128x128.size inb_S2048x1024_S128x128_0_768)) (mG)⟩)) :
    vm c I (qOf I) (upTo ctxOrd (ctxOf I) zc 29) (upTo rowBlk (accOf I) za 0) bias0 biasB (biasW 2) biasG ⊢ W c (k0_part32 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay88 (ldR cc0_scratch0 (qOf I) (Rect.unit (s := S2048x1024) ![1024, 640] S512x128.size inb_S2048x1024_S512x128_1024_640)) (ldR cc0_stg2_0 I.k (Rect.unit (s := S2048x1024) ![0, 640] S128x128.size inb_S2048x1024_S128x128_0_640)) (mG)) (k0_pay90 (ldR cc0_scratch0 (qOf I) (Rect.unit (s := S2048x1024) ![1024, 640] S512x128.size inb_S2048x1024_S512x128_1024_640)) (ldR cc0_stg2_0 I.k (Rect.unit (s := S2048x1024) ![896, 640] S768x128.size inb_S2048x1024_S768x128_896_640)) (mW 2) (ldR cc0_stg2_0 I.k (Rect.unit (s := S2048x1024) ![0, 640] S128x128.size inb_S2048x1024_S128x128_0_640)) (mG) (ldR cc0_stg3_0 I.v (Rect.unit (s := S2048x1024) ![896, 640] S768x128.size inb_S2048x1024_S768x128_896_640))) (k0_pay91 (ldR cc0_scratch0 (qOf I) (Rect.unit (s := S2048x1024) ![1024, 640] S512x128.size inb_S2048x1024_S512x128_1024_640)) (ldR cc0_stg2_0 I.k (Rect.unit (s := S2048x1024) ![896, 640] S768x128.size inb_S2048x1024_S768x128_896_640)) (mW 2) (ldR cc0_stg2_0 I.k (Rect.unit (s := S2048x1024) ![0, 640] S128x128.size inb_S2048x1024_S128x128_0_640)) (mG))) Q := by
  rw [k0_part32_eq_skeleton]; unfold k0_part32_skel
  refine load_v ?_
  refine load_ctx ?_
  refine store_ctx (upTo ctxOrd (ctxOf I) zc 30) (write_ctxC I zc 2 (by decide) 5 rfl rfl) ?_
  refine load_q ?_
  refine load_k ?_
  refine load_bb ?_
  refine load_k ?_
  refine load_bg ?_
  exact ret_of H

/-- Part 33 of the body: from the first assertion to the second. -/
theorem part33_run  {Q : (Σ' (v1188 : FVec F S512x768 .f32) (v1189 : FVec F S512x128 .f32) (v1191 : FVec F S512x1 .f32), FVec F S512x1 .f32) → sProp 𝕄} (H : vm c I (qOf I) (upTo ctxOrd (ctxOf I) zc 31) (upTo rowBlk (accOf I) za 0) bias0 biasB (biasW 2) biasG ⊢ Q (⟨k0_pay98 (ldR cc0_scratch0 (qOf I) (Rect.unit (s := S2048x1024) ![1024, 896] S512x128.size inb_S2048x1024_S512x128_1024_896)) (ldR cc0_stg2_0 I.k (Rect.unit (s := S2048x1024) ![896, 896] S768x128.size inb_S2048x1024_S768x128_896_896)) (mW 2), k0_pay99 (ldR cc0_scratch0 (qOf I) (Rect.unit (s := S2048x1024) ![1024, 896] S512x128.size inb_S2048x1024_S512x128_1024_896)) (ldR cc0_stg2_0 I.k (Rect.unit (s := S2048x1024) ![0, 896] S128x128.size inb_S2048x1024_S128x128_0_896)) (mG), k0_pay100 (ldR cc0_scratch0 (qOf I) (Rect.unit (s := S2048x1024) ![1024, 896] S512x128.size inb_S2048x1024_S512x128_1024_896)) (ldR cc0_stg2_0 I.k (Rect.unit (s := S2048x1024) ![896, 896] S768x128.size inb_S2048x1024_S768x128_896_896)) (mW 2), k0_pay101 (ldR cc0_scratch0 (qOf I) (Rect.unit (s := S2048x1024) ![1024, 896] S512x128.size inb_S2048x1024_S512x128_1024_896)) (ldR cc0_stg2_0 I.k (Rect.unit (s := S2048x1024) ![0, 896] S128x128.size inb_S2048x1024_S128x128_0_896)) (mG)⟩)) :
    vm c I (qOf I) (upTo ctxOrd (ctxOf I) zc 30) (upTo rowBlk (accOf I) za 0) bias0 biasB (biasW 2) biasG ⊢ W c (k0_part33 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay94 (ldR cc0_scratch0 (qOf I) (Rect.unit (s := S2048x1024) ![1024, 768] S512x128.size inb_S2048x1024_S512x128_1024_768)) (ldR cc0_stg2_0 I.k (Rect.unit (s := S2048x1024) ![0, 768] S128x128.size inb_S2048x1024_S128x128_0_768)) (mG)) (k0_pay95 (ldR cc0_scratch0 (qOf I) (Rect.unit (s := S2048x1024) ![1024, 768] S512x128.size inb_S2048x1024_S512x128_1024_768)) (ldR cc0_stg2_0 I.k (Rect.unit (s := S2048x1024) ![896, 768] S768x128.size inb_S2048x1024_S768x128_896_768)) (mW 2) (ldR cc0_stg2_0 I.k (Rect.unit (s := S2048x1024) ![0, 768] S128x128.size inb_S2048x1024_S128x128_0_768)) (mG)) (k0_pay96 (ldR cc0_scratch0 (qOf I) (Rect.unit (s := S2048x1024) ![1024, 768] S512x128.size inb_S2048x1024_S512x128_1024_768)) (ldR cc0_stg2_0 I.k (Rect.unit (s := S2048x1024) ![896, 768] S768x128.size inb_S2048x1024_S768x128_896_768)) (mW 2) (ldR cc0_stg2_0 I.k (Rect.unit (s := S2048x1024) ![0, 768] S128x128.size inb_S2048x1024_S128x128_0_768)) (mG))) Q := by
  rw [k0_part33_eq_skeleton]; unfold k0_part33_skel
  refine load_v ?_
  refine load_v ?_
  refine load_ctx ?_
  refine store_ctx (upTo ctxOrd (ctxOf I) zc 31) (write_ctxC I zc 2 (by decide) 6 rfl rfl) ?_
  refine load_q ?_
  refine load_k ?_
  refine load_bb ?_
  refine load_k ?_
  refine load_bg ?_
  exact ret_of H

/-- Part 34 of the body: from the first assertion to the second. -/
theorem part34_run  {Q : (Σ' (v1230 : Vec F S512x128 .bf16), Vec F S768x128 .bf16) → sProp 𝕄} (H : vm c I (qOf I) (upTo ctxOrd (ctxOf I) zc 32) (upTo rowBlk (accOf I) za 0) bias0 biasB (biasW 3) biasG ⊢ Q (⟨(ldR cc0_scratch0 (qOf I) (Rect.unit (s := S2048x1024) ![1536, 0] S512x128.size inb_S2048x1024_S512x128_1536_0)), (ldR cc0_stg2_0 I.k (Rect.unit (s := S2048x1024) ![1280, 0] S768x128.size inb_S2048x1024_S768x128_1280_0))⟩)) :
    vm c I (qOf I) (upTo ctxOrd (ctxOf I) zc 31) (upTo rowBlk (accOf I) za 0) bias0 biasB (biasW 2) biasG ⊢ W c (k0_part34 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay98 (ldR cc0_scratch0 (qOf I) (Rect.unit (s := S2048x1024) ![1024, 896] S512x128.size inb_S2048x1024_S512x128_1024_896)) (ldR cc0_stg2_0 I.k (Rect.unit (s := S2048x1024) ![896, 896] S768x128.size inb_S2048x1024_S768x128_896_896)) (mW 2)) (k0_pay99 (ldR cc0_scratch0 (qOf I) (Rect.unit (s := S2048x1024) ![1024, 896] S512x128.size inb_S2048x1024_S512x128_1024_896)) (ldR cc0_stg2_0 I.k (Rect.unit (s := S2048x1024) ![0, 896] S128x128.size inb_S2048x1024_S128x128_0_896)) (mG)) (k0_pay100 (ldR cc0_scratch0 (qOf I) (Rect.unit (s := S2048x1024) ![1024, 896] S512x128.size inb_S2048x1024_S512x128_1024_896)) (ldR cc0_stg2_0 I.k (Rect.unit (s := S2048x1024) ![896, 896] S768x128.size inb_S2048x1024_S768x128_896_896)) (mW 2)) (k0_pay101 (ldR cc0_scratch0 (qOf I) (Rect.unit (s := S2048x1024) ![1024, 896] S512x128.size inb_S2048x1024_S512x128_1024_896)) (ldR cc0_stg2_0 I.k (Rect.unit (s := S2048x1024) ![0, 896] S128x128.size inb_S2048x1024_S128x128_0_896)) (mG))) Q := by
  rw [k0_part34_eq_skeleton]; unfold k0_part34_skel
  refine load_v ?_
  refine load_v ?_
  refine load_ctx ?_
  refine store_ctx (upTo ctxOrd (ctxOf I) zc 32) (write_ctxC I zc 2 (by decide) 7 rfl rfl) ?_
  refine load_bb ?_
  refine store_bb (biasW 3) (Memref.write_access_unit_zero_univ (Elt F) cc0_scratch7 (by decide) _ _ _) ?_
  refine load_q ?_
  refine load_k ?_
  exact ret_of H

end Cert.KernelIdeal.Flow

end
-- ==== Proof.PartsD.lean ====
/-
  The compute phase, parts 35 to 44 of the body: each part carries the buffers from one stage to the next
  and answers the stated values.
-/
module

public import proofs.«01_k».proof.Proof.Stores

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable {c : Dev nD} {I : Inp F}
  {zq : (cc0_scratch0 : Ref sig .tc).ty.Contents (Elt F)} {zc : (cc0_scratch1 : Ref sig .tc).ty.Contents (Elt F)} {za : (cc0_scratch2 : Ref sig .tc).ty.Contents (Elt F)}
  {zb0 : (cc0_scratch5 : Ref sig .tc).ty.Contents (Elt F)} {zbB : (cc0_scratch6 : Ref sig .tc).ty.Contents (Elt F)} {zbb : (cc0_scratch7 : Ref sig .tc).ty.Contents (Elt F)} {zbg : (cc0_scratch8 : Ref sig .tc).ty.Contents (Elt F)}

/-- Part 35 of the body: from the first assertion to the second. -/
theorem part35_run  {Q : (FVec F S512x128 .bf16) → sProp 𝕄} (H : vm c I (qOf I) (upTo ctxOrd (ctxOf I) zc 32) (upTo rowBlk (accOf I) za 0) bias0 biasB (biasW 3) biasG ⊢ Q ((k0_pay104 ((ldR cc0_scratch0 (qOf I) (Rect.unit (s := S2048x1024) ![1536, 0] S512x128.size inb_S2048x1024_S512x128_1536_0))) ((ldR cc0_stg2_0 I.k (Rect.unit (s := S2048x1024) ![1280, 0] S768x128.size inb_S2048x1024_S768x128_1280_0))) (mW 3) (ldR cc0_stg2_0 I.k (Rect.unit (s := S2048x1024) ![0, 0] S128x128.size inb_S2048x1024_S128x128_0_0)) (mG) (ldR cc0_stg3_0 I.v (Rect.unit (s := S2048x1024) ![1280, 0] S768x128.size inb_S2048x1024_S768x128_1280_0)) (ldR cc0_stg3_0 I.v (Rect.unit (s := S2048x1024) ![0, 0] S128x128.size inb_S2048x1024_S128x128_0_0))))) :
    vm c I (qOf I) (upTo ctxOrd (ctxOf I) zc 32) (upTo rowBlk (accOf I) za 0) bias0 biasB (biasW 3) biasG ⊢ W c (k0_part35 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![1536, 0] S512x128.size inb_S2048x1024_S512x128_1536_0))) ((ldR cc0_stg2_0 I.k (Rect.unit (s := S2048x1024) ![1280, 0] S768x128.size inb_S2048x1024_S768x128_1280_0)))) Q := by
  rw [k0_part35_eq_skeleton]; unfold k0_part35_skel
  refine load_bb ?_
  refine load_k ?_
  refine load_bg ?_
  refine load_v ?_
  refine load_v ?_
  refine load_ctx ?_
  exact ret_of H

/-- Part 36 of the body: from the first assertion to the second. -/
theorem part36_run  {Q : (Σ' (v1300 : FVec F S512x128 .f32), FVec F S512x128 .f32) → sProp 𝕄} (H : vm c I (qOf I) (upTo ctxOrd (ctxOf I) zc 33) (upTo rowBlk (accOf I) za 0) bias0 biasB (biasW 3) biasG ⊢ Q (⟨k0_pay108 (ldR cc0_scratch0 (qOf I) (Rect.unit (s := S2048x1024) ![1536, 128] S512x128.size inb_S2048x1024_S512x128_1536_128)) (ldR cc0_stg2_0 I.k (Rect.unit (s := S2048x1024) ![1280, 128] S768x128.size inb_S2048x1024_S768x128_1280_128)) (mW 3) (ldR cc0_stg2_0 I.k (Rect.unit (s := S2048x1024) ![0, 128] S128x128.size inb_S2048x1024_S128x128_0_128)) (mG) (ldR cc0_stg3_0 I.v (Rect.unit (s := S2048x1024) ![1280, 128] S768x128.size inb_S2048x1024_S768x128_1280_128)), k0_pay109 (ldR cc0_scratch0 (qOf I) (Rect.unit (s := S2048x1024) ![1536, 128] S512x128.size inb_S2048x1024_S512x128_1536_128)) (ldR cc0_stg2_0 I.k (Rect.unit (s := S2048x1024) ![1280, 128] S768x128.size inb_S2048x1024_S768x128_1280_128)) (mW 3) (ldR cc0_stg2_0 I.k (Rect.unit (s := S2048x1024) ![0, 128] S128x128.size inb_S2048x1024_S128x128_0_128)) (mG) (ldR cc0_stg3_0 I.v (Rect.unit (s := S2048x1024) ![0, 128] S128x128.size inb_S2048x1024_S128x128_0_128))⟩)) :
    vm c I (qOf I) (upTo ctxOrd (ctxOf I) zc 32) (upTo rowBlk (accOf I) za 0) bias0 biasB (biasW 3) biasG ⊢ W c (k0_part36 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((k0_pay104 ((ldR cc0_scratch0 (qOf I) (Rect.unit (s := S2048x1024) ![1536, 0] S512x128.size inb_S2048x1024_S512x128_1536_0))) ((ldR cc0_stg2_0 I.k (Rect.unit (s := S2048x1024) ![1280, 0] S768x128.size inb_S2048x1024_S768x128_1280_0))) (mW 3) (ldR cc0_stg2_0 I.k (Rect.unit (s := S2048x1024) ![0, 0] S128x128.size inb_S2048x1024_S128x128_0_0)) (mG) (ldR cc0_stg3_0 I.v (Rect.unit (s := S2048x1024) ![1280, 0] S768x128.size inb_S2048x1024_S768x128_1280_0)) (ldR cc0_stg3_0 I.v (Rect.unit (s := S2048x1024) ![0, 0] S128x128.size inb_S2048x1024_S128x128_0_0))))) Q := by
  rw [k0_part36_eq_skeleton]; unfold k0_part36_skel
  refine store_ctx (upTo ctxOrd (ctxOf I) zc 33) (write_ctxC I zc 3 (by decide) 0 rfl rfl) ?_
  refine load_q ?_
  refine load_k ?_
  refine load_bb ?_
  refine load_k ?_
  refine load_bg ?_
  refine load_v ?_
  refine load_v ?_
  exact ret_of H

/-- Part 37 of the body: from the first assertion to the second. -/
theorem part37_run  {Q : (Σ' (v1341 : FVec F S512x128 .f32), FVec F S512x128 .f32) → sProp 𝕄} (H : vm c I (qOf I) (upTo ctxOrd (ctxOf I) zc 34) (upTo rowBlk (accOf I) za 0) bias0 biasB (biasW 3) biasG ⊢ Q (⟨k0_pay114 (ldR cc0_scratch0 (qOf I) (Rect.unit (s := S2048x1024) ![1536, 256] S512x128.size inb_S2048x1024_S512x128_1536_256)) (ldR cc0_stg2_0 I.k (Rect.unit (s := S2048x1024) ![1280, 256] S768x128.size inb_S2048x1024_S768x128_1280_256)) (mW 3) (ldR cc0_stg2_0 I.k (Rect.unit (s := S2048x1024) ![0, 256] S128x128.size inb_S2048x1024_S128x128_0_256)) (mG) (ldR cc0_stg3_0 I.v (Rect.unit (s := S2048x1024) ![1280, 256] S768x128.size inb_S2048x1024_S768x128_1280_256)), k0_pay115 (ldR cc0_scratch0 (qOf I) (Rect.unit (s := S2048x1024) ![1536, 256] S512x128.size inb_S2048x1024_S512x128_1536_256)) (ldR cc0_stg2_0 I.k (Rect.unit (s := S2048x1024) ![1280, 256] S768x128.size inb_S2048x1024_S768x128_1280_256)) (mW 3) (ldR cc0_stg2_0 I.k (Rect.unit (s := S2048x1024) ![0, 256] S128x128.size inb_S2048x1024_S128x128_0_256)) (mG)⟩)) :
    vm c I (qOf I) (upTo ctxOrd (ctxOf I) zc 33) (upTo rowBlk (accOf I) za 0) bias0 biasB (biasW 3) biasG ⊢ W c (k0_part37 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay108 (ldR cc0_scratch0 (qOf I) (Rect.unit (s := S2048x1024) ![1536, 128] S512x128.size inb_S2048x1024_S512x128_1536_128)) (ldR cc0_stg2_0 I.k (Rect.unit (s := S2048x1024) ![1280, 128] S768x128.size inb_S2048x1024_S768x128_1280_128)) (mW 3) (ldR cc0_stg2_0 I.k (Rect.unit (s := S2048x1024) ![0, 128] S128x128.size inb_S2048x1024_S128x128_0_128)) (mG) (ldR cc0_stg3_0 I.v (Rect.unit (s := S2048x1024) ![1280, 128] S768x128.size inb_S2048x1024_S768x128_1280_128))) (k0_pay109 (ldR cc0_scratch0 (qOf I) (Rect.unit (s := S2048x1024) ![1536, 128] S512x128.size inb_S2048x1024_S512x128_1536_128)) (ldR cc0_stg2_0 I.k (Rect.unit (s := S2048x1024) ![1280, 128] S768x128.size inb_S2048x1024_S768x128_1280_128)) (mW 3) (ldR cc0_stg2_0 I.k (Rect.unit (s := S2048x1024) ![0, 128] S128x128.size inb_S2048x1024_S128x128_0_128)) (mG) (ldR cc0_stg3_0 I.v (Rect.unit (s := S2048x1024) ![0, 128] S128x128.size inb_S2048x1024_S128x128_0_128)))) Q := by
  rw [k0_part37_eq_skeleton]; unfold k0_part37_skel
  refine load_ctx ?_
  refine store_ctx (upTo ctxOrd (ctxOf I) zc 34) (write_ctxC I zc 3 (by decide) 1 rfl rfl) ?_
  refine load_q ?_
  refine load_k ?_
  refine load_bb ?_
  refine load_k ?_
  refine load_bg ?_
  refine load_v ?_
  exact ret_of H

/-- Part 38 of the body: from the first assertion to the second. -/
theorem part38_run  {Q : (Σ' (v1369 : FVec F S512x128 .f32) (v1376 : FVec F S512x1 .f32), FVec F S512x768 .bf16) → sProp 𝕄} (H : vm c I (qOf I) (upTo ctxOrd (ctxOf I) zc 35) (upTo rowBlk (accOf I) za 0) bias0 biasB (biasW 3) biasG ⊢ Q (⟨k0_pay118 (ldR cc0_scratch0 (qOf I) (Rect.unit (s := S2048x1024) ![1536, 384] S512x128.size inb_S2048x1024_S512x128_1536_384)) (ldR cc0_stg2_0 I.k (Rect.unit (s := S2048x1024) ![0, 384] S128x128.size inb_S2048x1024_S128x128_0_384)) (mG), k0_pay119 (ldR cc0_scratch0 (qOf I) (Rect.unit (s := S2048x1024) ![1536, 384] S512x128.size inb_S2048x1024_S512x128_1536_384)) (ldR cc0_stg2_0 I.k (Rect.unit (s := S2048x1024) ![1280, 384] S768x128.size inb_S2048x1024_S768x128_1280_384)) (mW 3) (ldR cc0_stg2_0 I.k (Rect.unit (s := S2048x1024) ![0, 384] S128x128.size inb_S2048x1024_S128x128_0_384)) (mG), k0_pay120 (ldR cc0_scratch0 (qOf I) (Rect.unit (s := S2048x1024) ![1536, 384] S512x128.size inb_S2048x1024_S512x128_1536_384)) (ldR cc0_stg2_0 I.k (Rect.unit (s := S2048x1024) ![1280, 384] S768x128.size inb_S2048x1024_S768x128_1280_384)) (mW 3) (ldR cc0_stg2_0 I.k (Rect.unit (s := S2048x1024) ![0, 384] S128x128.size inb_S2048x1024_S128x128_0_384)) (mG)⟩)) :
    vm c I (qOf I) (upTo ctxOrd (ctxOf I) zc 34) (upTo rowBlk (accOf I) za 0) bias0 biasB (biasW 3) biasG ⊢ W c (k0_part38 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay114 (ldR cc0_scratch0 (qOf I) (Rect.unit (s := S2048x1024) ![1536, 256] S512x128.size inb_S2048x1024_S512x128_1536_256)) (ldR cc0_stg2_0 I.k (Rect.unit (s := S2048x1024) ![1280, 256] S768x128.size inb_S2048x1024_S768x128_1280_256)) (mW 3) (ldR cc0_stg2_0 I.k (Rect.unit (s := S2048x1024) ![0, 256] S128x128.size inb_S2048x1024_S128x128_0_256)) (mG) (ldR cc0_stg3_0 I.v (Rect.unit (s := S2048x1024) ![1280, 256] S768x128.size inb_S2048x1024_S768x128_1280_256))) (k0_pay115 (ldR cc0_scratch0 (qOf I) (Rect.unit (s := S2048x1024) ![1536, 256] S512x128.size inb_S2048x1024_S512x128_1536_256)) (ldR cc0_stg2_0 I.k (Rect.unit (s := S2048x1024) ![1280, 256] S768x128.size inb_S2048x1024_S768x128_1280_256)) (mW 3) (ldR cc0_stg2_0 I.k (Rect.unit (s := S2048x1024) ![0, 256] S128x128.size inb_S2048x1024_S128x128_0_256)) (mG))) Q := by
  rw [k0_part38_eq_skeleton]; unfold k0_part38_skel
  refine load_v ?_
  refine load_ctx ?_
  refine store_ctx (upTo ctxOrd (ctxOf I) zc 35) (write_ctxC I zc 3 (by decide) 2 rfl rfl) ?_
  refine load_q ?_
  refine load_k ?_
  refine load_bb ?_
  refine load_k ?_
  refine load_bg ?_
  exact ret_of H

/-- Part 39 of the body: from the first assertion to the second. -/
theorem part39_run  {Q : (Σ' (v1409 : FVec F S512x768 .f32) (v1410 : FVec F S512x128 .f32), FVec F S512x1 .f32) → sProp 𝕄} (H : vm c I (qOf I) (upTo ctxOrd (ctxOf I) zc 36) (upTo rowBlk (accOf I) za 0) bias0 biasB (biasW 3) biasG ⊢ Q (⟨k0_pay122 (ldR cc0_scratch0 (qOf I) (Rect.unit (s := S2048x1024) ![1536, 512] S512x128.size inb_S2048x1024_S512x128_1536_512)) (ldR cc0_stg2_0 I.k (Rect.unit (s := S2048x1024) ![1280, 512] S768x128.size inb_S2048x1024_S768x128_1280_512)) (mW 3), k0_pay123 (ldR cc0_scratch0 (qOf I) (Rect.unit (s := S2048x1024) ![1536, 512] S512x128.size inb_S2048x1024_S512x128_1536_512)) (ldR cc0_stg2_0 I.k (Rect.unit (s := S2048x1024) ![0, 512] S128x128.size inb_S2048x1024_S128x128_0_512)) (mG), k0_pay124 (ldR cc0_scratch0 (qOf I) (Rect.unit (s := S2048x1024) ![1536, 512] S512x128.size inb_S2048x1024_S512x128_1536_512)) (ldR cc0_stg2_0 I.k (Rect.unit (s := S2048x1024) ![1280, 512] S768x128.size inb_S2048x1024_S768x128_1280_512)) (mW 3) (ldR cc0_stg2_0 I.k (Rect.unit (s := S2048x1024) ![0, 512] S128x128.size inb_S2048x1024_S128x128_0_512)) (mG)⟩)) :
    vm c I (qOf I) (upTo ctxOrd (ctxOf I) zc 35) (upTo rowBlk (accOf I) za 0) bias0 biasB (biasW 3) biasG ⊢ W c (k0_part39 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay118 (ldR cc0_scratch0 (qOf I) (Rect.unit (s := S2048x1024) ![1536, 384] S512x128.size inb_S2048x1024_S512x128_1536_384)) (ldR cc0_stg2_0 I.k (Rect.unit (s := S2048x1024) ![0, 384] S128x128.size inb_S2048x1024_S128x128_0_384)) (mG)) (k0_pay119 (ldR cc0_scratch0 (qOf I) (Rect.unit (s := S2048x1024) ![1536, 384] S512x128.size inb_S2048x1024_S512x128_1536_384)) (ldR cc0_stg2_0 I.k (Rect.unit (s := S2048x1024) ![1280, 384] S768x128.size inb_S2048x1024_S768x128_1280_384)) (mW 3) (ldR cc0_stg2_0 I.k (Rect.unit (s := S2048x1024) ![0, 384] S128x128.size inb_S2048x1024_S128x128_0_384)) (mG)) (k0_pay120 (ldR cc0_scratch0 (qOf I) (Rect.unit (s := S2048x1024) ![1536, 384] S512x128.size inb_S2048x1024_S512x128_1536_384)) (ldR cc0_stg2_0 I.k (Rect.unit (s := S2048x1024) ![1280, 384] S768x128.size inb_S2048x1024_S768x128_1280_384)) (mW 3) (ldR cc0_stg2_0 I.k (Rect.unit (s := S2048x1024) ![0, 384] S128x128.size inb_S2048x1024_S128x128_0_384)) (mG))) Q := by
  rw [k0_part39_eq_skeleton]; unfold k0_part39_skel
  refine load_v ?_
  refine load_v ?_
  refine load_ctx ?_
  refine store_ctx (upTo ctxOrd (ctxOf I) zc 36) (write_ctxC I zc 3 (by decide) 3 rfl rfl) ?_
  refine load_q ?_
  refine load_k ?_
  refine load_bb ?_
  refine load_k ?_
  refine load_bg ?_
  exact ret_of H

/-- Part 40 of the body: from the first assertion to the second. -/
theorem part40_run  {Q : (Σ' (v1450 : FVec F S512x768 .f32), FVec F S512x128 .f32) → sProp 𝕄} (H : vm c I (qOf I) (upTo ctxOrd (ctxOf I) zc 37) (upTo rowBlk (accOf I) za 0) bias0 biasB (biasW 3) biasG ⊢ Q (⟨k0_pay126 (ldR cc0_scratch0 (qOf I) (Rect.unit (s := S2048x1024) ![1536, 640] S512x128.size inb_S2048x1024_S512x128_1536_640)) (ldR cc0_stg2_0 I.k (Rect.unit (s := S2048x1024) ![1280, 640] S768x128.size inb_S2048x1024_S768x128_1280_640)) (mW 3), k0_pay127 (ldR cc0_scratch0 (qOf I) (Rect.unit (s := S2048x1024) ![1536, 640] S512x128.size inb_S2048x1024_S512x128_1536_640)) (ldR cc0_stg2_0 I.k (Rect.unit (s := S2048x1024) ![0, 640] S128x128.size inb_S2048x1024_S128x128_0_640)) (mG)⟩)) :
    vm c I (qOf I) (upTo ctxOrd (ctxOf I) zc 36) (upTo rowBlk (accOf I) za 0) bias0 biasB (biasW 3) biasG ⊢ W c (k0_part40 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay122 (ldR cc0_scratch0 (qOf I) (Rect.unit (s := S2048x1024) ![1536, 512] S512x128.size inb_S2048x1024_S512x128_1536_512)) (ldR cc0_stg2_0 I.k (Rect.unit (s := S2048x1024) ![1280, 512] S768x128.size inb_S2048x1024_S768x128_1280_512)) (mW 3)) (k0_pay123 (ldR cc0_scratch0 (qOf I) (Rect.unit (s := S2048x1024) ![1536, 512] S512x128.size inb_S2048x1024_S512x128_1536_512)) (ldR cc0_stg2_0 I.k (Rect.unit (s := S2048x1024) ![0, 512] S128x128.size inb_S2048x1024_S128x128_0_512)) (mG)) (k0_pay124 (ldR cc0_scratch0 (qOf I) (Rect.unit (s := S2048x1024) ![1536, 512] S512x128.size inb_S2048x1024_S512x128_1536_512)) (ldR cc0_stg2_0 I.k (Rect.unit (s := S2048x1024) ![1280, 512] S768x128.size inb_S2048x1024_S768x128_1280_512)) (mW 3) (ldR cc0_stg2_0 I.k (Rect.unit (s := S2048x1024) ![0, 512] S128x128.size inb_S2048x1024_S128x128_0_512)) (mG))) Q := by
  rw [k0_part40_eq_skeleton]; unfold k0_part40_skel
  refine load_v ?_
  refine load_v ?_
  refine load_ctx ?_
  refine store_ctx (upTo ctxOrd (ctxOf I) zc 37) (write_ctxC I zc 3 (by decide) 4 rfl rfl) ?_
  refine load_q ?_
  refine load_k ?_
  refine load_bb ?_
  refine load_k ?_
  refine load_bg ?_
  exact ret_of H

/-- Part 41 of the body: from the first assertion to the second. -/
theorem part41_run  {Q : (Σ' (v1483 : FVec F S512x768 .f32) (v1486 : FVec F S512x128 .f32), FVec F S512x128 .f32) → sProp 𝕄} (H : vm c I (qOf I) (upTo ctxOrd (ctxOf I) zc 38) (upTo rowBlk (accOf I) za 0) bias0 biasB (biasW 3) biasG ⊢ Q (⟨k0_pay129 (ldR cc0_scratch0 (qOf I) (Rect.unit (s := S2048x1024) ![1536, 768] S512x128.size inb_S2048x1024_S512x128_1536_768)) (ldR cc0_stg2_0 I.k (Rect.unit (s := S2048x1024) ![1280, 768] S768x128.size inb_S2048x1024_S768x128_1280_768)) (mW 3), k0_pay130 (ldR cc0_scratch0 (qOf I) (Rect.unit (s := S2048x1024) ![1536, 768] S512x128.size inb_S2048x1024_S512x128_1536_768)) (ldR cc0_stg2_0 I.k (Rect.unit (s := S2048x1024) ![0, 768] S128x128.size inb_S2048x1024_S128x128_0_768)), k0_pay131 (F := F)⟩)) :
    vm c I (qOf I) (upTo ctxOrd (ctxOf I) zc 37) (upTo rowBlk (accOf I) za 0) bias0 biasB (biasW 3) biasG ⊢ W c (k0_part41 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay126 (ldR cc0_scratch0 (qOf I) (Rect.unit (s := S2048x1024) ![1536, 640] S512x128.size inb_S2048x1024_S512x128_1536_640)) (ldR cc0_stg2_0 I.k (Rect.unit (s := S2048x1024) ![1280, 640] S768x128.size inb_S2048x1024_S768x128_1280_640)) (mW 3)) (k0_pay127 (ldR cc0_scratch0 (qOf I) (Rect.unit (s := S2048x1024) ![1536, 640] S512x128.size inb_S2048x1024_S512x128_1536_640)) (ldR cc0_stg2_0 I.k (Rect.unit (s := S2048x1024) ![0, 640] S128x128.size inb_S2048x1024_S128x128_0_640)) (mG))) Q := by
  rw [k0_part41_eq_skeleton]; unfold k0_part41_skel
  refine load_v ?_
  refine load_v ?_
  refine load_ctx ?_
  refine store_ctx (upTo ctxOrd (ctxOf I) zc 38) (write_ctxC I zc 3 (by decide) 5 rfl rfl) ?_
  refine load_q ?_
  refine load_k ?_
  refine load_bb ?_
  refine load_k ?_
  exact ret_of H

/-- Part 42 of the body: from the first assertion to the second. -/
theorem part42_run  {Q : (Σ' (v1517 : Vec F S512x128 .bf16), FVec F S512x768 .f32) → sProp 𝕄} (H : vm c I (qOf I) (upTo ctxOrd (ctxOf I) zc 39) (upTo rowBlk (accOf I) za 0) bias0 biasB (biasW 3) biasG ⊢ Q (⟨(ldR cc0_scratch0 (qOf I) (Rect.unit (s := S2048x1024) ![1536, 896] S512x128.size inb_S2048x1024_S512x128_1536_896)), k0_pay133 (ldR cc0_scratch0 (qOf I) (Rect.unit (s := S2048x1024) ![1536, 896] S512x128.size inb_S2048x1024_S512x128_1536_896)) (ldR cc0_stg2_0 I.k (Rect.unit (s := S2048x1024) ![1280, 896] S768x128.size inb_S2048x1024_S768x128_1280_896)) (mW 3)⟩)) :
    vm c I (qOf I) (upTo ctxOrd (ctxOf I) zc 38) (upTo rowBlk (accOf I) za 0) bias0 biasB (biasW 3) biasG ⊢ W c (k0_part42 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 (k0_pay129 (ldR cc0_scratch0 (qOf I) (Rect.unit (s := S2048x1024) ![1536, 768] S512x128.size inb_S2048x1024_S512x128_1536_768)) (ldR cc0_stg2_0 I.k (Rect.unit (s := S2048x1024) ![1280, 768] S768x128.size inb_S2048x1024_S768x128_1280_768)) (mW 3)) (k0_pay130 (ldR cc0_scratch0 (qOf I) (Rect.unit (s := S2048x1024) ![1536, 768] S512x128.size inb_S2048x1024_S512x128_1536_768)) (ldR cc0_stg2_0 I.k (Rect.unit (s := S2048x1024) ![0, 768] S128x128.size inb_S2048x1024_S128x128_0_768))) (k0_pay131 (F := F))) Q := by
  rw [k0_part42_eq_skeleton]; unfold k0_part42_skel
  refine load_bg ?_
  refine load_v ?_
  refine load_v ?_
  refine load_ctx ?_
  refine store_ctx (upTo ctxOrd (ctxOf I) zc 39) (write_ctxC I zc 3 (by decide) 6 rfl rfl) ?_
  refine load_q ?_
  refine load_k ?_
  refine load_bb ?_
  exact ret_of H

/-- Part 43 of the body: from the first assertion to the second. -/
theorem part43_run  {Q : (FVec F S512x1024 .bf16) → sProp 𝕄} (H : vm c I (qOf I) (ctxOf I) (upTo rowBlk (accOf I) za 0) bias0 biasB (biasW 3) biasG ⊢ Q ((k0_pay135 (ldR cc0_scratch1 (ctxOf I) (Rect.unit (s := S2048x1024) ![0, 0] S512x1024.size inb_S2048x1024_S512x1024_0_0)) (ldR cc0_stg4_0 I.wo (Rect.unit (s := S1024x1024) ![0, 0] S1024x1024.size inb_S1024x1024_S1024x1024_0_0))))) :
    vm c I (qOf I) (upTo ctxOrd (ctxOf I) zc 39) (upTo rowBlk (accOf I) za 0) bias0 biasB (biasW 3) biasG ⊢ W c (k0_part43 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 ((ldR cc0_scratch0 (qOf I) (Rect.unit (s := S2048x1024) ![1536, 896] S512x128.size inb_S2048x1024_S512x128_1536_896))) (k0_pay133 (ldR cc0_scratch0 (qOf I) (Rect.unit (s := S2048x1024) ![1536, 896] S512x128.size inb_S2048x1024_S512x128_1536_896)) (ldR cc0_stg2_0 I.k (Rect.unit (s := S2048x1024) ![1280, 896] S768x128.size inb_S2048x1024_S768x128_1280_896)) (mW 3))) Q := by
  rw [k0_part43_eq_skeleton]; unfold k0_part43_skel
  refine load_k ?_
  refine load_bg ?_
  refine load_v ?_
  refine load_v ?_
  refine load_ctx ?_
  refine store_ctx (upTo ctxOrd (ctxOf I) zc 40) (write_ctxC I zc 3 (by decide) 7 rfl rfl) ?_
  rw [upTo_ctx]
  refine load_ctx ?_
  refine load_wo ?_
  exact ret_of H

/-- Part 44 of the body: from the first assertion to the second. -/
theorem part44_run (v48 : BitVec 32) {Q : BitVec 32 → sProp 𝕄} (H : ∀ r, vm c I (qOf I) (ctxOf I) (accOf I) bias0 biasB (biasW 3) biasG ⊢ Q r) :
    vm c I (qOf I) (ctxOf I) (upTo rowBlk (accOf I) za 0) bias0 biasB (biasW 3) biasG ⊢ W c (k0_part44 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v48 ((k0_pay135 (ldR cc0_scratch1 (ctxOf I) (Rect.unit (s := S2048x1024) ![0, 0] S512x1024.size inb_S2048x1024_S512x1024_0_0)) (ldR cc0_stg4_0 I.wo (Rect.unit (s := S1024x1024) ![0, 0] S1024x1024.size inb_S1024x1024_S1024x1024_0_0))))) Q := by
  rw [k0_part44_eq_skeleton]; unfold k0_part44_skel
  refine load_acc ?_
  refine store_acc (upTo rowBlk (accOf I) za 1) (write_acc I za 0 rfl rfl) ?_
  refine load_ctx ?_
  refine load_wo ?_
  refine load_acc ?_
  refine store_acc (upTo rowBlk (accOf I) za 2) (write_acc I za 1 rfl rfl) ?_
  refine load_ctx ?_
  refine load_wo ?_
  refine load_acc ?_
  refine store_acc (upTo rowBlk (accOf I) za 3) (write_acc I za 2 rfl rfl) ?_
  refine load_ctx ?_
  refine load_wo ?_
  refine load_acc ?_
  refine store_acc (upTo rowBlk (accOf I) za 4) (write_acc I za 3 rfl rfl) ?_
  rw [upTo_acc]
  exact ret_of (H _)

end Cert.KernelIdeal.Flow

end
-- ==== Proof.Geometry.lean ====
/-
  The geometry of the exchange: the eight devices as the corners of a cube, the axis each copy runs along, the
  block of rows it sends and the one it receives, and that the kernel's printed device and offset expressions are these.
-/
module

public import proofs.«01_k».proof.Proof.Gen.KernelIdeal
public import proofs.«01_k».proof.Proof.Gen.KernelIdeal.Skeleton

@[expose] public section

namespace Cert.KernelIdeal.Flow

open Idealize.ShloMosaic Idealize.ShloMosaic.TcCoe Cert.KernelIdeal Cert.KernelIdeal.Gen

/-! ## The cube -/

/-- A device's coordinates on the cube. -/
def cy (c : Dev nD) : ℕ := c.val / 2 % 2
def cx (c : Dev nD) : ℕ := (c.val + cy c) % 2
def cz (c : Dev nD) : ℕ := c.val / 4 % 2

/-- A device's neighbour across an axis. -/
def flip (a : Fin 3) (c : Dev nD) : Dev nD := ⟨(c.val ^^^ (![1, 3, 4] a : ℕ)) % 8, Nat.mod_lt _ (by decide)⟩

/-- The axis of copy `s` of half `h`. -/
def ax (h : Fin 2) (s : Fin 14) : Fin 3 :=
  ⟨((![0, 0, 0, 0, 1, 1, 2, 2, 1, 1, 0, 0, 0, 0] s : ℕ) + h.val) % 3, Nat.mod_lt _ (by decide)⟩

/-- The device copy `s` of half `h` runs to, and from. -/
def par (c : Dev nD) (h : Fin 2) (s : Fin 14) : Dev nD := flip (ax h s) c

/-- The row chunk of which a device ends with the whole sum, before the sums are passed round. -/
def cid (c : Dev nD) : Fin 8 := ⟨(cx c + 2 * cy c + 4 * cz c) % 8, Nat.mod_lt _ (by decide)⟩

/-- The device that makes the whole sum of a row chunk. -/
def devOf (k : Fin 8) : Dev nD :=
  ⟨(4 * (k.val / 4) + 2 * (k.val / 2 % 2) + (k.val + k.val / 2) % 2) % 8, Nat.mod_lt _ (by decide)⟩

/-- The row chunk (256 rows) that copy `s` of half `h` carries away from a device. -/
def snd (c : Dev nD) (h : Fin 2) (s : Fin 14) : Fin 8 :=
  ⟨(if h = 0 then
      (if s.val < 4 then 1 - cx c + 2 * s.val
       else if s.val < 6 then cx c + 2 * (1 - cy c) + 4 * (s.val - 4)
       else if s.val = 6 then cx c + 2 * cy c + 4 * (1 - cz c)
       else if s.val = 7 then cx c + 2 * cy c + 4 * cz c
       else if s.val < 10 then cx c + 2 * cy c + 4 * (s.val - 8)
       else cx c + 2 * (s.val - 10))
    else
      (if s.val < 4 then 2 * (1 - cy c) + s.val % 2 + 4 * (s.val / 2)
       else if s.val < 6 then 2 * cy c + 4 * (1 - cz c) + (s.val - 4)
       else if s.val = 6 then 1 - cx c + 2 * cy c + 4 * cz c
       else if s.val = 7 then cx c + 2 * cy c + 4 * cz c
       else if s.val < 10 then 2 * cy c + 4 * cz c + (s.val - 8)
       else 2 * cy c + s.val % 2 + 4 * ((s.val - 10) / 2))) % 8, Nat.mod_lt _ (by decide)⟩

/-- The row chunk that copy `s` of half `h` brings to a device: what its neighbour sends. -/
def rch (c : Dev nD) (h : Fin 2) (s : Fin 14) : Fin 8 := snd (par c h s) h s

/-- The first seven copies of a half, which reduce; the other seven gather. -/
def up (s : Fin 7) : Fin 14 := ⟨s.val, by omega⟩

/-- The gathering copy that goes over the chunk a reducing copy carried. -/
def amir (s : Fin 7) : Fin 14 := ![10, 11, 12, 13, 8, 9, 7] s

/-- How many sums a chunk carried by a reducing copy has in it already. -/
def stg (s : Fin 14) : ℕ := ![0, 0, 0, 0, 1, 1, 2, 0, 0, 0, 0, 0, 0, 0] s

/-- The place of a copy in the order of waiting. -/
def st6 (s : Fin 14) : ℕ := ![0, 0, 0, 0, 1, 1, 2, 3, 4, 4, 5, 5, 5, 5] s

theorem flip_flip (a : Fin 3) (c : Dev nD) : flip a (flip a c) = c := by revert a c; decide
theorem flip_ne (a : Fin 3) (c : Dev nD) : flip a c ≠ c := by revert a c; decide
theorem par_par (c : Dev nD) (h : Fin 2) (s : Fin 14) : par (par c h s) h s = c := flip_flip _ _
theorem rch_par (c : Dev nD) (h : Fin 2) (s : Fin 14) : rch (par c h s) h s = snd c h s := by rw [rch, par_par]
theorem devOf_cid (c : Dev nD) : devOf (cid c) = c := by revert c; decide
theorem par_amir (c : Dev nD) (h : Fin 2) (s : Fin 7) : par c h (amir s) = par c h (up s) := by revert c h s; decide +kernel
theorem snd_amir (c : Dev nD) (h : Fin 2) (s : Fin 7) : snd c h (amir s) = rch c h (up s) := by revert c h s; decide +kernel

/-! ## The rectangles -/

/-- The corner of row chunk `k` of column half `h`. -/
def poff (k : Fin 8) (h : Fin 2) : Fin 2 → ℕ := ![256 * k.val, 512 * h.val]

theorem poff_inb (k : Fin 8) (h : Fin 2) : ∀ a, poff k h a + S256x512.size a ≤ S2048x1024.size a := by
  revert k h; decide
theorem sl_inb (s : Fin 7) : ∀ a, (![s.val, 0, 0] : Fin 3 → ℕ) a + S1x256x512.size a ≤ S7x256x512.size a := by
  revert s; decide

/-- Row chunk `k` of column half `h`. -/
abbrev pcR (k : Fin 8) (h : Fin 2) : Rect S2048x1024 := Rect.unit (s := S2048x1024) (poff k h) S256x512.size (poff_inb k h)
/-- The slot of reducing copy `s`. -/
abbrev slR (s : Fin 7) : Rect S7x256x512 := Rect.unit (s := S7x256x512) ![s.val, 0, 0] S1x256x512.size (sl_inb s)

/-- Row chunk `k` of column half `h` of the partial output. -/
abbrev pcM (k : Fin 8) (h : Fin 2) : Memref sig .tc .vmem S256x512 .bf16 :=
  (Memref.whole cc0_scratch2).slice (pcR k h) (fun _ => rfl)

/-- The landing buffer of half `h`. -/
def rsbM (h : Fin 2) : Memref sig .tc .vmem S7x256x512 .bf16 :=
  match h with
  | 0 => Memref.whole cc0_scratch3
  | 1 => Memref.whole cc0_scratch4

/-- The slot of the landing buffer of half `h` that reducing copy `s` fills. -/
abbrev slM (h : Fin 2) (s : Fin 7) : Memref sig .tc .vmem S256x512 .bf16 :=
  ((rsbM h).slice (slR s) (fun _ => rfl)).squeeze S256x512 squeezes_S1x256x512_S256x512

/-- The semaphore a copy raises at its sender, and the one at its receiver. -/
abbrev sendS (h : Fin 2) (s : Fin 14) : DmaSem sig := ⟨6 + 28 * h.val + s.val, by have := h.isLt; have := s.isLt; show _ < 62; omega⟩
abbrev recvS (h : Fin 2) (s : Fin 14) : DmaSem sig := ⟨20 + 28 * h.val + s.val, by have := h.isLt; have := s.isLt; show _ < 62; omega⟩

/-! ## The kernel's own expressions -/

theorem dev4_eq (c : Dev nD) : (⟨k0_dev4 c, k0_dev4_lt c⟩ : Dev nD) = par c 0 0 := by revert c; decide +kernel
theorem off_snd0_0 (c : Dev nD) : k0_off1 c 0#32 0#32 = poff (snd c 0 0) 0 := by revert c; decide +kernel
theorem dev5_eq (c : Dev nD) : (⟨k0_dev5 c, k0_dev5_lt c⟩ : Dev nD) = par c 0 1 := by revert c; decide +kernel
theorem off_snd0_1 (c : Dev nD) : k0_off1 c 2#32 0#32 = poff (snd c 0 1) 0 := by revert c; decide +kernel
theorem dev6_eq (c : Dev nD) : (⟨k0_dev6 c, k0_dev6_lt c⟩ : Dev nD) = par c 0 2 := by revert c; decide +kernel
theorem off_snd0_2 (c : Dev nD) : k0_off1 c 0#32 4#32 = poff (snd c 0 2) 0 := by revert c; decide +kernel
theorem dev7_eq (c : Dev nD) : (⟨k0_dev7 c, k0_dev7_lt c⟩ : Dev nD) = par c 0 3 := by revert c; decide +kernel
theorem off_snd0_3 (c : Dev nD) : k0_off1 c 2#32 4#32 = poff (snd c 0 3) 0 := by revert c; decide +kernel
theorem dev8_eq (c : Dev nD) : (⟨k0_dev8 c, k0_dev8_lt c⟩ : Dev nD) = par c 1 0 := by revert c; decide +kernel
theorem off_snd1_0 (c : Dev nD) : k0_off2 c 0#32 0#32 = poff (snd c 1 0) 1 := by revert c; decide +kernel
theorem dev9_eq (c : Dev nD) : (⟨k0_dev9 c, k0_dev9_lt c⟩ : Dev nD) = par c 1 1 := by revert c; decide +kernel
theorem off_snd1_1 (c : Dev nD) : k0_off2 c 1#32 0#32 = poff (snd c 1 1) 1 := by revert c; decide +kernel
theorem dev10_eq (c : Dev nD) : (⟨k0_dev10 c, k0_dev10_lt c⟩ : Dev nD) = par c 1 2 := by revert c; decide +kernel
theorem off_snd1_2 (c : Dev nD) : k0_off2 c 0#32 4#32 = poff (snd c 1 2) 1 := by revert c; decide +kernel
theorem dev11_eq (c : Dev nD) : (⟨k0_dev11 c, k0_dev11_lt c⟩ : Dev nD) = par c 1 3 := by revert c; decide +kernel
theorem off_snd1_3 (c : Dev nD) : k0_off2 c 1#32 4#32 = poff (snd c 1 3) 1 := by revert c; decide +kernel
theorem dev12_eq (c : Dev nD) : (⟨k0_dev12 c, k0_dev12_lt c⟩ : Dev nD) = par c 0 4 := by revert c; decide +kernel
theorem off_snd0_4 (c : Dev nD) : k0_off5 c 0#32 = poff (snd c 0 4) 0 := by revert c; decide +kernel
theorem dev13_eq (c : Dev nD) : (⟨k0_dev13 c, k0_dev13_lt c⟩ : Dev nD) = par c 0 5 := by revert c; decide +kernel
theorem off_snd0_5 (c : Dev nD) : k0_off5 c 4#32 = poff (snd c 0 5) 0 := by revert c; decide +kernel
theorem dev14_eq (c : Dev nD) : (⟨k0_dev14 c, k0_dev14_lt c⟩ : Dev nD) = par c 1 4 := by revert c; decide +kernel
theorem off_snd1_4 (c : Dev nD) : k0_off6 c 0#32 = poff (snd c 1 4) 1 := by revert c; decide +kernel
theorem dev15_eq (c : Dev nD) : (⟨k0_dev15 c, k0_dev15_lt c⟩ : Dev nD) = par c 1 5 := by revert c; decide +kernel
theorem off_snd1_5 (c : Dev nD) : k0_off6 c 1#32 = poff (snd c 1 5) 1 := by revert c; decide +kernel
theorem dev16_eq (c : Dev nD) : (⟨k0_dev16 c, k0_dev16_lt c⟩ : Dev nD) = par c 0 6 := by revert c; decide +kernel
theorem off_snd0_6 (c : Dev nD) : k0_off9 c  = poff (snd c 0 6) 0 := by revert c; decide +kernel
theorem dev17_eq (c : Dev nD) : (⟨k0_dev17 c, k0_dev17_lt c⟩ : Dev nD) = par c 1 6 := by revert c; decide +kernel
theorem off_snd1_6 (c : Dev nD) : k0_off10 c  = poff (snd c 1 6) 1 := by revert c; decide +kernel
theorem dev18_eq (c : Dev nD) : (⟨k0_dev18 c, k0_dev18_lt c⟩ : Dev nD) = par c 0 7 := by revert c; decide +kernel
theorem off_snd0_7 (c : Dev nD) : k0_off13 c  = poff (snd c 0 7) 0 := by revert c; decide +kernel
theorem dev19_eq (c : Dev nD) : (⟨k0_dev19 c, k0_dev19_lt c⟩ : Dev nD) = par c 1 7 := by revert c; decide +kernel
theorem off_snd1_7 (c : Dev nD) : k0_off14 c  = poff (snd c 1 7) 1 := by revert c; decide +kernel
theorem dev20_eq (c : Dev nD) : (⟨k0_dev20 c, k0_dev20_lt c⟩ : Dev nD) = par c 0 8 := by revert c; decide +kernel
theorem off_snd0_8 (c : Dev nD) : k0_off15 c 0#32 = poff (snd c 0 8) 0 := by revert c; decide +kernel
theorem dev21_eq (c : Dev nD) : (⟨k0_dev21 c, k0_dev21_lt c⟩ : Dev nD) = par c 0 9 := by revert c; decide +kernel
theorem off_snd0_9 (c : Dev nD) : k0_off15 c 4#32 = poff (snd c 0 9) 0 := by revert c; decide +kernel
theorem dev22_eq (c : Dev nD) : (⟨k0_dev22 c, k0_dev22_lt c⟩ : Dev nD) = par c 1 8 := by revert c; decide +kernel
theorem off_snd1_8 (c : Dev nD) : k0_off16 c 0#32 = poff (snd c 1 8) 1 := by revert c; decide +kernel
theorem dev23_eq (c : Dev nD) : (⟨k0_dev23 c, k0_dev23_lt c⟩ : Dev nD) = par c 1 9 := by revert c; decide +kernel
theorem off_snd1_9 (c : Dev nD) : k0_off16 c 1#32 = poff (snd c 1 9) 1 := by revert c; decide +kernel
theorem dev24_eq (c : Dev nD) : (⟨k0_dev24 c, k0_dev24_lt c⟩ : Dev nD) = par c 0 10 := by revert c; decide +kernel
theorem off_snd0_10 (c : Dev nD) : k0_off17 c 0#32 0#32 = poff (snd c 0 10) 0 := by revert c; decide +kernel
theorem dev25_eq (c : Dev nD) : (⟨k0_dev25 c, k0_dev25_lt c⟩ : Dev nD) = par c 0 11 := by revert c; decide +kernel
theorem off_snd0_11 (c : Dev nD) : k0_off17 c 2#32 0#32 = poff (snd c 0 11) 0 := by revert c; decide +kernel
theorem dev26_eq (c : Dev nD) : (⟨k0_dev26 c, k0_dev26_lt c⟩ : Dev nD) = par c 0 12 := by revert c; decide +kernel
theorem off_snd0_12 (c : Dev nD) : k0_off17 c 0#32 4#32 = poff (snd c 0 12) 0 := by revert c; decide +kernel
theorem dev27_eq (c : Dev nD) : (⟨k0_dev27 c, k0_dev27_lt c⟩ : Dev nD) = par c 0 13 := by revert c; decide +kernel
theorem off_snd0_13 (c : Dev nD) : k0_off17 c 2#32 4#32 = poff (snd c 0 13) 0 := by revert c; decide +kernel
theorem dev28_eq (c : Dev nD) : (⟨k0_dev28 c, k0_dev28_lt c⟩ : Dev nD) = par c 1 10 := by revert c; decide +kernel
theorem off_snd1_10 (c : Dev nD) : k0_off18 c 0#32 0#32 = poff (snd c 1 10) 1 := by revert c; decide +kernel
theorem dev29_eq (c : Dev nD) : (⟨k0_dev29 c, k0_dev29_lt c⟩ : Dev nD) = par c 1 11 := by revert c; decide +kernel
theorem off_snd1_11 (c : Dev nD) : k0_off18 c 1#32 0#32 = poff (snd c 1 11) 1 := by revert c; decide +kernel
theorem dev30_eq (c : Dev nD) : (⟨k0_dev30 c, k0_dev30_lt c⟩ : Dev nD) = par c 1 12 := by revert c; decide +kernel
theorem off_snd1_12 (c : Dev nD) : k0_off18 c 0#32 4#32 = poff (snd c 1 12) 1 := by revert c; decide +kernel
theorem dev31_eq (c : Dev nD) : (⟨k0_dev31 c, k0_dev31_lt c⟩ : Dev nD) = par c 1 13 := by revert c; decide +kernel
theorem off_snd1_13 (c : Dev nD) : k0_off18 c 1#32 4#32 = poff (snd c 1 13) 1 := by revert c; decide +kernel
theorem off_rch0_0 (c : Dev nD) : k0_off3 c 0#32 0#32 = poff (rch c 0 0) 0 := by revert c; decide +kernel
theorem off_rch0_1 (c : Dev nD) : k0_off3 c 2#32 0#32 = poff (rch c 0 1) 0 := by revert c; decide +kernel
theorem off_rch0_2 (c : Dev nD) : k0_off3 c 0#32 4#32 = poff (rch c 0 2) 0 := by revert c; decide +kernel
theorem off_rch0_3 (c : Dev nD) : k0_off3 c 2#32 4#32 = poff (rch c 0 3) 0 := by revert c; decide +kernel
theorem off_rch1_0 (c : Dev nD) : k0_off4 c 0#32 0#32 = poff (rch c 1 0) 1 := by revert c; decide +kernel
theorem off_rch1_1 (c : Dev nD) : k0_off4 c 1#32 0#32 = poff (rch c 1 1) 1 := by revert c; decide +kernel
theorem off_rch1_2 (c : Dev nD) : k0_off4 c 0#32 4#32 = poff (rch c 1 2) 1 := by revert c; decide +kernel
theorem off_rch1_3 (c : Dev nD) : k0_off4 c 1#32 4#32 = poff (rch c 1 3) 1 := by revert c; decide +kernel
theorem off_rch0_4 (c : Dev nD) : k0_off7 c 0#32 = poff (rch c 0 4) 0 := by revert c; decide +kernel
theorem off_rch0_5 (c : Dev nD) : k0_off7 c 4#32 = poff (rch c 0 5) 0 := by revert c; decide +kernel
theorem off_rch1_4 (c : Dev nD) : k0_off8 c 0#32 = poff (rch c 1 4) 1 := by revert c; decide +kernel
theorem off_rch1_5 (c : Dev nD) : k0_off8 c 1#32 = poff (rch c 1 5) 1 := by revert c; decide +kernel
theorem off_rch0_6 (c : Dev nD) : k0_off11 c  = poff (rch c 0 6) 0 := by revert c; decide +kernel
theorem off_rch1_6 (c : Dev nD) : k0_off12 c  = poff (rch c 1 6) 1 := by revert c; decide +kernel

end Cert.KernelIdeal.Flow

end
-- ==== Proof.Schedule.lean ====
/-
  The schedule of the exchange: what each semaphore hands over, how much, and in which order it is waited for.

  Barrier semaphore of a device: signalled once by each of its three neighbours, before anything else; the device
  waits for three units. The neighbour across axis `a` hands over its landing slots of the copies that run along
  `a`, at any contents, and that its receive semaphores of those copies are open.
  Receive semaphore of a reducing copy: raised by the neighbour's copy; hands over the device's own slot, holding
  the chunk the neighbour has summed so far, and the neighbour's place of that chunk, to be written over later.
  Its send semaphore hands over nothing.
  Receive semaphore of a gathering copy: hands over the device's own place of the chunk, holding the whole sum.
  Its send semaphore gives the sender its own place of the chunk back.
-/
module

public import proofs.«01_k».proof.Proof.Base
public import proofs.«01_k».proof.Proof.Geometry

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## The contents -/

/-- What one device's partial output holds. -/
abbrev AccC (F : FTy → Type) [FloatOps F] [Named F] : Type := (cc0_scratch2 : Ref sig .tc).ty.Contents (Elt F)

/-- The column half of an index. -/
def hof (i : S2048x1024.Idx) : Fin 2 := ⟨(i 1).val / 512 % 2, Nat.mod_lt _ (by decide)⟩
/-- The row chunk of an index. -/
def kof (i : S2048x1024.Idx) : Fin 8 := ⟨(i 0).val / 256 % 8, Nat.mod_lt _ (by decide)⟩
/-- The axis across which half `h` makes its `j`-th sum. -/
def axj (j : ℕ) (h : Fin 2) : Fin 3 := ⟨(j + h.val) % 3, Nat.mod_lt _ (by decide)⟩

theorem axj_stg (h : Fin 2) (s : Fin 7) : axj (stg (up s)) h = ax h (up s) := by revert h s; decide

/-- The partial outputs after `j` pairwise sums: each adds the neighbour's across the next axis. -/
def sums (a0 : Dev nD → AccC F) : ℕ → Dev nD → AccC F
  | 0, c => a0 c
  | j + 1, c => fun i => FloatOps.addf (φ := .bf16) (sums a0 j c i) (sums a0 j (flip (axj j (hof i)) c) i)

/-- The whole sum: each chunk as the device that makes it has it. -/
def total (a0 : Dev nD → AccC F) : AccC F := fun i => sums a0 3 (devOf (kof i)) i

/-! ## The cells -/

abbrev sendC (c : Dev nD) (h : Fin 2) (s : Fin 14) : GSem nD τ sig := ((c : Thread nD τ), .dma (sendS h s))
abbrev recvC (c : Dev nD) (h : Fin 2) (s : Fin 14) : GSem nD τ sig := ((c : Thread nD τ), .dma (recvS h s))
abbrev barC (c : Dev nD) : GSem nD τ sig := ((c : Thread nD τ), .reg barrier0)

/-- The half and the number of the copy a semaphore belongs to. -/
def hIx (i : DmaSem sig) : Fin 2 := ⟨(i.val - 6) / 28 % 2, Nat.mod_lt _ (by decide)⟩
def sIx (i : DmaSem sig) : Fin 14 := ⟨(i.val - 6) % 14, Nat.mod_lt _ (by decide)⟩
def isRecv (i : DmaSem sig) : Bool := decide (6 ≤ i.val) && decide ((i.val - 6) / 14 % 2 = 1)

theorem hIx_send (h : Fin 2) (s : Fin 14) : hIx (sendS h s) = h := by revert h s; decide
theorem sIx_send (h : Fin 2) (s : Fin 14) : sIx (sendS h s) = s := by revert h s; decide
theorem isRecv_send (h : Fin 2) (s : Fin 14) : isRecv (sendS h s) = false := by revert h s; decide
theorem hIx_recv (h : Fin 2) (s : Fin 14) : hIx (recvS h s) = h := by revert h s; decide
theorem sIx_recv (h : Fin 2) (s : Fin 14) : sIx (recvS h s) = s := by revert h s; decide
theorem isRecv_recv (h : Fin 2) (s : Fin 14) : isRecv (recvS h s) = true := by revert h s; decide

/-- The amount one copy raises a semaphore by. -/
abbrev N : ℕ := (pcM 0 0).view.dmaCredit
theorem N_pos : 0 < N := View.dmaCredit_pos _ (by decide)
theorem credit_pc (k : Fin 8) (h : Fin 2) : (pcM k h).view.dmaCredit = N := rfl
theorem credit_sl (h : Fin 2) (s : Fin 7) : (slM h s).view.dmaCredit = N := by
  match h with
  | 0 => rfl
  | 1 => rfl

/-! ## The assertions about pieces and slots -/

/-- Device `c`'s place of row chunk `k`, half `h`, holds what `f` has there. -/
abbrev piece (c : Dev nD) (k : Fin 8) (h : Fin 2) (f : AccC F) : sProp 𝕄 :=
  (pcM k h).view.loc (c : Thread nD τ) ↦[(pcM k h).view.set]{fullShare} f
/-- Device `c`'s slot of reducing copy `s`, half `h`, at contents `f`. -/
abbrev slot (c : Dev nD) (h : Fin 2) (s : Fin 7) (f : Buf (Elt F) ((slM h s).view.loc (c : Thread nD τ))) : sProp 𝕄 :=
  (slM h s).view.loc (c : Thread nD τ) ↦[(slM h s).view.set]{fullShare} f
/-- That slot, holding the chunk the copy brings. -/
def slotH (a0 : Dev nD → AccC F) (c : Dev nD) (h : Fin 2) (s : Fin 7) : sProp 𝕄 :=
  iprop(∃ f, ⌜(slM h s).view.read (Elt F) f = (pcM (rch c h (up s)) h).view.read (Elt F) (sums a0 (stg (up s)) (par c h (up s)))⌝ ∗ slot c h s f)

/-! ## The payloads -/

/-- What device `p` gives up so that copy `s` of half `h` may reach it. -/
def give (p : Dev nD) (h : Fin 2) (s : Fin 14) : sProp 𝕄 :=
  iprop(reached ER (recvC p h s) 0 ∗ (if hs : s.val < 7 then iprop(∃ f, slot p h ⟨s.val, hs⟩ f) else iprop(emp)))

/-- What a barrier signal across axis `a` hands to device `c`. -/
def barPay (c : Dev nD) (a : Fin 3) : sProp 𝕄 :=
  bigSep (Finset.univ : Finset (Fin 2 × Fin 14)) fun hs => if ax hs.1 hs.2 = a then give (flip a c) hs.1 hs.2 else iprop(emp)

/-- What a copy hands back to its sender. -/
def sendPay (a0 : Dev nD → AccC F) (c : Dev nD) (h : Fin 2) (s : Fin 14) : sProp 𝕄 :=
  if s.val < 7 then iprop(emp) else piece c (snd c h s) h (total a0)

/-- What a copy hands to its receiver. -/
def recvPay (a0 : Dev nD → AccC F) (c : Dev nD) (h : Fin 2) (s : Fin 14) : sProp 𝕄 :=
  if hs : s.val < 7 then iprop(slotH a0 c h ⟨s.val, hs⟩ ∗ ∃ f, piece (par c h s) (rch c h s) h f)
  else piece c (rch c h s) h (total a0)

/-- The schedule: one round; three duties on a barrier semaphore, one on every other. -/
def Rd (a0 : Dev nD → AccC F) : Rounds.Schedule (GSem nD τ sig) (Fin 3) 𝕄 where
  duties g r := if r = 0 then (match g.2 with | .reg _ => Finset.univ | .dma _ => {0}) else ∅
  unitless _ := False
  amount g _ _ := match g.2 with | .reg _ => 1 | .dma _ => N
  payload g _ d := match g.2 with
    | .reg _ => barPay g.1.1 d
    | .dma i => if isRecv i then recvPay a0 g.1.1 (hIx i) (sIx i) else sendPay a0 g.1.1 (hIx i) (sIx i)
  amount_pos g _ _ _ := by
    rcases g with ⟨t, i | i⟩
    · exact Nat.one_pos
    · exact N_pos

instance give_storable (p : Dev nD) (h : Fin 2) (s : Fin 14) : BI.Storable (upEmb : UEmb _ 𝕄) (give (F := F) p h s) := by
  unfold give; split <;> infer_instance

instance slotH_storable (a0 : Dev nD → AccC F) (p : Dev nD) (h : Fin 2) (s : Fin 7) : BI.Storable (upEmb : UEmb _ 𝕄) (slotH a0 p h s) := by
  unfold slotH; infer_instance

instance barPay_storable (c : Dev nD) (a : Fin 3) : BI.Storable (upEmb : UEmb _ 𝕄) (barPay (F := F) c a) := by
  have (hs : Fin 2 × Fin 14) : BI.Storable (upEmb : UEmb _ 𝕄) (if ax hs.1 hs.2 = a then give (F := F) (flip a c) hs.1 hs.2 else iprop(emp)) := by
    split <;> infer_instance
  unfold barPay; infer_instance

instance Rd_payload_storable (a0 : Dev nD → AccC F) (g : GSem nD τ sig) (r : ℕ) (d : Fin 3) :
    BI.Storable (upEmb : UEmb _ 𝕄) ((Rd a0).payload g r d) := by
  rcases g with ⟨t, i | i⟩
  · exact barPay_storable _ _
  · show BI.Storable upEmb (if isRecv i then recvPay a0 t.1 (hIx i) (sIx i) else sendPay a0 t.1 (hIx i) (sIx i))
    unfold recvPay sendPay
    (repeat' split) <;> infer_instance

section Sched

variable (a0 : Dev nD → AccC F) (c : Dev nD) (h : Fin 2) (s : Fin 14)

theorem duties_bar : (Rd a0).duties (barC c) 0 = Finset.univ := rfl
theorem duties_send : (Rd a0).duties (sendC c h s) 0 = {0} := rfl
theorem duties_recv : (Rd a0).duties (recvC c h s) 0 = {0} := rfl
theorem duties_later (g : GSem nD τ sig) : ∀ r, 1 ≤ r → (Rd a0).duties g r = ∅ :=
  fun r hr => by dsimp only [Rd]; rw [if_neg (by omega)]
theorem amount_bar (d : Fin 3) : (Rd a0).amount (barC c) 0 d = 1 := rfl
theorem amount_send (d : Fin 3) : (Rd a0).amount (sendC c h s) 0 d = N := rfl
theorem amount_recv (d : Fin 3) : (Rd a0).amount (recvC c h s) 0 d = N := rfl
theorem expect_bar : (Rd a0).expect (barC c) 0 = 3 := rfl
theorem expect_send : (Rd a0).expect (sendC c h s) 0 = N := by
  unfold Schedule.expect Schedule.amountOf; rw [duties_send, Finset.sum_singleton, amount_send]
theorem expect_recv : (Rd a0).expect (recvC c h s) 0 = N := by
  unfold Schedule.expect Schedule.amountOf; rw [duties_recv, Finset.sum_singleton, amount_recv]
theorem payload_bar (d : Fin 3) : (Rd a0).payload (barC c) 0 d = barPay c d := rfl
theorem payload_send (d : Fin 3) : (Rd a0).payload (sendC c h s) 0 d = sendPay a0 c h s := by
  dsimp only [Rd]; rw [isRecv_send, hIx_send, sIx_send]; rfl
theorem payload_recv (d : Fin 3) : (Rd a0).payload (recvC c h s) 0 d = recvPay a0 c h s := by
  dsimp only [Rd]; rw [isRecv_recv, hIx_recv, sIx_recv]; rfl
theorem rest_bar : bigSep ((Rd a0).duties (barC c) 0 \ ∅) (fun d => (Rd a0).payload (barC c) 0 d) = bigSep Finset.univ (fun d => barPay (F := F) c d) := by
  rw [Finset.sdiff_empty, duties_bar]; rfl
theorem rest_send : bigSep ((Rd a0).duties (sendC c h s) 0 \ ∅) (fun d => (Rd a0).payload (sendC c h s) 0 d) = sendPay a0 c h s := by
  rw [Finset.sdiff_empty, duties_send, bigSep_singleton, payload_send]
theorem rest_recv : bigSep ((Rd a0).duties (recvC c h s) 0 \ ∅) (fun d => (Rd a0).payload (recvC c h s) 0 d) = recvPay a0 c h s := by
  rw [Finset.sdiff_empty, duties_recv, bigSep_singleton, payload_recv]

end Sched

/-! ## What is owed, and the order of waiting -/

/-- What a device owes once `n h` copies of each half have been started: a copy's amount at each receiver to come. -/
def owed (c : Dev nD) (n : Fin 2 → ℕ) : CellTallies nD τ sig Unit :=
  ∑ hs ∈ (Finset.univ : Finset (Fin 2 × Fin 14)).filter (fun hs => n hs.1 ≤ hs.2.val), tallyAt (recvC (par c hs.1 hs.2) hs.1 hs.2) () N

/-- Starting copy `s` of half `h` pays its receiver's amount. -/
theorem owed_step (c : Dev nD) (n n' : Fin 2 → ℕ) (h : Fin 2) (s : Fin 14) (hs : n h = s.val) (hs' : n' h = s.val + 1)
    (ho : ∀ h', h' ≠ h → n' h' = n h') : owed c n = owed c n' + tallyAt (recvC (par c h s) h s) () N := by
  unfold owed
  have e : (Finset.univ : Finset (Fin 2 × Fin 14)).filter (fun hs => n hs.1 ≤ hs.2.val)
      = insert (h, s) ((Finset.univ : Finset (Fin 2 × Fin 14)).filter (fun hs => n' hs.1 ≤ hs.2.val)) := by
    ext ⟨h', s'⟩
    simp only [Finset.mem_filter, Finset.mem_univ, true_and, Finset.mem_insert, Prod.mk.injEq]
    by_cases e : h' = h
    · subst e
      rw [hs, hs', Fin.ext_iff]; simp only [true_and]; omega
    · rw [ho h' e]; simp only [e, false_and, false_or]
  rw [e, Finset.sum_insert, add_comm]
  simp only [Finset.mem_filter, Finset.mem_univ, true_and, hs']; omega

/-- What is still owed is owed to receive semaphores of copies not yet started. -/
theorem owed_pos {c : Dev nD} {n : Fin 2 → ℕ} {g : GSem nD τ sig} {u : Unit} (hp : 0 < owed c n g u) :
    ∃ h s, n h ≤ (s : Fin 14).val ∧ g = recvC (par c h s) h s := by
  unfold owed at hp
  rw [Finset.sum_apply, Finsupp.finset_sum_apply] at hp
  obtain ⟨⟨h, s⟩, hm, hne⟩ := Finset.exists_ne_zero_of_sum_ne_zero hp.ne'
  rw [tallyAt_apply] at hne
  refine ⟨h, s, (Finset.mem_filter.mp hm).2, ?_⟩
  by_contra hg
  exact hne (if_neg fun hh => hg hh.1)

def L (g : GSem nD τ sig) : Finset Unit := if g.1.2 = .tc then {()} else ∅
/-- Barriers first, then the receive semaphores in the order of their copies; everything else is not waited on while owing. -/
def lv (g : GSem nD τ sig) (_ : Unit) : ℕ :=
  match g.2 with
  | .reg _ => 1
  | .dma i => if isRecv i then 2 + st6 (sIx i) else 0

theorem L_of_ne (g : GSem nD τ sig) (h : g.1.2 ≠ .tc) : L g = ∅ := if_neg h
theorem L_tc (c : Dev nD) (sm : SemLoc sig) : L ((c : Thread nD τ), sm) = {()} := if_pos rfl
theorem lv_recv (c : Dev nD) (h : Fin 2) (s : Fin 14) (u : Unit) : lv (recvC c h s) u = 2 + st6 s := by
  dsimp only [lv]; rw [isRecv_recv, sIx_recv, if_pos rfl]
theorem lv_send (c : Dev nD) (h : Fin 2) (s : Fin 14) (u : Unit) : lv (sendC c h s) u = 0 := by
  dsimp only [lv]; rw [isRecv_send]; rfl

/-- A semaphore may be waited on when every copy still to be started comes later in the order. -/
theorem mayWait {c : Dev nD} {n : Fin 2 → ℕ} {sm : SemLoc sig} (b : ℕ) (hb : lv ((c : Thread nD τ), sm) () ≤ b)
    (hn : ∀ h s, n h ≤ (s : Fin 14).val → b < 2 + st6 s) :
    (levAts L lv : sProp 𝕄) ⊢ MayWait (c : Thread nD τ) sm () (owed c n) :=
  MayOwe.of_cut (L := L) (lev := lv) b (fun p hp => by rw [Finset.mem_singleton.mp hp, L_tc]; exact Finset.mem_singleton_self _)
    (fun g u hg => by obtain ⟨h, s, -, rfl⟩ := owed_pos hg; rw [L_tc]; exact Finset.mem_singleton_self _)
    (fun p hp => by rw [Finset.mem_singleton.mp hp]; exact hb)
    (fun g u hg => by obtain ⟨h, s, hs, rfl⟩ := owed_pos hg; rw [lv_recv]; exact hn h s hs)

end Cert.KernelIdeal.Flow

end
-- ==== Proof.Comm.lean ====
/-
  The state of a device in the exchange, and what each step of the exchange does to it. How far each half has
  gone is four counts: copies started, copies whose send semaphore was waited for, copies whose receive semaphore
  was waited for, and landed chunks added in. What the device owns is a function of the counts.
-/
module

public import proofs.«01_k».proof.Proof.Schedule

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

/-! ## The cells -/

def barEmb : Dev nD ↪ GSem nD τ sig := ⟨fun c => barC c, fun _ _ h => congrArg (fun g : GSem nD τ sig => g.1.1) h⟩
/-- The semaphores of the copies. -/
def osem (k : Fin 56) : SemLoc sig := .dma ⟨6 + k.val, by have := k.isLt; show _ < 62; omega⟩
theorem osem_inj : Function.Injective osem := by decide +kernel
def scEmb : Dev nD × Fin 56 ↪ GSem nD τ sig :=
  ⟨fun x => ((x.1 : Thread nD τ), osem x.2), fun a b h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

theorem bar_mem (c : Dev nD) : barC c ∈ barCells ∪ scCells :=
  Finset.mem_union_left _ (Finset.mem_map.mpr ⟨c, Finset.mem_univ _, rfl⟩)
/-- The number of a copy's send semaphore, and of its receive semaphore. -/
def sIdx (h : Fin 2) (s : Fin 14) : Fin 56 := ⟨28 * h.val + s.val, by omega⟩
def rIdx (h : Fin 2) (s : Fin 14) : Fin 56 := ⟨28 * h.val + 14 + s.val, by omega⟩
theorem osem_s (h : Fin 2) (s : Fin 14) : osem (sIdx h s) = .dma (sendS h s) := by revert h s; decide +kernel
theorem osem_r (h : Fin 2) (s : Fin 14) : osem (rIdx h s) = .dma (recvS h s) := by revert h s; decide +kernel
theorem send_mem (c : Dev nD) (h : Fin 2) (s : Fin 14) : sendC c h s ∈ barCells ∪ scCells :=
  Finset.mem_union_right _ (Finset.mem_map.mpr ⟨(c, sIdx h s), Finset.mem_univ _, congrArg (Prod.mk _) (osem_s h s)⟩)
theorem recv_mem (c : Dev nD) (h : Fin 2) (s : Fin 14) : recvC c h s ∈ barCells ∪ scCells :=
  Finset.mem_union_right _ (Finset.mem_map.mpr ⟨(c, rIdx h s), Finset.mem_univ _, congrArg (Prod.mk _) (osem_r h s)⟩)

/-! ## The state -/

/-- The counts: started, sent, received, added. -/
structure St where
  ns : Fin 2 → ℕ
  nb : Fin 2 → ℕ
  nr : Fin 2 → ℕ
  na : Fin 2 → ℕ

/-- Counts are equal when they are so half by half. -/
theorem St.eq_of {σ σ' : St} (h : ∀ i, σ.ns i = σ'.ns i ∧ σ.nb i = σ'.nb i ∧ σ.nr i = σ'.nr i ∧ σ.na i = σ'.na i) : σ = σ' := by
  obtain ⟨a, b, r, n⟩ := σ
  obtain ⟨a', b', r', n'⟩ := σ'
  have h1 : a = a' := funext fun i => (h i).1
  have h2 : b = b' := funext fun i => (h i).2.1
  have h3 : r = r' := funext fun i => (h i).2.2.1
  have h4 : n = n' := funext fun i => (h i).2.2.2
  subst h1; subst h2; subst h3; subst h4; rfl

/-- What is shared: every cell's invariant, and the order of waiting. -/
def ctx (a0 : Dev nD → AccC F) (K : GSem nD τ sig → ℕ) : sProp 𝕄 :=
  iprop((bigSep (barCells ∪ scCells) fun g => cellInv ER (Rd a0) (K g) g) ∗ levAts L lv)

instance ctx_persistent (a0 : Dev nD → AccC F) (K : GSem nD τ sig → ℕ) : BI.Persistent (ctx a0 K) := by unfold ctx; infer_instance

theorem ctx_inv {a0 : Dev nD → AccC F} {K : GSem nD τ sig → ℕ} {g : GSem nD τ sig} (hg : g ∈ barCells ∪ scCells) :
    ctx a0 K ⊢ cellInv ER (Rd a0) (K g) g := by
  unfold ctx
  exact (sep_mono_left (bigSep_elim hg)).trans (BI.Entails.trans BI.sep_and and_elimL)

theorem ctx_lev {a0 : Dev nD → AccC F} {K : GSem nD τ sig → ℕ} : ctx a0 K ⊢ levAts L lv := by
  unfold ctx
  iintro ⟨-, H⟩
  iexact H

/-- What is held for a copy before it starts. -/
def pre (c : Dev nD) (h : Fin 2) (s : Fin 14) : sProp 𝕄 :=
  iprop(atPos ER (sendC c h s) 0 ∅ 0 ∗ reached ER (sendC c h s) 0 ∗ dutyTok ER (sendC c h s) 0 0
    ∗ dutyTok ER (recvC (par c h s) h s) 0 0 ∗ give (par c h s) h s)

/-- What is held at a copy's send semaphore. -/
def FS (c : Dev nD) (σ : St) (p : Fin 2 × Fin 14) : sProp 𝕄 :=
  if p.2.val < σ.nb p.1 then atPos ER (sendC c p.1 p.2) 1 ∅ 0
  else if p.2.val < σ.ns p.1 then iprop(atPos ER (sendC c p.1 p.2) 0 ∅ 0 ∗ cred (tallyAt (sendC c p.1 p.2) () N))
  else pre c p.1 p.2
/-- What is held at a copy's receive semaphore. -/
def FR (c : Dev nD) (σ : St) (p : Fin 2 × Fin 14) : sProp 𝕄 :=
  if p.2.val < σ.nr p.1 then atPos ER (recvC c p.1 p.2) 1 ∅ 0
  else iprop(atPos ER (recvC c p.1 p.2) 0 ∅ 0 ∗ cred (tallyAt (recvC c p.1 p.2) () N))
/-- The landing slots that have been filled. -/
def FL (a0 : Dev nD → AccC F) (c : Dev nD) (σ : St) (p : Fin 2 × Fin 7) : sProp 𝕄 :=
  if p.2.val < σ.nr p.1 then slotH a0 c p.1 p.2 else iprop(emp)
/-- The neighbours' places that a landed chunk came from, until the sum is sent back over them. -/
def FP (c : Dev nD) (σ : St) (p : Fin 2 × Fin 7) : sProp 𝕄 :=
  if p.2.val < σ.nr p.1 ∧ σ.ns p.1 ≤ (amir p.2).val then iprop(∃ f, piece (par c p.1 (up p.2)) (rch c p.1 (up p.2)) p.1 f) else iprop(emp)
/-- How a device holds one of its own chunks: not at all (4), the whole sum (3), or so many sums. -/
def pst (c : Dev nD) (σ : St) (p : Fin 2 × Fin 8) : ℕ :=
  if ∃ s : Fin 14, 7 ≤ s.val ∧ σ.nb p.1 ≤ s.val ∧ s.val < σ.ns p.1 ∧ snd c p.1 s = p.2 then 4
  else if ∃ s : Fin 14, 7 ≤ s.val ∧ s.val < σ.nr p.1 ∧ rch c p.1 s = p.2 then 3
  else if ∃ s : Fin 14, s.val < 7 ∧ s.val < σ.ns p.1 ∧ snd c p.1 s = p.2 then 4
  else (Finset.univ.filter fun s : Fin 7 => s.val < σ.na p.1 ∧ rch c p.1 (up s) = p.2).card
def hold (a0 : Dev nD → AccC F) (c : Dev nD) (p : Fin 2 × Fin 8) (n : ℕ) : sProp 𝕄 :=
  if n = 4 then iprop(emp) else if n = 3 then piece c p.2 p.1 (total a0) else piece c p.2 p.1 (sums a0 n c)
def FA (a0 : Dev nD → AccC F) (c : Dev nD) (σ : St) (p : Fin 2 × Fin 8) : sProp 𝕄 := hold a0 c p (pst c σ p)

/-- All that a device holds of the exchange at counts `σ`. -/
def CS (a0 : Dev nD → AccC F) (K : GSem nD τ sig → ℕ) (c : Dev nD) (σ : St) : sProp 𝕄 :=
  iprop(ctx a0 K ∗ (∃ W, owes (c : Thread nD τ) (owed c σ.ns) W) ∗ bigSep Finset.univ (FS c σ) ∗ bigSep Finset.univ (FR c σ)
    ∗ bigSep Finset.univ (FL a0 c σ) ∗ bigSep Finset.univ (FP c σ) ∗ bigSep Finset.univ (FA a0 c σ))

/-- Taking out one member of a family and putting its successor back. -/
theorem upd {ι : Type} [Fintype ι] [DecidableEq ι] (i : ι) {Φ Ψ : ι → sProp 𝕄} {X Y : sProp 𝕄} (hX : Φ i = X) (hY : Ψ i = Y)
    (h : ∀ j, j ≠ i → Ψ j = Φ j) : bigSep Finset.univ Φ ⊢ iprop(X ∗ (Y -∗ bigSep Finset.univ Ψ)) := by
  subst hX; subst hY
  exact bigSep_univ_update i h

end Cert.KernelIdeal.Flow

end
-- ==== Proof.Moves.lean ====
/-
  The steps of the exchange: starting a copy, waiting for its two semaphores, reading a chunk and a landed chunk,
  and adding the second into the first. Each takes the device's state from one set of counts to the next.
-/
module

public import proofs.«01_k».proof.Proof.Comm

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD} {σ σ' : St} {α : Type}

/-! ## Contents -/

/-- Chunk `k` of half `h` after `j` sums, as a device reads it. -/
def rdP (a0 : Dev nD → AccC F) (j : ℕ) (c : Dev nD) (k : Fin 8) (h : Fin 2) : FVec F S256x512 .bf16 :=
  fun i => sums a0 j c ((pcR k h).emb i)

/-- A copied view, read back, is the source. -/
theorem copied {v : View sig .tc .vmem S256x512 .bf16} {f g : v.ty.Contents (Elt F)} :
    ∀ i ∈ v.set, v.write (Elt F) f (v.read (Elt F) g) Finset.univ i = g i := by
  intro i hi
  obtain ⟨j, -, rfl⟩ := Finset.mem_map.mp hi
  rw [View.write_emb_of_mem (Val := Elt F) f _ (Finset.mem_univ j)]
  simp [View.read]

theorem dvd_emb (k : Fin 8) (h : Fin 2) (i : S256x512.Idx) : hof ((pcR k h).emb i) = h ∧ kof ((pcR k h).emb i) = k := by
  have h0 : ((pcR k h).emb i 0).val = 256 * k.val + (i 0).val := by rw [Rect.emb_apply]; simp [poff, Rect.unit]
  have h1 : ((pcR k h).emb i 1).val = 512 * h.val + (i 1).val := by rw [Rect.emb_apply]; simp [poff, Rect.unit]
  have b0 : (i 0).val < 256 := (i 0).isLt
  have b1 : (i 1).val < 512 := (i 1).isLt
  have := h.isLt; have := k.isLt
  constructor
  · refine Fin.ext ?_
    show ((pcR k h).emb i 1).val / 512 % 2 = h.val
    rw [h1]; omega
  · refine Fin.ext ?_
    show ((pcR k h).emb i 0).val / 256 % 8 = k.val
    rw [h0]; omega

theorem pc_set (k : Fin 8) (h : Fin 2) : (pcM k h).view.set = (pcR k h).set := View.set_slice_whole _ _

/-- One more sum on a chunk. -/
theorem rdP_succ (c : Dev nD) (h : Fin 2) (s : Fin 7) (k : Fin 8) (i : S256x512.Idx) :
    sums a0 (stg (up s) + 1) c ((pcR k h).emb i)
      = FloatOps.addf (φ := .bf16) (rdP a0 (stg (up s)) c k h i) (rdP a0 (stg (up s)) (par c h (up s)) k h i) := by
  show FloatOps.addf _ _ = _
  rw [(dvd_emb k h i).1, axj_stg]; rfl

theorem sums_total (k : Fin 8) (h : Fin 2) (hc : devOf k = c) (i : S256x512.Idx) :
    sums a0 3 c ((pcR k h).emb i) = total a0 ((pcR k h).emb i) := by
  unfold total; rw [(dvd_emb k h i).2, hc]

/-! ## What the payloads are -/

theorem give_rs (p : Dev nD) (h : Fin 2) (s : Fin 7) :
    (give p h (up s) : sProp 𝕄) = iprop(reached ER (recvC p h (up s)) 0 ∗ ∃ f, slot p h s f) := by
  unfold give; rw [dif_pos (show (up s).val < 7 from s.isLt)]; rfl
theorem give_ag (p : Dev nD) (h : Fin 2) (s : Fin 14) (hs : 7 ≤ s.val) :
    (give p h s : sProp 𝕄) = iprop(reached ER (recvC p h s) 0 ∗ emp) := by
  unfold give; rw [dif_neg (by omega)]
theorem recvPay_rs (c : Dev nD) (h : Fin 2) (s : Fin 7) :
    recvPay a0 c h (up s) = iprop(slotH a0 c h s ∗ ∃ f, piece (par c h (up s)) (rch c h (up s)) h f) := by
  unfold recvPay; rw [dif_pos (show (up s).val < 7 from s.isLt)]; rfl
theorem recvPay_rs' (c : Dev nD) (h : Fin 2) (s : Fin 7) :
    recvPay a0 (par c h (up s)) h (up s)
      = iprop((∃ f, ⌜(slM h s).view.read (Elt F) f = (pcM (snd c h (up s)) h).view.read (Elt F) (sums a0 (stg (up s)) c)⌝
          ∗ slot (par c h (up s)) h s f) ∗ ∃ f, piece c (snd c h (up s)) h f) := by
  rw [recvPay_rs]; unfold slotH; rw [rch_par, par_par]
theorem recvPay_ag (c : Dev nD) (h : Fin 2) (s : Fin 14) (hs : 7 ≤ s.val) : recvPay a0 c h s = piece c (rch c h s) h (total a0) := by
  unfold recvPay; rw [dif_neg (by omega)]
theorem sendPay_rs (c : Dev nD) (h : Fin 2) (s : Fin 7) : sendPay a0 c h (up s) = iprop(emp) := by
  unfold sendPay; rw [if_pos (show (up s).val < 7 from s.isLt)]
theorem sendPay_ag (c : Dev nD) (h : Fin 2) (s : Fin 14) (hs : 7 ≤ s.val) : sendPay a0 c h s = piece c (snd c h s) h (total a0) := by
  unfold sendPay; rw [if_neg (by omega)]

/-! ## How the families change -/

/-- The counts with one more copy of half `h` started; sent; received; added. -/
def St.s (σ : St) (h : Fin 2) : St := { σ with ns := Function.update σ.ns h (σ.ns h + 1) }
def St.b (σ : St) (h : Fin 2) : St := { σ with nb := Function.update σ.nb h (σ.nb h + 1) }
def St.r (σ : St) (h : Fin 2) : St := { σ with nr := Function.update σ.nr h (σ.nr h + 1) }
def St.a (σ : St) (h : Fin 2) : St := { σ with na := Function.update σ.na h (σ.na h + 1) }

theorem up_lt {n : Fin 2 → ℕ} {h : Fin 2} {m : ℕ} {p : Fin 2 × Fin m} {s : Fin m} (hn : n h = s.val) (hp : p ≠ (h, s)) :
    (p.2.val < Function.update n h (n h + 1) p.1) = (p.2.val < n p.1) := by
  obtain ⟨h', s'⟩ := p
  by_cases e : h' = h
  · subst e
    have : s' ≠ s := fun e => hp (by rw [e])
    have : s'.val ≠ s.val := fun e => this (Fin.ext e)
    simp only [Function.update_self, hn, eq_iff_iff]; omega
  · simp only [Function.update_of_ne e]

theorem up_lt_self {n : Fin 2 → ℕ} {h : Fin 2} {m : ℕ} {s : Fin m} (hn : n h = s.val) : s.val < Function.update n h (n h + 1) h := by
  rw [Function.update_self]; omega

theorem FS_s (h : Fin 2) (s : Fin 14) (hn : σ.ns h = s.val) : ∀ j, j ≠ (h, s) → (FS c (σ.s h) j : sProp 𝕄) = FS c σ j := by
  intro j hj; unfold FS; simp only [St.s, up_lt hn hj]
theorem FS_b (h : Fin 2) (s : Fin 14) (hn : σ.nb h = s.val) : ∀ j, j ≠ (h, s) → (FS c (σ.b h) j : sProp 𝕄) = FS c σ j := by
  intro j hj; exact if_congr (iff_of_eq (up_lt hn hj)) rfl rfl
theorem FR_r (h : Fin 2) (s : Fin 14) (hn : σ.nr h = s.val) : ∀ j, j ≠ (h, s) → (FR c (σ.r h) j : sProp 𝕄) = FR c σ j := by
  intro j hj; unfold FR; simp only [St.r, up_lt hn hj]
theorem FL_r (h : Fin 2) (s : Fin 7) (hn : σ.nr h = s.val) : ∀ j, j ≠ (h, s) → FL a0 c (σ.r h) j = FL a0 c σ j := by
  intro j hj; unfold FL; simp only [St.r, up_lt hn hj]
theorem FP_r (h : Fin 2) (s : Fin 7) (hn : σ.nr h = s.val) : ∀ j, j ≠ (h, s) → (FP c (σ.r h) j : sProp 𝕄) = FP c σ j := by
  intro j hj; unfold FP; simp only [St.r, up_lt hn hj]
theorem FL_r7 (h : Fin 2) (hn : 7 ≤ σ.nr h) : FL a0 c (σ.r h) = FL a0 c σ := by
  funext ⟨h', s'⟩; unfold FL; by_cases e : h' = h
  · subst e
    have := s'.isLt
    simp only [St.r, Function.update_self]; rw [if_pos (by omega), if_pos (by omega)]
  · simp only [St.r, Function.update_of_ne e]
theorem FP_r7 (h : Fin 2) (hn : 7 ≤ σ.nr h) : (FP c (σ.r h) : _ → sProp 𝕄) = FP c σ := by
  funext ⟨h', s'⟩; unfold FP; by_cases e : h' = h
  · subst e
    have := s'.isLt
    have e1 : (s'.val < σ.nr h' + 1) = (s'.val < σ.nr h') := by simp only [eq_iff_iff]; omega
    simp only [St.r, Function.update_self, e1]
  · simp only [St.r, Function.update_of_ne e]
theorem amir_ge (s : Fin 7) : 7 ≤ (amir s).val := by revert s; decide
theorem amir_inj (s t : Fin 7) (h : (amir s).val = (amir t).val) : s = t := by revert s t; decide
theorem FP_s7 (h : Fin 2) (hn : σ.ns h < 7) : (FP c (σ.s h) : _ → sProp 𝕄) = FP c σ := by
  funext ⟨h', s'⟩; unfold FP; by_cases e : h' = h
  · subst e
    have := amir_ge s'
    have e1 : (σ.ns h' + 1 ≤ (amir s').val) = (σ.ns h' ≤ (amir s').val) := by simp only [eq_iff_iff]; omega
    simp only [St.s, Function.update_self, e1]
  · simp only [St.s, Function.update_of_ne e]
theorem FP_s (h : Fin 2) (s : Fin 7) (hn : σ.ns h = (amir s).val) : ∀ j, j ≠ (h, s) → (FP c (σ.s h) j : sProp 𝕄) = FP c σ j := by
  rintro ⟨h', s'⟩ hj; unfold FP; by_cases e : h' = h
  · subst e
    have h2 : (amir s').val ≠ (amir s).val := fun e => hj (by rw [amir_inj _ _ e])
    have e1 : (σ.ns h' + 1 ≤ (amir s').val) = (σ.ns h' ≤ (amir s').val) := by simp only [eq_iff_iff]; omega
    simp only [St.s, Function.update_self, e1]
  · simp only [St.s, Function.update_of_ne e]

/-- Only the chunk `q` changes hands, to `n`. -/
def chg (σ σ' : St) (q : Dev nD → Fin 2 × Fin 8) (n : ℕ) : Prop := ∀ c p, pst c σ' p = if p = q c then n else pst c σ p
instance (σ σ' : St) (q : Dev nD → Fin 2 × Fin 8) (n : ℕ) : Decidable (chg σ σ' q n) := by unfold chg; infer_instance

theorem FA_ne {q : Dev nD → Fin 2 × Fin 8} {n : ℕ} (h : chg σ σ' q n) : ∀ j, j ≠ q c → FA a0 c σ' j = FA a0 c σ j := by
  intro j hj; unfold FA; rw [h c j, if_neg hj]
theorem FA_at {q : Dev nD → Fin 2 × Fin 8} {n : ℕ} (h : chg σ σ' q n) : FA a0 c σ' (q c) = hold a0 c (q c) n := by
  unfold FA; rw [h c (q c), if_pos rfl]
theorem FA_same (h : ∀ c p, pst c σ' p = pst c σ p) : FA a0 c σ' = FA a0 c σ := by
  funext j; unfold FA; rw [h c j]

theorem stg_le (s : Fin 7) : stg (up s) < 3 := by revert s; decide
theorem hold_sum (c : Dev nD) (p : Fin 2 × Fin 8) (n : ℕ) (h : n < 3) : hold a0 c p n = piece c p.2 p.1 (sums a0 n c) := by
  unfold hold; rw [if_neg (by omega), if_neg (by omega)]
theorem hold_tot (c : Dev nD) (p : Fin 2 × Fin 8) : hold a0 c p 3 = piece c p.2 p.1 (total a0) := by
  unfold hold; rw [if_neg (by omega), if_pos rfl]
theorem hold_none (c : Dev nD) (p : Fin 2 × Fin 8) : hold a0 c p 4 = iprop(emp) := by
  unfold hold; rw [if_pos rfl]

end Cert.KernelIdeal.Flow

end
-- ==== Proof.Steps.lean ====
/-
  The steps of the exchange, each in front of a continuation: starting a reducing or a gathering copy, and waiting
  for either semaphore of either.
-/
module

public import proofs.«01_k».proof.Proof.Moves

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD} {α : Type}

theorem FS_pre {σ : St} (h : Fin 2) (s : Fin 14) (hn : σ.ns h = s.val) (hb : σ.nb h ≤ s.val) : (FS c σ (h, s) : sProp 𝕄) = pre c h s := by
  unfold FS; dsimp only; rw [if_neg (by omega), if_neg (by omega)]
theorem FS_out {σ : St} (h : Fin 2) (s : Fin 14) (hn : s.val < σ.ns h) (hb : σ.nb h ≤ s.val) :
    (FS c σ (h, s) : sProp 𝕄) = iprop(atPos ER (sendC c h s) 0 ∅ 0 ∗ cred (tallyAt (sendC c h s) () N)) := by
  unfold FS; dsimp only; rw [if_neg (by omega), if_pos hn]
theorem FS_done {σ : St} (h : Fin 2) (s : Fin 14) (hb : s.val < σ.nb h) : (FS c σ (h, s) : sProp 𝕄) = atPos ER (sendC c h s) 1 ∅ 0 := by
  unfold FS; dsimp only; rw [if_pos hb]
theorem FR_out {σ : St} (h : Fin 2) (s : Fin 14) (hb : σ.nr h = s.val) :
    (FR c σ (h, s) : sProp 𝕄) = iprop(atPos ER (recvC c h s) 0 ∅ 0 ∗ cred (tallyAt (recvC c h s) () N)) := by
  unfold FR; dsimp only; rw [if_neg (by omega)]
theorem FR_done {σ : St} (h : Fin 2) (s : Fin 14) (hb : s.val < σ.nr h) : (FR c σ (h, s) : sProp 𝕄) = atPos ER (recvC c h s) 1 ∅ 0 := by
  unfold FR; dsimp only; rw [if_pos hb]

theorem owed_s (c : Dev nD) (σ : St) (h : Fin 2) (s : Fin 14) (hn : σ.ns h = s.val) :
    owed c σ.ns = owed c (σ.s h).ns + tallyAt (recvC (par c h s) h s) () N :=
  owed_step c σ.ns (σ.s h).ns h s hn (by show Function.update σ.ns h (σ.ns h + 1) h = _; rw [Function.update_self, hn])
    (fun h' e => Function.update_of_ne e _ _)

/-- What the landing of a reducing copy hands to its receiver. -/
theorem land_rs (h : Fin 2) (s : Fin 7) (fd : Buf (Elt F) ((slM h s).view.loc (par c h (up s) : Thread nD τ))) :
    (iprop(((slM h s).view.loc (par c h (up s) : Thread nD τ) ↦[(slM h s).view.set]{fullShare}
        ((slM h s).view.write (Elt F) fd ((pcM (snd c h (up s)) h).view.read (Elt F) (sums a0 (stg (up s)) c)) Finset.univ))
      ∗ piece c (snd c h (up s)) h (sums a0 (stg (up s)) c)) : sProp 𝕄) ⊢ recvPay a0 (par c h (up s)) h (up s) := by
  rw [recvPay_rs']
  iintro ⟨Ha, Hb⟩
  isplitl [Ha]
  · iexists ((slM h s).view.write (Elt F) fd ((pcM (snd c h (up s)) h).view.read (Elt F) (sums a0 (stg (up s)) c)) Finset.univ)
    isplitr
    · ipureintro; exact View.read_write_univ _ _
    · iexact Ha
  · iexists (sums a0 (stg (up s)) c)
    iexact Hb

/-- Starting reducing copy `s` of half `h`: the chunk goes away with it. -/
theorem rs_send (h : Fin 2) (s : Fin 7) (σ σ' : St) {off : Fin 2 → ℕ} {inb} {d : Dev nD} {hsc hsrc hdst hsem}
    {k : PUnit → Prog (TpuEff nD τ sig (Elt F) Λ₀ .tc) α}
    (hd : d = par c h (up s)) (hoff : off = poff (snd c h (up s)) h)
    (hn : σ.ns h = (up s).val) (hb : σ.nb h ≤ (up s).val) (e : σ' = σ.s h)
    (hp : ∀ c, pst c σ (h, snd c h (up s)) = stg (up s)) (hc : chg σ σ' (fun c => (h, snd c h (up s))) 4)
    {Q : α → sProp 𝕄} (H : CS a0 K c σ' ⊢ W c (k ⟨⟩) Q) :
    CS a0 K c σ ⊢ W c (Prog.lift (.enqueueDma ((Memref.whole cc0_scratch2).slice (Rect.unit (s := S2048x1024) off S256x512.size inb) (fun _ => rfl))
      (.remote (Dev.tc d) (slM h s) (.dma (sendS h (up s))) hsc) (.dma (recvS h (up s))) hsrc hdst hsem) >>= k) Q := by
  subst hd; subst hoff; subst e
  have hs7 : (up s).val < 7 := s.isLt
  show _ ⊢ wp frame (wpE (defs₀ (F := F)) 𝒱₀ c none) Set.univ (.op _ k) Q
  unfold CS
  iintro ⟨#Hc, ⟨%Wt, HO⟩, HS, HR, HL, HP, HA⟩
  ihave HS' := (upd (h, up s) (FS_pre h (up s) hn hb) (FS_out (σ := σ.s h) h (up s) (up_lt_self hn) hb) (FS_s h (up s) hn)) $$ HS
  icases HS' with ⟨HX, HSk⟩
  ihave HA' := (upd (h, snd c h (up s)) (Φ := FA a0 c σ) (Ψ := FA a0 c (σ.s h)) (X := piece c (snd c h (up s)) h (sums a0 (stg (up s)) c)) (Y := iprop(emp))
    (by unfold FA; rw [hp c, hold_sum _ _ _ (stg_le s)]) ((FA_at (q := fun c => (h, snd c h (up s))) hc).trans (hold_none _ _))
    (FA_ne (q := fun c => (h, snd c h (up s))) hc)) $$ HA
  icases HA' with ⟨Hp, HAk⟩
  unfold pre
  rw [give_rs]
  icases HX with ⟨Hat, #Hr1, Ht1, Ht2, #Hr2, ⟨%fd, Hd⟩⟩
  iapply (Rounds.wp_send_landing_pointsTo (Val := Elt F) (defs := defs₀ (F := F)) 𝒱₀ ER (Rd a0) (c : Thread nD τ) none (c' := (par c h (up s) : Thread nD τ))
      (src := pcM (snd c h (up s)) h) (dst := slM h s)
      (sS := .dma (sendS h (up s))) (sem := .dma (recvS h (up s))) (q := fullShare) (fs := sums a0 (stg (up s)) c)
      (κ₁ := K (sendC c h (up s))) (κ₂ := K (recvC (par c h (up s)) h (up s)))
      (r₁ := 0) (r₂ := 0) (d₁ := 0) (d₂ := 0) (fd := fd) (k := k)
      (by rw [duties_send]; exact Finset.mem_singleton_self _) (by rw [duties_recv]; exact Finset.mem_singleton_self _)
      () () N (credit_sl h s) (amount_send a0 c h (up s) 0) (amount_recv a0 (par c h (up s)) h (up s) 0)
      (owed c (σ.s h).ns) (owed_s c σ h (up s) hn) (W := Wt)
      (by rw [payload_send, sendPay_rs])
      (by rw [payload_recv]; exact land_rs h s fd))  $$ [Hp Hd HO Ht1 Ht2]
  · isplitr; · iapply (ctx_inv (send_mem c h (up s))); iexact Hc
    isplitr; · iapply (ctx_inv (recv_mem (par c h (up s)) h (up s))); iexact Hc
    isplitl [Hp]; · iexact Hp
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply H
  unfold CS
  isplitr; · iexact Hc
  isplitl [HO]; · iexists _; iexact HO
  isplitl [HSk Hat Hcr]
  · iapply HSk; isplitl [Hat]; · iexact Hat
    iexact Hcr
  isplitl [HR]; · iexact HR
  isplitl [HL]; · iexact HL
  isplitl [HP]; · rw [FP_s7 h (by omega)]; iexact HP
  iapply HAk; iempintro

/-- Starting a gathering copy, which goes over the chunk that reducing copy `s` brought. -/
theorem ag_send (h : Fin 2) (s : Fin 7) (t : Fin 14) (σ σ' : St) {off : Fin 2 → ℕ} {inb inb'} {d : Dev nD} {hsc hsrc hdst hsem}
    {k : PUnit → Prog (TpuEff nD τ sig (Elt F) Λ₀ .tc) α}
    (ht : t = amir s) (hd : d = par c h t) (hoff : off = poff (snd c h t) h)
    (hn : σ.ns h = t.val) (hb : σ.nb h ≤ t.val) (hr : 7 ≤ σ.nr h) (e : σ' = σ.s h)
    (hp : ∀ c, pst c σ (h, snd c h t) = 3) (hc : chg σ σ' (fun c => (h, snd c h t)) 4)
    {Q : α → sProp 𝕄} (H : CS a0 K c σ' ⊢ W c (k ⟨⟩) Q) :
    CS a0 K c σ ⊢ W c (Prog.lift (.enqueueDma ((Memref.whole cc0_scratch2).slice (Rect.unit (s := S2048x1024) off S256x512.size inb) (fun _ => rfl))
      (.remote (Dev.tc d) ((Memref.whole cc0_scratch2).slice (Rect.unit (s := S2048x1024) off S256x512.size inb') (fun _ => rfl)) (.dma (sendS h t)) hsc)
      (.dma (recvS h t)) hsrc hdst hsem) >>= k) Q := by
  subst hd; subst hoff; subst e
  have ht7 : 7 ≤ t.val := by rw [ht]; exact amir_ge s
  show _ ⊢ wp frame (wpE (defs₀ (F := F)) 𝒱₀ c none) Set.univ (.op _ k) Q
  unfold CS
  iintro ⟨#Hc, ⟨%Wt, HO⟩, HS, HR, HL, HP, HA⟩
  ihave HS' := (upd (h, t) (FS_pre h t hn hb) (FS_out (σ := σ.s h) h t (up_lt_self hn) hb) (FS_s h t hn)) $$ HS
  icases HS' with ⟨HX, HSk⟩
  ihave HA' := (upd (h, snd c h t) (Φ := FA a0 c σ) (Ψ := FA a0 c (σ.s h)) (X := piece c (snd c h t) h (total a0)) (Y := iprop(emp))
    (by unfold FA; rw [hp c, hold_tot]) ((FA_at (q := fun c => (h, snd c h t)) hc).trans (hold_none _ _))
    (FA_ne (q := fun c => (h, snd c h t)) hc)) $$ HA
  icases HA' with ⟨Hp, HAk⟩
  ihave HP' := (upd (h, s) (Φ := FP c σ) (Ψ := FP c (σ.s h)) (X := iprop(∃ f, piece (par c h t) (snd c h t) h f)) (Y := iprop(emp))
    (by unfold FP; dsimp only; rw [if_pos ⟨by have := s.isLt; omega, by rw [hn, ht]⟩, ht, par_amir, snd_amir])
    (by unfold FP; dsimp only
        rw [if_neg]
        rintro ⟨-, h2⟩
        have h3 : σ.ns h + 1 ≤ (amir s).val := by simpa only [St.s, Function.update_self] using h2
        rw [hn, ht] at h3; omega)
    (FP_s h s (by rw [hn, ht]))) $$ HP
  icases HP' with ⟨⟨%fd, Hd⟩, HPk⟩
  unfold pre
  rw [give_ag _ _ _ ht7]
  icases HX with ⟨Hat, #Hr1, Ht1, Ht2, #Hr2, -⟩
  iapply (Rounds.wp_send_pointsTo (Val := Elt F) (defs := defs₀ (F := F)) 𝒱₀ ER (Rd a0) (c : Thread nD τ) none (c' := (par c h t : Thread nD τ))
      (src := pcM (snd c h t) h) (dst := pcM (snd c h t) h)
      (sS := .dma (sendS h t)) (sem := .dma (recvS h t)) (q := fullShare) (fs := total a0)
      (κ₁ := K (sendC c h t)) (κ₂ := K (recvC (par c h t) h t))
      (r₁ := 0) (r₂ := 0) (d₁ := 0) (d₂ := 0) (fd := fd) (k := k)
      (by rw [duties_send]; exact Finset.mem_singleton_self _) (by rw [duties_recv]; exact Finset.mem_singleton_self _)
      () () N (credit_pc _ _) (amount_send a0 c h t 0) (amount_recv a0 (par c h t) h t 0)
      (owed c (σ.s h).ns) (owed_s c σ h t hn) (W := Wt)
      (by rw [payload_send, sendPay_ag _ _ _ ht7])
      (by rw [payload_recv, recvPay_ag _ _ _ ht7, rch_par]; exact Entails.of_eq (pointsTo_congr copied))) $$ [Hp Hd HO Ht1 Ht2]
  · isplitr; · iapply (ctx_inv (send_mem c h t)); iexact Hc
    isplitr; · iapply (ctx_inv (recv_mem (par c h t) h t)); iexact Hc
    isplitl [Hp]; · iexact Hp
    isplitl [Hd]; · iexact Hd
    isplitl [HO]; · iexact HO
    isplitl [Ht1]; · iexact Ht1
    isplitr; · iexact Hr1
    isplitl [Ht2]; · iexact Ht2
    iexact Hr2
  iintro ⟨Hcr, HO⟩
  iapply H
  unfold CS
  isplitr; · iexact Hc
  isplitl [HO]; · iexists _; iexact HO
  isplitl [HSk Hat Hcr]
  · iapply HSk; isplitl [Hat]; · iexact Hat
    iexact Hcr
  isplitl [HR]; · iexact HR
  isplitl [HL]; · iexact HL
  isplitl [HPk]; · iapply HPk; iempintro
  iapply HAk; iempintro

/-- Waiting at a copy's send semaphore: what the copy hands back is added to the state. -/
theorem wait_send (h : Fin 2) (s : Fin 14) (σ σ' : St) {sp sp' : Space} {s' s'' : Shape} {e' e'' : EltTy} {m₁ : Memref sig .tc sp' s' e'} {m₂ : Memref sig .tc sp s'' e''} {h1 h2}
    {k : PUnit → Prog (TpuEff nD τ sig (Elt F) Λ₀ .tc) α}
    (hN : m₂.view.dmaCredit = N) (hn : s.val < σ.ns h) (hb : σ.nb h = s.val) (e : σ' = σ.b h)
    (hA : iprop(sendPay a0 c h s ∗ bigSep Finset.univ (FA a0 c σ)) ⊢ bigSep Finset.univ (FA a0 c σ'))
    {Q : α → sProp 𝕄} (H : CS a0 K c σ' ⊢ W c (k ⟨⟩) Q) :
    CS a0 K c σ ⊢ W c (Prog.lift (.waitDma2 (sendS h s) m₁ m₂ h1 h2) >>= k) Q := by
  subst e
  show _ ⊢ wp frame (wpE (defs₀ (F := F)) 𝒱₀ c none) Set.univ (.op _ k) Q
  unfold CS
  iintro ⟨#Hc, ⟨%Wt, HO⟩, HS, HR, HL, HP, HA⟩
  ihave HS' := (upd (h, s) (FS_out h s hn (by omega)) (FS_done (σ := σ.b h) h s (up_lt_self hb)) (FS_b h s hb)) $$ HS
  icases HS' with ⟨⟨Hat, Hcr⟩, HSk⟩
  iapply (Rounds.wp_wait_rest_token (Val := Elt F) (defs := defs₀ (F := F)) 𝒱₀ ER (Rd a0) (c : Thread nD τ) none (κ := K (sendC c h s))
      (wpE_waitDma2_eq (src := m₁) (dst := m₂) 𝒱₀ (c : Thread nD τ) none Set.univ) (Set.mem_univ _) () (O := owed c σ.ns) (W := Wt) (R := 0) (m := 0) (T := ∅) (k := k)
      ((Nat.zero_add _).trans (hN.trans (expect_send a0 c h s).symm))) $$ [Hcr HO Hat]
  · isplitr; · iapply (ctx_inv (send_mem c h s)); iexact Hc
    isplitl [Hcr]; · rw [hN]; iexact Hcr
    isplitl [HO]; · iexact HO
    isplitr; · iapply (mayWait 0 (by rw [lv_send]) (fun _ _ _ => by omega)); iapply ctx_lev; iexact Hc
    iexact Hat
  iintro ⟨HO, Hat, -, Hpay⟩
  ihave Hp := (Entails.of_eq (rest_send a0 c h s)) $$ Hpay
  iapply H
  unfold CS
  isplitr; · iexact Hc
  isplitl [HO]; · iexists _; iexact HO
  isplitl [HSk Hat]
  · iapply HSk; iexact Hat
  isplitl [HR]; · iexact HR
  isplitl [HL]; · iexact HL
  isplitl [HP]; · iexact HP
  iapply hA
  isplitl [Hp]; · iexact Hp
  iexact HA

/-- Waiting at a copy's receive semaphore: what the copy brings is added to the state. -/
theorem wait_recv (h : Fin 2) (s : Fin 14) (σ σ' : St) {sp sp' : Space} {s' s'' : Shape} {e' e'' : EltTy} {m₁ : Memref sig .tc sp' s' e'} {m₂ : Memref sig .tc sp s'' e''} {h1 h2}
    {k : PUnit → Prog (TpuEff nD τ sig (Elt F) Λ₀ .tc) α}
    (hN : m₂.view.dmaCredit = N) (hb : σ.nr h = s.val) (e : σ' = σ.r h)
    (hl : ∀ h' s', σ.ns h' ≤ (s' : Fin 14).val → 2 + st6 s < 2 + st6 s')
    (hA : iprop(recvPay a0 c h s ∗ bigSep Finset.univ (FL a0 c σ) ∗ bigSep Finset.univ (FP c σ) ∗ bigSep Finset.univ (FA a0 c σ))
      ⊢ iprop(bigSep Finset.univ (FL a0 c σ') ∗ bigSep Finset.univ (FP c σ') ∗ bigSep Finset.univ (FA a0 c σ')))
    {Q : α → sProp 𝕄} (H : CS a0 K c σ' ⊢ W c (k ⟨⟩) Q) :
    CS a0 K c σ ⊢ W c (Prog.lift (.waitDma2 (recvS h s) m₁ m₂ h1 h2) >>= k) Q := by
  subst e
  show _ ⊢ wp frame (wpE (defs₀ (F := F)) 𝒱₀ c none) Set.univ (.op _ k) Q
  unfold CS
  iintro ⟨#Hc, ⟨%Wt, HO⟩, HS, HR, HL, HP, HA⟩
  ihave HR' := (upd (h, s) (FR_out h s hb) (FR_done (σ := σ.r h) h s (up_lt_self hb)) (FR_r h s hb)) $$ HR
  icases HR' with ⟨⟨Hat, Hcr⟩, HRk⟩
  iapply (Rounds.wp_wait_rest_token (Val := Elt F) (defs := defs₀ (F := F)) 𝒱₀ ER (Rd a0) (c : Thread nD τ) none (κ := K (recvC c h s))
      (wpE_waitDma2_eq (src := m₁) (dst := m₂) 𝒱₀ (c : Thread nD τ) none Set.univ) (Set.mem_univ _) () (O := owed c σ.ns) (W := Wt) (R := 0) (m := 0) (T := ∅) (k := k)
      ((Nat.zero_add _).trans (hN.trans (expect_recv a0 c h s).symm))) $$ [Hcr HO Hat]
  · isplitr; · iapply (ctx_inv (recv_mem c h s)); iexact Hc
    isplitl [Hcr]; · rw [hN]; iexact Hcr
    isplitl [HO]; · iexact HO
    isplitr; · iapply (mayWait (2 + st6 s) (by rw [lv_recv]) hl); iapply ctx_lev; iexact Hc
    iexact Hat
  iintro ⟨HO, Hat, -, Hpay⟩
  ihave Hp := (Entails.of_eq (rest_recv a0 c h s)) $$ Hpay
  iapply H
  unfold CS
  ihave Hn := hA $$ [Hp HL HP HA]
  · isplitl [Hp]; · iexact Hp
    isplitl [HL]; · iexact HL
    isplitl [HP]; · iexact HP
    iexact HA
  isplitr; · iexact Hc
  isplitl [HO]; · iexists _; iexact HO
  isplitl [HS]; · iexact HS
  isplitl [HRk Hat]
  · iapply HRk; iexact Hat
  iexact Hn

/-- A reducing copy hands nothing back. -/
theorem sent_rs {h : Fin 2} {s : Fin 7} {σ σ' : St} (hA : ∀ c p, pst c σ' p = pst c σ p) :
    iprop(sendPay a0 c h (up s) ∗ bigSep Finset.univ (FA a0 c σ)) ⊢ bigSep Finset.univ (FA a0 c σ') := by
  rw [sendPay_rs, FA_same hA]
  iintro ⟨-, H⟩
  iexact H

/-- A gathering copy hands its chunk back. -/
theorem sent_ag {h : Fin 2} {s : Fin 14} {σ σ' : St} (hs : 7 ≤ s.val) (hp : ∀ c, pst c σ (h, snd c h s) = 4)
    (hc : chg σ σ' (fun c => (h, snd c h s)) 3) :
    iprop(sendPay a0 c h s ∗ bigSep Finset.univ (FA a0 c σ)) ⊢ bigSep Finset.univ (FA a0 c σ') := by
  rw [sendPay_ag _ _ _ hs]
  iintro ⟨Hp, HA⟩
  ihave HA' := (upd (h, snd c h s) (Φ := FA a0 c σ) (Ψ := FA a0 c σ') (X := iprop(emp)) (Y := piece c (snd c h s) h (total a0))
    (by unfold FA; rw [hp c, hold_none]) ((FA_at (q := fun c => (h, snd c h s)) hc).trans (hold_tot _ _))
    (FA_ne (q := fun c => (h, snd c h s)) hc)) $$ HA
  icases HA' with ⟨-, HAk⟩
  iapply HAk; iexact Hp

/-- A reducing copy brings a landed chunk, and the place it came from. -/
theorem got_rs {h : Fin 2} {s : Fin 7} {σ σ' : St} (e : σ' = σ.r h) (hn : σ.nr h = s.val) (hs : σ.ns h ≤ 7) (hA : ∀ c p, pst c σ' p = pst c σ p) :
    iprop(recvPay a0 c h (up s) ∗ bigSep Finset.univ (FL a0 c σ) ∗ bigSep Finset.univ (FP c σ) ∗ bigSep Finset.univ (FA a0 c σ))
      ⊢ iprop(bigSep Finset.univ (FL a0 c σ') ∗ bigSep Finset.univ (FP c σ') ∗ bigSep Finset.univ (FA a0 c σ')) := by
  rw [recvPay_rs, FA_same hA]; subst e
  iintro ⟨⟨Hs, Hd⟩, HL, HP, HA⟩
  ihave HL' := (upd (h, s) (Φ := FL a0 c σ) (Ψ := FL a0 c (σ.r h)) (X := iprop(emp)) (Y := slotH a0 c h s)
    (by unfold FL; dsimp only; rw [if_neg (by omega)]) (by unfold FL; dsimp only; exact if_pos (up_lt_self hn)) (FL_r h s hn)) $$ HL
  icases HL' with ⟨-, HLk⟩
  ihave HP' := (upd (h, s) (Φ := FP c σ) (Ψ := FP c (σ.r h)) (X := iprop(emp)) (Y := iprop(∃ f, piece (par c h (up s)) (rch c h (up s)) h f))
    (by unfold FP; dsimp only; rw [if_neg (by omega)])
    (by unfold FP; dsimp only; exact if_pos ⟨up_lt_self hn, le_trans hs (amir_ge s)⟩) (FP_r h s hn)) $$ HP
  icases HP' with ⟨-, HPk⟩
  isplitl [HLk Hs]; · iapply HLk; iexact Hs
  isplitl [HPk Hd]; · iapply HPk; iexact Hd
  iexact HA

/-- A gathering copy brings a chunk of the whole sum. -/
theorem got_ag {h : Fin 2} {s : Fin 14} {σ σ' : St} (e : σ' = σ.r h) (hs : 7 ≤ s.val) (hn : σ.nr h = s.val)
    (hp : ∀ c, pst c σ (h, rch c h s) = 4) (hc : chg σ σ' (fun c => (h, rch c h s)) 3) :
    iprop(recvPay a0 c h s ∗ bigSep Finset.univ (FL a0 c σ) ∗ bigSep Finset.univ (FP c σ) ∗ bigSep Finset.univ (FA a0 c σ))
      ⊢ iprop(bigSep Finset.univ (FL a0 c σ') ∗ bigSep Finset.univ (FP c σ') ∗ bigSep Finset.univ (FA a0 c σ')) := by
  rw [recvPay_ag _ _ _ hs]; subst e
  rw [FL_r7 h (by omega), FP_r7 h (by omega)]
  iintro ⟨Hp, HL, HP, HA⟩
  ihave HA' := (upd (h, rch c h s) (Φ := FA a0 c σ) (Ψ := FA a0 c (σ.r h)) (X := iprop(emp)) (Y := piece c (rch c h s) h (total a0))
    (by unfold FA; rw [hp c, hold_none]) ((FA_at (q := fun c => (h, rch c h s)) hc).trans (hold_tot _ _))
    (FA_ne (q := fun c => (h, rch c h s)) hc)) $$ HA
  icases HA' with ⟨-, HAk⟩
  isplitl [HL]; · iexact HL
  isplitl [HP]; · iexact HP
  iapply HAk; iexact Hp

end Cert.KernelIdeal.Flow

end
-- ==== Proof.Chunk.lean ====
/-
  Adding a landed chunk: the chunk is read, the landed chunk is read, and their sum is stored over the chunk.
-/
module

public import proofs.«01_k».proof.Proof.Steps

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD} {σ : St} {α : Type}

/-- A load that reads within a part of a buffer that the assertion owns. -/
theorem loadS_of {cs : CoreSpace} {s : Shape} {e : EltTy} {m : Memref sig .tc cs s e} {r : Rect s} {hl : m.view.LoadsAt r}
    {k : (r.shape.Idx → Elt F e) → Prog (TpuEff nD τ sig (Elt F) Λ₀ .tc) α} {P : sProp 𝕄} {Q : α → sProp 𝕄}
    {S : Finset (Idx ((m.access r).loc (c : Thread nD τ)))} {f : Buf (Elt F) ((m.access r).loc (c : Thread nD τ))} (hS : (m.access r).set ⊆ S)
    (A : P ⊢ iprop(((m.access r).loc (c : Thread nD τ) ↦[S]{fullShare} f) ∗ (((m.access r).loc (c : Thread nD τ) ↦[S]{fullShare} f) -∗ P)))
    (H : P ⊢ W c (k ((m.access r).read (Elt F) f)) Q) :
    P ⊢ W c (Prog.lift (.load m r hl) >>= k) Q := by
  refine A.trans ?_
  show _ ⊢ wp frame (wpE (defs₀ (F := F)) 𝒱₀ c none) Set.univ (.op (.load m r hl) k) Q
  iintro ⟨Hf, Hk⟩
  iapply (wp_load_rect (Val := Elt F) (defs := defs₀ (F := F)) 𝒱₀ (c : Thread nD τ) none Set.univ (m := m) (r := r) (hl := hl) (k := k) (S := S) (f := f) (q := fullShare) hS) $$ [Hf]
  · iexact Hf
  · iintro Hf
    iapply H
    iapply Hk $$ Hf

/-- A store within a part of a buffer that the assertion owns. -/
theorem storeS_of {cs : CoreSpace} {s : Shape} {e : EltTy} {m : Memref sig .tc cs s e} {r : Rect s}
    {w : r.shape.Idx → Elt F e} {hx : (m.access r).Stores Finset.univ} {hm : (Finset.univ : Finset r.shape.Idx) = Finset.univ ∨ ∀ a, r.stride a = 1}
    {k : PUnit → Prog (TpuEff nD τ sig (Elt F) Λ₀ .tc) α} {P P' : sProp 𝕄} {Q : α → sProp 𝕄}
    {f f' : Buf (Elt F) ((m.access r).loc (c : Thread nD τ))}
    (A : P ⊢ iprop(((m.access r).loc (c : Thread nD τ) ↦[(m.access r).set]{fullShare} f) ∗ (((m.access r).loc (c : Thread nD τ) ↦[(m.access r).set]{fullShare} f') -∗ P')))
    (hw : ∀ j, w j = cast (congrArg (Elt F) (m.access r).elt_eq) (f' ((m.access r).emb j)))
    (H : P' ⊢ W c (k ⟨⟩) Q) :
    P ⊢ W c (Prog.lift (.store m r w Finset.univ hx hm) >>= k) Q := by
  refine A.trans ?_
  show _ ⊢ wp frame (wpE (defs₀ (F := F)) 𝒱₀ c none) Set.univ (.op (.store m r w Finset.univ hx hm) k) Q
  iintro ⟨Hf, Hk⟩
  iapply (wp_store (Val := Elt F) (defs := defs₀ (F := F)) 𝒱₀ (c : Thread nD τ) none Set.univ (m := m) (r := r) (w := w) (Mk := Finset.univ) (hx := hx) (hm := hm) (k := k) (S := (m.access r).set)
    (f := f) (subset_refl _)) $$ [Hf]
  · iexact Hf
  · iintro Hf
    iapply H
    iapply Hk
    iapply (Entails.of_eq (pointsTo_congr (g := f') (fun i hi => ?_))) $$ Hf
    obtain ⟨j, -, rfl⟩ := Finset.mem_map.mp hi
    rw [View.write_emb_of_mem (Val := Elt F) _ _ (Finset.mem_univ j), hw]
    simp

/-- Reading a chunk that the device holds after `j` sums. -/
theorem load_chunk (h : Fin 2) (s : Fin 7) {off : Fin 2 → ℕ} {inb} {hl}
    {k : ((Rect.unit (s := S2048x1024) off S256x512.size inb).shape.Idx → Elt F .bf16) → Prog (TpuEff nD τ sig (Elt F) Λ₀ .tc) α}
    (hoff : off = poff (rch c h (up s)) h) (hp : ∀ c, pst c σ (h, rch c h (up s)) = stg (up s))
    {Q : α → sProp 𝕄} (H : CS a0 K c σ ⊢ W c (k (rdP a0 (stg (up s)) c (rch c h (up s)) h)) Q) :
    CS a0 K c σ ⊢ W c (Prog.lift (.load (Memref.whole cc0_scratch2) (Rect.unit (s := S2048x1024) off S256x512.size inb) hl) >>= k) Q := by
  subst hoff
  refine loadS_of (m := Memref.whole cc0_scratch2) (r := pcR (rch c h (up s)) h) (f := sums a0 (stg (up s)) c) (subset_refl _) ?_ H
  · unfold CS
    iintro ⟨#Hc, HO, HS, HR, HL, HP, HA⟩
    ihave HA' := (upd (h, rch c h (up s)) (Φ := FA a0 c σ) (Ψ := FA a0 c σ) (X := piece c (rch c h (up s)) h (sums a0 (stg (up s)) c)) (Y := piece c (rch c h (up s)) h (sums a0 (stg (up s)) c))
      (by unfold FA; rw [hp c, hold_sum _ _ _ (stg_le s)]) (by unfold FA; rw [hp c, hold_sum _ _ _ (stg_le s)]) (fun _ _ => rfl)) $$ HA
    icases HA' with ⟨HX, HAk⟩
    isplitl [HX]; · iexact HX
    iintro HX
    isplitr; · iexact Hc
    isplitl [HO]; · iexact HO
    isplitl [HS]; · iexact HS
    isplitl [HR]; · iexact HR
    isplitl [HL]; · iexact HL
    isplitl [HP]; · iexact HP
    iapply HAk; iexact HX

/-- Reading a landed chunk: it is the neighbour's. -/
theorem load_slot (h : Fin 2) (s : Fin 7) {hl}
    {k : ((slR s).shape.Idx → Elt F .bf16) → Prog (TpuEff nD τ sig (Elt F) Λ₀ .tc) α}
    (hn : s.val < σ.nr h)
    {Q : α → sProp 𝕄} (H : ∀ v : S1x256x512.Idx → Elt F .bf16, shapeCast S256x512 v shapeCasts_S1x256x512_S256x512 = rdP a0 (stg (up s)) (par c h (up s)) (rch c h (up s)) h
      → (CS a0 K c σ ⊢ W c (k v) Q)) :
    CS a0 K c σ ⊢ W c (Prog.lift (.load (rsbM h) (slR s) hl) >>= k) Q := by
  have key : ∀ f : Buf (Elt F) ((slM h s).view.loc (c : Thread nD τ)), (slM h s).view.read (Elt F) f = (pcM (rch c h (up s)) h).view.read (Elt F) (sums a0 (stg (up s)) (par c h (up s)))
      → iprop(slot c h s f ∗ (slot c h s f -∗ CS a0 K c σ)) ⊢ W c (Prog.lift (.load (rsbM h) (slR s) hl) >>= k) Q := fun f hf => by
    refine loadS_of (P := iprop(slot c h s f ∗ (slot c h s f -∗ CS a0 K c σ))) (m := rsbM h) (r := slR s) (S := (slM h s).view.set) (f := f)
      (by rw [View.set_reshape]) ?_ ?_
    · iintro ⟨HX, Hk⟩
      isplitl [HX]; · iexact HX
      iintro HX
      isplitl [HX]; · iexact HX
      iexact Hk
    · iintro ⟨HX, Hk⟩
      iapply (H (((rsbM h).access (slR s)).read (Elt F) f) hf)
      iapply Hk $$ HX
  iintro HC
  ihave HC' := (show CS a0 K c σ ⊢ iprop(slotH a0 c h s ∗ (slotH a0 c h s -∗ CS a0 K c σ)) from ?_) $$ HC
  · unfold CS
    iintro ⟨#Hc, HO, HS, HR, HL, HP, HA⟩
    ihave HL' := (upd (h, s) (Φ := FL a0 c σ) (Ψ := FL a0 c σ) (X := slotH a0 c h s) (Y := slotH a0 c h s)
      (if_pos hn) (if_pos hn) (fun _ _ => rfl)) $$ HL
    icases HL' with ⟨HX, HLk⟩
    isplitl [HX]; · iexact HX
    iintro HX
    isplitr; · iexact Hc
    isplitl [HO]; · iexact HO
    isplitl [HS]; · iexact HS
    isplitl [HR]; · iexact HR
    isplitl [HLk HX]; · iapply HLk; iexact HX
    isplitl [HP]; · iexact HP
    iexact HA
  icases HC' with ⟨HX, Hk⟩
  unfold slotH
  icases HX with ⟨%f, %hf, HX⟩
  iapply (key f hf)
  isplitl [HX]; · iexact HX
  iintro HX
  iapply Hk
  iexists f
  isplitr
  · ipureintro; exact hf
  · iexact HX

/-- Storing the sum over the chunk: the chunk has one sum more. -/
theorem store_chunk (h : Fin 2) (s : Fin 7) (σ σ' : St) {off : Fin 2 → ℕ} {inb} {w : (Rect.unit (s := S2048x1024) off S256x512.size inb).shape.Idx → Elt F .bf16} {hx} {hm}
    {k : PUnit → Prog (TpuEff nD τ sig (Elt F) Λ₀ .tc) α}
    (hoff : off = poff (rch c h (up s)) h) (hp : ∀ c, pst c σ (h, rch c h (up s)) = stg (up s))
    (hw : w = fun i => FloatOps.addf (φ := .bf16) (rdP a0 (stg (up s)) c (rch c h (up s)) h i) (rdP a0 (stg (up s)) (par c h (up s)) (rch c h (up s)) h i))
    (e : σ' = σ.a h) (hc : chg σ σ' (fun c => (h, rch c h (up s))) (stg (up s) + 1))
    (hd : stg (up s) = 2 → ∀ c, devOf (rch c h (up s)) = c)
    {Q : α → sProp 𝕄} (H : CS a0 K c σ' ⊢ W c (k ⟨⟩) Q) :
    CS a0 K c σ ⊢ W c (Prog.lift (.store (Memref.whole cc0_scratch2) (Rect.unit (s := S2048x1024) off S256x512.size inb) w Finset.univ hx hm) >>= k) Q := by
  subst hoff; subst e
  refine storeS_of (m := Memref.whole cc0_scratch2) (r := pcR (rch c h (up s)) h) (f := sums a0 (stg (up s)) c) (f' := sums a0 (stg (up s) + 1) c) ?_
    (fun j => by subst hw; exact (rdP_succ c h s _ j).symm) H
  · unfold CS
    iintro ⟨#Hc, HO, HS, HR, HL, HP, HA⟩
    ihave HA' := (upd (h, rch c h (up s)) (Φ := FA a0 c σ) (Ψ := FA a0 c (σ.a h)) (X := piece c (rch c h (up s)) h (sums a0 (stg (up s)) c)) (Y := piece c (rch c h (up s)) h (sums a0 (stg (up s) + 1) c))
      (by unfold FA; rw [hp c, hold_sum _ _ _ (stg_le s)])
      ((FA_at (q := fun c => (h, rch c h (up s))) hc).trans (by
        by_cases h2 : stg (up s) = 2
        · rw [h2, hold_tot]
          refine (pointsTo_congr fun i hi => ?_).symm
          obtain ⟨j, -, rfl⟩ := Finset.mem_map.mp hi
          exact sums_total _ h (hd h2 c) j
        · have := stg_le s
          rw [hold_sum _ _ _ (by omega)]))
      (FA_ne (q := fun c => (h, rch c h (up s))) hc)) $$ HA
    icases HA' with ⟨HX, HAk⟩
    isplitl [HX]; · iexact HX
    iintro HX
    isplitr; · iexact Hc
    isplitl [HO]; · iexact HO
    isplitl [HS]; · iexact HS
    isplitl [HR]; · iexact HR
    isplitl [HL]; · iexact HL
    isplitl [HP]; · iexact HP
    iapply HAk; iexact HX

end Cert.KernelIdeal.Flow

end
-- ==== Proof.PartsE.lean ====
/-
  The exchange, parts 49 to 56 of the body: the first reducing copies, and most of their sums.
-/
module

public import proofs.«01_k».proof.Proof.Chunk

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD}

/-- A stored sum, without the reshapes that change nothing. -/
theorem sum_eq {x y v : FVec F S256x512 .bf16} (hv : v = y) :
    shapeCast S256x512 (addf x v) shapeCasts_S256x512_S256x512 = fun i => FloatOps.addf (φ := .bf16) (x i) (y i) := by
  subst hv
  exact funext fun i => congrArg (addf x v) (Shape.reshapeEquiv_self _ i)

/-- Part 49 of the body: the counts before and after it. -/
theorem part49_run (v54 : BitVec 32) (v1597 : BitVec 32) (v1602 : BitVec 32) (v1607 : BitVec 32) {Q : PUnit → sProp 𝕄} (H : CS a0 K c ⟨![3, 0], ![0, 0], ![0, 0], ![0, 0]⟩ ⊢ Q ⟨⟩) :
    CS a0 K c ⟨![0, 0], ![0, 0], ![0, 0], ![0, 0]⟩ ⊢ W c (k0_part49 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v1597 v1602 v1607) Q := by
  rw [k0_part49_eq_skeleton]; unfold k0_part49_skel
  refine rs_send 0 0 ⟨![0, 0], ![0, 0], ![0, 0], ![0, 0]⟩ ⟨![1, 0], ![0, 0], ![0, 0], ![0, 0]⟩ (dev4_eq c) (off_snd0_0 c) rfl (by decide +kernel) (St.eq_of (by decide +kernel)) (by decide +kernel) (by decide +kernel) ?_
  refine rs_send 0 1 ⟨![1, 0], ![0, 0], ![0, 0], ![0, 0]⟩ ⟨![2, 0], ![0, 0], ![0, 0], ![0, 0]⟩ (dev5_eq c) (off_snd0_1 c) rfl (by decide +kernel) (St.eq_of (by decide +kernel)) (by decide +kernel) (by decide +kernel) ?_
  refine rs_send 0 2 ⟨![2, 0], ![0, 0], ![0, 0], ![0, 0]⟩ ⟨![3, 0], ![0, 0], ![0, 0], ![0, 0]⟩ (dev6_eq c) (off_snd0_2 c) rfl (by decide +kernel) (St.eq_of (by decide +kernel)) (by decide +kernel) (by decide +kernel) ?_
  exact ret_of H

/-- Part 50 of the body: the counts before and after it. -/
theorem part50_run (v60 : BitVec 32) (v1632 : BitVec 32) (v1639 : BitVec 32) (v1646 : BitVec 32) {Q : PUnit → sProp 𝕄} (H : CS a0 K c ⟨![4, 2], ![0, 0], ![0, 0], ![0, 0]⟩ ⊢ Q ⟨⟩) :
    CS a0 K c ⟨![3, 0], ![0, 0], ![0, 0], ![0, 0]⟩ ⊢ W c (k0_part50 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60 v1632 v1639 v1646) Q := by
  rw [k0_part50_eq_skeleton]; unfold k0_part50_skel
  refine rs_send 0 3 ⟨![3, 0], ![0, 0], ![0, 0], ![0, 0]⟩ ⟨![4, 0], ![0, 0], ![0, 0], ![0, 0]⟩ (dev7_eq c) (off_snd0_3 c) rfl (by decide +kernel) (St.eq_of (by decide +kernel)) (by decide +kernel) (by decide +kernel) ?_
  refine rs_send 1 0 ⟨![4, 0], ![0, 0], ![0, 0], ![0, 0]⟩ ⟨![4, 1], ![0, 0], ![0, 0], ![0, 0]⟩ (dev8_eq c) (off_snd1_0 c) rfl (by decide +kernel) (St.eq_of (by decide +kernel)) (by decide +kernel) (by decide +kernel) ?_
  refine rs_send 1 1 ⟨![4, 1], ![0, 0], ![0, 0], ![0, 0]⟩ ⟨![4, 2], ![0, 0], ![0, 0], ![0, 0]⟩ (dev9_eq c) (off_snd1_1 c) rfl (by decide +kernel) (St.eq_of (by decide +kernel)) (by decide +kernel) (by decide +kernel) ?_
  exact ret_of H

/-- Part 51 of the body: the counts before and after it. -/
theorem part51_run (v54 : BitVec 32) (v60 : BitVec 32) (v1653 : BitVec 32) {Q : PUnit → sProp 𝕄} (H : CS a0 K c ⟨![4, 4], ![1, 0], ![1, 0], ![0, 0]⟩ ⊢ Q ⟨⟩) :
    CS a0 K c ⟨![4, 2], ![0, 0], ![0, 0], ![0, 0]⟩ ⊢ W c (k0_part51 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v60 v1653) Q := by
  rw [k0_part51_eq_skeleton]; unfold k0_part51_skel
  refine rs_send 1 2 ⟨![4, 2], ![0, 0], ![0, 0], ![0, 0]⟩ ⟨![4, 3], ![0, 0], ![0, 0], ![0, 0]⟩ (dev10_eq c) (off_snd1_2 c) rfl (by decide +kernel) (St.eq_of (by decide +kernel)) (by decide +kernel) (by decide +kernel) ?_
  refine rs_send 1 3 ⟨![4, 3], ![0, 0], ![0, 0], ![0, 0]⟩ ⟨![4, 4], ![0, 0], ![0, 0], ![0, 0]⟩ (dev11_eq c) (off_snd1_3 c) rfl (by decide +kernel) (St.eq_of (by decide +kernel)) (by decide +kernel) (by decide +kernel) ?_
  refine wait_send 0 0 ⟨![4, 4], ![0, 0], ![0, 0], ![0, 0]⟩ ⟨![4, 4], ![1, 0], ![0, 0], ![0, 0]⟩ (by rfl) (by decide +kernel) rfl (St.eq_of (by decide +kernel)) (sent_rs (s := 0) (by decide +kernel)) ?_
  refine wait_recv 0 0 ⟨![4, 4], ![1, 0], ![0, 0], ![0, 0]⟩ ⟨![4, 4], ![1, 0], ![1, 0], ![0, 0]⟩ (by rfl) rfl (St.eq_of (by decide +kernel)) (by decide +kernel) (got_rs (s := 0) (St.eq_of (by decide +kernel)) rfl (by decide +kernel) (by decide +kernel)) ?_
  exact ret_of H

/-- Part 52 of the body: the counts before and after it. -/
theorem part52_run (v54 : BitVec 32) {Q : PUnit → sProp 𝕄} (H : CS a0 K c ⟨![4, 4], ![3, 0], ![3, 0], ![0, 0]⟩ ⊢ Q ⟨⟩) :
    CS a0 K c ⟨![4, 4], ![1, 0], ![1, 0], ![0, 0]⟩ ⊢ W c (k0_part52 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54) Q := by
  rw [k0_part52_eq_skeleton]; unfold k0_part52_skel
  refine wait_send 0 1 ⟨![4, 4], ![1, 0], ![1, 0], ![0, 0]⟩ ⟨![4, 4], ![2, 0], ![1, 0], ![0, 0]⟩ (by rfl) (by decide +kernel) rfl (St.eq_of (by decide +kernel)) (sent_rs (s := 1) (by decide +kernel)) ?_
  refine wait_recv 0 1 ⟨![4, 4], ![2, 0], ![1, 0], ![0, 0]⟩ ⟨![4, 4], ![2, 0], ![2, 0], ![0, 0]⟩ (by rfl) rfl (St.eq_of (by decide +kernel)) (by decide +kernel) (got_rs (s := 1) (St.eq_of (by decide +kernel)) rfl (by decide +kernel) (by decide +kernel)) ?_
  refine wait_send 0 2 ⟨![4, 4], ![2, 0], ![2, 0], ![0, 0]⟩ ⟨![4, 4], ![3, 0], ![2, 0], ![0, 0]⟩ (by rfl) (by decide +kernel) rfl (St.eq_of (by decide +kernel)) (sent_rs (s := 2) (by decide +kernel)) ?_
  refine wait_recv 0 2 ⟨![4, 4], ![3, 0], ![2, 0], ![0, 0]⟩ ⟨![4, 4], ![3, 0], ![3, 0], ![0, 0]⟩ (by rfl) rfl (St.eq_of (by decide +kernel)) (by decide +kernel) (got_rs (s := 2) (St.eq_of (by decide +kernel)) rfl (by decide +kernel) (by decide +kernel)) ?_
  exact ret_of H

/-- Part 53 of the body: the counts before and after it. -/
theorem part53_run (v54 : BitVec 32) (v60 : BitVec 32) {Q : PUnit → sProp 𝕄} (H : CS a0 K c ⟨![4, 4], ![4, 1], ![4, 1], ![0, 0]⟩ ⊢ Q ⟨⟩) :
    CS a0 K c ⟨![4, 4], ![3, 0], ![3, 0], ![0, 0]⟩ ⊢ W c (k0_part53 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v60) Q := by
  rw [k0_part53_eq_skeleton]; unfold k0_part53_skel
  refine wait_send 0 3 ⟨![4, 4], ![3, 0], ![3, 0], ![0, 0]⟩ ⟨![4, 4], ![4, 0], ![3, 0], ![0, 0]⟩ (by rfl) (by decide +kernel) rfl (St.eq_of (by decide +kernel)) (sent_rs (s := 3) (by decide +kernel)) ?_
  refine wait_recv 0 3 ⟨![4, 4], ![4, 0], ![3, 0], ![0, 0]⟩ ⟨![4, 4], ![4, 0], ![4, 0], ![0, 0]⟩ (by rfl) rfl (St.eq_of (by decide +kernel)) (by decide +kernel) (got_rs (s := 3) (St.eq_of (by decide +kernel)) rfl (by decide +kernel) (by decide +kernel)) ?_
  refine wait_send 1 0 ⟨![4, 4], ![4, 0], ![4, 0], ![0, 0]⟩ ⟨![4, 4], ![4, 1], ![4, 0], ![0, 0]⟩ (by rfl) (by decide +kernel) rfl (St.eq_of (by decide +kernel)) (sent_rs (s := 0) (by decide +kernel)) ?_
  refine wait_recv 1 0 ⟨![4, 4], ![4, 1], ![4, 0], ![0, 0]⟩ ⟨![4, 4], ![4, 1], ![4, 1], ![0, 0]⟩ (by rfl) rfl (St.eq_of (by decide +kernel)) (by decide +kernel) (got_rs (s := 0) (St.eq_of (by decide +kernel)) rfl (by decide +kernel) (by decide +kernel)) ?_
  exact ret_of H

/-- Part 54 of the body: the counts before and after it. -/
theorem part54_run (v60 : BitVec 32) {Q : PUnit → sProp 𝕄} (H : CS a0 K c ⟨![4, 4], ![4, 3], ![4, 3], ![0, 0]⟩ ⊢ Q ⟨⟩) :
    CS a0 K c ⟨![4, 4], ![4, 1], ![4, 1], ![0, 0]⟩ ⊢ W c (k0_part54 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60) Q := by
  rw [k0_part54_eq_skeleton]; unfold k0_part54_skel
  refine wait_send 1 1 ⟨![4, 4], ![4, 1], ![4, 1], ![0, 0]⟩ ⟨![4, 4], ![4, 2], ![4, 1], ![0, 0]⟩ (by rfl) (by decide +kernel) rfl (St.eq_of (by decide +kernel)) (sent_rs (s := 1) (by decide +kernel)) ?_
  refine wait_recv 1 1 ⟨![4, 4], ![4, 2], ![4, 1], ![0, 0]⟩ ⟨![4, 4], ![4, 2], ![4, 2], ![0, 0]⟩ (by rfl) rfl (St.eq_of (by decide +kernel)) (by decide +kernel) (got_rs (s := 1) (St.eq_of (by decide +kernel)) rfl (by decide +kernel) (by decide +kernel)) ?_
  refine wait_send 1 2 ⟨![4, 4], ![4, 2], ![4, 2], ![0, 0]⟩ ⟨![4, 4], ![4, 3], ![4, 2], ![0, 0]⟩ (by rfl) (by decide +kernel) rfl (St.eq_of (by decide +kernel)) (sent_rs (s := 2) (by decide +kernel)) ?_
  refine wait_recv 1 2 ⟨![4, 4], ![4, 3], ![4, 2], ![0, 0]⟩ ⟨![4, 4], ![4, 3], ![4, 3], ![0, 0]⟩ (by rfl) rfl (St.eq_of (by decide +kernel)) (by decide +kernel) (got_rs (s := 2) (St.eq_of (by decide +kernel)) rfl (by decide +kernel) (by decide +kernel)) ?_
  exact ret_of H

/-- Part 55 of the body: the counts before and after it. -/
theorem part55_run (v60 : BitVec 32) (v1594 : BitVec 32) (v1599 : BitVec 32) (v1604 : BitVec 32) {Q : (Σ' (v1910 : BitVec 32), Vec F S256x512 .bf16) → sProp 𝕄} (H : ∀ w, CS a0 K c ⟨![4, 4], ![4, 4], ![4, 4], ![2, 0]⟩ ⊢ Q ⟨w, (rdP a0 (stg (up 2)) c (rch c 0 (up 2)) 0)⟩) :
    CS a0 K c ⟨![4, 4], ![4, 3], ![4, 3], ![0, 0]⟩ ⊢ W c (k0_part55 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60 v1594 v1599 v1604) Q := by
  rw [k0_part55_eq_skeleton]; unfold k0_part55_skel
  refine wait_send 1 3 ⟨![4, 4], ![4, 3], ![4, 3], ![0, 0]⟩ ⟨![4, 4], ![4, 4], ![4, 3], ![0, 0]⟩ (by rfl) (by decide +kernel) rfl (St.eq_of (by decide +kernel)) (sent_rs (s := 3) (by decide +kernel)) ?_
  refine wait_recv 1 3 ⟨![4, 4], ![4, 4], ![4, 3], ![0, 0]⟩ ⟨![4, 4], ![4, 4], ![4, 4], ![0, 0]⟩ (by rfl) rfl (St.eq_of (by decide +kernel)) (by decide +kernel) (got_rs (s := 3) (St.eq_of (by decide +kernel)) rfl (by decide +kernel) (by decide +kernel)) ?_
  refine load_chunk 0 0 (off_rch0_0 c) (by decide +kernel) ?_
  refine load_slot 0 0 (by decide +kernel) fun v1893 hv1893 => ?_
  refine load_chunk 0 0 (off_rch0_0 c) (by decide +kernel) ?_
  refine store_chunk 0 0 ⟨![4, 4], ![4, 4], ![4, 4], ![0, 0]⟩ ⟨![4, 4], ![4, 4], ![4, 4], ![1, 0]⟩ (off_rch0_0 c) (by decide +kernel) (sum_eq hv1893) (St.eq_of (by decide +kernel)) (by decide +kernel) (by decide +kernel) ?_
  refine load_chunk 0 1 (off_rch0_1 c) (by decide +kernel) ?_
  refine load_slot 0 1 (by decide +kernel) fun v1903 hv1903 => ?_
  refine load_chunk 0 1 (off_rch0_1 c) (by decide +kernel) ?_
  refine store_chunk 0 1 ⟨![4, 4], ![4, 4], ![4, 4], ![1, 0]⟩ ⟨![4, 4], ![4, 4], ![4, 4], ![2, 0]⟩ (off_rch0_1 c) (by decide +kernel) (sum_eq hv1903) (St.eq_of (by decide +kernel)) (by decide +kernel) (by decide +kernel) ?_
  refine load_chunk 0 2 (off_rch0_2 c) (by decide +kernel) ?_
  exact ret_of (H _)

/-- Part 56 of the body: the counts before and after it. -/
theorem part56_run (v1609 : BitVec 32) (v1635 : BitVec 32) (v1642 : BitVec 32) (v1910 : BitVec 32) {Q : PUnit → sProp 𝕄} (H : CS a0 K c ⟨![4, 4], ![4, 4], ![4, 4], ![4, 2]⟩ ⊢ Q ⟨⟩) :
    CS a0 K c ⟨![4, 4], ![4, 4], ![4, 4], ![2, 0]⟩ ⊢ W c (k0_part56 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v1609 v1635 v1642 v1910 (rdP a0 (stg (up 2)) c (rch c 0 (up 2)) 0)) Q := by
  rw [k0_part56_eq_skeleton]; unfold k0_part56_skel
  refine load_slot 0 2 (by decide +kernel) fun v1913 hv1913 => ?_
  refine load_chunk 0 2 (off_rch0_2 c) (by decide +kernel) ?_
  refine store_chunk 0 2 ⟨![4, 4], ![4, 4], ![4, 4], ![2, 0]⟩ ⟨![4, 4], ![4, 4], ![4, 4], ![3, 0]⟩ (off_rch0_2 c) (by decide +kernel) (sum_eq hv1913) (St.eq_of (by decide +kernel)) (by decide +kernel) (by decide +kernel) ?_
  refine load_chunk 0 3 (off_rch0_3 c) (by decide +kernel) ?_
  refine load_slot 0 3 (by decide +kernel) fun v1923 hv1923 => ?_
  refine load_chunk 0 3 (off_rch0_3 c) (by decide +kernel) ?_
  refine store_chunk 0 3 ⟨![4, 4], ![4, 4], ![4, 4], ![3, 0]⟩ ⟨![4, 4], ![4, 4], ![4, 4], ![4, 0]⟩ (off_rch0_3 c) (by decide +kernel) (sum_eq hv1923) (St.eq_of (by decide +kernel)) (by decide +kernel) (by decide +kernel) ?_
  refine load_chunk 1 0 (off_rch1_0 c) (by decide +kernel) ?_
  refine load_slot 1 0 (by decide +kernel) fun v1933 hv1933 => ?_
  refine load_chunk 1 0 (off_rch1_0 c) (by decide +kernel) ?_
  refine store_chunk 1 0 ⟨![4, 4], ![4, 4], ![4, 4], ![4, 0]⟩ ⟨![4, 4], ![4, 4], ![4, 4], ![4, 1]⟩ (off_rch1_0 c) (by decide +kernel) (sum_eq hv1933) (St.eq_of (by decide +kernel)) (by decide +kernel) (by decide +kernel) ?_
  refine load_chunk 1 1 (off_rch1_1 c) (by decide +kernel) ?_
  refine load_slot 1 1 (by decide +kernel) fun v1943 hv1943 => ?_
  refine load_chunk 1 1 (off_rch1_1 c) (by decide +kernel) ?_
  refine store_chunk 1 1 ⟨![4, 4], ![4, 4], ![4, 4], ![4, 1]⟩ ⟨![4, 4], ![4, 4], ![4, 4], ![4, 2]⟩ (off_rch1_1 c) (by decide +kernel) (sum_eq hv1943) (St.eq_of (by decide +kernel)) (by decide +kernel) (by decide +kernel) ?_
  exact ret_of H

end Cert.KernelIdeal.Flow

end
-- ==== Proof.PartsF.lean ====
/-
  The exchange, parts 57 to 64 of the body: the rest of the reducing copies and of the sums.
-/
module

public import proofs.«01_k».proof.Proof.PartsE

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD}

/-- Part 57 of the body: the counts before and after it. -/
theorem part57_run (v60 : BitVec 32) (v1613 : BitVec 32) (v1620 : BitVec 32) (v1649 : BitVec 32) (v1656 : BitVec 32) {Q : BitVec 32 → sProp 𝕄} (H : ∀ w, CS a0 K c ⟨![5, 4], ![4, 4], ![4, 4], ![4, 4]⟩ ⊢ Q w) :
    CS a0 K c ⟨![4, 4], ![4, 4], ![4, 4], ![4, 2]⟩ ⊢ W c (k0_part57 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60 v1613 v1620 v1649 v1656) Q := by
  rw [k0_part57_eq_skeleton]; unfold k0_part57_skel
  refine load_chunk 1 2 (off_rch1_2 c) (by decide +kernel) ?_
  refine load_slot 1 2 (by decide +kernel) fun v1953 hv1953 => ?_
  refine load_chunk 1 2 (off_rch1_2 c) (by decide +kernel) ?_
  refine store_chunk 1 2 ⟨![4, 4], ![4, 4], ![4, 4], ![4, 2]⟩ ⟨![4, 4], ![4, 4], ![4, 4], ![4, 3]⟩ (off_rch1_2 c) (by decide +kernel) (sum_eq hv1953) (St.eq_of (by decide +kernel)) (by decide +kernel) (by decide +kernel) ?_
  refine load_chunk 1 3 (off_rch1_3 c) (by decide +kernel) ?_
  refine load_slot 1 3 (by decide +kernel) fun v1963 hv1963 => ?_
  refine load_chunk 1 3 (off_rch1_3 c) (by decide +kernel) ?_
  refine store_chunk 1 3 ⟨![4, 4], ![4, 4], ![4, 4], ![4, 3]⟩ ⟨![4, 4], ![4, 4], ![4, 4], ![4, 4]⟩ (off_rch1_3 c) (by decide +kernel) (sum_eq hv1963) (St.eq_of (by decide +kernel)) (by decide +kernel) (by decide +kernel) ?_
  refine rs_send 0 4 ⟨![4, 4], ![4, 4], ![4, 4], ![4, 4]⟩ ⟨![5, 4], ![4, 4], ![4, 4], ![4, 4]⟩ (dev12_eq c) (off_snd0_4 c) rfl (by decide +kernel) (St.eq_of (by decide +kernel)) (by decide +kernel) (by decide +kernel) ?_
  exact ret_of (H _)

/-- Part 58 of the body: the counts before and after it. -/
theorem part58_run (v60 : BitVec 32) (v66 : BitVec 32) (v1661 : BitVec 32) (v1670 : BitVec 32) (c1_i32_1314 : BitVec 32) {Q : PUnit → sProp 𝕄} (H : CS a0 K c ⟨![6, 6], ![4, 4], ![4, 4], ![4, 4]⟩ ⊢ Q ⟨⟩) :
    CS a0 K c ⟨![5, 4], ![4, 4], ![4, 4], ![4, 4]⟩ ⊢ W c (k0_part58 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60 v66 v1661 v1670 c1_i32_1314) Q := by
  rw [k0_part58_eq_skeleton]; unfold k0_part58_skel
  refine rs_send 0 5 ⟨![5, 4], ![4, 4], ![4, 4], ![4, 4]⟩ ⟨![6, 4], ![4, 4], ![4, 4], ![4, 4]⟩ (dev13_eq c) (off_snd0_5 c) rfl (by decide +kernel) (St.eq_of (by decide +kernel)) (by decide +kernel) (by decide +kernel) ?_
  refine rs_send 1 4 ⟨![6, 4], ![4, 4], ![4, 4], ![4, 4]⟩ ⟨![6, 5], ![4, 4], ![4, 4], ![4, 4]⟩ (dev14_eq c) (off_snd1_4 c) rfl (by decide +kernel) (St.eq_of (by decide +kernel)) (by decide +kernel) (by decide +kernel) ?_
  refine rs_send 1 5 ⟨![6, 5], ![4, 4], ![4, 4], ![4, 4]⟩ ⟨![6, 6], ![4, 4], ![4, 4], ![4, 4]⟩ (dev15_eq c) (off_snd1_5 c) rfl (by decide +kernel) (St.eq_of (by decide +kernel)) (by decide +kernel) (by decide +kernel) ?_
  exact ret_of H

/-- Part 59 of the body: the counts before and after it. -/
theorem part59_run (v60 : BitVec 32) {Q : PUnit → sProp 𝕄} (H : CS a0 K c ⟨![6, 6], ![6, 4], ![6, 4], ![4, 4]⟩ ⊢ Q ⟨⟩) :
    CS a0 K c ⟨![6, 6], ![4, 4], ![4, 4], ![4, 4]⟩ ⊢ W c (k0_part59 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60) Q := by
  rw [k0_part59_eq_skeleton]; unfold k0_part59_skel
  refine wait_send 0 4 ⟨![6, 6], ![4, 4], ![4, 4], ![4, 4]⟩ ⟨![6, 6], ![5, 4], ![4, 4], ![4, 4]⟩ (by rfl) (by decide +kernel) rfl (St.eq_of (by decide +kernel)) (sent_rs (s := 4) (by decide +kernel)) ?_
  refine wait_recv 0 4 ⟨![6, 6], ![5, 4], ![4, 4], ![4, 4]⟩ ⟨![6, 6], ![5, 4], ![5, 4], ![4, 4]⟩ (by rfl) rfl (St.eq_of (by decide +kernel)) (by decide +kernel) (got_rs (s := 4) (St.eq_of (by decide +kernel)) rfl (by decide +kernel) (by decide +kernel)) ?_
  refine wait_send 0 5 ⟨![6, 6], ![5, 4], ![5, 4], ![4, 4]⟩ ⟨![6, 6], ![6, 4], ![5, 4], ![4, 4]⟩ (by rfl) (by decide +kernel) rfl (St.eq_of (by decide +kernel)) (sent_rs (s := 5) (by decide +kernel)) ?_
  refine wait_recv 0 5 ⟨![6, 6], ![6, 4], ![5, 4], ![4, 4]⟩ ⟨![6, 6], ![6, 4], ![6, 4], ![4, 4]⟩ (by rfl) rfl (St.eq_of (by decide +kernel)) (by decide +kernel) (got_rs (s := 5) (St.eq_of (by decide +kernel)) rfl (by decide +kernel) (by decide +kernel)) ?_
  exact ret_of H

/-- Part 60 of the body: the counts before and after it. -/
theorem part60_run (v66 : BitVec 32) (v1616 : BitVec 32) {Q : (Σ' (v2058 : BitVec 32) (v2060 : Vec F S256x512 .bf16), FVec F S256x512 .bf16) → sProp 𝕄} (H : ∀ w, CS a0 K c ⟨![6, 6], ![6, 6], ![6, 6], ![4, 4]⟩ ⊢ Q ⟨w, (rdP a0 (stg (up 4)) c (rch c 0 (up 4)) 0), (rdP a0 (stg (up 4)) (par c 0 (up 4)) (rch c 0 (up 4)) 0)⟩) :
    CS a0 K c ⟨![6, 6], ![6, 4], ![6, 4], ![4, 4]⟩ ⊢ W c (k0_part60 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v66 v1616) Q := by
  rw [k0_part60_eq_skeleton]; unfold k0_part60_skel
  refine wait_send 1 4 ⟨![6, 6], ![6, 4], ![6, 4], ![4, 4]⟩ ⟨![6, 6], ![6, 5], ![6, 4], ![4, 4]⟩ (by rfl) (by decide +kernel) rfl (St.eq_of (by decide +kernel)) (sent_rs (s := 4) (by decide +kernel)) ?_
  refine wait_recv 1 4 ⟨![6, 6], ![6, 5], ![6, 4], ![4, 4]⟩ ⟨![6, 6], ![6, 5], ![6, 5], ![4, 4]⟩ (by rfl) rfl (St.eq_of (by decide +kernel)) (by decide +kernel) (got_rs (s := 4) (St.eq_of (by decide +kernel)) rfl (by decide +kernel) (by decide +kernel)) ?_
  refine wait_send 1 5 ⟨![6, 6], ![6, 5], ![6, 5], ![4, 4]⟩ ⟨![6, 6], ![6, 6], ![6, 5], ![4, 4]⟩ (by rfl) (by decide +kernel) rfl (St.eq_of (by decide +kernel)) (sent_rs (s := 5) (by decide +kernel)) ?_
  refine wait_recv 1 5 ⟨![6, 6], ![6, 6], ![6, 5], ![4, 4]⟩ ⟨![6, 6], ![6, 6], ![6, 6], ![4, 4]⟩ (by rfl) rfl (St.eq_of (by decide +kernel)) (by decide +kernel) (got_rs (s := 5) (St.eq_of (by decide +kernel)) rfl (by decide +kernel) (by decide +kernel)) ?_
  refine load_chunk 0 4 (off_rch0_4 c) (by decide +kernel) ?_
  refine load_slot 0 4 (by decide +kernel) fun v2061 hv2061 => ?_
  refine ret_of ?_
  rw [show k0_pay148 v2061 = (rdP a0 (stg (up 4)) (par c 0 (up 4)) (rch c 0 (up 4)) 0) from hv2061]
  exact H _

/-- Part 61 of the body: the counts before and after it. -/
theorem part61_run (v1623 : BitVec 32) (v1628 : BitVec 32) (v1665 : BitVec 32) (v1674 : BitVec 32) (v2058 : BitVec 32) {Q : PUnit → sProp 𝕄} (H : CS a0 K c ⟨![6, 6], ![6, 6], ![6, 6], ![6, 6]⟩ ⊢ Q ⟨⟩) :
    CS a0 K c ⟨![6, 6], ![6, 6], ![6, 6], ![4, 4]⟩ ⊢ W c (k0_part61 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v1623 v1628 v1665 v1674 v2058 (rdP a0 (stg (up 4)) c (rch c 0 (up 4)) 0) (rdP a0 (stg (up 4)) (par c 0 (up 4)) (rch c 0 (up 4)) 0)) Q := by
  rw [k0_part61_eq_skeleton]; unfold k0_part61_skel
  refine load_chunk 0 4 (off_rch0_4 c) (by decide +kernel) ?_
  refine store_chunk 0 4 ⟨![6, 6], ![6, 6], ![6, 6], ![4, 4]⟩ ⟨![6, 6], ![6, 6], ![6, 6], ![5, 4]⟩ (off_rch0_4 c) (by decide +kernel) (sum_eq rfl) (St.eq_of (by decide +kernel)) (by decide +kernel) (by decide +kernel) ?_
  refine load_chunk 0 5 (off_rch0_5 c) (by decide +kernel) ?_
  refine load_slot 0 5 (by decide +kernel) fun v2071 hv2071 => ?_
  refine load_chunk 0 5 (off_rch0_5 c) (by decide +kernel) ?_
  refine store_chunk 0 5 ⟨![6, 6], ![6, 6], ![6, 6], ![5, 4]⟩ ⟨![6, 6], ![6, 6], ![6, 6], ![6, 4]⟩ (off_rch0_5 c) (by decide +kernel) (sum_eq hv2071) (St.eq_of (by decide +kernel)) (by decide +kernel) (by decide +kernel) ?_
  refine load_chunk 1 4 (off_rch1_4 c) (by decide +kernel) ?_
  refine load_slot 1 4 (by decide +kernel) fun v2081 hv2081 => ?_
  refine load_chunk 1 4 (off_rch1_4 c) (by decide +kernel) ?_
  refine store_chunk 1 4 ⟨![6, 6], ![6, 6], ![6, 6], ![6, 4]⟩ ⟨![6, 6], ![6, 6], ![6, 6], ![6, 5]⟩ (off_rch1_4 c) (by decide +kernel) (sum_eq hv2081) (St.eq_of (by decide +kernel)) (by decide +kernel) (by decide +kernel) ?_
  refine load_chunk 1 5 (off_rch1_5 c) (by decide +kernel) ?_
  refine load_slot 1 5 (by decide +kernel) fun v2091 hv2091 => ?_
  refine load_chunk 1 5 (off_rch1_5 c) (by decide +kernel) ?_
  refine store_chunk 1 5 ⟨![6, 6], ![6, 6], ![6, 6], ![6, 5]⟩ ⟨![6, 6], ![6, 6], ![6, 6], ![6, 6]⟩ (off_rch1_5 c) (by decide +kernel) (sum_eq hv2091) (St.eq_of (by decide +kernel)) (by decide +kernel) (by decide +kernel) ?_
  exact ret_of H

/-- Part 62 of the body: the counts before and after it. -/
theorem part62_run (v54 : BitVec 32) (v66 : BitVec 32) (v1679 : BitVec 32) {Q : PUnit → sProp 𝕄} (H : CS a0 K c ⟨![7, 7], ![7, 6], ![6, 6], ![6, 6]⟩ ⊢ Q ⟨⟩) :
    CS a0 K c ⟨![6, 6], ![6, 6], ![6, 6], ![6, 6]⟩ ⊢ W c (k0_part62 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v66 v1679) Q := by
  rw [k0_part62_eq_skeleton]; unfold k0_part62_skel
  refine rs_send 0 6 ⟨![6, 6], ![6, 6], ![6, 6], ![6, 6]⟩ ⟨![7, 6], ![6, 6], ![6, 6], ![6, 6]⟩ (dev16_eq c) (off_snd0_6 c) rfl (by decide +kernel) (St.eq_of (by decide +kernel)) (by decide +kernel) (by decide +kernel) ?_
  refine rs_send 1 6 ⟨![7, 6], ![6, 6], ![6, 6], ![6, 6]⟩ ⟨![7, 7], ![6, 6], ![6, 6], ![6, 6]⟩ (dev17_eq c) (off_snd1_6 c) rfl (by decide +kernel) (St.eq_of (by decide +kernel)) (by decide +kernel) (by decide +kernel) ?_
  refine wait_send 0 6 ⟨![7, 7], ![6, 6], ![6, 6], ![6, 6]⟩ ⟨![7, 7], ![7, 6], ![6, 6], ![6, 6]⟩ (by rfl) (by decide +kernel) rfl (St.eq_of (by decide +kernel)) (sent_rs (s := 6) (by decide +kernel)) ?_
  exact ret_of H

/-- Part 63 of the body: the counts before and after it. -/
theorem part63_run (v54 : BitVec 32) (v70 : BitVec 32) {Q : (Σ' (v2152 : BitVec 32), Vec F S256x512 .bf16) → sProp 𝕄} (H : ∀ w, CS a0 K c ⟨![7, 7], ![7, 7], ![7, 7], ![7, 6]⟩ ⊢ Q ⟨w, (rdP a0 (stg (up 6)) c (rch c 1 (up 6)) 1)⟩) :
    CS a0 K c ⟨![7, 7], ![7, 6], ![6, 6], ![6, 6]⟩ ⊢ W c (k0_part63 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v70) Q := by
  rw [k0_part63_eq_skeleton]; unfold k0_part63_skel
  refine wait_recv 0 6 ⟨![7, 7], ![7, 6], ![6, 6], ![6, 6]⟩ ⟨![7, 7], ![7, 6], ![7, 6], ![6, 6]⟩ (by rfl) rfl (St.eq_of (by decide +kernel)) (by decide +kernel) (got_rs (s := 6) (St.eq_of (by decide +kernel)) rfl (by decide +kernel) (by decide +kernel)) ?_
  refine wait_send 1 6 ⟨![7, 7], ![7, 6], ![7, 6], ![6, 6]⟩ ⟨![7, 7], ![7, 7], ![7, 6], ![6, 6]⟩ (by rfl) (by decide +kernel) rfl (St.eq_of (by decide +kernel)) (sent_rs (s := 6) (by decide +kernel)) ?_
  refine wait_recv 1 6 ⟨![7, 7], ![7, 7], ![7, 6], ![6, 6]⟩ ⟨![7, 7], ![7, 7], ![7, 7], ![6, 6]⟩ (by rfl) rfl (St.eq_of (by decide +kernel)) (by decide +kernel) (got_rs (s := 6) (St.eq_of (by decide +kernel)) rfl (by decide +kernel) (by decide +kernel)) ?_
  refine load_chunk 0 6 (off_rch0_6 c) (by decide +kernel) ?_
  refine load_slot 0 6 (by decide +kernel) fun v2145 hv2145 => ?_
  refine load_chunk 0 6 (off_rch0_6 c) (by decide +kernel) ?_
  refine store_chunk 0 6 ⟨![7, 7], ![7, 7], ![7, 7], ![6, 6]⟩ ⟨![7, 7], ![7, 7], ![7, 7], ![7, 6]⟩ (off_rch0_6 c) (by decide +kernel) (sum_eq hv2145) (St.eq_of (by decide +kernel)) (by decide +kernel) (by decide +kernel) ?_
  refine load_chunk 1 6 (off_rch1_6 c) (by decide +kernel) ?_
  exact ret_of (H _)

/-- Part 64 of the body: the counts before and after it. -/
theorem part64_run (v54 : BitVec 32) (v66 : BitVec 32) (v70 : BitVec 32) (v2152 : BitVec 32) {Q : PUnit → sProp 𝕄} (H : CS a0 K c ⟨![8, 8], ![8, 7], ![7, 7], ![7, 7]⟩ ⊢ Q ⟨⟩) :
    CS a0 K c ⟨![7, 7], ![7, 7], ![7, 7], ![7, 6]⟩ ⊢ W c (k0_part64 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v66 v70 v2152 (rdP a0 (stg (up 6)) c (rch c 1 (up 6)) 1)) Q := by
  rw [k0_part64_eq_skeleton]; unfold k0_part64_skel
  refine load_slot 1 6 (by decide +kernel) fun v2155 hv2155 => ?_
  refine load_chunk 1 6 (off_rch1_6 c) (by decide +kernel) ?_
  refine store_chunk 1 6 ⟨![7, 7], ![7, 7], ![7, 7], ![7, 6]⟩ ⟨![7, 7], ![7, 7], ![7, 7], ![7, 7]⟩ (off_rch1_6 c) (by decide +kernel) (sum_eq hv2155) (St.eq_of (by decide +kernel)) (by decide +kernel) (by decide +kernel) ?_
  refine ag_send 0 6 7 ⟨![7, 7], ![7, 7], ![7, 7], ![7, 7]⟩ ⟨![8, 7], ![7, 7], ![7, 7], ![7, 7]⟩ rfl (dev18_eq c) (off_snd0_7 c) rfl (by decide +kernel) (by decide +kernel) (St.eq_of (by decide +kernel)) (by decide +kernel) (by decide +kernel) ?_
  refine ag_send 1 6 7 ⟨![8, 7], ![7, 7], ![7, 7], ![7, 7]⟩ ⟨![8, 8], ![7, 7], ![7, 7], ![7, 7]⟩ rfl (dev19_eq c) (off_snd1_7 c) rfl (by decide +kernel) (by decide +kernel) (St.eq_of (by decide +kernel)) (by decide +kernel) (by decide +kernel) ?_
  refine wait_send 0 7 ⟨![8, 8], ![7, 7], ![7, 7], ![7, 7]⟩ ⟨![8, 8], ![8, 7], ![7, 7], ![7, 7]⟩ (by rfl) (by decide +kernel) rfl (St.eq_of (by decide +kernel)) (sent_ag (by decide +kernel) (by decide +kernel) (by decide +kernel)) ?_
  exact ret_of H

end Cert.KernelIdeal.Flow

end
-- ==== Proof.PartsG.lean ====
/-
  The exchange, parts 65 to 73 of the body: the gathering copies.
-/
module

public import proofs.«01_k».proof.Proof.PartsE

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD}

/-- Part 65 of the body: the counts before and after it. -/
theorem part65_run (v54 : BitVec 32) (v60 : BitVec 32) (v66 : BitVec 32) (v1682 : BitVec 32) (v1685 : BitVec 32) {Q : BitVec 32 → sProp 𝕄} (H : ∀ w, CS a0 K c ⟨![9, 8], ![8, 8], ![8, 8], ![7, 7]⟩ ⊢ Q w) :
    CS a0 K c ⟨![8, 8], ![8, 7], ![7, 7], ![7, 7]⟩ ⊢ W c (k0_part65 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v60 v66 v1682 v1685) Q := by
  rw [k0_part65_eq_skeleton]; unfold k0_part65_skel
  refine wait_recv 0 7 ⟨![8, 8], ![8, 7], ![7, 7], ![7, 7]⟩ ⟨![8, 8], ![8, 7], ![8, 7], ![7, 7]⟩ (by rfl) rfl (St.eq_of (by decide +kernel)) (by decide +kernel) (got_ag (St.eq_of (by decide +kernel)) (by decide +kernel) rfl (by decide +kernel) (by decide +kernel)) ?_
  refine wait_send 1 7 ⟨![8, 8], ![8, 7], ![8, 7], ![7, 7]⟩ ⟨![8, 8], ![8, 8], ![8, 7], ![7, 7]⟩ (by rfl) (by decide +kernel) rfl (St.eq_of (by decide +kernel)) (sent_ag (by decide +kernel) (by decide +kernel) (by decide +kernel)) ?_
  refine wait_recv 1 7 ⟨![8, 8], ![8, 8], ![8, 7], ![7, 7]⟩ ⟨![8, 8], ![8, 8], ![8, 8], ![7, 7]⟩ (by rfl) rfl (St.eq_of (by decide +kernel)) (by decide +kernel) (got_ag (St.eq_of (by decide +kernel)) (by decide +kernel) rfl (by decide +kernel) (by decide +kernel)) ?_
  refine ag_send 0 4 8 ⟨![8, 8], ![8, 8], ![8, 8], ![7, 7]⟩ ⟨![9, 8], ![8, 8], ![8, 8], ![7, 7]⟩ rfl (dev20_eq c) (off_snd0_8 c) rfl (by decide +kernel) (by decide +kernel) (St.eq_of (by decide +kernel)) (by decide +kernel) (by decide +kernel) ?_
  exact ret_of (H _)

/-- Part 66 of the body: the counts before and after it. -/
theorem part66_run (v60 : BitVec 32) (v66 : BitVec 32) (v1697 : BitVec 32) (v1701 : BitVec 32) (c1_i32_1525 : BitVec 32) {Q : PUnit → sProp 𝕄} (H : CS a0 K c ⟨![10, 10], ![9, 8], ![8, 8], ![7, 7]⟩ ⊢ Q ⟨⟩) :
    CS a0 K c ⟨![9, 8], ![8, 8], ![8, 8], ![7, 7]⟩ ⊢ W c (k0_part66 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60 v66 v1697 v1701 c1_i32_1525) Q := by
  rw [k0_part66_eq_skeleton]; unfold k0_part66_skel
  refine ag_send 0 5 9 ⟨![9, 8], ![8, 8], ![8, 8], ![7, 7]⟩ ⟨![10, 8], ![8, 8], ![8, 8], ![7, 7]⟩ rfl (dev21_eq c) (off_snd0_9 c) rfl (by decide +kernel) (by decide +kernel) (St.eq_of (by decide +kernel)) (by decide +kernel) (by decide +kernel) ?_
  refine ag_send 1 4 8 ⟨![10, 8], ![8, 8], ![8, 8], ![7, 7]⟩ ⟨![10, 9], ![8, 8], ![8, 8], ![7, 7]⟩ rfl (dev22_eq c) (off_snd1_8 c) rfl (by decide +kernel) (by decide +kernel) (St.eq_of (by decide +kernel)) (by decide +kernel) (by decide +kernel) ?_
  refine ag_send 1 5 9 ⟨![10, 9], ![8, 8], ![8, 8], ![7, 7]⟩ ⟨![10, 10], ![8, 8], ![8, 8], ![7, 7]⟩ rfl (dev23_eq c) (off_snd1_9 c) rfl (by decide +kernel) (by decide +kernel) (St.eq_of (by decide +kernel)) (by decide +kernel) (by decide +kernel) ?_
  refine wait_send 0 8 ⟨![10, 10], ![8, 8], ![8, 8], ![7, 7]⟩ ⟨![10, 10], ![9, 8], ![8, 8], ![7, 7]⟩ (by rfl) (by decide +kernel) rfl (St.eq_of (by decide +kernel)) (sent_ag (by decide +kernel) (by decide +kernel) (by decide +kernel)) ?_
  exact ret_of H

/-- Part 67 of the body: the counts before and after it. -/
theorem part67_run (v60 : BitVec 32) (v66 : BitVec 32) {Q : PUnit → sProp 𝕄} (H : CS a0 K c ⟨![10, 10], ![10, 9], ![10, 9], ![7, 7]⟩ ⊢ Q ⟨⟩) :
    CS a0 K c ⟨![10, 10], ![9, 8], ![8, 8], ![7, 7]⟩ ⊢ W c (k0_part67 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60 v66) Q := by
  rw [k0_part67_eq_skeleton]; unfold k0_part67_skel
  refine wait_recv 0 8 ⟨![10, 10], ![9, 8], ![8, 8], ![7, 7]⟩ ⟨![10, 10], ![9, 8], ![9, 8], ![7, 7]⟩ (by rfl) rfl (St.eq_of (by decide +kernel)) (by decide +kernel) (got_ag (St.eq_of (by decide +kernel)) (by decide +kernel) rfl (by decide +kernel) (by decide +kernel)) ?_
  refine wait_send 0 9 ⟨![10, 10], ![9, 8], ![9, 8], ![7, 7]⟩ ⟨![10, 10], ![10, 8], ![9, 8], ![7, 7]⟩ (by rfl) (by decide +kernel) rfl (St.eq_of (by decide +kernel)) (sent_ag (by decide +kernel) (by decide +kernel) (by decide +kernel)) ?_
  refine wait_recv 0 9 ⟨![10, 10], ![10, 8], ![9, 8], ![7, 7]⟩ ⟨![10, 10], ![10, 8], ![10, 8], ![7, 7]⟩ (by rfl) rfl (St.eq_of (by decide +kernel)) (by decide +kernel) (got_ag (St.eq_of (by decide +kernel)) (by decide +kernel) rfl (by decide +kernel) (by decide +kernel)) ?_
  refine wait_send 1 8 ⟨![10, 10], ![10, 8], ![10, 8], ![7, 7]⟩ ⟨![10, 10], ![10, 9], ![10, 8], ![7, 7]⟩ (by rfl) (by decide +kernel) rfl (St.eq_of (by decide +kernel)) (sent_ag (by decide +kernel) (by decide +kernel) (by decide +kernel)) ?_
  refine wait_recv 1 8 ⟨![10, 10], ![10, 9], ![10, 8], ![7, 7]⟩ ⟨![10, 10], ![10, 9], ![10, 9], ![7, 7]⟩ (by rfl) rfl (St.eq_of (by decide +kernel)) (by decide +kernel) (got_ag (St.eq_of (by decide +kernel)) (by decide +kernel) rfl (by decide +kernel) (by decide +kernel)) ?_
  exact ret_of H

/-- Part 68 of the body: the counts before and after it. -/
theorem part68_run (v54 : BitVec 32) (v66 : BitVec 32) (v1687 : BitVec 32) (v1689 : BitVec 32) {Q : PUnit → sProp 𝕄} (H : CS a0 K c ⟨![12, 10], ![10, 10], ![10, 10], ![7, 7]⟩ ⊢ Q ⟨⟩) :
    CS a0 K c ⟨![10, 10], ![10, 9], ![10, 9], ![7, 7]⟩ ⊢ W c (k0_part68 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v66 v1687 v1689) Q := by
  rw [k0_part68_eq_skeleton]; unfold k0_part68_skel
  refine wait_send 1 9 ⟨![10, 10], ![10, 9], ![10, 9], ![7, 7]⟩ ⟨![10, 10], ![10, 10], ![10, 9], ![7, 7]⟩ (by rfl) (by decide +kernel) rfl (St.eq_of (by decide +kernel)) (sent_ag (by decide +kernel) (by decide +kernel) (by decide +kernel)) ?_
  refine wait_recv 1 9 ⟨![10, 10], ![10, 10], ![10, 9], ![7, 7]⟩ ⟨![10, 10], ![10, 10], ![10, 10], ![7, 7]⟩ (by rfl) rfl (St.eq_of (by decide +kernel)) (by decide +kernel) (got_ag (St.eq_of (by decide +kernel)) (by decide +kernel) rfl (by decide +kernel) (by decide +kernel)) ?_
  refine ag_send 0 0 10 ⟨![10, 10], ![10, 10], ![10, 10], ![7, 7]⟩ ⟨![11, 10], ![10, 10], ![10, 10], ![7, 7]⟩ rfl (dev24_eq c) (off_snd0_10 c) rfl (by decide +kernel) (by decide +kernel) (St.eq_of (by decide +kernel)) (by decide +kernel) (by decide +kernel) ?_
  refine ag_send 0 1 11 ⟨![11, 10], ![10, 10], ![10, 10], ![7, 7]⟩ ⟨![12, 10], ![10, 10], ![10, 10], ![7, 7]⟩ rfl (dev25_eq c) (off_snd0_11 c) rfl (by decide +kernel) (by decide +kernel) (St.eq_of (by decide +kernel)) (by decide +kernel) (by decide +kernel) ?_
  exact ret_of H

/-- Part 69 of the body: the counts before and after it. -/
theorem part69_run (v54 : BitVec 32) (v60 : BitVec 32) (v1691 : BitVec 32) (v1693 : BitVec 32) (v1704 : BitVec 32) (v1707 : BitVec 32) {Q : BitVec 32 → sProp 𝕄} (H : ∀ w, CS a0 K c ⟨![14, 11], ![10, 10], ![10, 10], ![7, 7]⟩ ⊢ Q w) :
    CS a0 K c ⟨![12, 10], ![10, 10], ![10, 10], ![7, 7]⟩ ⊢ W c (k0_part69 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v60 v1691 v1693 v1704 v1707) Q := by
  rw [k0_part69_eq_skeleton]; unfold k0_part69_skel
  refine ag_send 0 2 12 ⟨![12, 10], ![10, 10], ![10, 10], ![7, 7]⟩ ⟨![13, 10], ![10, 10], ![10, 10], ![7, 7]⟩ rfl (dev26_eq c) (off_snd0_12 c) rfl (by decide +kernel) (by decide +kernel) (St.eq_of (by decide +kernel)) (by decide +kernel) (by decide +kernel) ?_
  refine ag_send 0 3 13 ⟨![13, 10], ![10, 10], ![10, 10], ![7, 7]⟩ ⟨![14, 10], ![10, 10], ![10, 10], ![7, 7]⟩ rfl (dev27_eq c) (off_snd0_13 c) rfl (by decide +kernel) (by decide +kernel) (St.eq_of (by decide +kernel)) (by decide +kernel) (by decide +kernel) ?_
  refine ag_send 1 0 10 ⟨![14, 10], ![10, 10], ![10, 10], ![7, 7]⟩ ⟨![14, 11], ![10, 10], ![10, 10], ![7, 7]⟩ rfl (dev28_eq c) (off_snd1_10 c) rfl (by decide +kernel) (by decide +kernel) (St.eq_of (by decide +kernel)) (by decide +kernel) (by decide +kernel) ?_
  exact ret_of (H _)

/-- Part 70 of the body: the counts before and after it. -/
theorem part70_run (v60 : BitVec 32) (v1707 : BitVec 32) (v1710 : BitVec 32) (v1713 : BitVec 32) (c256_i32_1626 : BitVec 32) {Q : PUnit → sProp 𝕄} (H : CS a0 K c ⟨![14, 14], ![10, 10], ![10, 10], ![7, 7]⟩ ⊢ Q ⟨⟩) :
    CS a0 K c ⟨![14, 11], ![10, 10], ![10, 10], ![7, 7]⟩ ⊢ W c (k0_part70 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60 v1707 v1710 v1713 c256_i32_1626) Q := by
  rw [k0_part70_eq_skeleton]; unfold k0_part70_skel
  refine ag_send 1 1 11 ⟨![14, 11], ![10, 10], ![10, 10], ![7, 7]⟩ ⟨![14, 12], ![10, 10], ![10, 10], ![7, 7]⟩ rfl (dev29_eq c) (off_snd1_11 c) rfl (by decide +kernel) (by decide +kernel) (St.eq_of (by decide +kernel)) (by decide +kernel) (by decide +kernel) ?_
  refine ag_send 1 2 12 ⟨![14, 12], ![10, 10], ![10, 10], ![7, 7]⟩ ⟨![14, 13], ![10, 10], ![10, 10], ![7, 7]⟩ rfl (dev30_eq c) (off_snd1_12 c) rfl (by decide +kernel) (by decide +kernel) (St.eq_of (by decide +kernel)) (by decide +kernel) (by decide +kernel) ?_
  refine ag_send 1 3 13 ⟨![14, 13], ![10, 10], ![10, 10], ![7, 7]⟩ ⟨![14, 14], ![10, 10], ![10, 10], ![7, 7]⟩ rfl (dev31_eq c) (off_snd1_13 c) rfl (by decide +kernel) (by decide +kernel) (St.eq_of (by decide +kernel)) (by decide +kernel) (by decide +kernel) ?_
  exact ret_of H

/-- Part 71 of the body: the counts before and after it. -/
theorem part71_run (v54 : BitVec 32) {Q : PUnit → sProp 𝕄} (H : CS a0 K c ⟨![14, 14], ![13, 10], ![12, 10], ![7, 7]⟩ ⊢ Q ⟨⟩) :
    CS a0 K c ⟨![14, 14], ![10, 10], ![10, 10], ![7, 7]⟩ ⊢ W c (k0_part71 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54) Q := by
  rw [k0_part71_eq_skeleton]; unfold k0_part71_skel
  refine wait_send 0 10 ⟨![14, 14], ![10, 10], ![10, 10], ![7, 7]⟩ ⟨![14, 14], ![11, 10], ![10, 10], ![7, 7]⟩ (by rfl) (by decide +kernel) rfl (St.eq_of (by decide +kernel)) (sent_ag (by decide +kernel) (by decide +kernel) (by decide +kernel)) ?_
  refine wait_recv 0 10 ⟨![14, 14], ![11, 10], ![10, 10], ![7, 7]⟩ ⟨![14, 14], ![11, 10], ![11, 10], ![7, 7]⟩ (by rfl) rfl (St.eq_of (by decide +kernel)) (by decide +kernel) (got_ag (St.eq_of (by decide +kernel)) (by decide +kernel) rfl (by decide +kernel) (by decide +kernel)) ?_
  refine wait_send 0 11 ⟨![14, 14], ![11, 10], ![11, 10], ![7, 7]⟩ ⟨![14, 14], ![12, 10], ![11, 10], ![7, 7]⟩ (by rfl) (by decide +kernel) rfl (St.eq_of (by decide +kernel)) (sent_ag (by decide +kernel) (by decide +kernel) (by decide +kernel)) ?_
  refine wait_recv 0 11 ⟨![14, 14], ![12, 10], ![11, 10], ![7, 7]⟩ ⟨![14, 14], ![12, 10], ![12, 10], ![7, 7]⟩ (by rfl) rfl (St.eq_of (by decide +kernel)) (by decide +kernel) (got_ag (St.eq_of (by decide +kernel)) (by decide +kernel) rfl (by decide +kernel) (by decide +kernel)) ?_
  refine wait_send 0 12 ⟨![14, 14], ![12, 10], ![12, 10], ![7, 7]⟩ ⟨![14, 14], ![13, 10], ![12, 10], ![7, 7]⟩ (by rfl) (by decide +kernel) rfl (St.eq_of (by decide +kernel)) (sent_ag (by decide +kernel) (by decide +kernel) (by decide +kernel)) ?_
  exact ret_of H

/-- Part 72 of the body: the counts before and after it. -/
theorem part72_run (v54 : BitVec 32) (v60 : BitVec 32) {Q : PUnit → sProp 𝕄} (H : CS a0 K c ⟨![14, 14], ![14, 12], ![14, 11], ![7, 7]⟩ ⊢ Q ⟨⟩) :
    CS a0 K c ⟨![14, 14], ![13, 10], ![12, 10], ![7, 7]⟩ ⊢ W c (k0_part72 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v54 v60) Q := by
  rw [k0_part72_eq_skeleton]; unfold k0_part72_skel
  refine wait_recv 0 12 ⟨![14, 14], ![13, 10], ![12, 10], ![7, 7]⟩ ⟨![14, 14], ![13, 10], ![13, 10], ![7, 7]⟩ (by rfl) rfl (St.eq_of (by decide +kernel)) (by decide +kernel) (got_ag (St.eq_of (by decide +kernel)) (by decide +kernel) rfl (by decide +kernel) (by decide +kernel)) ?_
  refine wait_send 0 13 ⟨![14, 14], ![13, 10], ![13, 10], ![7, 7]⟩ ⟨![14, 14], ![14, 10], ![13, 10], ![7, 7]⟩ (by rfl) (by decide +kernel) rfl (St.eq_of (by decide +kernel)) (sent_ag (by decide +kernel) (by decide +kernel) (by decide +kernel)) ?_
  refine wait_recv 0 13 ⟨![14, 14], ![14, 10], ![13, 10], ![7, 7]⟩ ⟨![14, 14], ![14, 10], ![14, 10], ![7, 7]⟩ (by rfl) rfl (St.eq_of (by decide +kernel)) (by decide +kernel) (got_ag (St.eq_of (by decide +kernel)) (by decide +kernel) rfl (by decide +kernel) (by decide +kernel)) ?_
  refine wait_send 1 10 ⟨![14, 14], ![14, 10], ![14, 10], ![7, 7]⟩ ⟨![14, 14], ![14, 11], ![14, 10], ![7, 7]⟩ (by rfl) (by decide +kernel) rfl (St.eq_of (by decide +kernel)) (sent_ag (by decide +kernel) (by decide +kernel) (by decide +kernel)) ?_
  refine wait_recv 1 10 ⟨![14, 14], ![14, 11], ![14, 10], ![7, 7]⟩ ⟨![14, 14], ![14, 11], ![14, 11], ![7, 7]⟩ (by rfl) rfl (St.eq_of (by decide +kernel)) (by decide +kernel) (got_ag (St.eq_of (by decide +kernel)) (by decide +kernel) rfl (by decide +kernel) (by decide +kernel)) ?_
  refine wait_send 1 11 ⟨![14, 14], ![14, 11], ![14, 11], ![7, 7]⟩ ⟨![14, 14], ![14, 12], ![14, 11], ![7, 7]⟩ (by rfl) (by decide +kernel) rfl (St.eq_of (by decide +kernel)) (sent_ag (by decide +kernel) (by decide +kernel) (by decide +kernel)) ?_
  exact ret_of H

/-- Part 73 of the body: the counts before and after it. -/
theorem part73_run (v60 : BitVec 32) {Q : PUnit → sProp 𝕄} (H : CS a0 K c ⟨![14, 14], ![14, 14], ![14, 14], ![7, 7]⟩ ⊢ Q ⟨⟩) :
    CS a0 K c ⟨![14, 14], ![14, 12], ![14, 11], ![7, 7]⟩ ⊢ W c (k0_part73 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v60) Q := by
  rw [k0_part73_eq_skeleton]; unfold k0_part73_skel
  refine wait_recv 1 11 ⟨![14, 14], ![14, 12], ![14, 11], ![7, 7]⟩ ⟨![14, 14], ![14, 12], ![14, 12], ![7, 7]⟩ (by rfl) rfl (St.eq_of (by decide +kernel)) (by decide +kernel) (got_ag (St.eq_of (by decide +kernel)) (by decide +kernel) rfl (by decide +kernel) (by decide +kernel)) ?_
  refine wait_send 1 12 ⟨![14, 14], ![14, 12], ![14, 12], ![7, 7]⟩ ⟨![14, 14], ![14, 13], ![14, 12], ![7, 7]⟩ (by rfl) (by decide +kernel) rfl (St.eq_of (by decide +kernel)) (sent_ag (by decide +kernel) (by decide +kernel) (by decide +kernel)) ?_
  refine wait_recv 1 12 ⟨![14, 14], ![14, 13], ![14, 12], ![7, 7]⟩ ⟨![14, 14], ![14, 13], ![14, 13], ![7, 7]⟩ (by rfl) rfl (St.eq_of (by decide +kernel)) (by decide +kernel) (got_ag (St.eq_of (by decide +kernel)) (by decide +kernel) rfl (by decide +kernel) (by decide +kernel)) ?_
  refine wait_send 1 13 ⟨![14, 14], ![14, 13], ![14, 13], ![7, 7]⟩ ⟨![14, 14], ![14, 14], ![14, 13], ![7, 7]⟩ (by rfl) (by decide +kernel) rfl (St.eq_of (by decide +kernel)) (sent_ag (by decide +kernel) (by decide +kernel) (by decide +kernel)) ?_
  refine wait_recv 1 13 ⟨![14, 14], ![14, 14], ![14, 13], ![7, 7]⟩ ⟨![14, 14], ![14, 14], ![14, 14], ![7, 7]⟩ (by rfl) rfl (St.eq_of (by decide +kernel)) (by decide +kernel) (got_ag (St.eq_of (by decide +kernel)) (by decide +kernel) rfl (by decide +kernel) (by decide +kernel)) ?_
  exact ret_of H

end Cert.KernelIdeal.Flow

end
-- ==== Proof.Split.lean ====
/-
  Buffers cut and put together. The partial output held whole is its sixteen chunks; a landing buffer held whole is
  its seven slots; and what a device gives its neighbours at the barrier, or gets from them, is sorted by axis.
-/
module

public import proofs.«01_k».proof.Proof.Moves
public import Idealize.ShloMosaic.Lib.Ring

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD}

/-! ## The chunks -/

theorem mem_pc (p : Fin 2 × Fin 8) (i : S2048x1024.Idx) : i ∈ (pcR p.2 p.1).set ↔ hof i = p.1 ∧ kof i = p.2 := by
  have h0 : (i 0).val < 2048 := (i 0).isLt
  have h1 : (i 1).val < 1024 := (i 1).isLt
  have hk := p.2.isLt
  have hh := p.1.isLt
  rw [Rect.mem_set_unit]
  show (∀ a : Fin 2, _) ↔ _
  rw [Fin.forall_fin_two, Fin.ext_iff, Fin.ext_iff]
  show (256 * p.2.val ≤ (i 0).val ∧ (i 0).val < 256 * p.2.val + 256) ∧ (512 * p.1.val ≤ (i 1).val ∧ (i 1).val < 512 * p.1.val + 512)
    ↔ (i 1).val / 512 % 2 = p.1.val ∧ (i 0).val / 256 % 8 = p.2.val
  omega

/-- The partial output held whole is held chunk by chunk. -/
theorem acc_split (f : AccC F) : pt c cc0_scratch2 f = bigSep Finset.univ fun p : Fin 2 × Fin 8 => piece c p.2 p.1 f :=
  Ring.pointsTo_blocks (ℓ := (Memref.whole cc0_scratch2).view.loc (c : Thread nD τ)) (fun p : Fin 2 × Fin 8 => (pcM p.2 p.1).view.set)
    (fun p p' h => Finset.disjoint_left.mpr fun i hi hi' => h (by
      rw [pc_set] at hi hi'
      obtain ⟨e1, e2⟩ := (mem_pc p i).mp hi
      obtain ⟨e1', e2'⟩ := (mem_pc p' i).mp hi'
      exact Prod.ext (e1.symm.trans e1') (e2.symm.trans e2')))
    (Finset.eq_univ_of_forall fun i => Finset.mem_biUnion.mpr ⟨(hof i, kof i), Finset.mem_univ _, by
      rw [pc_set]; exact (mem_pc _ i).mpr ⟨rfl, rfl⟩⟩) f

/-! ## The slots -/

theorem mem_sl (s : Fin 7) (i : S7x256x512.Idx) : i ∈ (slR s).set ↔ (i 0).val = s.val := by
  have h1 : (i 1).val < 256 := (i 1).isLt
  have h2 : (i 2).val < 512 := (i 2).isLt
  rw [Rect.mem_set_unit]
  show (∀ a : Fin 3, _) ↔ _
  rw [Fin.forall_fin_succ, Fin.forall_fin_two]
  show (s.val ≤ (i 0).val ∧ (i 0).val < s.val + 1) ∧ (0 ≤ (i 1).val ∧ (i 1).val < 0 + 256) ∧ (0 ≤ (i 2).val ∧ (i 2).val < 0 + 512) ↔ _
  omega

theorem sl_set0 (s : Fin 7) : (slM 0 s).view.set = (slR s).set := (View.set_reshape _ _).trans (View.set_slice_whole _ _)
theorem sl_set1 (s : Fin 7) : (slM 1 s).view.set = (slR s).set := (View.set_reshape _ _).trans (View.set_slice_whole _ _)

theorem slR_disj (s s' : Fin 7) (e : s ≠ s') : Disjoint (slR s).set (slR s').set :=
  Finset.disjoint_left.mpr fun i hi hi' => e (Fin.ext (((mem_sl s i).mp hi).symm.trans ((mem_sl s' i).mp hi')))
theorem slR_cover : (Finset.univ.biUnion fun s : Fin 7 => (slR s).set) = Finset.univ :=
  Finset.eq_univ_of_forall fun i => Finset.mem_biUnion.mpr ⟨⟨(i 0).val, (i 0).isLt⟩, Finset.mem_univ _, (mem_sl _ i).mpr rfl⟩

/-- The elements of a slot, as elements of its landing buffer. -/
abbrev slS (c : Dev nD) (h : Fin 2) (s : Fin 7) : Finset (Idx ((rsbM h).view.loc (c : Thread nD τ))) := (slM h s).view.set

theorem sl_disj (h : Fin 2) (s s' : Fin 7) (e : s ≠ s') : Disjoint (slS c h s) (slS c h s') := by
  match h with
  | 0 => exact Finset.disjoint_left.mpr fun i hi hi' => Finset.disjoint_left.mp (slR_disj s s' e) ((sl_set0 s).subset hi) ((sl_set0 s').subset hi')
  | 1 => exact Finset.disjoint_left.mpr fun i hi hi' => Finset.disjoint_left.mp (slR_disj s s' e) ((sl_set1 s).subset hi) ((sl_set1 s').subset hi')

theorem sl_cover (h : Fin 2) : Finset.univ.biUnion (slS c h) = Finset.univ := by
  match h with
  | 0 => exact (Finset.biUnion_congr rfl fun s _ => sl_set0 s).trans slR_cover
  | 1 => exact (Finset.biUnion_congr rfl fun s _ => sl_set1 s).trans slR_cover

theorem ent_of_eq {P Q : sProp 𝕄} (h : P = Q) : P ⊢ Q := by subst h; exact .rfl

/-- A device's landing buffer of half `h`, held whole at some contents. -/
def land (c : Dev nD) (h : Fin 2) : sProp 𝕄 := iprop(∃ f, (rsbM h).view.loc (c : Thread nD τ) ↦{fullShare} f)

/-- A landing buffer held whole is held slot by slot, -/
theorem land_split (h : Fin 2) : land (F := F) c h ⊢ bigSep Finset.univ fun s : Fin 7 => iprop(∃ f, slot c h s f) := by
  unfold land
  iintro ⟨%f, H⟩
  have key (s : Fin 7) : slot c h s f ⊢ iprop(∃ f, slot (F := F) c h s f) := by iintro H; iexists f; iexact H
  iapply (show bigSep Finset.univ (fun s : Fin 7 => slot c h s f) ⊢ bigSep Finset.univ fun s : Fin 7 => iprop(∃ f, slot c h s f) from
    bigSep_mono fun s _ => key s)
  iapply (ent_of_eq (Ring.pointsTo_blocks (ℓ := (rsbM h).view.loc (c : Thread nD τ)) (slS c h) (sl_disj h) (sl_cover (c := c) h) f)) $$ H

/-- and the slots, at any contents, make up the buffer at some. -/
theorem land_join (h : Fin 2) (f₀ : Buf (Elt F) ((rsbM h).view.loc (c : Thread nD τ))) :
    bigSep Finset.univ (fun s : Fin 7 => slotH a0 c h s) ⊢ land (F := F) c h := by
  have key (s : Fin 7) : slotH a0 c h s ⊢ iprop(∃ f, slot (F := F) c h s f) := by
    unfold slotH
    iintro ⟨%f, -, H⟩
    iexists f; iexact H
  exact BI.Entails.trans (bigSep_mono (Ψ := fun s : Fin 7 => iprop(∃ f, slot c h s f)) fun s _ => key s)
    (Ring.pointsTo_blocks_join_exists (ℓ := (rsbM h).view.loc (c : Thread nD τ)) (slS c h) (sl_disj h) (sl_cover (c := c) h) f₀)

theorem land_eq (Φ : Fin 2 → sProp 𝕄) : bigSep Finset.univ Φ = iprop(Φ 0 ∗ Φ 1) := by
  rw [show (Finset.univ : Finset (Fin 2)) = insert 0 {1} from by decide, bigSep_insert (by decide), bigSep_singleton]; rfl

theorem emps {I : Type} (s : Finset I) : (bigSep s fun _ => iprop(emp)) = (iprop(emp) : sProp 𝕄) := bigSep_emp_const s

/-! ## Sorting by axis -/

/-- A family over all copies, axis by axis. -/
theorem by_axis (Φ : Fin 2 × Fin 14 → sProp 𝕄) :
    bigSep Finset.univ Φ = bigSep Finset.univ fun a : Fin 3 => bigSep Finset.univ fun hs : Fin 2 × Fin 14 => if ax hs.1 hs.2 = a then Φ hs else iprop(emp) := by
  rw [bigSep_univ_comm (fun (a : Fin 3) (hs : Fin 2 × Fin 14) => if ax hs.1 hs.2 = a then Φ hs else iprop(emp))]
  refine bigSep_congr fun hs _ => ?_
  rw [bigSep_univ_split (ax hs.1 hs.2), if_pos rfl]
  rw [(bigSep_congr (Ψ := fun _ => iprop(emp)) fun a ha => if_neg fun e => (Finset.mem_erase.mp ha).1 e.symm).trans (emps _)]
  exact (BI.equiv_iff.mp BI.sep_emp).symm

/-- What a device gives across each axis is all it gives. -/
theorem give_out : bigSep Finset.univ (fun hs : Fin 2 × Fin 14 => give (F := F) c hs.1 hs.2) = bigSep Finset.univ fun a : Fin 3 => barPay (flip a c) a := by
  rw [by_axis]
  refine bigSep_congr fun a _ => ?_
  unfold barPay; rw [flip_flip]

/-- What it gets across each axis is all its neighbours give it. -/
theorem give_in : bigSep Finset.univ (fun a : Fin 3 => barPay (F := F) c a) = bigSep Finset.univ fun hs : Fin 2 × Fin 14 => give (par c hs.1 hs.2) hs.1 hs.2 := by
  rw [by_axis]
  refine bigSep_congr fun a _ => ?_
  unfold barPay
  refine bigSep_congr fun hs _ => ?_
  by_cases e : ax hs.1 hs.2 = a
  · rw [if_pos e, if_pos e, ← e]; rfl
  · rw [if_neg e, if_neg e]

/-- The first seven of fourteen. -/
theorem first7 (Φ : Fin 7 → sProp 𝕄) :
    (bigSep Finset.univ fun s : Fin 14 => if hs : s.val < 7 then Φ ⟨s.val, hs⟩ else iprop(emp)) = bigSep Finset.univ Φ := by
  let e : Fin 7 ⊕ Fin 7 ≃ Fin 14 := finSumFinEquiv
  rw [bigSep_univ_equiv e, bigSep_univ_sum]
  have h1 : (bigSep Finset.univ fun s : Fin 7 => if hs : (e (.inl s)).val < 7 then Φ ⟨(e (.inl s)).val, hs⟩ else iprop(emp)) = bigSep Finset.univ Φ :=
    bigSep_congr fun s _ => dif_pos (by show s.val < 7; exact s.isLt)
  have h2 : (bigSep Finset.univ fun s : Fin 7 => if hs : (e (.inr s)).val < 7 then Φ ⟨(e (.inr s)).val, hs⟩ else iprop(emp)) = (iprop(emp) : sProp 𝕄) :=
     (bigSep_congr (Ψ := fun _ => iprop(emp)) fun s _ => dif_neg (by show ¬ (7 + s.val < 7); omega)).trans (emps _)
  rw [h1, h2]
  exact BI.equiv_iff.mp BI.sep_emp

/-- The slot a copy needs of a device. -/
def gslot (c : Dev nD) (hs : Fin 2 × Fin 14) : sProp 𝕄 :=
  if h : hs.2.val < 7 then iprop(∃ f, slot (F := F) c hs.1 ⟨hs.2.val, h⟩ f) else iprop(emp)

/-- A device's landing buffers, and that its receive semaphores are open, are all it gives. -/
theorem give_all : iprop((bigSep Finset.univ fun hs : Fin 2 × Fin 14 => reached ER (recvC c hs.1 hs.2) 0) ∗ bigSep Finset.univ (land (F := F) c))
    ⊢ bigSep Finset.univ fun hs : Fin 2 × Fin 14 => give (F := F) c hs.1 hs.2 := by
  rw [show (bigSep Finset.univ fun hs : Fin 2 × Fin 14 => give (F := F) c hs.1 hs.2)
      = iprop((bigSep Finset.univ fun hs : Fin 2 × Fin 14 => reached ER (recvC c hs.1 hs.2) 0) ∗ bigSep Finset.univ fun hs : Fin 2 × Fin 14 => gslot (F := F) c hs)
      from bigSep_sep Finset.univ (fun hs : Fin 2 × Fin 14 => reached ER (recvC c hs.1 hs.2) 0) (gslot (F := F) c),
    bigSep_univ_prod (gslot (F := F) c)]
  exact sep_mono_right (bigSep_mono fun h _ => BI.Entails.trans (land_split h) (ent_of_eq (first7 (fun s : Fin 7 => iprop(∃ f, slot (F := F) c h s f))).symm))

/-! ## The first and the last state -/

def σ₀ : St := ⟨![0, 0], ![0, 0], ![0, 0], ![0, 0]⟩
def σ₁ : St := ⟨![14, 14], ![14, 14], ![14, 14], ![7, 7]⟩

/-- At first every chunk is a device's own partial output, at last the whole sum. -/
theorem pst_first (c : Dev nD) (p : Fin 2 × Fin 8) : pst c σ₀ p = 0 := by revert c p; decide +kernel
theorem pst_last (c : Dev nD) (p : Fin 2 × Fin 8) : pst c σ₁ p = 3 := by revert c p; decide +kernel

/-- What a device starts a copy with at its send semaphore, but for what it gets at the barrier. -/
def ownS (c : Dev nD) (hs : Fin 2 × Fin 14) : sProp 𝕄 :=
  iprop(atPos ER (sendC c hs.1 hs.2) 0 ∅ 0 ∗ reached ER (sendC c hs.1 hs.2) 0 ∗ dutyTok ER (sendC c hs.1 hs.2) 0 0
    ∗ dutyTok ER (recvC (par c hs.1 hs.2) hs.1 hs.2) 0 0)

theorem own_give : iprop(bigSep Finset.univ (ownS (F := F) c) ∗ bigSep Finset.univ fun hs : Fin 2 × Fin 14 => give (F := F) (par c hs.1 hs.2) hs.1 hs.2)
    ⊢ bigSep Finset.univ fun hs : Fin 2 × Fin 14 => pre (F := F) c hs.1 hs.2 := by
  have e : bigSep Finset.univ (fun hs : Fin 2 × Fin 14 => iprop(ownS (F := F) c hs ∗ give (F := F) (par c hs.1 hs.2) hs.1 hs.2))
      = iprop(bigSep Finset.univ (ownS (F := F) c) ∗ bigSep Finset.univ fun hs : Fin 2 × Fin 14 => give (F := F) (par c hs.1 hs.2) hs.1 hs.2) := bigSep_sep _ _ _
  rw [← e]
  refine bigSep_mono fun hs _ => (?_ : iprop(ownS (F := F) c hs ∗ give (F := F) (par c hs.1 hs.2) hs.1 hs.2) ⊢ pre (F := F) c hs.1 hs.2)
  unfold pre ownS
  iintro ⟨⟨H1, H2, H3, H4⟩, H5⟩
  isplitl [H1]; · iexact H1
  isplitl [H2]; · iexact H2
  isplitl [H3]; · iexact H3
  isplitl [H4]; · iexact H4
  iexact H5

/-- All that a device starts a copy with, but for what it gets at the barrier. -/
def own (c : Dev nD) (hs : Fin 2 × Fin 14) : sProp 𝕄 :=
  iprop(ownS c hs ∗ (atPos ER (recvC c hs.1 hs.2) 0 ∅ 0 ∗ cred (tallyAt (recvC c hs.1 hs.2) () N)))

theorem first_state : iprop(bigSep Finset.univ (own (F := F) c) ∗ (bigSep Finset.univ fun hs : Fin 2 × Fin 14 => give (F := F) (par c hs.1 hs.2) hs.1 hs.2) ∗ pt c cc0_scratch2 (a0 c))
    ⊢ iprop(bigSep Finset.univ (FS c σ₀) ∗ bigSep Finset.univ (FR c σ₀) ∗ bigSep Finset.univ (FL a0 c σ₀) ∗ bigSep Finset.univ (FP c σ₀) ∗ bigSep Finset.univ (FA a0 c σ₀)) := by
  have hz : ∀ h : Fin 2, (![0, 0] : Fin 2 → ℕ) h = 0 := by decide
  have eS : bigSep Finset.univ (FS (F := F) c σ₀) = bigSep Finset.univ fun hs : Fin 2 × Fin 14 => pre c hs.1 hs.2 :=
    bigSep_congr fun p _ => by unfold FS σ₀; dsimp only; exact (if_neg (by rw [hz]; exact Nat.not_lt_zero _)).trans (if_neg (by rw [hz]; exact Nat.not_lt_zero _))
  have eR : bigSep Finset.univ (FR (F := F) c σ₀) = bigSep Finset.univ fun hs : Fin 2 × Fin 14 => iprop(atPos ER (recvC c hs.1 hs.2) 0 ∅ 0 ∗ cred (tallyAt (recvC c hs.1 hs.2) () N)) :=
    bigSep_congr fun p _ => by unfold FR σ₀; dsimp only; exact if_neg (by rw [hz]; exact Nat.not_lt_zero _)
  have eL : bigSep Finset.univ (FL a0 c σ₀) = (iprop(emp) : sProp 𝕄) := by
    refine (bigSep_congr (Ψ := fun _ => iprop(emp)) fun p _ => ?_).trans (emps _)
    unfold FL σ₀; dsimp only
    exact if_neg (by rw [hz]; exact Nat.not_lt_zero _)
  have eP : bigSep Finset.univ (FP (F := F) c σ₀) = (iprop(emp) : sProp 𝕄) := by
    refine (bigSep_congr (Ψ := fun _ => iprop(emp)) fun p _ => ?_).trans (emps _)
    unfold FP σ₀; dsimp only
    exact if_neg (fun h => absurd (h.1.trans_eq (hz _)) (Nat.not_lt_zero _))
  have eA : bigSep Finset.univ (FA a0 c σ₀) = bigSep Finset.univ fun p : Fin 2 × Fin 8 => piece c p.2 p.1 (a0 c) :=
    bigSep_congr fun p _ => by
      unfold FA
      rw [pst_first]; rfl
  rw [eS, eR, eL, eP, eA, ← acc_split]
  have eO : bigSep Finset.univ (own (F := F) c) = iprop((bigSep Finset.univ fun hs : Fin 2 × Fin 14 => ownS c hs)
      ∗ bigSep Finset.univ fun hs : Fin 2 × Fin 14 => iprop(atPos ER (recvC c hs.1 hs.2) 0 ∅ 0 ∗ cred (tallyAt (recvC c hs.1 hs.2) () N))) := by
    unfold own; exact bigSep_sep _ _ _
  rw [eO]
  iintro ⟨⟨HS, HR⟩, HG, HA⟩
  isplitl [HS HG]
  · iapply own_give
    isplitl [HS]; · iexact HS
    iexact HG
  isplitl [HR]; · iexact HR
  isplitr; · iempintro
  isplitr; · iempintro
  iexact HA

/-- Where every semaphore of the exchange stands at its end. -/
def ended (c : Dev nD) (hs : Fin 2 × Fin 14) : sProp 𝕄 := iprop(atPos ER (sendC c hs.1 hs.2) 1 ∅ 0 ∗ atPos ER (recvC c hs.1 hs.2) 1 ∅ 0)

theorem last_state (f₀ : ∀ h : Fin 2, Buf (Elt F) ((rsbM h).view.loc (c : Thread nD τ))) :
    iprop(bigSep Finset.univ (FS c σ₁) ∗ bigSep Finset.univ (FR c σ₁) ∗ bigSep Finset.univ (FL a0 c σ₁) ∗ bigSep Finset.univ (FP c σ₁) ∗ bigSep Finset.univ (FA a0 c σ₁))
    ⊢ iprop(bigSep Finset.univ (ended (F := F) c) ∗ bigSep Finset.univ (land (F := F) c) ∗ pt c cc0_scratch2 (total a0)) := by
  have hz : ∀ h : Fin 2, (![14, 14] : Fin 2 → ℕ) h = 14 := by decide
  have eS : bigSep Finset.univ (FS (F := F) c σ₁) = bigSep Finset.univ fun hs : Fin 2 × Fin 14 => atPos ER (sendC c hs.1 hs.2) 1 ∅ 0 :=
    bigSep_congr fun p _ => by unfold FS σ₁; dsimp only; exact if_pos (by rw [hz]; exact p.2.isLt)
  have eR : bigSep Finset.univ (FR (F := F) c σ₁) = bigSep Finset.univ fun hs : Fin 2 × Fin 14 => atPos ER (recvC c hs.1 hs.2) 1 ∅ 0 :=
    bigSep_congr fun p _ => by unfold FR σ₁; dsimp only; exact if_pos (by rw [hz]; exact p.2.isLt)
  have eL : bigSep Finset.univ (FL a0 c σ₁) = bigSep Finset.univ fun h : Fin 2 => bigSep Finset.univ fun s : Fin 7 => slotH a0 c h s := by
    rw [← bigSep_univ_prod (fun p : Fin 2 × Fin 7 => slotH a0 c p.1 p.2)]
    exact bigSep_congr fun p _ => by unfold FL σ₁; dsimp only; exact if_pos (by rw [hz]; omega)
  have eA : bigSep Finset.univ (FA a0 c σ₁) = bigSep Finset.univ fun p : Fin 2 × Fin 8 => piece c p.2 p.1 (total a0) :=
    bigSep_congr fun p _ => by
      unfold FA
      rw [pst_last]; rfl
  have eP : bigSep Finset.univ (FP (F := F) c σ₁) = (iprop(emp) : sProp 𝕄) := by
    refine (bigSep_congr (Ψ := fun _ => iprop(emp)) fun p _ => ?_).trans (emps _)
    unfold FP σ₁; dsimp only
    exact if_neg fun h => by
      have h1 := (amir p.2).isLt
      have h2 : 14 ≤ (amir p.2).val := (hz p.1).symm.le.trans h.2
      omega
  have eE : bigSep Finset.univ (ended (F := F) c) = iprop((bigSep Finset.univ fun hs : Fin 2 × Fin 14 => atPos ER (sendC c hs.1 hs.2) 1 ∅ 0) ∗ bigSep Finset.univ fun hs : Fin 2 × Fin 14 => atPos ER (recvC c hs.1 hs.2) 1 ∅ 0) := by
    unfold ended; exact bigSep_sep _ _ _
  rw [eS, eR, eL, eA, eP, ← acc_split, eE]
  iintro ⟨HS, HR, HL, -, HA⟩
  isplitl [HS HR]
  · isplitl [HS]; · iexact HS
    iexact HR
  isplitl [HL]
  · iapply (show bigSep Finset.univ (fun h : Fin 2 => bigSep Finset.univ fun s : Fin 7 => slotH a0 c h s) ⊢ bigSep Finset.univ (land (F := F) c) from
      bigSep_mono fun h _ => land_join h (f₀ h)) $$ HL
  iexact HA

end Cert.KernelIdeal.Flow

end
-- ==== Proof.Barrier.lean ====
/-
  The start of the body: the device learns which it is, signals the barrier semaphores of its three neighbours, each
  with the landing slots that neighbour's copies will fill, and waits for its own three signals. Also the parts
  of the body that only work out offsets.
-/
module

public import proofs.«01_k».proof.Proof.Split

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD}

/-! ## Framing a call -/

/-- A call followed by a continuation, with what the call does not touch set aside. -/
theorem bind_frame {α β : Type} {p : Prog (TpuEff nD τ sig (Elt F) Λ₀ .tc) α} {k : α → Prog (TpuEff nD τ sig (Elt F) Λ₀ .tc) β}
    {P R : sProp 𝕄} {Q : β → sProp 𝕄} (H : P ⊢ W c p fun a => iprop(R -∗ W c (k a) Q)) : iprop(P ∗ R) ⊢ W c (p >>= k) Q := by
  refine bind_of ?_
  refine BI.Entails.trans (sep_mono_left H) ?_
  refine BI.Entails.trans (wp_frame_r _ _ _) ?_
  refine wp_mono _ _ _ fun a => ?_
  iintro ⟨Hw, HR⟩
  iapply Hw $$ HR

theorem wand_of {P R X : sProp 𝕄} (H : iprop(P ∗ R) ⊢ X) : P ⊢ iprop(R -∗ X) := by
  iintro HP HR
  iapply H
  isplitl [HP]; · iexact HP
  iexact HR

/-! ## The barrier -/

/-- Before the signals across the axes of `S`: what is still owed, and what goes with each signal. -/
def BS (a0 : Dev nD → AccC F) (K : GSem nD τ sig → ℕ) (c : Dev nD) (S : Finset (Fin 3)) : sProp 𝕄 :=
  iprop(ctx a0 K ∗ (∃ Wt, owes (c : Thread nD τ) (owed c σ₀.ns + ∑ a ∈ S, tallyAt (barC (flip a c)) () 1) Wt)
    ∗ bigSep S fun a => iprop(dutyTok ER (barC (flip a c)) 0 a ∗ reached ER (barC (flip a c)) 0 ∗ barPay (flip a c) a))

/-- A signal across axis `a`. -/
theorem bar_signal (a : Fin 3) (S S' : Finset (Fin 3)) (hS : S = insert a S') (ha : a ∉ S') {α : Type} {p : Dev nD} (hp : p = flip a c)
    {k : PUnit → Prog (TpuEff nD τ sig (Elt F) Λ₀ .tc) α} {Q : α → sProp 𝕄} {R : sProp 𝕄} (H : iprop(BS a0 K c S' ∗ R) ⊢ W c (k ⟨⟩) Q) :
    iprop(BS a0 K c S ∗ R) ⊢ W c (semSignalWord p barrier0 1#32 >>= k) Q := by
  subst hS; subst hp
  show _ ⊢ wp frame (wpE (defs₀ (F := F)) 𝒱₀ c none) Set.univ (.op (.semSignal ((flip a c : Dev nD) : Thread nD τ) barrier0 1) k) Q
  unfold BS
  rw [show (bigSep (insert a S') fun a => iprop(dutyTok ER (barC (flip a c)) 0 a ∗ reached ER (barC (flip a c)) 0 ∗ barPay (F := F) (flip a c) a))
      = iprop((dutyTok ER (barC (flip a c)) 0 a ∗ reached ER (barC (flip a c)) 0 ∗ barPay (F := F) (flip a c) a)
        ∗ bigSep S' fun a => iprop(dutyTok ER (barC (flip a c)) 0 a ∗ reached ER (barC (flip a c)) 0 ∗ barPay (F := F) (flip a c) a)) from bigSep_insert ha]
  have hO : owed c σ₀.ns + ∑ a ∈ insert a S', tallyAt (barC (flip a c)) () 1
      = (owed c σ₀.ns + ∑ a ∈ S', tallyAt (barC (flip a c)) () 1) + tallyAt (barC (flip a c)) () 1 := by
    rw [Finset.sum_insert ha, add_assoc, add_comm (tallyAt (barC (flip a c)) () 1)]
  iintro ⟨⟨#Hc, ⟨%Wt, HO⟩, ⟨Ht, Hr, Hp⟩, HS⟩, HR⟩
  iapply (Rounds.wp_signal (Val := Elt F) (defs := defs₀ (F := F)) 𝒱₀ ER (Rd a0) (c : Thread nD τ) none (dst := ((flip a c : Dev nD) : Thread nD τ)) (sem := barrier0) (r := 0) (d := a)
      (κ := K (barC (flip a c))) (k := k) (by rw [duties_bar]; exact Finset.mem_univ _) (amount_bar a0 (flip a c) a) ()
      (owed c σ₀.ns + ∑ a ∈ S', tallyAt (barC (flip a c)) () 1)
      hO) $$ [HO Ht Hr Hp]
  · isplitr; · iapply (ctx_inv (bar_mem (flip a c))); iexact Hc
    isplitl [HO]; · iexact HO
    isplitl [Ht]; · iexact Ht
    isplitl [Hp]; · rw [payload_bar]; iexact Hp
    iexact Hr
  iintro HO
  iapply H
  isplitl [HO HS]
  · unfold BS
    isplitr; · iexact Hc
    isplitl [HO]; · iexists _; iexact HO
    iexact HS
  iexact HR

/-- Waiting for the neighbours' three signals: what they give arrives. -/
theorem bar_wait {α : Type} {k : PUnit → Prog (TpuEff nD τ sig (Elt F) Λ₀ .tc) α} {Q : α → sProp 𝕄} {R : sProp 𝕄}
    (H : iprop((ctx a0 K ∗ (∃ Wt, owes (c : Thread nD τ) (owed c σ₀.ns) Wt) ∗ atPos ER (barC c) 1 ∅ 0
        ∗ bigSep Finset.univ fun hs : Fin 2 × Fin 14 => give (F := F) (par c hs.1 hs.2) hs.1 hs.2) ∗ R) ⊢ W c (k ⟨⟩) Q) :
    iprop((BS a0 K c ∅ ∗ atPos ER (barC c) 0 ∅ 0 ∗ cred (tallyAt (barC c) () 3)) ∗ R) ⊢ W c (semWaitWord barrier0 3#32 >>= k) Q := by
  show _ ⊢ wp frame (wpE (defs₀ (F := F)) 𝒱₀ c none) Set.univ (.op (.semWait barrier0 3) k) Q
  unfold BS
  rw [Finset.sum_empty, add_zero]
  iintro ⟨⟨⟨#Hc, ⟨%Wt, HO⟩, -⟩, Hat, Hcr⟩, HR⟩
  iapply (Rounds.wp_wait_rest_token (Val := Elt F) (defs := defs₀ (F := F)) 𝒱₀ ER (Rd a0) (c : Thread nD τ) none (κ := K (barC c))
      (wpE_semWait_eq 𝒱₀ (c : Thread nD τ) none Set.univ) (Set.mem_univ _) () (O := owed c σ₀.ns) (W := Wt) (R := 0) (m := 0) (T := ∅) (k := k)
      ((Nat.zero_add 3).trans (expect_bar a0 c).symm)) $$ [Hcr HO Hat]
  · isplitr; · iapply (ctx_inv (bar_mem c)); iexact Hc
    isplitl [Hcr]; · iexact Hcr
    isplitl [HO]; · iexact HO
    isplitr; · iapply (mayWait (sm := .reg barrier0) 1 (Nat.le_refl 1) (fun _ _ _ => by omega)); iapply ctx_lev; iexact Hc
    iexact Hat
  iintro ⟨HO, Hat, -, Hpay⟩
  ihave Hp := (ent_of_eq ((rest_bar a0 c).trans give_in)) $$ Hpay
  iapply H
  isplitl [HO Hat Hp]
  · isplitr; · iexact Hc
    isplitl [HO]; · iexists _; iexact HO
    isplitl [Hat]; · iexact Hat
    iexact Hp
  iexact HR

theorem dev1_eq (c : Dev nD) : (⟨k0_dev1 c, k0_dev1_lt c⟩ : Dev nD) = flip 0 c := by revert c; decide +kernel
theorem dev2_eq (c : Dev nD) : (⟨k0_dev2 c, k0_dev2_lt c⟩ : Dev nD) = flip 1 c := by revert c; decide +kernel
theorem dev3_eq (c : Dev nD) : (⟨k0_dev3 c, k0_dev3_lt c⟩ : Dev nD) = flip 2 c := by revert c; decide +kernel

/-- A computation that hands its postcondition back for a frame, run with that frame. -/
theorem wp_wand_to {α : Type} {p : Prog (TpuEff nD τ sig (Elt F) Λ₀ .tc) α} {V X : sProp 𝕄} {Q : α → sProp 𝕄}
    (H : V ⊢ W c p fun a => iprop(X -∗ Q a)) : iprop(V ∗ X) ⊢ W c p Q := by
  refine BI.Entails.trans (sep_mono_left H) ?_
  refine BI.Entails.trans (wp_frame_r _ _ _) ?_
  refine wp_mono _ _ _ fun a => ?_
  iintro ⟨Hw, HX⟩
  iapply Hw
  iexact HX

/-- The last signal and the wait that follows it, before a computation that touches only `V`: what the wait
    brings and the rest come back once that computation is done. -/
theorem bar_last {α : Type} {k : PUnit → Prog (TpuEff nD τ sig (Elt F) Λ₀ .tc) α} {Q : α → sProp 𝕄} {V R : sProp 𝕄}
    (H : V ⊢ W c (k ⟨⟩) fun a => iprop(((ctx a0 K ∗ (∃ Wt, owes (c : Thread nD τ) (owed c σ₀.ns) Wt) ∗ atPos ER (barC c) 1 ∅ 0
        ∗ bigSep Finset.univ fun hs : Fin 2 × Fin 14 => give (F := F) (par c hs.1 hs.2) hs.1 hs.2) ∗ R) -∗ Q a)) :
    iprop(BS a0 K c {2} ∗ (atPos ER (barC c) 0 ∅ 0 ∗ cred (tallyAt (barC c) () 3)) ∗ V ∗ R)
      ⊢ W c (semSignalWord (⟨k0_dev3 c, k0_dev3_lt c⟩ : Dev nD) barrier0 1#32 >>= fun _ => semWaitWord barrier0 3#32 >>= k) Q := by
  refine bar_signal 2 {2} ∅ (by decide) (by decide) (dev3_eq c) ?_
  have e : iprop(BS a0 K c ∅ ∗ (atPos ER (barC c) 0 ∅ 0 ∗ cred (tallyAt (barC c) () 3)) ∗ V ∗ R)
      ⊢ iprop((BS a0 K c ∅ ∗ atPos ER (barC c) 0 ∅ 0 ∗ cred (tallyAt (barC c) () 3)) ∗ (V ∗ R)) := by
    iintro ⟨HB, ⟨Ha, Hc⟩, HR⟩
    isplitl [HB Ha Hc]
    · isplitl [HB]; · iexact HB
      isplitl [Ha]; · iexact Ha
      iexact Hc
    iexact HR
  refine e.trans (bar_wait (a0 := a0) (K := K) (c := c) (k := k) (Q := Q) (R := iprop(V ∗ R)) ?_)
  have e' : iprop((ctx a0 K ∗ (∃ Wt, owes (c : Thread nD τ) (owed c σ₀.ns) Wt) ∗ atPos ER (barC c) 1 ∅ 0
        ∗ bigSep Finset.univ fun hs : Fin 2 × Fin 14 => give (F := F) (par c hs.1 hs.2) hs.1 hs.2) ∗ (V ∗ R))
      ⊢ iprop(V ∗ ((ctx a0 K ∗ (∃ Wt, owes (c : Thread nD τ) (owed c σ₀.ns) Wt) ∗ atPos ER (barC c) 1 ∅ 0
        ∗ bigSep Finset.univ fun hs : Fin 2 × Fin 14 => give (F := F) (par c hs.1 hs.2) hs.1 hs.2) ∗ R)) := by
    iintro ⟨HB, HV, HR⟩
    isplitl [HV]; · iexact HV
    isplitl [HB]; · iexact HB
    iexact HR
  exact e'.trans (wp_wand_to H)

/-! ## The parts -/

/-- Part 1 of the body: the device learns which it is. -/
theorem part1_run {P : sProp 𝕄} {Q : (Σ' (d0 : Dev nD) (v3 : BitVec 32) (v20 : BitVec 32) (v37 : BitVec 32) (c2_i32_12 : BitVec 32) (v38 : BitVec 1), BitVec 32) → sProp 𝕄} (H : ∀ w0 w1 w2 w3 w4 w5, P ⊢ Q ⟨c, w0, w1, w2, w3, w4, w5⟩) :
    P ⊢ W c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) Q := by
  rw [k0_part1_eq_skeleton]; unfold k0_part1_skel
  show _ ⊢ wp frame (wpE (defs₀ (F := F)) 𝒱₀ c none) Set.univ (.op .deviceId _) Q
  rw [wp_deviceId]
  exact ret_of (H _  _ _ _ _ _)

/-- Part 2 of the body: the first two signals. -/
theorem part2_run (v3 : BitVec 32) (v20 : BitVec 32) (v37 : BitVec 32) (c2_i32_12 : BitVec 32) (v38 : BitVec 1) (c1_i32_14 : BitVec 32) {Q : (Σ' (v48 : BitVec 32) (v54 : BitVec 32) (v60 : BitVec 32) (v66 : BitVec 32) (v70 : BitVec 32), Sems sig S_) → sProp 𝕄} {R : sProp 𝕄} (H : ∀ w0 w1 w2 w3 w4, iprop(BS a0 K c {2} ∗ R) ⊢ Q ⟨w0, w1, w2, w3, w4, SemArray.scalar (sig.barrier 0 rfl)⟩) :
    iprop(BS a0 K c Finset.univ ∗ R) ⊢ W c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 c v3 v20 v37 c2_i32_12 v38 c1_i32_14) Q := by
  rw [k0_part2_eq_skeleton]; unfold k0_part2_skel
  refine bar_signal 0 Finset.univ {1, 2} (by decide) (by decide) (dev1_eq c) ?_
  refine bar_signal 1 {1, 2} {2} (by decide) (by decide) (dev2_eq c) ?_
  exact ret_of (H _  _ _ _ _)

/-- Part 45 of the body works out offsets only. -/
theorem part45_run (v37 : BitVec 32) (v48 : BitVec 32) {P : sProp 𝕄} {Q : (Σ' (v1594 : BitVec 32) (v1597 : BitVec 32) (v1599 : BitVec 32) (v1602 : BitVec 32) (v1604 : BitVec 32) (v1607 : BitVec 32) (v1609 : BitVec 32) (v1613 : BitVec 32) (v1616 : BitVec 32) (v1620 : BitVec 32) (v1623 : BitVec 32), BitVec 32) → sProp 𝕄} (H : ∀ r, P ⊢ Q r) :
    P ⊢ W c (k0_part45 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v37 v48) Q := by
  rw [k0_part45_eq_skeleton]; unfold k0_part45_skel
  exact ret_of (H _)

/-- Part 46 of the body works out offsets only. -/
theorem part46_run (v20 : BitVec 32) (v37 : BitVec 32) (v48 : BitVec 32) (v1624 : BitVec 32) {P : sProp 𝕄} {Q : (Σ' (v1628 : BitVec 32) (v1632 : BitVec 32) (v1635 : BitVec 32) (v1639 : BitVec 32) (v1642 : BitVec 32) (v1646 : BitVec 32) (v1649 : BitVec 32) (v1653 : BitVec 32), BitVec 32) → sProp 𝕄} (H : ∀ r, P ⊢ Q r) :
    P ⊢ W c (k0_part46 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v20 v37 v48 v1624) Q := by
  rw [k0_part46_eq_skeleton]; unfold k0_part46_skel
  exact ret_of (H _)

/-- Part 47 of the body works out offsets only. -/
theorem part47_run (v20 : BitVec 32) (v37 : BitVec 32) (v48 : BitVec 32) (v1655 : BitVec 32) {P : sProp 𝕄} {Q : (Σ' (v1656 : BitVec 32) (v1661 : BitVec 32) (v1665 : BitVec 32) (v1670 : BitVec 32) (v1674 : BitVec 32) (v1679 : BitVec 32) (v1682 : BitVec 32) (v1685 : BitVec 32) (v1687 : BitVec 32), BitVec 32) → sProp 𝕄} (H : ∀ r, P ⊢ Q r) :
    P ⊢ W c (k0_part47 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v20 v37 v48 v1655) Q := by
  rw [k0_part47_eq_skeleton]; unfold k0_part47_skel
  exact ret_of (H _)

/-- Part 48 of the body works out offsets only. -/
theorem part48_run (v20 : BitVec 32) (v37 : BitVec 32) (v48 : BitVec 32) (v54 : BitVec 32) (v1592 : BitVec 32) {P : sProp 𝕄} {Q : (Σ' (v1691 : BitVec 32) (v1693 : BitVec 32) (v1697 : BitVec 32) (v1701 : BitVec 32) (v1704 : BitVec 32) (v1707 : BitVec 32) (v1710 : BitVec 32), BitVec 32) → sProp 𝕄} (H : ∀ r, P ⊢ Q r) :
    P ⊢ W c (k0_part48 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 v20 v37 v48 v54 v1592) Q := by
  rw [k0_part48_eq_skeleton]; unfold k0_part48_skel
  exact ret_of (H _)

end Cert.KernelIdeal.Flow

end
-- ==== Proof.Body.lean ====
/-
  The body on device `c`, from the barrier's tokens, the inputs and the buffers to the finished output: the parts
  of the program in order, each on what it touches, the rest carried along.
-/
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF
public import proofs.«01_k».proof.Proof.PartsG
public import proofs.«01_k».proof.Proof.Split
public import proofs.«01_k».proof.Proof.Barrier

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD} {I : Inp F}
variable {zq : (cc0_scratch0 : Ref sig .tc).ty.Contents (Elt F)} {zc : (cc0_scratch1 : Ref sig .tc).ty.Contents (Elt F)}
  {za : (cc0_scratch2 : Ref sig .tc).ty.Contents (Elt F)} {zb0 : (cc0_scratch5 : Ref sig .tc).ty.Contents (Elt F)}
  {zbB : (cc0_scratch6 : Ref sig .tc).ty.Contents (Elt F)} {zbb : (cc0_scratch7 : Ref sig .tc).ty.Contents (Elt F)}
  {zbg : (cc0_scratch8 : Ref sig .tc).ty.Contents (Elt F)} {zo : (cc0_stg5_0 : Ref sig .tc).ty.Contents (Elt F)}

/-- What the body starts from: the barrier's tokens and the signals it will send, the buffers of the
    computation, the tokens of the exchange's cells, and the output's buffer. -/
def begin0 (a0 : Dev nD → AccC F) (K : GSem nD τ sig → ℕ) (c : Dev nD) (I : Inp F)
    (zq : (cc0_scratch0 : Ref sig .tc).ty.Contents (Elt F)) (zc : (cc0_scratch1 : Ref sig .tc).ty.Contents (Elt F))
    (za : (cc0_scratch2 : Ref sig .tc).ty.Contents (Elt F)) (zb0 : (cc0_scratch5 : Ref sig .tc).ty.Contents (Elt F))
    (zbB : (cc0_scratch6 : Ref sig .tc).ty.Contents (Elt F)) (zbb : (cc0_scratch7 : Ref sig .tc).ty.Contents (Elt F))
    (zbg : (cc0_scratch8 : Ref sig .tc).ty.Contents (Elt F)) (zo : (cc0_stg5_0 : Ref sig .tc).ty.Contents (Elt F)) : sProp 𝕄 :=
  iprop(BS a0 K c Finset.univ ∗ (atPos ER (barC c) 0 ∅ 0 ∗ cred (tallyAt (barC c) () 3)) ∗ vm c I zq zc za zb0 zbB zbb zbg
    ∗ (bigSep Finset.univ fun hs : Fin 2 × Fin 14 => own (F := F) c hs) ∗ pt c cc0_stg5_0 zo)

/-- The buffers the exchange does not touch, after the computation, but for the output's. -/
def kept (c : Dev nD) (I : Inp F) : sProp 𝕄 :=
  iprop(pt c cc0_stg0_0 I.x ∗ pt c cc0_stg1_0 I.wq ∗ pt c cc0_stg2_0 I.k ∗ pt c cc0_stg3_0 I.v ∗ pt c cc0_stg4_0 I.wo
    ∗ pt c cc0_scratch0 (qOf I) ∗ pt c cc0_scratch1 (ctxOf I) ∗ pt c cc0_scratch5 bias0 ∗ pt c cc0_scratch6 biasB
    ∗ pt c cc0_scratch7 (biasW 3) ∗ pt c cc0_scratch8 biasG)

/-- What the exchange leaves: every cell one round further, the landing buffers whole, nothing owed. -/
def left (a0 : Dev nD → AccC F) (K : GSem nD τ sig → ℕ) (c : Dev nD) (I : Inp F) : sProp 𝕄 :=
  iprop(ctx a0 K ∗ (∃ Wt, owes (c : Thread nD τ) (owed c σ₁.ns) Wt) ∗ atPos ER (barC c) 1 ∅ 0
    ∗ (bigSep Finset.univ fun hs : Fin 2 × Fin 14 => ended (F := F) c hs) ∗ bigSep Finset.univ (land (F := F) c) ∗ kept c I)

/-- The output: the total, in the output's format. -/
def outC (t : (cc0_scratch2 : Ref sig .tc).ty.Contents (Elt F)) : (cc0_stg5_0 : Ref sig .tc).ty.Contents (Elt F) := k0_pay1 t

/-- What the body ends with. -/
def finish (a0 : Dev nD → AccC F) (K : GSem nD τ sig → ℕ) (c : Dev nD) (I : Inp F) : sProp 𝕄 :=
  iprop(pt c cc0_scratch2 (total a0) ∗ pt c cc0_stg5_0 (outC (total a0)) ∗ left a0 K c I)

/-- From the end of the computation to the start of the exchange. -/
theorem enter (ha : a0 c = accOf I) :
    iprop(vm c I (qOf I) (ctxOf I) (accOf I) bias0 biasB (biasW 3) biasG
      ∗ (ctx a0 K ∗ (∃ Wt, owes (c : Thread nD τ) (owed c σ₀.ns) Wt) ∗ atPos ER (barC c) 1 ∅ 0
        ∗ bigSep Finset.univ fun hs : Fin 2 × Fin 14 => give (F := F) (par c hs.1 hs.2) hs.1 hs.2)
      ∗ (bigSep Finset.univ fun hs : Fin 2 × Fin 14 => own (F := F) c hs) ∗ pt c cc0_stg5_0 zo)
    ⊢ iprop(CS a0 K c σ₀ ∗ kept c I ∗ atPos ER (barC c) 1 ∅ 0 ∗ pt c cc0_stg5_0 zo) := by
  unfold vm CS kept
  rw [← ha]
  iintro ⟨⟨H0, H1, H2, H3, H4, Hq, Hc, Ha, H5, H6, H7, H8⟩, ⟨Hctx, HO, Hat, Hg⟩, Hown, Ho⟩
  ihave Hst := (first_state (a0 := a0) (c := c)) $$ [Hown Hg Ha]
  · isplitl [Hown]; · iexact Hown
    isplitl [Hg]; · iexact Hg
    iexact Ha
  isplitl [Hctx HO Hst]
  · isplitl [Hctx]; · iexact Hctx
    isplitl [HO]; · iexact HO
    iexact Hst
  isplitl [H0 H1 H2 H3 H4 Hq Hc H5 H6 H7 H8]
  · isplitl [H0]; · iexact H0
    isplitl [H1]; · iexact H1
    isplitl [H2]; · iexact H2
    isplitl [H3]; · iexact H3
    isplitl [H4]; · iexact H4
    isplitl [Hq]; · iexact Hq
    isplitl [Hc]; · iexact Hc
    isplitl [H5]; · iexact H5
    isplitl [H6]; · iexact H6
    isplitl [H7]; · iexact H7
    iexact H8
  isplitl [Hat]; · iexact Hat
  iexact Ho

/-- From the end of the exchange to the output's store. -/
theorem leave :
    iprop(CS a0 K c σ₁ ∗ kept c I ∗ atPos ER (barC c) 1 ∅ 0 ∗ pt c cc0_stg5_0 zo)
    ⊢ iprop(pt c cc0_scratch2 (total a0) ∗ pt c cc0_stg5_0 zo ∗ left a0 K c I) := by
  unfold CS left
  iintro ⟨⟨Hctx, HO, Hst⟩, Hk, Hat, Ho⟩
  ihave Hl := (last_state (a0 := a0) (c := c) (fun h => match h with
    | 0 => fun _ => total a0 fun a => ⟨0, by revert a; decide⟩
    | 1 => fun _ => total a0 fun a => ⟨0, by revert a; decide⟩)) $$ Hst
  icases Hl with ⟨He, Hl, Ht⟩
  isplitl [Ht]; · iexact Ht
  isplitl [Ho]; · iexact Ho
  isplitl [Hctx]; · iexact Hctx
  isplitl [HO]; · iexact HO
  isplitl [Hat]; · iexact Hat
  isplitl [He]; · iexact He
  isplitl [Hl]; · iexact Hl
  iexact Hk

theorem foc_second {A B C : sProp 𝕄} : iprop(A ∗ B ∗ C) ⊢ iprop(B ∗ (B -∗ A ∗ B ∗ C)) := by
  iintro ⟨HA, HB, HC⟩
  isplitl [HB]; · iexact HB
  iintro HB
  isplitl [HA]; · iexact HA
  isplitl [HB]; · iexact HB
  iexact HC

theorem foc_store {A B B' C : sProp 𝕄} : iprop(A ∗ B ∗ C) ⊢ iprop(B ∗ (B' -∗ A ∗ B' ∗ C)) := by
  iintro ⟨HA, HB, HC⟩
  isplitl [HB]; · iexact HB
  iintro HB
  isplitl [HA]; · iexact HA
  isplitl [HB]; · iexact HB
  iexact HC

/-- The rectangle of the whole shape is the shape itself. -/
theorem emb_full (s : Shape) (off : Fin s.rank → ℕ) (hoff : ∀ a, off a = 0) {inb} (j : (Rect.unit (s := s) off s.size inb).shape.Idx) :
    (Rect.unit (s := s) off s.size inb).emb j = j := by
  funext a
  refine Fin.ext ?_
  rw [Rect.emb_apply]
  show off a + 1 * (j a).val = _
  rw [hoff, Nat.zero_add, Nat.one_mul]

/-- A load of the whole of the projection's buffer reads its contents. -/
theorem read_total (t : (cc0_scratch2 : Ref sig .tc).ty.Contents (Elt F)) {inb} :
    (Memref.whole cc0_scratch2).view.readAt (Elt F) (Rect.unit (s := S2048x1024) ![0, 0] S2048x1024.size inb).toLoadRect t = t := by
  funext j
  exact congrArg t (emb_full S2048x1024 ![0, 0] (by decide) j)

/-- A store of the whole output leaves what was stored. -/
theorem write_out (t : (cc0_scratch2 : Ref sig .tc).ty.Contents (Elt F)) (z : (cc0_stg5_0 : Ref sig .tc).ty.Contents (Elt F)) {inb} :
    ((Memref.whole cc0_stg5_0).access (Rect.unit (s := S1x2048x1024) ![0, 0, 0] S1x2048x1024.size inb)).write (Elt F) z (k0_pay1 t) Finset.univ = outC t := by
  refine write_eq_of (b := cc0_stg5_0) (fun j => ?_) fun i hi => ?_
  · exact (congrArg (k0_pay1 t) (emb_full S1x2048x1024 ![0, 0, 0] (by decide) j)).symm
  · exact absurd ((Rect.unit (s := S1x2048x1024) ![0, 0, 0] S1x2048x1024.size inb).idx_mem i)
      (by rw [show (Rect.unit (s := S1x2048x1024) ![0, 0, 0] S1x2048x1024.size inb).idx i = i from emb_full S1x2048x1024 ![0, 0, 0] (by decide) i]; exact hi)

/-- The body, run on device `c`. -/
theorem body_run (ha : a0 c = accOf I) {Q : PUnit → sProp 𝕄} (H : finish a0 K c I ⊢ Q ⟨⟩) :
    begin0 a0 K c I zq zc za zb0 zbB zbb zbg zo ⊢ W c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) Q := by
  unfold begin0
  rw [cc0_body_eq_skeleton]; unfold cc0_body_skel
  refine bind_of ?_
  rw [k0_part74_eq_skeleton]; unfold k0_part74_skel
  refine bind_of (part1_run fun _ _ _ _ _ _ => ?_)
  refine bind_of (part2_run _ _ _ _ _ _ fun _ _ _ _ _ => ?_)
  refine bind_of (part3_run _ _ _ (fun k hk => bar_last hk) (wand_of ?_))
  refine bind_frame (part4_run (wand_of ?_))
  refine bind_frame (part5_run (wand_of ?_))
  refine bind_frame (part6_run (wand_of ?_))
  refine bind_frame (part7_run (wand_of ?_))
  refine bind_frame (part8_run (wand_of ?_))
  refine bind_frame (part9_run (wand_of ?_))
  refine bind_frame (part10_run (wand_of ?_))
  refine bind_frame (part11_run (wand_of ?_))
  refine bind_frame (part12_run (wand_of ?_))
  refine bind_frame (part13_run (wand_of ?_))
  refine bind_frame (part14_run (wand_of ?_))
  refine bind_frame (part15_run (wand_of ?_))
  refine bind_frame (part16_run (wand_of ?_))
  refine bind_frame (part17_run (wand_of ?_))
  refine bind_frame (part18_run (wand_of ?_))
  refine bind_frame (part19_run (wand_of ?_))
  refine bind_frame (part20_run (wand_of ?_))
  refine bind_frame (part21_run (wand_of ?_))
  refine bind_frame (part22_run (wand_of ?_))
  refine bind_frame (part23_run (wand_of ?_))
  refine bind_frame (part24_run (wand_of ?_))
  refine bind_frame (part25_run (wand_of ?_))
  refine bind_frame (part26_run (wand_of ?_))
  refine bind_frame (part27_run (wand_of ?_))
  refine bind_frame (part28_run (wand_of ?_))
  refine bind_frame (part29_run (wand_of ?_))
  refine bind_frame (part30_run (wand_of ?_))
  refine bind_frame (part31_run (wand_of ?_))
  refine bind_frame (part32_run (wand_of ?_))
  refine bind_frame (part33_run (wand_of ?_))
  refine bind_frame (part34_run (wand_of ?_))
  refine bind_frame (part35_run (wand_of ?_))
  refine bind_frame (part36_run (wand_of ?_))
  refine bind_frame (part37_run (wand_of ?_))
  refine bind_frame (part38_run (wand_of ?_))
  refine bind_frame (part39_run (wand_of ?_))
  refine bind_frame (part40_run (wand_of ?_))
  refine bind_frame (part41_run (wand_of ?_))
  refine bind_frame (part42_run (wand_of ?_))
  refine bind_frame (part43_run (wand_of ?_))
  refine bind_frame (part44_run _ (fun _ => wand_of ?_))
  refine (enter ha).trans ?_
  refine bind_of (part45_run _ _ fun _ => ?_)
  refine bind_of (part46_run _ _ _ _ fun _ => ?_)
  refine bind_of (part47_run _ _ _ _ fun _ => ?_)
  refine bind_of (part48_run _ _ _ _ _ fun _ => ?_)
  refine bind_frame (part49_run _ _ _ _ (wand_of ?_))
  refine bind_frame (part50_run _ _ _ _ (wand_of ?_))
  refine bind_frame (part51_run _ _ _ (wand_of ?_))
  refine bind_frame (part52_run _ (wand_of ?_))
  refine bind_frame (part53_run _ _ (wand_of ?_))
  refine bind_frame (part54_run _ (wand_of ?_))
  refine bind_frame (part55_run _ _ _ _ (fun _ => wand_of ?_))
  refine bind_frame (part56_run _ _ _ _ (wand_of ?_))
  refine bind_frame (part57_run _ _ _ _ _ (fun _ => wand_of ?_))
  refine bind_frame (part58_run _ _ _ _ _ (wand_of ?_))
  refine bind_frame (part59_run _ (wand_of ?_))
  refine bind_frame (part60_run _ _ (fun _ => wand_of ?_))
  refine ret_of ?_
  refine bind_frame (part61_run _ _ _ _ _ (wand_of ?_))
  refine bind_frame (part62_run _ _ _ (wand_of ?_))
  refine bind_frame (part63_run _ _ (fun _ => wand_of ?_))
  refine bind_frame (part64_run _ _ _ _ (wand_of ?_))
  refine bind_frame (part65_run _ _ _ _ _ (fun _ => wand_of ?_))
  refine bind_frame (part66_run _ _ _ _ _ (wand_of ?_))
  refine bind_frame (part67_run _ _ (wand_of ?_))
  refine bind_frame (part68_run _ _ _ _ (wand_of ?_))
  refine bind_frame (part69_run _ _ _ _ _ _ (fun _ => wand_of ?_))
  refine bind_frame (part70_run _ _ _ _ _ (wand_of ?_))
  refine bind_frame (part71_run _ (wand_of ?_))
  refine bind_frame (part72_run _ _ (wand_of ?_))
  refine bind_frame (part73_run _ (wand_of ?_))
  refine leave.trans ?_
  refine load_of (m := Memref.whole cc0_scratch2) foc_head ?_
  refine load_of (m := Memref.whole cc0_stg5_0) foc_second ?_
  rw [read_total]
  refine store_of (m := Memref.whole cc0_stg5_0) foc_store (write_out _ _) ?_
  exact ret_of H

end Cert.KernelIdeal.Flow

end
-- ==== Proof.Cells.lean ====
/-
  The semaphores of the exchange at the region's two ends: opened at zero when it starts, back at zero when it ends;
  and the launch's ghost state: who holds which token.
-/
module

public import proofs.«01_k».proof.Proof.Body

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable {a0 : Dev nD → AccC F} {K : GSem nD τ sig → ℕ} {c : Dev nD}

/-! ## Families -/

/-- A family of updates is an update of the family. -/
theorem fupd_family {I : Type} [DecidableEq I] (s : Finset I) {Φ Ψ : I → sProp 𝕄} (h : ∀ i, Φ i ⊢ (|={Set.univ}=> Ψ i : sProp 𝕄)) :
    bigSep s Φ ⊢ (|={Set.univ}=> bigSep s Ψ : sProp 𝕄) := by
  induction s using Finset.induction_on with
  | empty => rw [bigSep_empty, bigSep_empty]; exact fupd_intro
  | insert a s ha ih =>
    rw [show bigSep (insert a s) Φ = iprop(Φ a ∗ bigSep s Φ) from bigSep_insert ha, show bigSep (insert a s) Ψ = iprop(Ψ a ∗ bigSep s Ψ) from bigSep_insert ha]
    iintro ⟨H1, H2⟩
    imod (h a) $$ H1 with H1
    imod ih $$ H2 with H2
    imodintro
    isplitl [H1]; · iexact H1
    iexact H2

theorem zip2 {I : Type} [Fintype I] {Φ Ψ : I → sProp 𝕄} : iprop(bigSep Finset.univ Φ ∗ bigSep Finset.univ Ψ) ⊢ bigSep Finset.univ fun i => iprop(Φ i ∗ Ψ i) :=
  ent_of_eq (bigSep_sep _ _ _).symm
theorem unzip2 {I : Type} [Fintype I] {Φ Ψ : I → sProp 𝕄} : (bigSep Finset.univ fun i => iprop(Φ i ∗ Ψ i)) ⊢ iprop(bigSep Finset.univ Φ ∗ bigSep Finset.univ Ψ) :=
  ent_of_eq (bigSep_sep _ _ _)

/-- Copies' semaphores, numbered: first the send semaphore of a copy, then its receive semaphore. -/
def cellIx : (Fin 2 × Fin 14) ⊕ (Fin 2 × Fin 14) → Fin 56
  | .inl hs => sIdx hs.1 hs.2
  | .inr hs => rIdx hs.1 hs.2
theorem cellIx_bij : Function.Bijective cellIx := by decide +kernel

theorem by_cell (Φ : Fin 56 → sProp 𝕄) : bigSep Finset.univ Φ
    = iprop((bigSep Finset.univ fun hs : Fin 2 × Fin 14 => Φ (sIdx hs.1 hs.2)) ∗ bigSep Finset.univ fun hs : Fin 2 × Fin 14 => Φ (rIdx hs.1 hs.2)) := by
  rw [bigSep_univ_equiv (Equiv.ofBijective cellIx cellIx_bij), bigSep_univ_sum]; rfl

/-- A device's numbered cells. -/
abbrev cellC (c : Dev nD) (k : Fin 56) : GSem nD τ sig := ((c : Thread nD τ), osem k)
theorem cellC_s (c : Dev nD) (h : Fin 2) (s : Fin 14) : cellC c (sIdx h s) = sendC c h s := congrArg (Prod.mk _) (osem_s h s)
theorem cellC_r (c : Dev nD) (h : Fin 2) (s : Fin 14) : cellC c (rIdx h s) = recvC c h s := congrArg (Prod.mk _) (osem_r h s)
theorem cell_mem (c : Dev nD) (k : Fin 56) : cellC c k ∈ barCells ∪ scCells :=
  Finset.mem_union_right _ (Finset.mem_map.mpr ⟨(c, k), Finset.mem_univ _, rfl⟩)

theorem by_cell_at (Φ : GSem nD τ sig → sProp 𝕄) : (bigSep Finset.univ fun k : Fin 56 => Φ (cellC c k))
    = iprop((bigSep Finset.univ fun hs : Fin 2 × Fin 14 => Φ (sendC c hs.1 hs.2)) ∗ bigSep Finset.univ fun hs : Fin 2 × Fin 14 => Φ (recvC c hs.1 hs.2)) := by
  rw [by_cell]
  exact congrArg₂ _ (bigSep_congr fun hs _ => by rw [cellC_s]) (bigSep_congr fun hs _ => by rw [cellC_r])

/-! ## What the launch gives a device, and what enters the region -/

/-- Known to all: every cell's invariant, and that every barrier is at its first round. -/
def known (a0 : Dev nD → AccC F) (K : GSem nD τ sig → ℕ) : sProp 𝕄 :=
  iprop((bigSep (barCells ∪ scCells) fun g => cellInv ER (Rd a0) (K g) g) ∗ bigSep barCells fun g => reached ER g 0)

instance known_persistent (a0 : Dev nD → AccC F) (K : GSem nD τ sig → ℕ) : BI.Persistent (known a0 K) := by unfold known; infer_instance

/-- A device's own part of the launch: its place at its barrier, the right to open each of its cells, and the tokens of what it will pay. -/
def mine (c : Dev nD) : sProp 𝕄 :=
  iprop(atPos ER (barC c) 0 ∅ 0 ∗ (bigSep Finset.univ fun k : Fin 56 => openTok ER (cellC c k))
    ∗ (bigSep Finset.univ fun a : Fin 3 => dutyTok ER (barC (flip a c)) 0 a)
    ∗ (bigSep Finset.univ fun hs : Fin 2 × Fin 14 => dutyTok ER (sendC c hs.1 hs.2) 0 0)
    ∗ (bigSep Finset.univ fun hs : Fin 2 × Fin 14 => dutyTok ER (recvC (par c hs.1 hs.2) hs.1 hs.2) 0 0))

/-- The credit for what the others owe a device. -/
def dueMe (c : Dev nD) : sProp 𝕄 :=
  iprop(cred (tallyAt (barC c) () 3) ∗ bigSep Finset.univ fun hs : Fin 2 × Fin 14 => cred (tallyAt (recvC c hs.1 hs.2) () N))

/-- What the launch kept for the region. -/
def Tk (a0 : Dev nD → AccC F) (c : Dev nD) : sProp 𝕄 := iprop((∃ K, known a0 K) ∗ mine c ∗ dueMe c)

/-- What enters the region: the same, each cell open. -/
def Xk (a0 : Dev nD → AccC F) (c : Dev nD) : sProp 𝕄 :=
  iprop(∃ K, ctx a0 K ∗ (bigSep barCells fun g => reached ER g 0)
    ∗ (atPos ER (barC c) 0 ∅ 0 ∗ cred (tallyAt (barC c) () 3)) ∗ (bigSep Finset.univ fun a : Fin 3 => dutyTok ER (barC (flip a c)) 0 a)
    ∗ (bigSep Finset.univ fun hs : Fin 2 × Fin 14 => own (F := F) c hs) ∗ bigSep Finset.univ fun hs : Fin 2 × Fin 14 => reached ER (recvC c hs.1 hs.2) 0)

theorem open_one (k : Fin 56) : iprop((bigSep (barCells ∪ scCells) fun g => cellInv ER (Rd a0) (K g) g) ∗ (openTok ER (cellC c k) ∗ semVal (cellC c k) 0))
    ⊢ (|={Set.univ}=> iprop(atPos ER (cellC c k) 0 ∅ 0 ∗ reached ER (cellC c k) 0) : sProp 𝕄) := by
  iintro ⟨HI, Ho, Hv⟩
  iapply (Rounds.cell_open ER (Rd a0) (g := cellC c k) (Set.mem_univ (K (cellC c k))))
  isplitl [HI]
  · iapply (show (bigSep (barCells ∪ scCells) fun g => cellInv ER (Rd a0) (K g) g) ⊢ cellInv ER (Rd a0) (K (cellC c k)) (cellC c k) from bigSep_elim (cell_mem c k))
    iexact HI
  isplitl [Ho]; · iexact Ho
  iexact Hv

theorem open_cells : iprop((bigSep (barCells ∪ scCells) fun g => cellInv ER (Rd a0) (K g) g)
      ∗ bigSep Finset.univ fun k : Fin 56 => iprop(openTok ER (cellC c k) ∗ semVal (cellC c k) 0))
    ⊢ (|={Set.univ}=> bigSep Finset.univ fun k : Fin 56 => iprop(atPos ER (cellC c k) 0 ∅ 0 ∗ reached ER (cellC c k) 0) : sProp 𝕄) :=
  (bigSep_with_persistent (R := iprop(bigSep (barCells ∪ scCells) fun g => cellInv ER (Rd a0) (K g) g))
      (Φ := fun k : Fin 56 => iprop(openTok ER (cellC c k) ∗ semVal (cellC c k) 0))
      (Ψ := fun k : Fin 56 => iprop(|={Set.univ}=> iprop(atPos ER (cellC c k) 0 ∅ 0 ∗ reached ER (cellC c k) 0))) fun k _ => open_one k).trans
    (fupd_family Finset.univ fun _ => BI.Entails.refl _)

/-- The tokens of a copy, gathered. -/
theorem own_of : iprop(((bigSep Finset.univ fun hs : Fin 2 × Fin 14 => atPos ER (sendC c hs.1 hs.2) 0 ∅ 0) ∗ (bigSep Finset.univ fun hs : Fin 2 × Fin 14 => reached ER (sendC c hs.1 hs.2) 0)
      ∗ (bigSep Finset.univ fun hs : Fin 2 × Fin 14 => dutyTok ER (sendC c hs.1 hs.2) 0 0)
      ∗ (bigSep Finset.univ fun hs : Fin 2 × Fin 14 => dutyTok ER (recvC (par c hs.1 hs.2) hs.1 hs.2) 0 0))
      ∗ ((bigSep Finset.univ fun hs : Fin 2 × Fin 14 => atPos ER (recvC c hs.1 hs.2) 0 ∅ 0) ∗ bigSep Finset.univ fun hs : Fin 2 × Fin 14 => cred (tallyAt (recvC c hs.1 hs.2) () N)))
    ⊢ (bigSep Finset.univ fun hs : Fin 2 × Fin 14 => own (F := F) c hs) := by
  unfold own ownS
  iintro ⟨⟨H1, H2, H3, H4⟩, H5, H6⟩
  iapply zip2
  isplitl [H1 H2 H3 H4]
  · iapply zip2
    isplitl [H1]; · iexact H1
    iapply zip2
    isplitl [H2]; · iexact H2
    iapply zip2
    isplitl [H3]; · iexact H3
    iexact H4
  iapply zip2
  isplitl [H5]; · iexact H5
  iexact H6

/-- Opening every cell of the region. -/
theorem hopen (c : Dev nD) : iprop(Tk a0 c ∗ Pipeline.ownSems0 osem c ∗ levAts L lv) ⊢ (|={Set.univ}=> Xk a0 c : sProp 𝕄) := by
  unfold Tk Xk known mine dueMe
  rw [show (Pipeline.ownSems0 osem c : sProp 𝕄) = bigSep Finset.univ fun k : Fin 56 => semVal (cellC c k) 0 from rfl]
  iintro ⟨⟨⟨%K, #HI, #HR⟩, ⟨Hb, Ho, Hd, Hs, Hr⟩, Hcb, Hcr⟩, Hv, #Hlev⟩
  imod (open_cells (a0 := a0) (K := K) (c := c)) $$ [Ho Hv] with Hc
  · isplitr; · iexact HI
    iapply zip2
    isplitl [Ho]; · iexact Ho
    iexact Hv
  ihave Hc2 := unzip2 $$ Hc
  icases Hc2 with ⟨Hat, Hre⟩
  ihave Hat2 := (ent_of_eq (by_cell_at (c := c) (fun g => atPos ER g 0 ∅ 0))) $$ Hat
  ihave Hre2 := (ent_of_eq (by_cell_at (c := c) (fun g => reached ER g 0))) $$ Hre
  icases Hat2 with ⟨HaS, HaR⟩
  icases Hre2 with ⟨HrS, #HrR⟩
  imodintro
  iexists K
  isplitr
  · unfold ctx
    isplitr; · iexact HI
    iexact Hlev
  isplitr; · iexact HR
  isplitl [Hb Hcb]
  · isplitl [Hb]; · iexact Hb
    iexact Hcb
  isplitl [Hd]; · iexact Hd
  isplitl [HaS HrS Hs Hr HaR Hcr]
  · iapply own_of
    isplitl [HaS HrS Hs Hr]
    · isplitl [HaS]; · iexact HaS
      isplitl [HrS]; · iexact HrS
      isplitl [Hs]; · iexact Hs
      iexact Hr
    isplitl [HaR]; · iexact HaR
    iexact Hcr
  iexact HrR

theorem close_one (g : GSem nD τ sig) (hg : g ∈ barCells ∪ scCells) : iprop(ctx a0 K ∗ atPos ER g 1 ∅ 0) ⊢ (|={Set.univ}=> semVal g 0 : sProp 𝕄) := by
  iintro ⟨HI, Ha⟩
  iapply (Rounds.cell_close ER (Rd a0) (g := g) (κ := K g) (Set.mem_univ _) id (duties_later a0 g))
  isplitl [HI]; · iapply (ctx_inv hg); iexact HI
  iexact Ha

theorem close_cells : iprop(ctx a0 K ∗ bigSep Finset.univ fun k : Fin 56 => atPos ER (cellC c k) 1 ∅ 0)
    ⊢ (|={Set.univ}=> bigSep Finset.univ fun k : Fin 56 => semVal (cellC c k) 0 : sProp 𝕄) :=
  (bigSep_with_persistent (R := ctx a0 K) (Φ := fun k : Fin 56 => atPos ER (cellC c k) 1 ∅ 0)
      (Ψ := fun k : Fin 56 => iprop(|={Set.univ}=> semVal (cellC c k) 0)) fun k _ => close_one _ (cell_mem c k)).trans
    (fupd_family Finset.univ fun _ => BI.Entails.refl _)

/-- Every semaphore of the region is back at zero. -/
theorem hclosed : iprop(ctx a0 K ∗ atPos ER (barC c) 1 ∅ 0 ∗ bigSep Finset.univ fun hs : Fin 2 × Fin 14 => ended (F := F) c hs)
    ⊢ (|={Set.univ}=> iprop(semVal (barC c) 0 ∗ Pipeline.ownSems0 osem c) : sProp 𝕄) := by
  rw [show (Pipeline.ownSems0 osem c : sProp 𝕄) = bigSep Finset.univ fun k : Fin 56 => semVal (cellC c k) 0 from rfl]
  unfold ended
  iintro ⟨#Hc, Hb, He⟩
  ihave He2 := unzip2 $$ He
  ihave He3 := (ent_of_eq (by_cell_at (c := c) (fun g => atPos ER g 1 ∅ 0)).symm) $$ He2
  imod (close_one (a0 := a0) (K := K) (barC c) (bar_mem c)) $$ [Hb] with Hb
  · isplitr; · iexact Hc
    iexact Hb
  imod (close_cells (a0 := a0) (K := K) (c := c)) $$ [He3] with Hs
  · isplitr; · iexact Hc
    iexact He3
  imodintro
  isplitl [Hb]; · iexact Hb
  iexact Hs

end Cert.KernelIdeal.Flow

end
-- ==== Proof.Region.lean ====
/-
  The kernel's region: what its windows bring in and write back, its body's obligation, and its record for the launch.
-/
module

public import proofs.«01_k».proof.Proof.Cells
public import Idealize.ShloMosaic.Lib.Pipeline.RegionTalk
public import proofs.«01_k».proof.Proof.Gen.KernelIdeal.Regions
public import proofs.«01_k».proof.Proof.Gen.KernelIdeal.Points

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (m : (ℓ : Loc nD τ sig) → Buf (Elt F) ℓ)

/-! ## What goes in and out -/

/-- A window's array on device `c` when the region starts. -/
def arrIn (c : Dev nD) (w : Fin 6) : Buf (Elt F) ((cfg0.win w).arr.view.loc (c : Thread nD τ)) := V1 m c (Proc.devRef .tc (Pipeline.arrRef spec0 w))

/-- The blocks the region's windows bring in. -/
def inp (c : Dev nD) : Inp F where
  x := ((cfg0.win 0).blk t0_0).view.read (Elt F) (arrIn m c 0)
  wq := ((cfg0.win 1).blk t0_0).view.read (Elt F) (arrIn m c 1)
  k := ((cfg0.win 2).blk t0_0).view.read (Elt F) (arrIn m c 2)
  v := ((cfg0.win 3).blk t0_0).view.read (Elt F) (arrIn m c 3)
  wo := ((cfg0.win 4).blk t0_0).view.read (Elt F) (arrIn m c 4)

/-- Every device's partial output. -/
def accs (c : Dev nD) : AccC F := accOf (inp m c)

/-- What a device owes when the region starts: a signal to each neighbour, and every copy's amount to its receiver. -/
def O₀ (c : Dev nD) : CellTallies nD τ sig Unit := owed c σ₀.ns + ∑ a : Fin 3, tallyAt (barC (flip a c)) () 1

theorem owed_last (c : Dev nD) : owed c σ₁.ns = 0 := by
  unfold owed
  rw [Finset.filter_false_of_mem fun hs _ => ?_, Finset.sum_empty]
  have e : (σ₁.ns hs.1 : ℕ) = 14 := by revert hs; decide
  rw [e]; exact Nat.not_le.mpr hs.2.isLt

/-- What the region's point leaves: the buffers no window stages, and every semaphore back at zero. -/
def Zk (c : Dev nD) : sProp 𝕄 := iprop(semVal (barC c) 0 ∗ Pipeline.ownSems0 osem c)

/-- The body's invariant. -/
def inv0 (c : Dev nD) (b : Bool) : sProp 𝕄 :=
  iprop(Pipeline.scopedRest spec0 c ∗ (∃ r, prngReg c r) ∗ (match b with | true => Xk (accs m) c | false => Zk c))

/-- The region's data. -/
def dat0 (c : Dev nD) : Dat τ (Elt F) Unit ℕ UU ℕ cfg0 c where
  A w := arrIn m c w
  after w _ := match w with
    | 0 => (inp m c).x
    | 1 => (inp m c).wq
    | 2 => (inp m c).k
    | 3 => (inp m c).v
    | 4 => (inp m c).wo
    | 5 => outC (total (accs m))
    | ⟨_ + 6, h⟩ => absurd h (Nat.not_lt.2 (Nat.le_add_left _ _))
  Φ t := inv0 m c (t.val == 0)
  q _ := fullShare
  owed t := if t.val = 0 then O₀ c else 0

def pdats (p : Fin 1) (c : Dev nD) : Dat τ (Elt F) Unit ℕ UU ℕ (cfgs p) c :=
  match p with | 0 => dat0 m c | ⟨_ + 1, h⟩ => absurd h (Nat.not_lt.2 (Nat.le_add_left _ _))

/-- What the region leaves in the output array. -/
def outs : Outs (F := F) := fun _ r c => Function.update (β := fun r => Buf (Elt F) ((c : Thread nD τ).loc r)) (fun r => m ((c : Thread nD τ).loc r)) main_v19 ((dat0 m c).arrAt 5 1) r

/-! ## The body's obligation -/

theorem owesAt_intro {cfg : Cfg sig Λ₀} {c : Dev nD} (dat : Dat τ (Elt F) Unit ℕ UU ℕ cfg c) (hr : ∀ t, dat.recorded t = Set.univ) (t : Fin (cfg.N + 1)) (O : CellTallies nD τ sig Unit) (h : dat.owed t = O) :
    iprop(∃ Wt, owes (c : Thread nD τ) O Wt) ⊢ dat.owesAt () t := by
  unfold Pipeline.Dat.owesAt Pipeline.owesWithin Pipeline.Dat.bound
  rw [h, hr t]
  iintro ⟨%Wt, HO⟩
  iexists Wt
  isplitr
  · ipureintro; exact fun _ _ => Or.inl trivial
  iexact HO

theorem owesAt_elim {cfg : Cfg sig Λ₀} {c : Dev nD} (dat : Dat τ (Elt F) Unit ℕ UU ℕ cfg c) (t : Fin (cfg.N + 1)) (O : CellTallies nD τ sig Unit) (h : dat.owed t = O) :
    dat.owesAt () t ⊢ iprop(∃ Wt, owes (c : Thread nD τ) O Wt) := by
  unfold Pipeline.Dat.owesAt Pipeline.owesWithin
  rw [h]
  iintro ⟨%Wt, -, HO⟩
  iexists Wt
  iexact HO

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem before0 (c : Dev nD) (d) : (dat0 m c).before 0 t0_0 d = (inp m c).x := by unfold Pipeline.Dat.before; rw [if_pos (by decide)]; rfl
theorem before1 (c : Dev nD) (d) : (dat0 m c).before 1 t0_0 d = (inp m c).wq := by unfold Pipeline.Dat.before; rw [if_pos (by decide)]; rfl
theorem before2 (c : Dev nD) (d) : (dat0 m c).before 2 t0_0 d = (inp m c).k := by unfold Pipeline.Dat.before; rw [if_pos (by decide)]; rfl
theorem before3 (c : Dev nD) (d) : (dat0 m c).before 3 t0_0 d = (inp m c).v := by unfold Pipeline.Dat.before; rw [if_pos (by decide)]; rfl
theorem before4 (c : Dev nD) (d) : (dat0 m c).before 4 t0_0 d = (inp m c).wo := by unfold Pipeline.Dat.before; rw [if_pos (by decide)]; rfl

variable {m}

/-- The landing buffers and the open receive semaphores are what a device owes its neighbours at the barrier. -/
theorem pay_all (c : Dev nD) : iprop((bigSep Finset.univ fun hs : Fin 2 × Fin 14 => reached ER (recvC c hs.1 hs.2) 0) ∗ (∃ f, pt (F := F) c cc0_scratch3 f) ∗ ∃ f, pt (F := F) c cc0_scratch4 f)
    ⊢ bigSep Finset.univ fun a : Fin 3 => barPay (F := F) (flip a c) a := by
  rw [← give_out]
  refine BI.Entails.trans ?_ give_all
  rw [land_eq]
  exact BI.Entails.refl _

/-- The barriers a device signals are at their first round. -/
theorem bars_reached (c : Dev nD) : (bigSep barCells fun g => reached (ER (F := F)) g 0) ⊢ bigSep Finset.univ fun a : Fin 3 => reached ER (barC (flip a c)) 0 := by
  have key : (bigSep barCells fun g => reached (ER (F := F)) g 0) ⊢ bigSep Finset.univ fun d : Dev nD => reached ER (barC d) 0 := ent_of_eq (bigSep_map _)
  have one : ∀ a : Fin 3, (bigSep Finset.univ fun d : Dev nD => reached (ER (F := F)) (barC d) 0) ⊢ reached ER (barC (flip a c)) 0 := fun a => bigSep_elim (Finset.mem_univ (flip a c))
  have dup : (bigSep Finset.univ fun d : Dev nD => reached (ER (F := F)) (barC d) 0) ⊢ bigSep Finset.univ fun a : Fin 3 => reached ER (barC (flip a c)) 0 := by
    refine BI.Entails.trans ?_ (bigSep_with_persistent (R := bigSep Finset.univ fun d : Dev nD => reached (ER (F := F)) (barC d) 0) (Φ := fun _ : Fin 3 => iprop(emp)) fun a _ => ?_)
    · have e : (bigSep Finset.univ fun d : Dev nD => reached (ER (F := F)) (barC d) 0) ⊢ iprop((bigSep Finset.univ fun d : Dev nD => reached (ER (F := F)) (barC d) 0) ∗ bigSep (Finset.univ : Finset (Fin 3)) fun _ => iprop(emp)) := by
        rw [emps]
        iintro H
        isplitl [H]; · iexact H
        iempintro
      exact e
    · have e : iprop((bigSep Finset.univ fun d : Dev nD => reached (ER (F := F)) (barC d) 0) ∗ emp) ⊢ reached ER (barC (flip a c)) 0 := by
        iintro ⟨H, -⟩
        iapply (one a); iexact H
      exact e
  exact key.trans dup

/-- What the body starts from, gathered. -/
theorem at_start (c : Dev nD) {zo} : iprop(inv0 m c true ∗ (∃ Wt, owes (c : Thread nD τ) (O₀ c) Wt)
      ∗ pt c cc0_stg0_0 (inp m c).x ∗ pt c cc0_stg1_0 (inp m c).wq ∗ pt c cc0_stg2_0 (inp m c).k ∗ pt c cc0_stg3_0 (inp m c).v ∗ pt c cc0_stg4_0 (inp m c).wo ∗ pt c cc0_stg5_0 zo)
    ⊢ iprop((∃ r, prngReg c r) ∗ ∃ K zq zc za zb0 zbB zbb zbg, begin0 (accs m) K c (inp m c) zq zc za zb0 zbB zbb zbg zo) := by
  unfold inv0 Xk begin0 BS vm O₀
  rw [scopedRest0_eq]
  dsimp only
  iintro ⟨⟨⟨⟨%zq, Hq⟩, ⟨%zc, Hc⟩, ⟨%za, Ha⟩, Hp, Hm, ⟨%zb0, Hb0⟩, ⟨%zbB, HbB⟩, ⟨%zbb, Hbb⟩, ⟨%zbg, Hbg⟩⟩, Hr, ⟨%K, #Hctx, HR, Hbar, Hd, Hown, Hre⟩⟩, HO, Hx, Hwq, Hk, Hv, Hwo, Ho⟩
  isplitl [Hr]; · iexact Hr
  iexists K; iexists zq; iexists zc; iexists za; iexists zb0; iexists zbB; iexists zbb; iexists zbg
  isplitl [HO Hd HR Hre Hp Hm]
  · isplitr; · iexact Hctx
    isplitl [HO]; · iexact HO
    iapply zip2
    isplitl [Hd]; · iexact Hd
    iapply zip2
    isplitl [HR]; · iapply (bars_reached c); iexact HR
    iapply (pay_all c)
    isplitl [Hre]; · iexact Hre
    isplitl [Hp]; · iexact Hp
    iexact Hm
  isplitl [Hbar]; · iexact Hbar
  isplitl [Hx Hwq Hk Hv Hwo Hq Hc Ha Hb0 HbB Hbb Hbg]
  · isplitl [Hx]; · iexact Hx
    isplitl [Hwq]; · iexact Hwq
    isplitl [Hk]; · iexact Hk
    isplitl [Hv]; · iexact Hv
    isplitl [Hwo]; · iexact Hwo
    isplitl [Hq]; · iexact Hq
    isplitl [Hc]; · iexact Hc
    isplitl [Ha]; · iexact Ha
    isplitl [Hb0]; · iexact Hb0
    isplitl [HbB]; · iexact HbB
    isplitl [Hbb]; · iexact Hbb
    iexact Hbg
  isplitl [Hown]; · iexact Hown
  iexact Ho

/-- What the body leaves, its semaphores closed. -/
theorem at_end (c : Dev nD) {K : GSem nD τ sig → ℕ} : iprop((∃ r, prngReg c r) ∗ finish (accs m) K c (inp m c))
    ⊢ (|={Set.univ}=> iprop(inv0 m c false ∗ (∃ Wt, owes (c : Thread nD τ) 0 Wt)
      ∗ pt c cc0_stg0_0 (inp m c).x ∗ pt c cc0_stg1_0 (inp m c).wq ∗ pt c cc0_stg2_0 (inp m c).k ∗ pt c cc0_stg3_0 (inp m c).v ∗ pt c cc0_stg4_0 (inp m c).wo ∗ pt c cc0_stg5_0 (outC (total (accs m)))) : sProp 𝕄) := by
  unfold inv0 Zk finish left kept
  rw [scopedRest0_eq, owed_last, land_eq]
  unfold land
  dsimp only
  iintro ⟨Hr, Ha, Ho, Hctx, HO, Hb, He, ⟨Hp, Hm⟩, Hx, Hwq, Hk, Hv, Hwo, Hq, Hc, Hb0, HbB, Hbb, Hbg⟩
  imod (hclosed (a0 := accs m) (K := K) (c := c)) $$ [Hctx Hb He] with HZ
  · isplitl [Hctx]; · iexact Hctx
    isplitl [Hb]; · iexact Hb
    iexact He
  imodintro
  isplitl [Hr Ha HZ Hp Hm Hq Hc Hb0 HbB Hbb Hbg]
  · isplitl [Ha Hp Hm Hq Hc Hb0 HbB Hbb Hbg]
    · isplitl [Hq]; · iexists _; iexact Hq
      isplitl [Hc]; · iexists _; iexact Hc
      isplitl [Ha]; · iexists _; iexact Ha
      isplitl [Hp]; · iexact Hp
      isplitl [Hm]; · iexact Hm
      isplitl [Hb0]; · iexists _; iexact Hb0
      isplitl [HbB]; · iexists _; iexact HbB
      isplitl [Hbb]; · iexists _; iexact Hbb
      iexists _; iexact Hbg
    isplitl [Hr]; · iexact Hr
    iexact HZ
  isplitl [HO]; · iexact HO
  isplitl [Hx]; · iexact Hx
  isplitl [Hwq]; · iexact Hwq
  isplitl [Hk]; · iexact Hk
  isplitl [Hv]; · iexact Hv
  isplitl [Hwo]; · iexact Hwo
  iexact Ho

/-- What the body leaves. -/
def done (m : (ℓ : Loc nD τ sig) → Buf (Elt F) ℓ) (c : Dev nD) : sProp 𝕄 :=
  iprop(inv0 m c false ∗ (∃ Wt, owes (c : Thread nD τ) 0 Wt)
      ∗ pt c cc0_stg0_0 (inp m c).x ∗ pt c cc0_stg1_0 (inp m c).wq ∗ pt c cc0_stg2_0 (inp m c).k ∗ pt c cc0_stg3_0 (inp m c).v ∗ pt c cc0_stg4_0 (inp m c).wo ∗ pt c cc0_stg5_0 (outC (total (accs m))))

/-- A run, its end changed by an update, beside what it does not touch. -/
theorem run_close {c : Dev nD} {B X R D : sProp 𝕄} {p : Prog (TpuEff nD τ sig (Elt F) Λ₀ .tc) PUnit} {Q : PUnit → sProp 𝕄}
    (h : B ⊢ W c p fun _ => X) (h' : iprop(R ∗ X) ⊢ (|={Set.univ}=> D : sProp 𝕄)) : iprop((R ∗ B) ∗ (D -∗ Q ⟨⟩)) ⊢ W c p Q := by
  have e : iprop(X ∗ R ∗ (D -∗ Q ⟨⟩)) ⊢ (|={Set.univ}=> Q ⟨⟩ : sProp 𝕄) := by
    iintro ⟨HX, HR, HQ⟩
    imod h' $$ [HR HX] with HD
    · isplitl [HR]; · iexact HR
      iexact HX
    imodintro
    iapply HQ
    iexact HD
  have e1 : iprop((R ∗ B) ∗ (D -∗ Q ⟨⟩)) ⊢ iprop(W c p (fun _ => X) ∗ R ∗ (D -∗ Q ⟨⟩)) := by
    iintro ⟨⟨HR, HB⟩, HQ⟩
    isplitl [HB]; · iapply h; iexact HB
    isplitl [HR]; · iexact HR
    iexact HQ
  exact e1.trans ((wp_frame_r _ _ _).trans (BI.Entails.trans (wp_mono _ _ _ fun _ => e) (wp_fupd _ _ _ p Q)))

/-- The body, run from its start to its end, everything closed. -/
theorem body_all (c : Dev nD) {K : GSem nD τ sig → ℕ} {zq zc za zb0 zbB zbb zbg zo} {Q : PUnit → sProp 𝕄} :
    iprop(((∃ r, prngReg c r) ∗ begin0 (accs m) K c (inp m c) zq zc za zb0 zbB zbb zbg zo) ∗ (done m c -∗ Q ⟨⟩)) ⊢ W c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12) Q :=
  run_close (body_run (Q := fun _ => finish (accs m) K c (inp m c)) rfl (BI.Entails.refl _)) (at_end (m := m) c (K := K))

variable (m)

set_option maxRecDepth 4000 in
/-- The body's obligation. -/
theorem body_obligation (c : Dev nD) : BodyObligation (dat0 m c) (defs₀ (F := F)) 𝒱₀ () Set.univ := fun t => by
  obtain rfl := fin_N0 t
  rw [bigSep_W0, bigSep_W0]
  simp only [owns_buf]
  rw [show (dat0 m c).Φ t0_0.castSucc = inv0 m c true from rfl, show (dat0 m c).Φ t0_0.succ = inv0 m c false from rfl]
  iintro ⟨HΦ, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0] at hf0
  rw [before1] at hf1
  rw [before2] at hf2
  rw [before3] at hf3
  rw [before4] at hf4
  subst hf0; subst hf1; subst hf2; subst hf3; subst hf4
  ihave HO2 := (owesAt_elim (dat0 m c) t0_0.castSucc (O₀ c) rfl) $$ HO
  ihave HS := (at_start (m := m) c (zo := f5)) $$ [HΦ HO2 H0 H1 H2 H3 H4 H5]
  · isplitl [HΦ]; · iexact HΦ
    isplitl [HO2]; · iexact HO2
    isplitl [H0]; · iexact H0
    isplitl [H1]; · iexact H1
    isplitl [H2]; · iexact H2
    isplitl [H3]; · iexact H3
    isplitl [H4]; · iexact H4
    iexact H5
  icases HS with ⟨Hr, %K, %zq, %zc, %za, %zb0, %zbB, %zbb, %zbg, HB⟩
  iapply (body_all (m := m) c (K := K) (zq := zq) (zc := zc) (za := za) (zb0 := zb0) (zbB := zbB) (zbb := zbb) (zbg := zbg) (zo := f5))
  isplitl [Hr HB]
  · isplitl [Hr]; · iexact Hr
    iexact HB
  unfold done
  iintro ⟨HΦ, HO, H0, H1, H2, H3, H4, H5⟩
  isplitl [HΦ]; · iexact HΦ
  isplitl [HO]; · iapply (owesAt_intro (dat0 m c) (fun _ => rfl) t0_0.succ 0 rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  iexists _; isplitr; swap; (· iexact H5); ipureintro; rfl

/-! ## The region's record -/

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem O₀_pos {c : Dev nD} {g : GSem nD τ sig} {u : Unit} (h : 0 < O₀ c g u) : (∃ hf s, g = recvC (par c hf s) hf s) ∨ ∃ a, g = barC (flip a c) := by
  unfold O₀ at h
  rw [Pi.add_apply, Finsupp.add_apply] at h
  rcases Nat.add_pos_iff_pos_or_pos.mp h with h | h
  · obtain ⟨hf, s, -, e⟩ := owed_pos h
    exact .inl ⟨hf, s, e⟩
  · rw [Finset.sum_apply, Finsupp.finset_sum_apply] at h
    obtain ⟨a, -, hne⟩ := Finset.exists_ne_zero_of_sum_ne_zero h.ne'
    rw [tallyAt_apply] at hne
    split at hne
    · next hg => exact .inr ⟨a, hg.1⟩
    · exact absurd rfl hne

/-- Whatever a device owes is above every staging wait. -/
theorem cut0 (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨hf, s, rfl⟩ | ⟨a, rfl⟩
    · exact ⟨by rw [L_tc]; exact Finset.mem_singleton_self _, by rw [lv_recv]; omega⟩
    · exact ⟨by rw [L_tc]; exact Finset.mem_singleton_self _, Nat.one_pos⟩
  · exact absurd h (Nat.lt_irrefl 0)

theorem stage_lv (c : Dev nD) : ∀ (w : Fin 6) (s : Fin (spec0 w).nbuf), lv ((c : Thread nD τ), .dma ((spec0 w).sem s)) () ≤ 0 := by
  have e : ∀ (w : Fin 6) (s : Fin (spec0 w).nbuf), isRecv ((spec0 w).sem s) = false := by decide +kernel
  intro w s
  unfold lv; dsimp only; rw [e]; exact Nat.le_refl 0

/-- The unscoped buffers that are no window's array. -/
abbrev others : Finset (DevRef τ sig) := Pipeline.ucRefs τ sig \ Pipeline.arrRefs spec0

theorem out_mem : (Proc.devRef .tc main_v19 : DevRef τ sig) ∈ Pipeline.arrRefs (τ := τ) spec0 := by decide

theorem rest_same (c : Dev nD) : ∀ b ∈ others \ ∅, V2 m (outs m) c b = V1 m c b := fun b hb =>
  Function.update_of_ne (fun e => (Finset.mem_sdiff.mp (Finset.mem_sdiff.mp hb).1).2 (by rw [e]; exact out_mem)) _ _

theorem in_is (c : Dev nD) (w : Fin 6) : (pdats m 0 c).arrAt w 0 = V1 m c (Proc.devRef .tc (Pipeline.arrRef spec0 w)) := rfl

theorem out_is (c : Dev nD) : ∀ w : Fin 6, (pdats m 0 c).arrAt w 1 = V2 m (outs m) c (Proc.devRef .tc (Pipeline.arrRef spec0 w))
  | 0 => (Pipeline.Dat.arrAt_in (dat0 m c) 0 rfl _).trans (V2_of m (outs m) c main_arg0 (by decide)).symm
  | 1 => (Pipeline.Dat.arrAt_in (dat0 m c) 1 rfl _).trans (V2_of m (outs m) c main_arg1 (by decide)).symm
  | 2 => (Pipeline.Dat.arrAt_in (dat0 m c) 2 rfl _).trans (V2_of m (outs m) c main_v11 (by decide)).symm
  | 3 => (Pipeline.Dat.arrAt_in (dat0 m c) 3 rfl _).trans (V2_of m (outs m) c main_v18 (by decide)).symm
  | 4 => (Pipeline.Dat.arrAt_in (dat0 m c) 4 rfl _).trans (V2_of m (outs m) c main_arg4 (by decide)).symm
  | 5 => ((Function.update_self (f := V1 m c) (Proc.devRef .tc main_v19 : DevRef τ sig) (outs m 2 main_v19 c)).trans
      (Function.update_self (β := fun r => Buf (Elt F) ((c : Thread nD τ).loc r)) main_v19 _ _)).symm
  | ⟨_ + 6, h⟩ => absurd h (Nat.not_lt.2 (Nat.le_add_left _ _))

theorem held_none (c : Dev nD) (X : Valuation τ sig (Elt F)) : (StableHlo.held (c.tc : Thread nD τ) ∅ X : sProp 𝕄) = iprop(emp) := by
  unfold StableHlo.held
  exact bigSep_empty

theorem enter0 (c : Dev nD) : iprop(Pipeline.scopedRest spec0 c ∗ (∃ r, prngReg c r) ∗ StableHlo.held (c.tc : Thread nD τ) ∅ (V1 m c) ∗ Xk (accs m) c) ⊢ inv0 m c true := by
  unfold inv0
  iintro ⟨H, Hr, -, HX⟩
  isplitl [H]; · iexact H
  isplitl [Hr]; · iexact Hr
  iexact HX

theorem leave0 (c : Dev nD) : inv0 m c false
    ⊢ iprop(Pipeline.scopedRest spec0 c ∗ (∃ r, prngReg c r) ∗ StableHlo.held (c.tc : Thread nD τ) ∅ (V2 m (outs m) c) ∗ Pipeline.ownSems0 osem c ∗ semVal (barC c) 0) := by
  unfold inv0 Zk
  rw [held_none]
  iintro ⟨H, Hr, Hb, Hs⟩
  isplitl [H]; · iexact H
  isplitl [Hr]; · iexact Hr
  isplitr; · iempintro
  isplitl [Hs]; · iexact Hs
  iexact Hb

set_option backward.isDefEq.respectTransparency.types false in
/-- The region, as the launch takes it. -/
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ others (Finset.empty_subset _) kit0 rfl (fun c => (body_obligation m c).loose)
    (fun _ => 0) O₀ (fun c => (zero_add _).symm) (fun _ => rfl) (fun _ => rfl) (fun _ w => by fin_cases w <;> rfl)
    (V1 m) (V2 m (outs m)) (fun c => rest_same m c)
    (Tk (accs m)) (fun c => semVal (barC c) 0) (Xk (accs m)) (fun c => semVal (barC c) 0) (fun c => hopen c) (fun c => enter0 m c) (fun c => leave0 m c)
    (fun c => fupd_intro)
    (fun _ => 0)
    ⟨fun c w s => by rw [L_tc]; exact Finset.mem_singleton_self _, fun c w s => stage_lv c w s, fun c t g i h => cut0 m c t g i h⟩
    (fun _ => iprop(emp))
    (fun c w => in_is m c w) (fun c w => out_is m c w)

theorem uc_split (c : Dev nD) (X : Valuation τ sig (Elt F)) : (StableHlo.held (c : Thread nD τ) (Pipeline.ucRefs τ sig) X : sProp 𝕄)
    = iprop(StableHlo.held (c : Thread nD τ) (Pipeline.arrRefs spec0) X ∗ StableHlo.held (c : Thread nD τ) others X) :=
  StableHlo.held_sub_split (c : Thread nD τ) (Pipeline.arrRefs_sub_ucRefs spec0 winFacts0.arr_unscoped) X

/-- What accompanies the buffers before the region, and after. -/
def rest (a0 : Dev nD → AccC F) (i : Fin 2) (c : Dev nD) : sProp 𝕄 :=
  match i with
  | 0 => iprop((∃ r, prngReg c r) ∗ Tk a0 c ∗ ∃ Wd, owes (c : Thread nD τ) (O₀ c) Wd)
  | 1 => iprop(semVal (barC c) 0 ∗ ∃ Wd, owes (c : Thread nD τ) 0 Wd)

theorem reg0_pre (c : Dev nD) : iprop(StableHlo.held (c : Thread nD τ) (Pipeline.ucRefs τ sig) (V1 m c) ∗ rest (accs m) 0 c) ⊢ (reg0 m).pre c := by
  show _ ⊢ iprop(StableHlo.held (c.tc : Thread nD τ) (Pipeline.arrRefs spec0) (V1 m c) ∗ (∃ r, prngReg c r)
    ∗ (StableHlo.held (c.tc : Thread nD τ) others (V1 m c) ∗ emp) ∗ Tk (accs m) c ∗ ∃ Wd, owes (c : Thread nD τ) (0 + O₀ c) Wd)
  rw [uc_split, zero_add]
  unfold rest
  iintro ⟨⟨Ha, Hs⟩, Hr, HT, HO⟩
  isplitl [Ha]; · iexact Ha
  isplitl [Hr]; · iexact Hr
  isplitl [Hs]
  · isplitl [Hs]; · iexact Hs
    iempintro
  isplitl [HT]; · iexact HT
  iexact HO

theorem reg0_post (c : Dev nD) : (reg0 m).post c ⊢ iprop(StableHlo.held (c : Thread nD τ) (Pipeline.ucRefs τ sig) (V2 m (outs m) c) ∗ rest (accs m) 1 c) := by
  show iprop(StableHlo.held (c.tc : Thread nD τ) (Pipeline.arrRefs spec0) (V2 m (outs m) c) ∗ (∃ r, prngReg c r)
    ∗ (StableHlo.held (c.tc : Thread nD τ) others (V2 m (outs m) c) ∗ emp) ∗ semVal (barC c) 0 ∗ ∃ Wd, owes (c : Thread nD τ) 0 Wd) ⊢ _
  rw [uc_split]
  unfold rest
  iintro ⟨Ha, -, ⟨Hs, -⟩, Hb, HO⟩
  isplitl [Ha Hs]
  · isplitl [Ha]; · iexact Ha
    iexact Hs
  isplitl [Hb]; · iexact Hb
  iexact HO

end Cert.KernelIdeal.Flow
-- ==== Proof.Launch.lean ====
/-
  The run of the whole program on the eight devices, over any floating-point type: the ghost state is made and dealt
  at launch, each device owes what its neighbours will receive, and every run ends with the arguments unchanged,
  the output at the value of the region's data, and every semaphore at zero.
-/
module

public import proofs.«01_k».proof.Proof.Region

@[expose] public section

noncomputable section

namespace Cert.KernelIdeal.Flow

open Idealize.ShloMosaic Idealize.ShloMosaic.TcCoe Cert.KernelIdeal Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The tokens -/

/-- The cells of a device that carry a duty, each with the duty. -/
def tokOf (c : Dev nD) : Fin 3 ⊕ Fin 56 → GSem nD τ sig × ℕ × Fin 3
  | .inl a => (barC c, 0, a)
  | .inr k => (cellC c k, 0, 0)

theorem tokOf_inj : Function.Injective fun x : Dev nD × (Fin 3 ⊕ Fin 56) => tokOf x.1 x.2 := by
  rintro ⟨c, i⟩ ⟨c', i'⟩ h
  have hc : c = c' := by
    have e : ∀ (d : Dev nD) j, (tokOf d j).1.1.1 = d := fun d j => by cases j <;> rfl
    exact (e c i).symm.trans ((congrArg (fun t : GSem nD τ sig × ℕ × Fin 3 => t.1.1.1) h).trans (e c' i'))
  subst hc
  refine Prod.ext rfl ?_
  have h2 : (tokOf c i).1.2 = (tokOf c i').1.2 := congrArg (fun t : GSem nD τ sig × ℕ × Fin 3 => t.1.2) h
  have h3 : (tokOf c i).2.2 = (tokOf c i').2.2 := congrArg (fun t : GSem nD τ sig × ℕ × Fin 3 => t.2.2) h
  match i, i' with
  | .inl a, .inl a' => exact congrArg Sum.inl h3
  | .inr k, .inr k' => exact congrArg Sum.inr (osem_inj h2)
  | .inl a, .inr k => exact absurd h2 (by intro e; exact nomatch e)
  | .inr k, .inl a => exact absurd h2 (by intro e; exact nomatch e)

/-- Every duty's token. -/
def allToks : Finset (GSem nD τ sig × ℕ × Fin 3) := Finset.univ.map ⟨_, tokOf_inj⟩

/-- The launch's ghost state: the pipeline's, and the cells' with their tokens. -/
def u₀ : UU :=
  (initOf (Pipeline.cells (Pipeline.pin (pcfgs (F := F)) adm) cellOf_inj) (Pipeline.launchToks (Pipeline.pin (pcfgs (F := F)) adm) cellOf_inj),
    launchOf barCells scCells allToks)

/-- A resource kept whole on device 0 until it is dealt. -/
def onFirst (X : sProp 𝕄) (c : Dev nD) : sProp 𝕄 := if c = 0 then X else iprop(emp)
theorem onFirst_all (X : sProp 𝕄) : bigSep Finset.univ (onFirst X) = X := by
  rw [bigSep_univ_at _ (0 : Dev nD), bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

theorem cells_disj : Disjoint (barCells : Finset (GSem nD τ sig)) scCells := by
  rw [Finset.disjoint_left]
  rintro g h₁ h₂
  obtain ⟨c, -, rfl⟩ := Finset.mem_map.mp h₁
  obtain ⟨x, -, h⟩ := Finset.mem_map.mp h₂
  exact nomatch (congrArg Prod.snd h : osem x.2 = SemLoc.reg barrier0)

/-- Summed over devices, a family is the same with each member taken at a permuted device. -/
theorem around {I : Type} [Fintype I] (e : I → Dev nD ≃ Dev nD) (Φ : Dev nD → I → sProp 𝕄) :
    (bigSep Finset.univ fun c : Dev nD => bigSep Finset.univ fun i : I => Φ c i) = bigSep Finset.univ fun c : Dev nD => bigSep Finset.univ fun i : I => Φ (e i c) i := by
  rw [bigSep_univ_comm, bigSep_univ_comm (fun c i => Φ (e i c) i)]
  exact bigSep_congr fun i _ => bigSep_univ_equiv (e i) fun c => Φ c i

/-- Crossing an axis, as a permutation of the devices. -/
def flipE (a : Fin 3) : Dev nD ≃ Dev nD := ⟨flip a, flip a, flip_flip a, flip_flip a⟩
/-- A copy's receiver, as a permutation of the devices. -/
def parE (hs : Fin 2 × Fin 14) : Dev nD ≃ Dev nD := ⟨fun c => par c hs.1 hs.2, fun c => par c hs.1 hs.2, fun c => par_par c hs.1 hs.2, fun c => par_par c hs.1 hs.2⟩

/-- The tokens, each on the device that pays the duty. -/
def toks (c : Dev nD) : sProp 𝕄 :=
  iprop((bigSep Finset.univ fun a : Fin 3 => dutyTok ER (barC (flip a c)) 0 a)
    ∗ (bigSep Finset.univ fun hs : Fin 2 × Fin 14 => dutyTok ER (sendC c hs.1 hs.2) 0 0)
    ∗ (bigSep Finset.univ fun hs : Fin 2 × Fin 14 => dutyTok ER (recvC (par c hs.1 hs.2) hs.1 hs.2) 0 0))

theorem toks_dealt : (bigSep allToks fun x => dutyTok (ER (F := F)) x.1 x.2.1 x.2.2) = bigSep Finset.univ fun c : Dev nD => toks c := by
  unfold allToks toks
  rw [bigSep_map, bigSep_univ_prod]
  have e : (bigSep Finset.univ fun c : Dev nD => bigSep Finset.univ fun i : Fin 3 ⊕ Fin 56 => dutyTok (ER (F := F)) (tokOf c i).1 (tokOf c i).2.1 (tokOf c i).2.2)
      = bigSep Finset.univ fun c : Dev nD => iprop((bigSep Finset.univ fun a : Fin 3 => dutyTok (ER (F := F)) (barC c) 0 a)
        ∗ (bigSep Finset.univ fun hs : Fin 2 × Fin 14 => dutyTok ER (sendC c hs.1 hs.2) 0 0) ∗ bigSep Finset.univ fun hs : Fin 2 × Fin 14 => dutyTok ER (recvC c hs.1 hs.2) 0 0) :=
    bigSep_congr fun c _ => by
      rw [bigSep_univ_sum, ← by_cell_at (c := c) (fun g => dutyTok (ER (F := F)) g 0 0)]; rfl
  refine e.trans ?_
  rw [bigSep_sep', bigSep_sep', bigSep_sep', bigSep_sep', around flipE (fun c a => dutyTok (ER (F := F)) (barC c) 0 a), around parE (fun c hs => dutyTok (ER (F := F)) (recvC c hs.1 hs.2) 0 0)]
  rfl

/-! ## What is owed -/

theorem recvS_inj : ∀ h h' : Fin 2, ∀ s s' : Fin 14, recvS h s = recvS h' s' → h = h' ∧ s = s' := by decide +kernel

theorem owed_at_bar (d c : Dev nD) : O₀ d (barC c) () = ∑ a : Fin 3, if d = flip a c then 1 else 0 := by
  have h0 : owed d σ₀.ns (barC c) () = 0 := by
    by_contra hne
    obtain ⟨h, s, -, e⟩ := owed_pos (Nat.pos_of_ne_zero hne)
    exact nomatch (congrArg Prod.snd e : SemLoc.reg barrier0 = SemLoc.dma (recvS h s))
  unfold O₀
  rw [Pi.add_apply, Finsupp.add_apply, h0, Nat.zero_add, Finset.sum_apply, Finsupp.finset_sum_apply]
  refine Finset.sum_congr rfl fun a _ => ?_
  rw [tallyAt_apply]
  refine if_congr ⟨fun h => ?_, fun h => ?_⟩ rfl rfl
  · have e : c = flip a d := congrArg (fun g : GSem nD τ sig => g.1.1) h.1
    rw [e, flip_flip]
  · subst h; rw [flip_flip]; exact ⟨rfl, rfl⟩

theorem owed_at_recv (d c : Dev nD) (h : Fin 2) (s : Fin 14) : O₀ d (recvC c h s) () = if d = par c h s then N else 0 := by
  have h0 : (∑ a : Fin 3, tallyAt (barC (flip a d)) () 1 : CellTallies nD τ sig Unit) (recvC c h s) () = 0 := by
    rw [Finset.sum_apply, Finsupp.finset_sum_apply]
    refine Finset.sum_eq_zero fun a _ => ?_
    rw [tallyAt_apply]
    exact if_neg fun e => nomatch (congrArg Prod.snd e.1 : SemLoc.dma (recvS h s) = SemLoc.reg barrier0)
  unfold O₀
  rw [Pi.add_apply, Finsupp.add_apply, h0, Nat.add_zero]
  unfold owed
  rw [Finset.filter_true_of_mem fun hs _ => by
    have e : (σ₀.ns hs.1 : ℕ) = 0 := by revert hs; decide
    rw [e]; exact Nat.zero_le _]
  rw [Finset.sum_apply, Finsupp.finset_sum_apply, Finset.sum_eq_single (h, s)]
  · rw [tallyAt_apply]
    refine if_congr ⟨fun e => ?_, fun e => ?_⟩ rfl rfl
    · have e' : c = par d h s := congrArg (fun g : GSem nD τ sig => g.1.1) e.1
      rw [e', par_par]
    · subst e; rw [par_par]; exact ⟨rfl, rfl⟩
  · rintro ⟨h', s'⟩ - hne
    rw [tallyAt_apply]
    refine if_neg fun e => hne ?_
    have e' : recvS h s = recvS h' s' := SemLoc.dma.inj (congrArg Prod.snd e.1)
    obtain ⟨e1, e2⟩ := recvS_inj _ _ _ _ e'
    exact Prod.ext e1.symm e2.symm
  · exact fun hn => absurd (Finset.mem_univ _) hn

theorem due_bar (c : Dev nD) : tallyOn (barC c) (launchCredit (Pipeline.owing O₀) 0 (barC c)) = (tallyAt (barC c) () 3 : CellTallies nD τ sig Unit) := by
  unfold tallyAt; refine congrArg _ (Finsupp.ext fun u => ?_); cases u
  rw [Pipeline.launchCredit_owing, Finsupp.single_eq_same, Finset.sum_congr rfl fun d _ => owed_at_bar d c, Finset.sum_comm,
    Finset.sum_congr rfl fun a _ => Finset.sum_ite_eq' Finset.univ (flip a c) fun _ => 1]
  simp only [Finset.mem_univ, if_true]
  rfl

theorem due_recv (c : Dev nD) (h : Fin 2) (s : Fin 14) :
    tallyOn (recvC c h s) (launchCredit (Pipeline.owing O₀) 0 (recvC c h s)) = (tallyAt (recvC c h s) () N : CellTallies nD τ sig Unit) := by
  unfold tallyAt; refine congrArg _ (Finsupp.ext fun u => ?_); cases u
  rw [Pipeline.launchCredit_owing, Finsupp.single_eq_same, Finset.sum_congr rfl fun d _ => owed_at_recv d c h s, Finset.sum_ite_eq' Finset.univ (par c h s) fun _ => N,
    if_pos (Finset.mem_univ _)]

/-- The receive semaphores, as places. -/
def recvEmb : Fin 2 × Fin 14 ↪ SemLoc sig := ⟨fun hs => .dma (recvS hs.1 hs.2), fun a b h => by
  obtain ⟨e1, e2⟩ := recvS_inj _ _ _ _ (SemLoc.dma.inj h); exact Prod.ext e1 e2⟩

theorem credit (c : Dev nD) : (Pipeline.launchCred O₀ c : sProp 𝕄) ⊢ dueMe c := by
  unfold Pipeline.launchCred dueMe
  rw [bigSep_univ_at _ (SemLoc.reg barrier0), due_bar]
  refine sep_mono_right ?_
  have e : (bigSep Finset.univ fun hs : Fin 2 × Fin 14 => cred (tallyAt (recvC c hs.1 hs.2) () N))
      = bigSep (Finset.univ.map recvEmb) fun sm => (cred (tallyOn ((c : Thread nD τ), sm) (launchCredit (Pipeline.owing O₀) 0 ((c : Thread nD τ), sm))) : sProp 𝕄) := by
    rw [bigSep_map]
    exact bigSep_congr fun hs _ => by rw [← due_recv]; rfl
  rw [e]
  refine bigSep_subset fun sm hsm => ?_
  obtain ⟨hs, -, rfl⟩ := Finset.mem_map.mp hsm
  exact Finset.mem_erase.mpr ⟨(fun h => nomatch (h : SemLoc.dma (recvS hs.1 hs.2) = SemLoc.reg barrier0)), Finset.mem_univ _⟩

/-! ## The launch -/

theorem bar_only : (Finset.univ.filter fun sm : SemLoc sig => ¬ sm.isScoped .tc) = {SemLoc.reg barrier0} := by decide +kernel
theorem unscoped_bar (sm : SemLoc sig) (h : sm.isScoped .tc = false) : sm = .reg barrier0 :=
  Finset.mem_singleton.mp (bar_only ▸ Finset.mem_filter.mpr ⟨Finset.mem_univ _, by rw [h]; exact Bool.false_ne_true⟩)
theorem bar_counter (c : Dev nD) : (unscopedSems0 c : sProp 𝕄) = semVal (barC c) 0 := by
  unfold unscopedSems0
  rw [bar_only, BI.bigSep_singleton]

/-- What of a device's launch is not ghost state. -/
def plain (c : Dev nD) : sProp 𝕄 :=
  iprop(StableHlo.held (c : Thread nD τ) (Pipeline.ucRefs τ sig) (V0 m c) ∗ dueMe c ∗ owes (c : Thread nD τ) (O₀ c) ∅ ∗ ∃ r, prngReg c r)

/-- The thread state a device starts from. -/
abbrev first (c : Dev nD) : sProp 𝕄 := iprop(StableHlo.held (c : Thread nD τ) (Pipeline.ucRefs τ sig) (V0 m c) ∗ rest (accs m) 0 c)

/-- Everything the launch owns of the cells, kept on device 0. -/
def G : Dev nD → sProp 𝕄 := onFirst (BI.own (ER (launchOf barCells scCells allToks)))

theorem first_of (K : GSem nD τ sig → ℕ) (c : Dev nD) : iprop(known (accs m) K ∗ (mine c ∗ plain m c)) ⊢ first m c := by
  unfold plain first rest Tk
  iintro ⟨#HR, Hl, Hh, Hd, HO, Hp⟩
  isplitl [Hh]; · iexact Hh
  isplitl [Hp]; · iexact Hp
  isplitl [Hl Hd]
  · isplitr
    · iexists K; iexact HR
    isplitl [Hl]; · iexact Hl
    iexact Hd
  iexists ∅; iexact HO

/-- What a device gets at launch. -/
abbrev given (c : Dev nD) : sProp 𝕄 := iprop(unscopedBufs c (fun b => m ((c : Thread nD τ).loc b)) ∗ unscopedSems0 c
  ∗ owes (c : Thread nD τ) (O₀ c) ∅ ∗ Pipeline.launchCred O₀ c ∗ prngReg c (ρ c) ∗ G c)

theorem sorted (c : Dev nD) : given m ρ c ⊢ (iprop(plain m c ∗ (semVal (barC c) 0 ∗ G c)) : sProp 𝕄) := by
  unfold plain
  dsimp only [given]
  rw [← Pipeline.unscopedBufs_held (Ix := Unit) (Name := ℕ) (U := UU) (Lvl := ℕ) c (V0 m c), bar_counter]
  iintro ⟨Hh, Hus, HO, Hcr, Hp, HG⟩
  isplitl [Hh HO Hcr Hp]
  · isplitl [Hh]; · iexact Hh
    isplitl [Hcr]; · iapply (credit c); iexact Hcr
    isplitl [HO]; · iexact HO
    iexists (ρ c); iexact Hp
  isplitl [Hus]; · iexact Hus
  iexact HG

/-- The ghost state is made, and dealt to the devices. -/
theorem dealt : iprop((bigSep Finset.univ (given m ρ)) ∗ levAts L lv) ⊢ (|={Set.univ}=> bigSep Finset.univ (first m) : sProp 𝕄) := by
  have hs : bigSep Finset.univ (given m ρ) ⊢ (bigSep Finset.univ fun c : Dev nD => iprop(plain m c ∗ (semVal (barC c) 0 ∗ G c)) : sProp 𝕄) :=
    bigSep_mono fun c _ => sorted m ρ c
  have hv : bigSep Finset.univ (fun c : Dev nD => (semVal (barC c) 0 : sProp 𝕄)) ⊢ bigSep barCells (fun g => (semVal g 0 : sProp 𝕄)) :=
    ent_of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barC c) 0 ∅ 0 : sProp 𝕄)) :=
    ent_of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 56 => (openTok ER (cellC c k) : sProp 𝕄)) :=
    ent_of_eq (by rw [bigSep_map, bigSep_univ_prod]; rfl)
  iintro ⟨H, -⟩
  ihave H' := hs $$ H
  ihave H2 := unzip2 $$ H'; icases H2 with ⟨HB, H3⟩
  ihave H4 := unzip2 $$ H3; icases H4 with ⟨Hv, HG⟩
  ihave Hu := (show bigSep Finset.univ (G (F := F)) ⊢ BI.own (ER (launchOf barCells scCells allToks)) from
    ent_of_eq (onFirst_all (BI.own (ER (launchOf barCells scCells allToks))))) $$ HG
  imod (Rounds.fund_launch ER (Rd (accs m)) cells_disj (fun g _ h => h) allToks) $$ [Hv Hu] with ⟨%K, -, #Hinv, #Hr, Hat, Hopen, Htok⟩
  · isplitl [Hv]
    · iapply hv $$ Hv
    · iexact Hu
  imodintro
  iapply (bigSep_with_persistent (R := known (accs m) K) (Φ := fun c => iprop(mine c ∗ plain m c)) fun c _ => first_of m K c)
  isplitr
  · unfold known
    isplitr; · iexact Hinv
    iexact Hr
  iapply zip2
  isplitr [HB]
  · unfold mine
    iapply zip2; isplitl [Hat]; · iapply hat $$ Hat
    iapply zip2; isplitl [Hopen]; · iapply hop $$ Hopen
    iapply (ent_of_eq (toks_dealt (F := F))) $$ Htok
  · iexact HB

/-! ## The run -/

/-- What a device ends with. -/
abbrev last (c : Dev nD) : sProp 𝕄 := iprop(StableHlo.held (c : Thread nD τ) (Pipeline.ucRefs τ sig) (V2 m (outs m) c) ∗ semVal (barC c) 0)

/-- What a final state holds on a device. -/
def holdsAt (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v19) = (dat0 m c).arrAt 5 1

theorem last_holds (c : Dev nD) (s : Phys nD τ sig (Elt F)) : iprop(last m c ∗ SI s) ⊢ (|={Set.univ}=> iprop(⌜holdsAt m c s.mem ∧ s.mem.sem (barC c) = 0⌝ ∗ SI s) : sProp 𝕄) := by
  dsimp only [last]
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s) $$ [Hh HSI]
  · isplitl [Hh] <;> iassumption
  icases Hr with ⟨%h, HSI⟩
  imodintro
  isplitr
  · ipureintro
    have rd : ∀ r : Ref sig .tc, ¬ (Proc.devRef .tc r : DevRef τ sig).isScoped → s.mem.mem ((c.tc : Thread nD τ).loc r) = V2 m (outs m) c (Proc.devRef .tc r) :=
      fun r hr => h (Proc.devRef .tc r) (Finset.mem_filter.mpr ⟨StableHlo.devRef_mem_tcRefs r, hr⟩)
    exact ⟨⟨⟨(rd main_arg0 (by decide)).trans (V2_main_arg0 m (outs m) c), (rd main_arg1 (by decide)).trans (V2_main_arg1 m (outs m) c),
      (rd main_arg2 (by decide)).trans (V2_main_arg2 m (outs m) c), (rd main_arg3 (by decide)).trans (V2_main_arg3 m (outs m) c),
      (rd main_arg4 (by decide)).trans (V2_main_arg4 m (outs m) c)⟩, (rd main_v19 (by decide)).trans (out_is m c 5).symm⟩, by simpa using hb⟩
  iexact HSI

-- the launch theorem's implicit arguments are found by unifying its conclusion with this one
set_option backward.isDefEq.respectTransparency.types false in
/-- Every run ends, with the arguments unchanged, the output as the region's data say, and every semaphore at zero. -/
theorem run : θ_run defs (onTc (τ := τ) (main (F := F))) ⟨m, fun _ => 0, ρ⟩ (fun r => (∀ c : Dev nD, holdsAt m c r.2) ∧ r.2.sem = fun _ => 0) := by
  refine Pipeline.θ_run_regions_kit_dev_sems (pcfgs (F := F)) adm (pdats m) () cellOf_inj EP defs₀ 𝒱₀ L lv m ρ main
    (segs m 𝒱₀ L lv (rest (accs m)) () (pdats m) (reg0 m))
    (fun c Q => by
      rewrite [main_chain c, Pipeline.Seg.run_eq_chain,
        show (segs m 𝒱₀ L lv (rest (accs m)) () (pdats m) (reg0 m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide) O₀ L_of_ne G (u₀ (F := F)) ?_
    (T₀ := first m) (Tₙ := last m)
    (hch := fun c => ⟨.rfl, reg0_pre m c, (reg0_post m c).trans ?_⟩)
    (hinit := dealt m ρ) (QY := fun c s => holdsAt m c s ∧ s.sem (barC c) = 0)
    (hfin := fun c s => last_holds m c s)
    (hQ := fun s h hs => ⟨fun c => (h c).1, sem_eq_zero hs fun c sm hsm => by
      obtain rfl := unscoped_bar sm hsm
      exact (h c).2⟩)
  · unfold u₀ G
    iintro Hu
    ihave H := (ownU_pair _ _) $$ Hu
    icases H with ⟨HP, HX⟩
    imodintro
    isplitl [HP]; · iexact HP
    rw [onFirst_all]; iexact HX
  · unfold rest last
    iintro ⟨Hh, Hb, HO⟩
    isplitr [HO]
    · isplitl [Hh]; · iexact Hh
      iexact Hb
    iexact HO

/-- Every run ends, with the arguments unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (run m ρ).mono fun r hr => ⟨fun c => (hr.1 c).1, hr.2⟩

end Cert.KernelIdeal.Flow

end
-- ==== Proof.Frames.lean ====
/-
  The claims about frames, and the claim that the idealization names a constant: each program runs, leaves its
  arguments as they were, and ends with every semaphore at zero.

  The two kernels have one text, up to the name given to the mask's constant. The run proved in Launch.lean is over
  any floating-point type with named constants, so the bit-exact kernel's frame is that run with each named constant
  read as the number it is printed as.
-/
module

public import proofs.«01_k».proof.Proof.Launch
public import proofs.«01_k».proof.Kernel
public import proofs.«01_k».proof.Proof.Gen.Kernel
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Defs

@[expose] public section

noncomputable section

namespace Cert.KernelIdeal.Flow

open Idealize.ShloMosaic Idealize.ShloMosaic.TcCoe Idealize.SL.Sem

/-- Each named constant read as the bit pattern it is printed as. -/
@[instance_reducible] def asBits : Named Bits where
  named _ _ {φ} b := FloatOps.ofBits φ b

attribute [local instance] asBits

/-- The bit-exact kernel's frame is the frame of the kernel with named constants, those read as their bit patterns. -/
theorem same_run : Cert.quiescent_Kernel (hKernel := Cert.Kernel.Gen.facts) = ∀ (m : (ℓ : Loc nD τ sig) → Buf (Elt Bits) ℓ) (g : Dev nD → PrngReg), True →
    θ_run defs (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  chain_rfl

/-- The bit-exact kernel runs, leaves its arguments, and ends with every semaphore at zero. -/
theorem kernel_frame : Cert.quiescent_Kernel (hKernel := Cert.Kernel.Gen.facts) := by
  rw [same_run]
  exact fun m g _ => frame_run (F := Bits) m g

/-- The idealized kernel runs, leaves its arguments, and ends with every semaphore at zero. -/
theorem kernelIdeal_frame : Cert.quiescent_KernelIdeal (hKernelIdeal := Cert.KernelIdeal.Gen.facts) :=
  fun m g _ => frame_run (F := Ideal) m g

/-- The reference runs, leaves its arguments, and ends with every semaphore at zero. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩) (Cert.ReferenceIdeal.Value.run (F := Ideal) m g)

/-- The same of arguments that satisfy the precondition. -/
theorem kernelIdeal_frame_pre : Cert.quiescent_KernelIdeal_pre_finite_KernelIdeal (hKernelIdeal := Cert.KernelIdeal.Gen.facts)
    (hPre_finite_KernelIdeal := Cert.Pre_finite_KernelIdeal.Gen.facts) :=
  fun m g _ => kernelIdeal_frame m g trivial

/-- The reference's frame, of arguments that satisfy the precondition. -/
theorem reference_frame_pre : Cert.quiescent_ReferenceIdeal_pre_finite_ReferenceIdeal (hReferenceIdeal := Cert.ReferenceIdeal.Gen.facts)
    (hPre_finite_ReferenceIdeal := Cert.Pre_finite_ReferenceIdeal.Gen.facts) :=
  fun m g _ => reference_frame m g trivial

/-- The mask's constant is named: minus infinity stands for the number printed. -/
theorem mask_named : Cert.preserves_Kernel_KernelIdeal :=
  IdealRules.named_const.statement κ "mask" .f32 0xCE6E6B28#32 ⊥ rfl

end Cert.KernelIdeal.Flow

end
-- ==== Proof.Attn.lean ====
/-
  Masked attention of one query row, over the extended reals, with no program in it: a row of masked scores and a column
  of values, the weights without a maximum taken off, and that taking the maximum off first gives the same weights when
  the scores that count are finite.
-/
module

public import Idealize.ShloMosaic.Lib.Pointwise

@[expose] public section

set_option maxRecDepth 16384

noncomputable section

namespace Cert.KernelIdeal.Math

open Idealize.ShloMosaic

/-- Which keys a query may see: those within 128 of it, the first 32, and all of them if the query is one of the first 32. -/
def seen (i k : ℕ) : Prop := (i ≤ k + 128 ∧ k ≤ i + 128) ∨ k < 32 ∨ i < 32

instance (i k : ℕ) : Decidable (seen i k) := by unfold seen; infer_instance

/-- The factor that the scores are multiplied by. -/
def scale : EReal := Ideal.ofBits .f32 0x3DB504F3#32

/-- The scores' factor is a real number. -/
theorem scale_real : ∃ r : ℝ, scale = (r : EReal) := by
  have h1 : ¬ (BitVec.extractLsb' 23 8 (0x3DB504F3#32)).toNat = 2 ^ 8 - 1 := by decide
  have h2 : ¬ (BitVec.extractLsb' 23 8 (0x3DB504F3#32)).toNat = 0 := by decide
  simp only [scale, Ideal.ofBits, Ideal.ieee, if_neg h1, if_neg h2]
  exact ⟨_, rfl⟩

/-- A masked score: the score where the key is seen, minus infinity where it is not. -/
def masked (i : ℕ) (S : Fin 2048 → EReal) (k : Fin 2048) : EReal := if seen i k then S k else ⊥

/-- The attention of one row: the values weighted by the exponentials of the masked scores over their sum. -/
def att (M V : Fin 2048 → EReal) : EReal := ∑ k, Ideal.exp (M k) * Ideal.div 1 (∑ j, Ideal.exp (M j)) * V k

/-- A finite sum of real numbers, taken in the extended reals. -/
theorem coe_sum {ι : Type} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

/-- Dividing a real by a real that is not zero. -/
theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- Subtracting the largest masked score first changes no weight, when some score counts and those that count are real. -/
theorem softmax {N : ℕ} (A : Fin N → Prop) [DecidablePred A] (s : Fin N → ℝ) (k₀ : Fin N) (h₀ : A k₀) (M : Fin N → EReal)
    (hM : ∀ k, M k = if A k then (s k : EReal) else ⊥) (k : Fin N) :
    Ideal.div (Ideal.exp (M k - Finset.univ.fold max ⊥ M)) (∑ j, Ideal.exp (M j - Finset.univ.fold max ⊥ M))
      = Ideal.exp (M k) * Ideal.div 1 (∑ j, Ideal.exp (M j)) := by
  have hmx : ∃ μ : ℝ, Finset.univ.fold max ⊥ M = (μ : EReal) := by
    obtain ⟨k₁, -, h₁⟩ := Finset.exists_mem_eq_sup Finset.univ ⟨k₀, Finset.mem_univ _⟩ M
    have hle : M k₀ ≤ Finset.univ.sup M := Finset.le_sup (Finset.mem_univ k₀)
    have e : Finset.univ.fold max ⊥ M = M k₁ := h₁
    by_cases hA : A k₁
    · exact ⟨s k₁, by rw [e, hM, if_pos hA]⟩
    · rw [h₁, hM k₁, if_neg hA, hM k₀, if_pos h₀] at hle
      exact absurd (le_bot_iff.mp hle) (EReal.coe_ne_bot _)
  obtain ⟨μ, hμ⟩ := hmx
  rw [hμ]
  let e : Fin N → ℝ := fun j => if A j then Real.exp (s j) else 0
  have he : ∀ j, Ideal.exp (M j) = (e j : EReal) := fun j => by
    rw [hM j]
    by_cases hA : A j
    · rw [if_pos hA]; change ((Real.exp (s j) : ℝ) : EReal) = _; simp only [e, if_pos hA]
    · rw [if_neg hA]; change (0 : EReal) = _; simp only [e, if_neg hA, EReal.coe_zero]
  have hs : ∀ j, Ideal.exp (M j - (μ : EReal)) = ((e j * Real.exp (-μ) : ℝ) : EReal) := fun j => by
    rw [hM j]
    by_cases hA : A j
    · rw [if_pos hA, ← EReal.coe_sub]
      change ((Real.exp (s j - μ) : ℝ) : EReal) = _
      simp only [e, if_pos hA]; rw [sub_eq_add_neg, Real.exp_add]
    · rw [if_neg hA, EReal.bot_sub]
      change (0 : EReal) = _; simp only [e, if_neg hA, zero_mul, EReal.coe_zero]
  have hpos : 0 < ∑ j, e j := by
    refine Finset.sum_pos' (fun j _ => ?_) ⟨k₀, Finset.mem_univ _, ?_⟩
    · simp only [e]; split
      · exact (Real.exp_pos _).le
      · exact le_rfl
    · simp only [e, if_pos h₀]; exact Real.exp_pos _
  simp only [hs, he]
  rw [← coe_sum, ← coe_sum, ← Finset.sum_mul, ← EReal.coe_one, div_real _ _ (mul_ne_zero hpos.ne' (Real.exp_pos _).ne'),
    div_real _ _ hpos.ne', ← EReal.coe_mul, mul_div_mul_right _ _ (Real.exp_pos _).ne', mul_one_div]

/-- A sum of terms that are zero off a window is the sum over the window. -/
theorem sum_window {N n : ℕ} (w : ℕ) (h : w + n ≤ N) (f : Fin N → EReal) (hz : ∀ k : Fin N, (k.val < w ∨ w + n ≤ k.val) → f k = 0) :
    ∑ k, f k = ∑ j : Fin n, f ⟨w + j.val, by omega⟩ := by
  refine (Fintype.sum_of_injective (fun j : Fin n => (⟨w + j.val, by omega⟩ : Fin N)) (fun a b hab => ?_) _ _ (fun k hk => hz k ?_) fun _ => rfl).symm
  · have := congrArg Fin.val hab; simp only at this; exact Fin.ext (by omega)
  · by_contra hc
    exact hk ⟨⟨k.val - w, by omega⟩, Fin.ext (by simp only; omega)⟩

/-- A number with the mask's minus infinity added. -/
theorem add_mask (p : Prop) [Decidable p] (S : EReal) : S + (if p then 0 else ⊥) = if p then S else ⊥ := by
  by_cases h : p
  · rw [if_pos h, if_pos h, add_zero]
  · rw [if_neg h, if_neg h, EReal.add_bot]

/-- The attention of a row whose keys beyond the first `n` are not seen. -/
theorem att_first {n : ℕ} (h : n ≤ 2048) (M V : Fin 2048 → EReal) (hM : ∀ k : Fin 2048, n ≤ k.val → M k = ⊥) :
    att M V = ∑ k : Fin n, Ideal.exp (M ⟨k.val, by omega⟩) * Ideal.div 1 (∑ j : Fin n, Ideal.exp (M ⟨j.val, by omega⟩)) * V ⟨k.val, by omega⟩ := by
  have he : ∀ k : Fin 2048, n ≤ k.val → Ideal.exp (M k) = 0 := fun k hk => by rw [hM k hk]; rfl
  unfold att
  rw [sum_window 0 (n := n) (by omega) (fun j => Ideal.exp (M j)) (fun k hk => he k (by omega))]
  refine (sum_window 0 (n := n) (by omega) _ fun k hk => ?_).trans ?_
  · rw [he k (by omega), zero_mul, zero_mul]
  · refine Finset.sum_congr rfl fun k _ => ?_
    simp only [Nat.zero_add]

/-- The attention of a row whose seen keys are some in a window and some, others, among the first 128: the kernel's two
    sums, each with its own mask. -/
theorem att_two (w : ℕ) (h : w + 768 ≤ 2048) (P Q : ℕ → Prop) [DecidablePred P] [DecidablePred Q] (S M V : Fin 2048 → EReal)
    (hP : ∀ k < 2048, P k → w ≤ k ∧ k < w + 768) (hQ : ∀ k, Q k → k < 128) (hPQ : ∀ k, ¬ (P k ∧ Q k))
    (hM : ∀ k, M k = if P k ∨ Q k then S k else ⊥) (R : EReal)
    (hR : R = (∑ j : Fin 768, Ideal.exp (if P (w + j) then S ⟨w + j.val, by omega⟩ else ⊥))
      + ∑ j : Fin 128, Ideal.exp (if Q j then S ⟨j.val, by omega⟩ else ⊥)) :
    (∑ j : Fin 768, Ideal.exp (if P (w + j) then S ⟨w + j.val, by omega⟩ else ⊥) * Ideal.div 1 R * V ⟨w + j.val, by omega⟩)
      + (∑ j : Fin 128, Ideal.exp (if Q j then S ⟨j.val, by omega⟩ else ⊥) * Ideal.div 1 R * V ⟨j.val, by omega⟩) = att M V := by
  let E₁ : Fin 2048 → EReal := fun k => Ideal.exp (if P k then S k else ⊥)
  let E₂ : Fin 2048 → EReal := fun k => Ideal.exp (if Q k then S k else ⊥)
  have h₁ : ∀ k : Fin 2048, (k.val < w ∨ w + 768 ≤ k.val) → E₁ k = 0 := fun k hk => by
    have : ¬ P k := fun hp => by have := hP k k.isLt hp; omega
    simp only [E₁, if_neg this]; rfl
  have h₂ : ∀ k : Fin 2048, (k.val < 0 ∨ 0 + 128 ≤ k.val) → E₂ k = 0 := fun k hk => by
    have : ¬ Q k := fun hq => by have := hQ k hq; omega
    simp only [E₂, if_neg this]; rfl
  have hs : ∀ k, Ideal.exp (M k) = E₁ k + E₂ k := fun k => by
    rw [hM k]
    simp only [E₁, E₂]
    by_cases p : P k
    · have q : ¬ Q k := fun q => hPQ k ⟨p, q⟩
      rw [if_pos (Or.inl p), if_pos p, if_neg q]; exact (add_zero _).symm
    · by_cases q : Q k
      · rw [if_pos (Or.inr q), if_neg p, if_pos q]; exact (zero_add _).symm
      · rw [if_neg (by tauto), if_neg p, if_neg q]; exact (add_zero _).symm
  have hdis : ∀ k, E₁ k = 0 ∨ E₂ k = 0 := fun k => by
    by_cases p : P k
    · right; simp only [E₂, if_neg fun q => hPQ k ⟨p, q⟩]; rfl
    · left; simp only [E₁, if_neg p]; rfl
  have hR' : ∑ j, Ideal.exp (M j) = R := by
    rw [hR, Finset.sum_congr rfl fun k _ => hs k, Finset.sum_add_distrib, sum_window w h E₁ h₁, sum_window 0 (n := 128) (by omega) E₂ h₂]
    simp only [E₁, E₂, Nat.zero_add]
  unfold att
  rw [hR']
  have hsplit : ∀ k, Ideal.exp (M k) * Ideal.div 1 R * V k = E₁ k * Ideal.div 1 R * V k + E₂ k * Ideal.div 1 R * V k := fun k => by
    rw [hs k]
    rcases hdis k with e | e
    · rw [e, zero_add, zero_mul, zero_mul, zero_add]
    · rw [e, add_zero, zero_mul, zero_mul, add_zero]
  rw [Finset.sum_congr rfl fun k _ => hsplit k, Finset.sum_add_distrib,
    sum_window w h (fun k => E₁ k * Ideal.div 1 R * V k) (fun k hk => by simp only [h₁ k hk, zero_mul]),
    sum_window 0 (n := 128) (by omega) (fun k => E₂ k * Ideal.div 1 R * V k) (fun k hk => by simp only [h₂ k hk, zero_mul])]
  simp only [E₁, E₂, Nat.zero_add]

end Cert.KernelIdeal.Math

end
-- ==== Proof.Masks.lean ====
/-
  The masks that the kernel and the reference make from the positions of the query and the key, read entry by entry:
  zero, or minus infinity, by which keys a query may see.
-/
module

public import proofs.«01_k».proof.Proof.Values
public import Idealize.ShloMosaic.Lib.Pointwise
public import Idealize.ShloMosaic.PureOps.IdealRules

@[expose] public section

set_option maxRecDepth 16384

noncomputable section

namespace Cert.KernelIdeal.Math

open Idealize.ShloMosaic Idealize.ShloMosaic.TcCoe Cert.KernelIdeal Cert.KernelIdeal.Gen
open Cert.KernelIdeal.Flow hiding ix2

/-- The 32-bit test that two positions are at most 128 apart. -/
theorem near_word (a k : ℕ) (ha : a < 4096) (hk : k < 4096) :
    IntOp.cmpi .sle (IntOp.absi (IntOp.subi (BitVec.ofNat 32 a) (BitVec.ofNat 32 k))) 128#32
      = BitVec.ofBool (decide (a ≤ k + 128 ∧ k ≤ a + 128)) := by
  have key : ∀ d : ℕ, d < 4096 → (BitVec.ofNat 32 d).sle 128#32 = decide (d ≤ 128) := fun d hd => by
    rw [BitVec.sle_eq_decide, BitVec.toInt_eq_toNat_cond, BitVec.toInt_eq_toNat_cond, BitVec.toNat_ofNat, BitVec.toNat_ofNat,
      Nat.mod_eq_of_lt (by omega), Nat.mod_eq_of_lt (by omega), if_pos (by omega), if_pos (by omega)]
    exact decide_eq_decide.mpr (by omega)
  unfold IntOp.cmpi IntOp.absi IntOp.subi
  refine congrArg BitVec.ofBool ?_
  simp only
  by_cases h : k ≤ a
  · have e : BitVec.ofNat 32 a - BitVec.ofNat 32 k = BitVec.ofNat 32 (a - k) := BitVec.ofNat_sub_ofNat_of_le _ _ (by omega) h
    have m : (BitVec.ofNat 32 (a - k)).msb = false := by
      rw [BitVec.msb_eq_decide, BitVec.toNat_ofNat, Nat.mod_eq_of_lt (by omega)]; exact decide_eq_false (by omega)
    rw [e, m, if_neg Bool.false_ne_true, key _ (by omega)]
    exact decide_eq_decide.mpr (by omega)
  · have e : BitVec.ofNat 32 k - BitVec.ofNat 32 a = BitVec.ofNat 32 (k - a) := BitVec.ofNat_sub_ofNat_of_le _ _ (by omega) (by omega)
    have n : -(BitVec.ofNat 32 a - BitVec.ofNat 32 k) = BitVec.ofNat 32 (k - a) := by
      rw [BitVec.neg_sub, BitVec.add_comm, ← BitVec.sub_eq_add_neg, e]
    have m : (BitVec.ofNat 32 a - BitVec.ofNat 32 k).msb = true := by
      rw [BitVec.msb_eq_decide, BitVec.toNat_sub, BitVec.toNat_ofNat, BitVec.toNat_ofNat]; exact decide_eq_true (by omega)
    rw [m, if_pos rfl, n, key _ (by omega)]
    exact decide_eq_decide.mpr (by omega)

/-- The 32-bit test that a position is below 32. -/
theorem lt_word (k : ℕ) (hk : k < 4096) : IntOp.cmpi .slt (BitVec.ofNat 32 k) 32#32 = BitVec.ofBool (decide (k < 32)) := by
  unfold IntOp.cmpi
  refine congrArg BitVec.ofBool ?_
  simp only
  rw [BitVec.slt_eq_decide, BitVec.toInt_eq_toNat_cond, BitVec.toInt_eq_toNat_cond, BitVec.toNat_ofNat, BitVec.toNat_ofNat,
    Nat.mod_eq_of_lt (by omega), Nat.mod_eq_of_lt (by omega), if_pos (by omega), if_pos (by omega)]
  exact decide_eq_decide.mpr (by omega)

/-- The bitwise or of two tests. -/
theorem or_word (p q : Prop) [Decidable p] [Decidable q] :
    IntOp.ori (BitVec.ofBool (decide p)) (BitVec.ofBool (decide q)) = BitVec.ofBool (decide (p ∨ q)) := by
  by_cases hp : p <;> by_cases hq : q <;> simp only [hp, hq, decide_true, decide_false, or_true, or_false] <;> rfl

/-- Choosing by a test. -/
theorem select_word {α : Type} (p : Prop) [Decidable p] (a b : α) : Scalar.select (BitVec.ofBool (decide p)) a b = if p then a else b := by
  by_cases hp : p
  · simp only [hp, decide_true, if_true]; rfl
  · simp only [hp, decide_false, if_false]; rfl

/-- A position moved by a constant. -/
theorem add_word (a b : ℕ) : IntOp.addi (BitVec.ofNat 32 a) (BitVec.ofNat 32 b) = BitVec.ofNat 32 (a + b) := by
  unfold IntOp.addi; exact (BitVec.ofNat_add a b).symm

/-- The named mask is minus infinity. -/
theorem mask_bot : (Named.named (F := Ideal) κ "mask" (φ := .f32) 0xCE6E6B28#32) = (⊥ : EReal) := rfl

/-- The mask of the first 128 queries. -/
theorem bias0_at (a : Fin 128) (k : Fin 2048) :
    bias0 (F := Ideal) (ix2 a k) = if ((a.val ≤ k.val + 128 ∧ k.val ≤ a.val + 128) ∨ k.val < 32) ∨ a.val < 32 then (0 : EReal) else ⊥ := by
  unfold bias0
  pointwise [k0_pay7]
  rw [near_word _ _ (by omega) (by omega), lt_word _ (by omega), lt_word _ (by omega), or_word, or_word, select_word, mask_bot]

/-- The mask of queries 128 to 511. -/
theorem biasB_at (a : Fin 384) (k : Fin 768) :
    biasB (F := Ideal) (ix2 a k) = if ((a.val ≤ k.val ∧ k.val ≤ a.val + 128 + 128) ∨ k.val < 32) then (0 : EReal) else ⊥ := by
  unfold biasB
  pointwise [k0_pay9, k0_pay8]
  rw [add_word _ 128, near_word _ _ (by omega) (by omega), lt_word _ (by omega), or_word, select_word, mask_bot]
  simp only [Nat.add_le_add_iff_right]

/-- The mask of the first 128 keys. -/
theorem biasG_at (a : Fin 512) (k : Fin 128) : biasG (F := Ideal) (ix2 a k) = if k.val < 32 then (0 : EReal) else ⊥ := by
  unfold biasG
  pointwise [k0_pay38]
  rw [lt_word _ (by omega), select_word, mask_bot]

/-- The mask of the window of a row block after the first. -/
theorem biasW_at (t : Fin 4) (ht : t ≠ 0) (a : Fin 512) (k : Fin 768) :
    biasW (F := Ideal) t (ix2 a k) = if (512 * t.val + a.val ≤ win t + k.val + 128 ∧ win t + k.val ≤ 512 * t.val + a.val + 128) then (0 : EReal) else ⊥ := by
  have aux : ∀ (b w : ℕ), b ≤ 1536 → w ≤ 1280 → Scalar.select (IntOp.cmpi .sle (IntOp.absi (IntOp.subi (IntOp.addi (BitVec.ofNat 32 a.val) (BitVec.ofNat 32 b))
        (IntOp.addi (BitVec.ofNat 32 k.val) (BitVec.ofNat 32 w)))) 128#32) (0 : EReal) (Named.named (F := Ideal) κ "mask" (φ := .f32) 0xCE6E6B28#32)
      = if (b + a.val ≤ w + k.val + 128 ∧ w + k.val ≤ b + a.val + 128) then (0 : EReal) else ⊥ := fun b w hb hw => by
    rw [add_word, add_word, near_word _ _ (by omega) (by omega), select_word, mask_bot, Nat.add_comm a.val b, Nat.add_comm k.val w]
  match t with
  | 0 => exact absurd rfl ht
  | 1 =>
    change k0_pay40 (F := Ideal) k0_pay39 (ix2 a k) = _
    refine Eq.trans ?_ (aux 512 384 (by omega) (by omega))
    pointwise [k0_pay40, k0_pay39]
  | 2 =>
    change k0_pay70 (F := Ideal) (ix2 a k) = _
    refine Eq.trans ?_ (aux 1024 896 (by omega) (by omega))
    pointwise [k0_pay70]
  | 3 =>
    change k0_pay103 (F := Ideal) (ix2 a k) = _
    refine Eq.trans ?_ (aux 1536 1280 (by omega) (by omega))
    pointwise [k0_pay103]

end Cert.KernelIdeal.Math

end
-- ==== Proof.Blocks.lean ====
/-
  What one device's computation leaves, entry by entry over the extended reals: the projected queries, the attention
  context of its eight heads, and its partial output projection, as sums over its five inputs.
-/
module

public import proofs.«01_k».proof.Proof.Attn
public import proofs.«01_k».proof.Proof.Masks

@[expose] public section

set_option maxRecDepth 16384

noncomputable section

namespace Cert.KernelIdeal.Math

open Idealize.ShloMosaic Idealize.ShloMosaic.TcCoe Cert.KernelIdeal Cert.KernelIdeal.Gen
open Cert.KernelIdeal.Flow hiding ix2

/-- A rectangle of a matrix, entry by entry. -/
theorem idx2 {n m a b p q : ℕ} (h : ∀ c, (![p, q] : Fin 2 → ℕ) c + (![a, b] : Fin 2 → ℕ) c ≤ (⟨2, ![n, m]⟩ : Shape).size c) (i : Fin a) (j : Fin b) :
    (Rect.unit (s := ⟨2, ![n, m]⟩) ![p, q] ![a, b] h).toLoadRect.idx (ix2 i j)
      = ix2 ⟨p + i.val, by have := h 0; simp only [Shape.size, Matrix.cons_val_zero] at this; omega⟩
          ⟨q + j.val, by have := h 1; simp only [Shape.size, Matrix.cons_val_one, Matrix.cons_val_zero] at this; omega⟩ := by
  funext c
  match c with
  | 0 => exact Fin.ext (by rw [LoadRect.idx_apply]; exact congrArg (p + ·) (Nat.one_mul i.val))
  | 1 => exact Fin.ext (by rw [LoadRect.idx_apply]; exact congrArg (q + ·) (Nat.one_mul j.val))

/-- A rectangle of a batch of one matrix, entry by entry. -/
theorem idx3 {n m a b p q : ℕ} (h : ∀ c, (![0, p, q] : Fin 3 → ℕ) c + (![1, a, b] : Fin 3 → ℕ) c ≤ (⟨3, ![1, n, m]⟩ : Shape).size c) (i : Fin a) (j : Fin b) :
    (Rect.unit (s := ⟨3, ![1, n, m]⟩) ![0, p, q] ![1, a, b] h).toLoadRect.idx (ix3 0 i j)
      = ix3 0 ⟨p + i.val, by have := h 1; simp only [Shape.size, Matrix.cons_val_one, Matrix.cons_val_zero] at this; omega⟩
          ⟨q + j.val, by have := h 2; simp only [Shape.size, Matrix.cons_val] at this; omega⟩ := by
  funext c
  match c with
  | 0 => exact Fin.ext (by rw [LoadRect.idx_apply]; rfl)
  | 1 => exact Fin.ext (by rw [LoadRect.idx_apply]; exact congrArg (p + ·) (Nat.one_mul i.val))
  | 2 => exact Fin.ext (by rw [LoadRect.idx_apply]; exact congrArg (q + ·) (Nat.one_mul j.val))

/-- The two spellings of a matrix's index. -/
theorem ix2_eq {n m : ℕ} (a : Fin n) (b : Fin m) : Flow.ix2 a b = ix2 a b := by
  funext i; match i with | 0 => rfl | 1 => rfl

variable (I : Inp Ideal)

/-- A device's inputs and what it computes, as functions of an index into the extended reals. -/
def xv : S1x2048x1024.Idx → EReal := I.x
def wqv : S1024x1024.Idx → EReal := I.wq
def kv : S2048x1024.Idx → EReal := I.k
def vv : S2048x1024.Idx → EReal := I.v
def wov : S1024x1024.Idx → EReal := I.wo
def qv : S2048x1024.Idx → EReal := qOf I
def cv : S2048x1024.Idx → EReal := ctxOf I
def av : S2048x1024.Idx → EReal := accOf I

/-! ## The queries -/

theorem pay2_at (x : Vec Ideal S1x512x1024 .bf16) (w : Vec Ideal S1024x1024 .bf16) (i : Fin 512) (j : Fin 1024) :
    k0_pay2 x w (ix2 i j) = ∑ e : Fin 1024, (x (ix3 0 i e) : EReal) * (w (ix2 e j) : EReal) := by
  pointwise [k0_pay2]

/-- The projected query is the product of its row of `x` with the column of `Wq`. -/
theorem qv_at (i : Fin 2048) (j : Fin 1024) : qv I (ix2 i j) = ∑ e : Fin 1024, xv I (ix3 0 i e) * wqv I (ix2 e j) := by
  have hi : inRowBlk (ix2 i j) = ix2 (⟨i.val % 512, Nat.mod_lt _ (by decide)⟩ : Fin 512) j := ix2_eq _ _
  change k0_pay2 _ _ (inRowBlk (ix2 i j)) = _
  rw [hi, pay2_at]
  refine Finset.sum_congr rfl fun e _ => ?_
  refine congrArg₂ (fun a b : EReal => a * b) ?_ ?_
  · refine congrArg I.x ((idx3 (inbX _) _ e).trans ?_)
    refine congrArg₂ (ix3 0) (Fin.ext ?_) (Fin.ext (Nat.zero_add _))
    exact Nat.div_add_mod i.val 512
  · refine congrArg I.wq ((idx2 inbWq e j).trans ?_)
    exact congrArg₂ ix2 (Fin.ext (Nat.zero_add _)) (Fin.ext (Nat.zero_add _))

/-! ## The context -/

/-- One column of head `h`. -/
def col (h : Fin 8) (d : Fin 128) : Fin 1024 := ⟨128 * h.val + d.val, by omega⟩

/-- The score of a query and a key in head `h`. -/
def score (h : Fin 8) (i k : Fin 2048) : EReal := (∑ e : Fin 128, qv I (ix2 i (col h e)) * kv I (ix2 k (col h e))) * scale

/-- A column of values. -/
def vcol (h : Fin 8) (d : Fin 128) (k : Fin 2048) : EReal := vv I (ix2 k (col h d))

theorem pay10_at (q : Vec Ideal S128x128 .bf16) (k v : Vec Ideal S2048x128 .bf16) (b : Vec Ideal S128x2048 .f32) (i d : Fin 128)
    (r : ℕ) (S V : Fin 2048 → EReal) (hS : ∀ j : Fin 2048, (∑ e : Fin 128, (q (ix2 i e) : EReal) * (k (ix2 j e) : EReal)) * scale = S j)
    (hb : ∀ j : Fin 2048, (b (ix2 i j) : EReal) = if seen r j then 0 else ⊥) (hv : ∀ j : Fin 2048, (v (ix2 j d) : EReal) = V j) :
    k0_pay10 q k b v (ix2 i d) = att (masked r S) V := by
  have e : ∀ j : Fin 2048, masked r S j = (∑ e : Fin 128, (q (ix2 i e) : EReal) * (k (ix2 j e) : EReal)) * scale + (b (ix2 i j) : EReal) := fun j => by
    rw [hS, hb, add_mask]; rfl
  unfold att
  simp only [e, ← hv]
  unfold scale
  pointwise [k0_pay10]

/-- The context of the first 128 queries. -/
theorem ctxA_at (h : Fin 8) (i d : Fin 128) :
    ctxA I h (ix2 i d) = att (masked i.val (score I h ⟨i.val, by omega⟩)) (vcol I h d) := by
  refine pay10_at _ _ _ _ i d i.val _ _ (fun j => ?_) (fun j => ?_) (fun j => ?_)
  · refine congrArg (fun a : EReal => a * scale) (Finset.sum_congr rfl fun e _ => congrArg₂ (fun a b : EReal => a * b) ?_ ?_)
    · exact congrArg (qOf I) ((idx2 (inbA h) i e).trans (congrArg₂ ix2 (Fin.ext (Nat.zero_add _)) rfl))
    · exact congrArg I.k ((idx2 (inbK h) j e).trans (congrArg₂ ix2 (Fin.ext (Nat.zero_add _)) rfl))
  · refine (congrArg (bias0 (F := Ideal)) ((idx2 inb_S128x2048_S128x2048_0_0 i j).trans
      (congrArg₂ ix2 (Fin.ext (Nat.zero_add _)) (Fin.ext (Nat.zero_add _))))).trans ((bias0_at i j).trans ?_)
    exact if_congr or_assoc rfl rfl
  · exact congrArg I.v ((idx2 (inbK h) j d).trans (congrArg₂ ix2 (Fin.ext (Nat.zero_add _)) rfl))

theorem pay16_at (q : Vec Ideal S384x128 .bf16) (k v : Vec Ideal S768x128 .bf16) (b : Vec Ideal S384x768 .f32) (i : Fin 384) (d : Fin 128)
    (r : ℕ) (hr : r + 128 < 768) (h32 : 32 ≤ r) (S V : Fin 2048 → EReal)
    (hS : ∀ j : Fin 768, (∑ e : Fin 128, (q (ix2 i e) : EReal) * (k (ix2 j e) : EReal)) * scale = S ⟨j.val, by omega⟩)
    (hb : ∀ j : Fin 768, (b (ix2 i j) : EReal) = if seen r j then 0 else ⊥) (hv : ∀ j : Fin 768, (v (ix2 j d) : EReal) = V ⟨j.val, by omega⟩) :
    k0_pay16 q k b v (ix2 i d) = att (masked r S) V := by
  have e : ∀ j : Fin 768, masked r S ⟨j.val, by omega⟩ = (∑ e : Fin 128, (q (ix2 i e) : EReal) * (k (ix2 j e) : EReal)) * scale + (b (ix2 i j) : EReal) := fun j => by
    rw [hS, hb, add_mask]; rfl
  rw [att_first (n := 768) (by omega) (masked r S) V fun j hj => if_neg (by unfold seen; omega)]
  simp only [e, ← hv]
  unfold scale
  pointwise [k0_pay16]

/-- The context of queries 128 to 511. -/
theorem ctxB_at (h : Fin 8) (i : Fin 384) (d : Fin 128) :
    ctxB I h (ix2 i d) = att (masked (128 + i.val) (score I h ⟨128 + i.val, by omega⟩)) (vcol I h d) := by
  refine pay16_at _ _ _ _ i d (128 + i.val) (by omega) (by omega) _ _ (fun j => ?_) (fun j => ?_) (fun j => ?_)
  · refine congrArg (fun a : EReal => a * scale) (Finset.sum_congr rfl fun e _ => congrArg₂ (fun a b : EReal => a * b) ?_ ?_)
    · exact congrArg (qOf I) (idx2 (inbB h) i e)
    · exact congrArg I.k ((idx2 (inbL h) j e).trans (congrArg₂ ix2 (Fin.ext (Nat.zero_add _)) rfl))
  · refine (congrArg (biasB (F := Ideal)) ((idx2 inb_S384x768_S384x768_0_0 i j).trans
      (congrArg₂ ix2 (Fin.ext (Nat.zero_add _)) (Fin.ext (Nat.zero_add _))))).trans ((biasB_at i j).trans ?_)
    exact if_congr (by unfold seen; omega) rfl rfl
  · exact congrArg I.v ((idx2 (inbL h) j d).trans (congrArg₂ ix2 (Fin.ext (Nat.zero_add _)) rfl))

theorem pay104_at (q : Vec Ideal S512x128 .bf16) (k v : Vec Ideal S768x128 .bf16) (b : Vec Ideal S512x768 .f32) (k' v' : Vec Ideal S128x128 .bf16)
    (b' : Vec Ideal S512x128 .f32) (i : Fin 512) (d : Fin 128) (r w : ℕ) (hw : w + 768 ≤ 2048) (hl : 160 ≤ r) (h₁ : w + 128 ≤ r)
    (h₂ : r + 128 < w + 768 ∨ w + 768 = 2048) (S V : Fin 2048 → EReal)
    (hS : ∀ j : Fin 768, (∑ e : Fin 128, (q (ix2 i e) : EReal) * (k (ix2 j e) : EReal)) * scale = S ⟨w + j.val, by omega⟩)
    (hb : ∀ j : Fin 768, (b (ix2 i j) : EReal) = if (r ≤ w + j.val + 128 ∧ w + j.val ≤ r + 128) then 0 else ⊥)
    (hv : ∀ j : Fin 768, (v (ix2 j d) : EReal) = V ⟨w + j.val, by omega⟩)
    (hS' : ∀ j : Fin 128, (∑ e : Fin 128, (q (ix2 i e) : EReal) * (k' (ix2 j e) : EReal)) * scale = S ⟨j.val, by omega⟩)
    (hb' : ∀ j : Fin 128, (b' (ix2 i j) : EReal) = if j.val < 32 then 0 else ⊥)
    (hv' : ∀ j : Fin 128, (v' (ix2 j d) : EReal) = V ⟨j.val, by omega⟩) :
    k0_pay104 q k b k' b' v v' (ix2 i d) = att (masked r S) V := by
  have e : ∀ j : Fin 768, (if (r ≤ w + j.val + 128 ∧ w + j.val ≤ r + 128) then S ⟨w + j.val, by omega⟩ else ⊥)
      = (∑ e : Fin 128, (q (ix2 i e) : EReal) * (k (ix2 j e) : EReal)) * scale + (b (ix2 i j) : EReal) := fun j => by
    rw [hS, hb, add_mask]
  have e' : ∀ j : Fin 128, (if j.val < 32 then S ⟨j.val, by omega⟩ else ⊥)
      = (∑ e : Fin 128, (q (ix2 i e) : EReal) * (k' (ix2 j e) : EReal)) * scale + (b' (ix2 i j) : EReal) := fun j => by
    rw [hS', hb', add_mask]
  rw [← att_two w hw (fun k => r ≤ k + 128 ∧ k ≤ r + 128) (fun k => k < 32) S (masked r S) V
    (fun k hk hp => by omega) (fun k hq => by omega) (fun k hpq => by omega)
    (fun k => if_congr (by unfold seen; omega) rfl rfl) _ rfl]
  simp only [e, e', ← hv, ← hv']
  unfold scale
  pointwise [k0_pay104]

theorem win_lo (t : Fin 4) (ht : t ≠ 0) : win t + 128 ≤ 512 * t.val := by revert ht; revert t; decide
theorem win_hi (t : Fin 4) : win t + 768 ≤ 2048 := by revert t; decide
theorem win_up (t : Fin 4) (ht : t ≠ 0) : 512 * t.val + 511 + 128 < win t + 768 ∨ win t + 768 = 2048 := by revert ht; revert t; decide

/-- The context of a row block after the first. -/
theorem ctxC_at (t : Fin 4) (ht : t ≠ 0) (h : Fin 8) (i : Fin 512) (d : Fin 128) :
    ctxC I t h (ix2 i d) = att (masked (512 * t.val + i.val) (score I h ⟨512 * t.val + i.val, by omega⟩)) (vcol I h d) := by
  have t0 : t.val ≠ 0 := fun e => ht (Fin.ext e)
  have lo := win_lo t ht; have hi := win_hi t; have up := win_up t ht
  refine pay104_at _ _ _ _ _ _ _ i d (512 * t.val + i.val) (win t) hi (by omega) (by omega) (by omega) _ _
    (fun j => ?_) (fun j => ?_) (fun j => ?_) (fun j => ?_) (fun j => ?_) (fun j => ?_)
  · refine congrArg (fun a : EReal => a * scale) (Finset.sum_congr rfl fun e _ => congrArg₂ (fun a b : EReal => a * b) ?_ ?_)
    · exact congrArg (qOf I) (idx2 (inbC t h) i e)
    · exact congrArg I.k (idx2 (inbW t h) j e)
  · exact (congrArg (biasW (F := Ideal) t) ((idx2 inb_S512x768_S512x768_0_0 i j).trans
      (congrArg₂ ix2 (Fin.ext (Nat.zero_add _)) (Fin.ext (Nat.zero_add _))))).trans (biasW_at t ht i j)
  · exact congrArg I.v (idx2 (inbW t h) j d)
  · refine congrArg (fun a : EReal => a * scale) (Finset.sum_congr rfl fun e _ => congrArg₂ (fun a b : EReal => a * b) ?_ ?_)
    · exact congrArg (qOf I) (idx2 (inbC t h) i e)
    · exact congrArg I.k ((idx2 (inbA h) j e).trans (congrArg₂ ix2 (Fin.ext (Nat.zero_add _)) rfl))
  · exact (congrArg (biasG (F := Ideal)) ((idx2 inb_S512x128_S512x128_0_0 i j).trans
      (congrArg₂ ix2 (Fin.ext (Nat.zero_add _)) (Fin.ext (Nat.zero_add _))))).trans (biasG_at i j)
  · exact congrArg I.v ((idx2 (inbA h) j d).trans (congrArg₂ ix2 (Fin.ext (Nat.zero_add _)) rfl))

/-- The context: in each head, every query's attention. -/
theorem cv_at (i : Fin 2048) (h : Fin 8) (d : Fin 128) :
    cv I (ix2 i (col h d)) = att (masked i.val (score I h i)) (vcol I h d) := by
  have hh : headOf (ix2 i (col h d)) = h := Fin.ext (by change (128 * h.val + d.val) / 128 = h.val; omega)
  have hd : (⟨(ix2 i (col h d) 1).val % 128, Nat.mod_lt _ (by decide)⟩ : Fin 128) = d :=
    Fin.ext (by change (128 * h.val + d.val) % 128 = d.val; omega)
  have att_row : ∀ (i' : Fin 2048), i' = i → att (masked i'.val (score I h i')) (vcol I h d) = att (masked i.val (score I h i)) (vcol I h d) := by
    rintro _ rfl; rfl
  change ctxOf I (ix2 i (col h d)) = _
  unfold ctxOf
  by_cases hA : i.val < 128
  · rw [dif_pos (show (ix2 i (col h d) 0).val < 128 from hA), hh, hd, ix2_eq]
    exact (ctxA_at I h _ d).trans (att_row _ rfl)
  · rw [dif_neg (show ¬ (ix2 i (col h d) 0).val < 128 from hA)]
    by_cases hB : i.val < 512
    · rw [dif_pos (show (ix2 i (col h d) 0).val < 512 from hB), hh, hd, ix2_eq]
      exact (ctxB_at I h ⟨i.val - 128, by omega⟩ d).trans (att_row ⟨128 + (i.val - 128), by omega⟩ (Fin.ext (by simp only; omega)))
    · rw [dif_neg (show ¬ (ix2 i (col h d) 0).val < 512 from hB), hh, hd, ix2_eq]
      refine (ctxC_at I ⟨i.val / 512, by omega⟩ (fun e => ?_) h ⟨i.val % 512, Nat.mod_lt _ (by decide)⟩ d).trans
        (att_row ⟨512 * (i.val / 512) + i.val % 512, by omega⟩ (Fin.ext (Nat.div_add_mod i.val 512)))
      have := congrArg Fin.val e; simp only [Fin.val_zero] at this; omega

/-! ## The partial output -/

theorem pay137_at (c : Vec Ideal S512x1024 .bf16) (w : Vec Ideal S1024x1024 .bf16) (i : Fin 512) (j : Fin 1024) :
    k0_pay137 c w (ix2 i j) = ∑ e : Fin 1024, (c (ix2 i e) : EReal) * (w (ix2 e j) : EReal) := by
  pointwise [k0_pay137]

/-- The partial output projection is the product of the context's row with the column of `Wo`. -/
theorem av_at (i : Fin 2048) (j : Fin 1024) : av I (ix2 i j) = ∑ e : Fin 1024, cv I (ix2 i e) * wov I (ix2 e j) := by
  have hi : inRowBlk (ix2 i j) = ix2 (⟨i.val % 512, Nat.mod_lt _ (by decide)⟩ : Fin 512) j := ix2_eq _ _
  change k0_pay137 _ _ (inRowBlk (ix2 i j)) = _
  rw [hi, pay137_at]
  refine Finset.sum_congr rfl fun e _ => ?_
  refine congrArg₂ (fun a b : EReal => a * b) ?_ ?_
  · refine congrArg (ctxOf I) ((idx2 (inbR _) _ e).trans ?_)
    exact congrArg₂ ix2 (Fin.ext (Nat.div_add_mod i.val 512)) (Fin.ext (Nat.zero_add _))
  · refine congrArg I.wo ((idx2 inbWq e j).trans ?_)
    exact congrArg₂ ix2 (Fin.ext (Nat.zero_add _)) (Fin.ext (Nat.zero_add _))

end Cert.KernelIdeal.Math

end
-- ==== Proof.Inputs.lean ====
/-
  What the region's windows bring in, entry by entry over the launch's arguments.
-/
module

public import proofs.«01_k».proof.Proof.Region
public import proofs.«01_k».proof.Proof.Blocks
public import Idealize.ShloMosaic.Lib.StableHlo.ReadAt
public import Idealize.ShloMosaic.Lib.StableHlo.RunClose
public import Idealize.ShloMosaic.Lib.DynamicIndex
public import Idealize.ShloMosaic.Lib.Pipeline.ValueKit

@[expose] public section

set_option maxRecDepth 16384

noncomputable section

namespace Cert.KernelIdeal.Math

open Idealize.ShloMosaic Idealize.ShloMosaic.TcCoe Cert.KernelIdeal Cert.KernelIdeal.Gen
open Cert.KernelIdeal.Flow hiding ix2

variable (m : (ℓ : Loc nD τ sig) → Buf (Elt Ideal) ℓ)

/-- The head of all 64 that is head `h` of device `c`. -/
def hd (c : Dev nD) (h : Fin 8) : Fin 64 := ⟨8 * c.val + h.val, by have : c.val < 8 := c.isLt; omega⟩

/-- The eight heads of a device lie inside the 64. -/
theorem slices_at : ∀ c : Dev nD, S2048x64x128.Slices ![0, 8 * c.val, 0] S2048x8x128 := by decide

/-- The words that say where a device's heads start. -/
theorem starts : ∀ (c : Dev nD) (a : Fin 3), BitVec.toInt ((![constantI S_ 32 0#32,
    select (cmpi .slt (muli (id (Host.remui (Host.divui (constantI S_ 32 c.word) (constantI S_ 32 1#32)) (constantI S_ 32 8#32))) (constantI S_ 32 8#32)) (constantI S_ 32 0#32))
      (addi (muli (id (Host.remui (Host.divui (constantI S_ 32 c.word) (constantI S_ 32 1#32)) (constantI S_ 32 8#32))) (constantI S_ 32 8#32)) (constantI S_ 32 64#32))
      (muli (id (Host.remui (Host.divui (constantI S_ 32 c.word) (constantI S_ 32 1#32)) (constantI S_ 32 8#32))) (constantI S_ 32 8#32)),
    constantI S_ 32 0#32] : Fin 3 → IVec S_ 32) a (Shape.Idx.first h_S_)) = ((![0, 8 * c.val, 0] : Fin 3 → ℕ) a : ℤ) := by
  decide +kernel

/-- The sliced keys: device `c`'s eight heads, side by side. -/
theorem keys_at (c : Dev nD) (k : Fin 2048) (h : Fin 8) (d : Fin 128) :
    V1 m c (Proc.devRef .tc main_v11) (ix2 k (col h d)) = m ((c : Thread nD τ).loc main_arg2) (ix4 0 k (hd c h) d) := by
  unfold V1 hostOps0 col
  after_reads_simp [StableHlo.unaryIndexed_result_read, StableHlo.indexContents_cons, StableHlo.indexContents_empty, StableHlo.dropContentsCast]
  clean_types
  rw [Host.dynamicSlice_eq_extractStridedSlice _ _ _ ![0, 8 * c.val, 0] _ (slices_at c) (starts c)]
  pointwise
  rfl

/-- The sliced values: device `c`'s eight heads, side by side. -/
theorem values_at (c : Dev nD) (k : Fin 2048) (h : Fin 8) (d : Fin 128) :
    V1 m c (Proc.devRef .tc main_v18) (ix2 k (col h d)) = m ((c : Thread nD τ).loc main_arg3) (ix4 0 k (hd c h) d) := by
  unfold V1 hostOps0 col
  after_reads_simp [StableHlo.unaryIndexed_result_read, StableHlo.indexContents_cons, StableHlo.indexContents_empty, StableHlo.dropContentsCast]
  clean_types
  rw [Host.dynamicSlice_eq_extractStridedSlice _ _ _ ![0, 8 * c.val, 0] _ (slices_at c) (starts c)]
  pointwise
  rfl

/-- The block of `x` is all of it. -/
theorem x_eq (c : Dev nD) : (inp m c).x = V1 m c (Proc.devRef .tc main_arg0) := by
  funext y
  unfold inp
  dsimp only
  blk_simp
  refine congrArg (arrIn m c 0) (funext fun a => Fin.ext ?_)
  blk_simp
  have z : win0_0.index t0_0 a = 0 := by revert a; decide
  rw [z, Nat.zero_mul, Nat.zero_add]

/-- The block of the queries' weights is all of it. -/
theorem wq_eq (c : Dev nD) : (inp m c).wq = V1 m c (Proc.devRef .tc main_arg1) := by
  funext y
  unfold inp
  dsimp only
  blk_simp
  refine congrArg (arrIn m c 1) (funext fun a => Fin.ext ?_)
  blk_simp
  have z : win0_1.index t0_0 a = 0 := by revert a; decide
  rw [z, Nat.zero_mul, Nat.zero_add]

/-- The block of the sliced keys is all of it. -/
theorem k_eq (c : Dev nD) : (inp m c).k = V1 m c (Proc.devRef .tc main_v11) := by
  funext y
  unfold inp
  dsimp only
  blk_simp
  refine congrArg (arrIn m c 2) (funext fun a => Fin.ext ?_)
  blk_simp
  have z : win0_2.index t0_0 a = 0 := by revert a; decide
  rw [z, Nat.zero_mul, Nat.zero_add]

/-- The block of the sliced values is all of it. -/
theorem v_eq (c : Dev nD) : (inp m c).v = V1 m c (Proc.devRef .tc main_v18) := by
  funext y
  unfold inp
  dsimp only
  blk_simp
  refine congrArg (arrIn m c 3) (funext fun a => Fin.ext ?_)
  blk_simp
  have z : win0_3.index t0_0 a = 0 := by revert a; decide
  rw [z, Nat.zero_mul, Nat.zero_add]

/-- The block of the output weights is all of it. -/
theorem wo_eq (c : Dev nD) : (inp m c).wo = V1 m c (Proc.devRef .tc main_arg4) := by
  funext y
  unfold inp
  dsimp only
  blk_simp
  refine congrArg (arrIn m c 4) (funext fun a => Fin.ext ?_)
  blk_simp
  have z : win0_4.index t0_0 a = 0 := by revert a; decide
  rw [z, Nat.zero_mul, Nat.zero_add]

end Cert.KernelIdeal.Math

end
-- ==== Proof.OutArr.lean ====
/-
  What the region leaves in the output array: the whole sum of the partial outputs.
-/
module

public import proofs.«01_k».proof.Proof.Region
public import Idealize.ShloMosaic.Lib.Pipeline.ValueKit

@[expose] public section

set_option maxRecDepth 16384

noncomputable section

namespace Cert.KernelIdeal.Math

open Idealize.ShloMosaic Idealize.ShloMosaic.TcCoe Cert.KernelIdeal Cert.KernelIdeal.Gen
open Cert.KernelIdeal.Flow hiding ix2

variable (m : (ℓ : Loc nD τ sig) → Buf (Elt Ideal) ℓ)

/-- The region's one point writes the whole output array. -/
theorem whole_out : Pipeline.Window.WholeAt (cfg0.win 5) t0_0 := by decide +kernel

/-- Region data that leave `G` in the output window leave it in the array. -/
theorem out_of {c : Dev nD} (dat : Pipeline.Dat τ (Elt Ideal) Unit ℕ UU ℕ cfg0 c) (G) (h : ∀ j, dat.after 5 t0_0 j = G j) : dat.arrAt 5 1 = G := by
  refine dat.arrAt_eq_of_after_last 5 t0_0 whole_out _ fun j => ?_
  exact h j

/-- The output array ends as the whole sum, in the output's format. -/
theorem out_arr (c : Dev nD) : (dat0 m c).arrAt 5 1 = outC (total (accs m)) := out_of (dat0 m c) _ fun _ => rfl

end Cert.KernelIdeal.Math

end
-- ==== Proof.Total.lean ====
/-
  The exchange's result over the extended reals: three pairwise sums across the three axes of the cube add up all eight
  devices' partial outputs, whichever device and whichever half they are read on.
-/
module

public import proofs.«01_k».proof.Proof.Schedule

@[expose] public section

set_option maxRecDepth 16384

noncomputable section

namespace Cert.KernelIdeal.Math

open Idealize.ShloMosaic Cert.KernelIdeal Cert.KernelIdeal.Flow

/-- A device, its neighbours across the three axes in the order of half `h`, and so on: all eight devices, once each. -/
theorem around_cube : ∀ (h : Fin 2) (d : Dev nD),
    ({d, flip (axj 0 h) d, flip (axj 1 h) d, flip (axj 0 h) (flip (axj 1 h) d), flip (axj 2 h) d, flip (axj 0 h) (flip (axj 2 h) d),
      flip (axj 1 h) (flip (axj 2 h) d), flip (axj 0 h) (flip (axj 1 h) (flip (axj 2 h) d))} : Multiset (Dev nD)) = (Finset.univ : Finset (Dev nD)).val := by
  decide +kernel

/-- The sums a half makes, spelt out, are the sum over the devices. -/
theorem cube_sum (f : Dev nD → EReal) (h : Fin 2) (d : Dev nD) :
    ((f d + f (flip (axj 0 h) d)) + (f (flip (axj 1 h) d) + f (flip (axj 0 h) (flip (axj 1 h) d))))
      + ((f (flip (axj 2 h) d) + f (flip (axj 0 h) (flip (axj 2 h) d)))
        + (f (flip (axj 1 h) (flip (axj 2 h) d)) + f (flip (axj 0 h) (flip (axj 1 h) (flip (axj 2 h) d))))) = ∑ c, f c := by
  rw [Finset.sum, ← around_cube h d]
  simp only [Multiset.insert_eq_cons, Multiset.map_cons, Multiset.map_singleton, Multiset.sum_cons, Multiset.sum_singleton, add_assoc]

/-- What the exchange leaves at an index is the sum of what the eight devices had there. -/
theorem total_at (a0 : Dev nD → S2048x1024.Idx → EReal) (i : S2048x1024.Idx) : total (F := Ideal) a0 i = ∑ c, a0 c i :=
  cube_sum (fun c => a0 c i) (hof i) (devOf (kof i))

end Cert.KernelIdeal.Math

end
-- ==== Proof.RefValue.lean ====
/-
  The reference's result, entry by entry over the extended reals: its mask, its scores, the weights, the context and the
  output projection.
-/
module

public import proofs.«01_k».proof.Proof.Masks
public import proofs.«01_k».proof.Proof.Attn
public import Idealize.ShloMosaic.Lib.Tactic.CleanTypes
public import Idealize.ShloMosaic.Lib.Routing.OpsOrder
public import proofs.«01_k».proof.Proof.Gen.ReferenceIdeal.Run

@[expose] public section

set_option maxRecDepth 16384

noncomputable section

namespace Cert.ReferenceIdeal.Math

open Cert.KernelIdeal.Math
open Idealize.ShloMosaic Idealize.ShloMosaic.TcCoe Cert.ReferenceIdeal Cert.ReferenceIdeal.Gen

/-! ## The stages -/

/-- Which keys a query sees. -/
def maskT : IVec S2048x2048 1 :=
  ori (cmpi .sle (absi (subi (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
      (broadcastInDim S2048x2048 ![] bcast_S_S2048x2048 (constantI S_ 32 128#32)))
    (ori (broadcastInDim S2048x2048 ![0, 1] bcast_S1x2048_S2048x2048_0_1 (cmpi .slt (broadcastInDim S1x2048 ![1] bcast_S2048_S1x2048_1 (iotaInDim S2048 32 0)) (broadcastInDim S1x2048 ![] bcast_S_S1x2048 (constantI S_ 32 32#32))))
      (broadcastInDim S2048x2048 ![0, 1] bcast_S2048x1_S2048x2048_0_1 (cmpi .slt (broadcastInDim S2048x1 ![0] bcast_S2048_S2048x1_0 (iotaInDim S2048 32 0)) (broadcastInDim S2048x1 ![] bcast_S_S2048x1 (constantI S_ 32 32#32)))))

/-- Which queries see some key. -/
def keepT (b : IVec S2048x2048 1) : IVec S1x1x2048x1 1 :=
  broadcastInDim S1x1x2048x1 ![2] bcast_S2048_S1x1x2048x1_2 (Host.reduce IntOp.ori b (constantI S_ 1 0#1) reducesTo_S2048x2048_S2048_d1 h_S_)

/-- The queries. -/
def queryT (x : FVec Ideal S1x2048x1024 .bf16) (w : FVec Ideal S1024x8192 .bf16) : FVec Ideal S1x2048x64x128 .f32 :=
  shapeCast _ (Host.dotGeneral dot_S1x2048x1024_S1024x8192_S1x2048x8192_2_0_01_1_n_n none (extf .f32 x bitsLt_bf16_f32) (extf .f32 w bitsLt_bf16_f32))
    shapeCasts_S1x2048x8192_S1x2048x64x128

/-- The masked scores. -/
def scoreT (b : IVec S2048x2048 1) (q : FVec Ideal S1x2048x64x128 .f32) (k : FVec Ideal S1x2048x64x128 .bf16) : FVec Ideal S1x64x2048x2048 .f32 :=
  select (broadcastInDim S1x64x2048x2048 ![0, 1, 2, 3] bcast_S1x1x2048x2048_S1x64x2048x2048_0_1_2_3 (broadcastInDim S1x1x2048x2048 ![2, 3] bcast_S2048x2048_S1x1x2048x2048_2_3 b))
    (mulf (Host.dotGeneral dot_S1x2048x64x128_S1x2048x64x128_S1x64x2048x2048_3_3_1_1_02_02 none q (extf .f32 k bitsLt_bf16_f32))
      (broadcastInDim S1x64x2048x2048 ![] bcast_S_S1x64x2048x2048 (constant S_ .f32 0x3DB504F3#32)))
    (broadcastInDim S1x64x2048x2048 ![] bcast_S_S1x64x2048x2048 (id (constant S_ .f32 0xFF800000#32)))

/-- The exponentials of the scores less their largest. -/
def expT (s : FVec Ideal S1x64x2048x2048 .f32) : FVec Ideal S1x64x2048x2048 .f32 :=
  Host.exp (subf s (broadcastInDim S1x64x2048x2048 ![0, 1, 2, 3] bcast_S1x64x2048x1_S1x64x2048x2048_0_1_2_3
    (broadcastInDim S1x64x2048x1 ![0, 1, 2] bcast_S1x64x2048_S1x64x2048x1_0_1_2
      (Host.reduce FloatOps.maximumf s (constant S_ .f32 0xFF800000#32) reducesTo_S1x64x2048x2048_S1x64x2048_d3 h_S_))))

/-- The weights. -/
def weightT (κ : IVec S1x1x2048x1 1) (e : FVec Ideal S1x64x2048x2048 .f32) : FVec Ideal S1x64x2048x2048 .f32 :=
  select (broadcastInDim S1x64x2048x2048 ![0, 1, 2, 3] bcast_S1x1x2048x1_S1x64x2048x2048_0_1_2_3 κ)
    (Host.divf e (broadcastInDim S1x64x2048x2048 ![0, 1, 2, 3] bcast_S1x64x2048x1_S1x64x2048x2048_0_1_2_3
      (select (broadcastInDim S1x64x2048x1 ![0, 1, 2, 3] bcast_S1x1x2048x1_S1x64x2048x1_0_1_2_3 κ)
        (broadcastInDim S1x64x2048x1 ![0, 1, 2] bcast_S1x64x2048_S1x64x2048x1_0_1_2
          (Host.reduceAdd e (constant S_ .f32 0x00000000#32) reducesTo_S1x64x2048x2048_S1x64x2048_d3 h_S_))
        (broadcastInDim S1x64x2048x1 ![] bcast_S_S1x64x2048x1 (id (constant S_ .f32 0x3F800000#32))))))
    (broadcastInDim S1x64x2048x2048 ![] bcast_S_S1x64x2048x2048 (id (constant S_ .f32 0x00000000#32)))

/-- The context, the heads side by side. -/
def ctxT (v : FVec Ideal S1x2048x64x128 .bf16) (w : FVec Ideal S1x64x2048x2048 .f32) : FVec Ideal S1x2048x8192 .f32 :=
  shapeCast _ (transpose S1x2048x64x128 [0, 3, 1, 2] (Host.dotGeneral dot_S1x2048x64x128_S1x64x2048x2048_S1x64x128x2048_1_3_3_2_02_01 none
    (extf .f32 v bitsLt_bf16_f32) w) transposes_S1x64x128x2048_S1x2048x64x128_0_3_1_2) shapeCasts_S1x2048x64x128_S1x2048x8192

/-- The output. -/
def outT (c : FVec Ideal S1x2048x8192 .f32) (w : FVec Ideal S8192x1024 .bf16) : FVec Ideal S1x2048x1024 .f32 :=
  Host.dotGeneral dot_S1x2048x8192_S8192x1024_S1x2048x1024_2_0_01_1_n_n none c (extf .f32 w bitsLt_bf16_f32)

/-- The reference's result is its stages, one after another. -/
theorem stages (m : (ℓ : Loc nD τ sig) → Buf (Elt Ideal) ℓ) (c : Dev nD) :
    Value.res_main_v47 m c = outT (ctxT (m ((c.tc : Thread nD τ).loc main_arg3)) (weightT (keepT maskT)
      (expT (scoreT maskT (queryT (m ((c.tc : Thread nD τ).loc main_arg0)) (m ((c.tc : Thread nD τ).loc main_arg1))) (m ((c.tc : Thread nD τ).loc main_arg2))))))
      (m ((c.tc : Thread nD τ).loc main_arg4)) := rfl

/-! ## The stages at an index -/

/-- The word of minus infinity. -/
theorem low : Ideal.ofBits .f32 0xFF800000#32 = (⊥ : EReal) := by
  have h1 : (BitVec.extractLsb' 23 8 (0xFF800000#32)).toNat = 2 ^ 8 - 1 := by decide
  have h2 : (BitVec.extractLsb' 0 23 (0xFF800000#32)).toNat = 0 := by decide
  simp only [Ideal.ofBits, Ideal.ieee, if_pos h1, if_pos h2]
  rfl

/-- The mask is the test that the query sees the key. -/
theorem maskT_at (i k : Fin 2048) : maskT (ix2 i k) = BitVec.ofBool (decide (seen i.val k.val)) := by
  have e : maskT (ix2 i k) = IntOp.ori (IntOp.cmpi .sle (IntOp.absi (IntOp.subi (BitVec.ofNat 32 i.val) (BitVec.ofNat 32 k.val))) 128#32)
      (IntOp.ori (IntOp.cmpi .slt (BitVec.ofNat 32 k.val) 32#32) (IntOp.cmpi .slt (BitVec.ofNat 32 i.val) 32#32)) := by
    pointwise [maskT]
  rw [e, near_word _ _ (by omega) (by omega), lt_word _ (by omega), lt_word _ (by omega), or_word, or_word]
  rfl

/-- Every query sees some key: itself. -/
theorem keepT_at (i : Fin 2048) : keepT maskT (ix4 0 0 i 0) = 1#1 := by
  have e : ∀ b : IVec S2048x2048 1, keepT b (ix4 0 0 i 0) = Finset.univ.fold IntOp.ori 0#1 fun k : Fin 2048 => b (ix2 i k) := fun b => by
    pointwise [keepT]
  rw [e, Routing.fold_ori]
  refine ⟨i, Finset.mem_univ _, ?_⟩
  rw [maskT_at, decide_eq_true (show seen i.val i.val from Or.inl ⟨by omega, by omega⟩)]
  rfl

theorem queryT_at (x : FVec Ideal S1x2048x1024 .bf16) (w : FVec Ideal S1024x8192 .bf16) (i : Fin 2048) (h : Fin 64) (d : Fin 128) :
    queryT x w (ix4 0 i h d) = ∑ e : Fin 1024, (x (ix3 0 i e) : EReal) * (w (ix2 e ⟨h.val * 128 + d.val, by omega⟩) : EReal) := by
  pointwise [queryT]

theorem scoreT_at (b : IVec S2048x2048 1) (q : FVec Ideal S1x2048x64x128 .f32) (k : FVec Ideal S1x2048x64x128 .bf16) (h : Fin 64) (i j : Fin 2048) :
    scoreT b q k (ix4 0 h i j) = Scalar.select (b (ix2 i j)) ((∑ e : Fin 128, (q (ix4 0 i h e) : EReal) * (k (ix4 0 j h e) : EReal)) * scale) (⊥ : EReal) := by
  have e : (⊥ : EReal) = id (constant (F := Ideal) S_ .f32 0xFF800000#32) ix0 := low.symm
  rw [e]
  unfold scale
  pointwise [scoreT]

theorem expT_at (s : FVec Ideal S1x64x2048x2048 .f32) (h : Fin 64) (i j : Fin 2048) :
    expT s (ix4 0 h i j) = Ideal.exp ((s (ix4 0 h i j) : EReal) - Finset.univ.fold max (⊥ : EReal) fun k : Fin 2048 => (s (ix4 0 h i k) : EReal)) := by
  rw [← low]
  pointwise [expT]

theorem weightT_at (κ : IVec S1x1x2048x1 1) (e : FVec Ideal S1x64x2048x2048 .f32) (h : Fin 64) (i j : Fin 2048) (hκ : κ (ix4 0 0 i 0) = 1#1) :
    weightT κ e (ix4 0 h i j) = Ideal.div (e (ix4 0 h i j)) (∑ k : Fin 2048, (e (ix4 0 h i k) : EReal)) := by
  have one : ∀ (α : Type) (a b : α), Scalar.select (κ (ix4 0 0 i 0)) a b = a := fun α a b => by rw [hκ]; rfl
  pointwise [weightT]
  rw [one, one]

theorem ctxT_at (v : FVec Ideal S1x2048x64x128 .bf16) (w : FVec Ideal S1x64x2048x2048 .f32) (i : Fin 2048) (h : Fin 64) (d : Fin 128) :
    ctxT v w (ix3 0 i ⟨128 * h.val + d.val, by omega⟩) = ∑ k : Fin 2048, (v (ix4 0 k h d) : EReal) * (w (ix4 0 h i k) : EReal) := by
  pointwise [ctxT]

theorem outT_at (c : FVec Ideal S1x2048x8192 .f32) (w : FVec Ideal S8192x1024 .bf16) (i : Fin 2048) (n : Fin 1024) :
    outT c w (ix3 0 i n) = ∑ J : Fin 8192, (c (ix3 0 i J) : EReal) * (w (ix2 J n) : EReal) := by
  pointwise [outT]

/-! ## The result at an index -/

/-- The score of a query and a key in head `h`, before the mask. -/
def scores (x : S1x2048x1024.Idx → EReal) (w : S1024x8192.Idx → EReal) (k : S1x2048x64x128.Idx → EReal) (h : Fin 64) (i j : Fin 2048) : EReal :=
  (∑ e : Fin 128, (∑ f : Fin 1024, x (ix3 0 i f) * w (ix2 f ⟨h.val * 128 + e.val, by omega⟩)) * k (ix4 0 j h e)) * scale

/-- When the scores of a row are real, its context is the attention of the row's masked scores. -/
theorem context_at (x : S1x2048x1024.Idx → EReal) (w : S1024x8192.Idx → EReal) (k v : S1x2048x64x128.Idx → EReal) (i : Fin 2048) (h : Fin 64) (d : Fin 128)
    (s : Fin 2048 → ℝ) (hs : ∀ j, scores x w k h i j = (s j : EReal)) :
    ctxT v (weightT (keepT maskT) (expT (scoreT maskT (queryT x w) k))) (ix3 0 i ⟨128 * h.val + d.val, by omega⟩)
      = att (masked i.val (scores x w k h i)) fun j => v (ix4 0 j h d) := by
  have hM : ∀ j, (scoreT maskT (queryT x w) k (ix4 0 h i j) : EReal) = masked i.val (scores x w k h i) j := fun j => by
    rw [scoreT_at, maskT_at, select_word]
    simp only [queryT_at]
    rfl
  have hm : ∀ j, masked i.val (scores x w k h i) j = if seen i.val j.val then (s j : EReal) else ⊥ := fun j => by
    unfold masked; rw [hs]
  rw [ctxT_at]
  unfold att
  refine Finset.sum_congr rfl fun j _ => ?_
  rw [mul_comm, weightT_at _ _ _ _ _ (keepT_at i)]
  refine congrArg (fun a : EReal => a * v (ix4 0 j h d)) ?_
  simp only [expT_at, hM]
  exact softmax (fun j => seen i.val j.val) s i (Or.inl ⟨by omega, by omega⟩) _ hm j

end Cert.ReferenceIdeal.Math

end
-- ==== Proof.Finite.lean ====
/-
  What the precondition says: every entry of `x`, of the queries' weights and of the keys is a real number; and that sums
  and products of real numbers are real.
-/
module

public import proofs.«01_k».proof.Proof.Attn
public import Idealize.ShloMosaic.Lib.ReduceAll
public import proofs.«01_k».proof.Pre_finite_KernelIdeal

@[expose] public section

set_option maxRecDepth 16384

noncomputable section

namespace Cert.KernelIdeal.Math

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩

/-- A number whose absolute value is below infinity is real. -/
theorem isReal_of_test (x : EReal) (h : Ideal.cmp .olt (max x (-x)) (Ideal.ofBits .f32 0x7F800000#32) = 1#1) : IsReal x := by
  have h1 : (BitVec.extractLsb' 23 8 (0x7F800000#32)).toNat = 2 ^ 8 - 1 := by decide
  have h2 : (BitVec.extractLsb' 0 23 (0x7F800000#32)).toNat = 0 := by decide
  have inf : Ideal.ofBits .f32 0x7F800000#32 = (⊤ : EReal) := by
    simp only [Ideal.ofBits, Ideal.ieee, if_pos h1, if_pos h2]
    rfl
  rw [inf] at h
  have lt : max x (-x) < ⊤ := by
    by_contra hn
    unfold Ideal.cmp at h
    simp only [decide_eq_false hn] at h
    exact absurd h (by decide)
  induction x with
  | bot => exact absurd (lt_of_le_of_lt (le_max_right _ _) lt) (by rw [EReal.neg_bot]; exact lt_irrefl _)
  | coe r => exact ⟨r, rfl⟩
  | top => exact absurd (lt_of_le_of_lt (le_max_left _ _) lt) (lt_irrefl _)

/-- Two bits whose conjunction is one are one. -/
theorem and_bits : ∀ a b : BitVec 1, IntOp.andi a b = 1#1 → a = 1#1 ∧ b = 1#1 := by decide

variable [Cert.Pre_finite_KernelIdeal.Facts]
open Cert.Pre_finite_KernelIdeal

instance : Subsingleton S_.Idx := ⟨fun a b => funext fun i => i.elim0⟩

/-- The precondition makes `x`, the queries' weights and the keys real. -/
theorem real_args (x : S1x2048x1024.Idx → EReal) (w : S1024x1024.Idx → EReal) (k v : S1x2048x64x128.Idx → EReal) (o : S1024x1024.Idx → EReal)
    (h : Cert.Pre_finite_KernelIdeal.fn (F := Ideal) x w k v o = fun _ => 1#1) : (∀ i, IsReal (x i)) ∧ (∀ i, IsReal (w i)) ∧ ∀ i, IsReal (k i) := by
  have h0 := congrFun h ix0
  dsimp only [fn] at h0
  obtain ⟨h1, hk⟩ := and_bits _ _ h0
  obtain ⟨hx, hw⟩ := and_bits _ _ h1
  exact ⟨fun i => isReal_of_test _ (Host.reduce_andi_all _ _ _ _ _ hx i), fun i => isReal_of_test _ (Host.reduce_andi_all _ _ _ _ _ hw i),
    fun i => isReal_of_test _ (Host.reduce_andi_all _ _ _ _ _ hk i)⟩

end Cert.KernelIdeal.Math

end
-- ==== Proof.Equation.lean ====
/-
  The kernel's sum of partial outputs is the reference's output, entry by entry: device `c` holds columns `1024 c …` of the
  queries' weights and rows `1024 c …` of the output weights, and works on heads `8 c …`, so that its scores are the
  reference's scores of those heads and the eight partial products are the pieces of the one product over 8192 columns.
-/
module

public import proofs.«01_k».proof.Proof.Inputs
public import proofs.«01_k».proof.Proof.OutArr
public import proofs.«01_k».proof.Proof.Total
public import proofs.«01_k».proof.Proof.RefValue
public import proofs.«01_k».proof.Proof.Finite
public import Idealize.ShloMosaic.Lib.LayoutAt

@[expose] public section

set_option maxRecDepth 16384

noncomputable section

namespace Cert.KernelIdeal.Math

open Idealize.ShloMosaic Idealize.ShloMosaic.TcCoe Cert.KernelIdeal Cert.KernelIdeal.Gen
open Cert.KernelIdeal.Flow hiding ix2
open Cert.ReferenceIdeal.Math (scores context_at stages outT_at)

/-- Column `j` of device `c`'s block among all 8192. -/
def wide (c : Dev nD) (j : Fin 1024) : Fin 8192 := ⟨c.val * 1024 + j.val, by have : c.val < 8 := c.isLt; omega⟩

/-- The head and the lane of one of the 8192 columns. -/
def headOf64 (J : Fin 8192) : Fin 64 := ⟨J.val / 128, by omega⟩
def lane (J : Fin 8192) : Fin 128 := ⟨J.val % 128, Nat.mod_lt _ (by decide)⟩

section

variable (X : S1x2048x1024.Idx → EReal) (Wq : Cert.ReferenceIdeal.S1024x8192.Idx → EReal) (K V : S1x2048x64x128.Idx → EReal)
  (Wo : Cert.ReferenceIdeal.S8192x1024.Idx → EReal)

/-- Context column `J` of query `i`. -/
def context (i : Fin 2048) (J : Fin 8192) : EReal :=
  att (masked i.val (scores X Wq K (headOf64 J) i)) fun k => V (ix4 0 k (headOf64 J) (lane J))

/-- Device `c`'s inputs are its blocks of the whole arrays. -/
structure Holds (c : Dev nD) (I : Inp Ideal) : Prop where
  x : xv I = X
  wq : ∀ e j, wqv I (ix2 e j) = Wq (ix2 e (wide c j))
  k : ∀ k h d, kv I (ix2 k (col h d)) = K (ix4 0 k (hd c h) d)
  v : ∀ k h d, vv I (ix2 k (col h d)) = V (ix4 0 k (hd c h) d)
  wo : ∀ j n, wov I (ix2 j n) = Wo (ix2 (wide c j) n)

variable {X Wq K V Wo} {c : Dev nD} {I : Inp Ideal} (H : Holds X Wq K V Wo c I)

include H

/-- A device's score is the reference's score of the head it stands for. -/
theorem score_eq (h : Fin 8) (i k : Fin 2048) : score I h i k = scores X Wq K (hd c h) i k := by
  unfold score scores
  refine congrArg (fun a : EReal => a * scale) (Finset.sum_congr rfl fun e _ => ?_)
  rw [H.k, qv_at]
  refine congrArg (fun a : EReal => a * K (ix4 0 k (hd c h) e)) (Finset.sum_congr rfl fun f _ => ?_)
  rw [H.x, H.wq]
  refine congrArg (fun J => X (ix3 0 i f) * Wq (ix2 f J)) (Fin.ext ?_)
  change c.val * 1024 + (128 * h.val + e.val) = (8 * c.val + h.val) * 128 + e.val
  omega

/-- A device's context is the reference's, at the columns it holds. -/
theorem context_eq (i : Fin 2048) (j : Fin 1024) : cv I (ix2 i j) = context X Wq K V i (wide c j) := by
  obtain ⟨h, d, rfl⟩ : ∃ h d, j = col h d :=
    ⟨⟨j.val / 128, by omega⟩, ⟨j.val % 128, Nat.mod_lt _ (by decide)⟩, Fin.ext (Nat.div_add_mod j.val 128).symm⟩
  have eh : headOf64 (wide c (col h d)) = hd c h := Fin.ext (by change (c.val * 1024 + (128 * h.val + d.val)) / 128 = 8 * c.val + h.val; omega)
  have ed : lane (wide c (col h d)) = d := Fin.ext (by change (c.val * 1024 + (128 * h.val + d.val)) % 128 = d.val; omega)
  rw [cv_at]
  unfold context
  rw [eh, ed]
  refine congrArg₂ (fun S W => att (masked i.val S) W) (funext fun k => score_eq H h i k) (funext fun k => ?_)
  exact H.v k h d

/-- A device's partial output is its piece of the product with the output weights. -/
theorem partial_eq (i : Fin 2048) (n : Fin 1024) : av I (ix2 i n) = ∑ j : Fin 1024, context X Wq K V i (wide c j) * Wo (ix2 (wide c j) n) := by
  rw [av_at]
  exact Finset.sum_congr rfl fun j _ => by rw [context_eq H, H.wo]

end

/-- The eight pieces of a sum over 8192 columns. -/
theorem pieces (f : Fin 8192 → EReal) : ∑ c : Dev nD, ∑ j : Fin 1024, f (wide c j) = ∑ J, f J :=
  Fin.sum_mul_add_fin 8 1024 f (by decide)

end Cert.KernelIdeal.Math

end
-- ==== Proof.Algebraic.lean ====
/-
  The two programs' outputs are equal: from arguments whose entries in `x`, the queries' weights and the keys are real numbers,
  every device of the kernel ends with the reference's output.
-/
module

public import proofs.«01_k».proof.Proof.Equation
public import proofs.«01_k».proof.Proof.Frames
public import proofs.«01_k».proof.Defs

@[expose] public section

set_option maxRecDepth 16384

noncomputable section

namespace Cert.KernelIdeal.Math

open Idealize.ShloMosaic Idealize.ShloMosaic.TcCoe Cert.KernelIdeal Cert.KernelIdeal.Gen
open Idealize.SL.Sem
open Cert.KernelIdeal.Flow hiding ix2
open Cert.ReferenceIdeal.Math (scores context_at stages outT_at)

variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The reference's argument `x`, as a function of an index into the extended reals. -/
def rx : S1x2048x1024.Idx → EReal := m' (((0 : Dev Cert.ReferenceIdeal.nD).tc : Thread Cert.ReferenceIdeal.nD Cert.ReferenceIdeal.τ).loc Cert.ReferenceIdeal.main_arg0)

/-- The reference's queries' weights. -/
def rwq : Cert.ReferenceIdeal.S1024x8192.Idx → EReal := m' (((0 : Dev Cert.ReferenceIdeal.nD).tc : Thread Cert.ReferenceIdeal.nD Cert.ReferenceIdeal.τ).loc Cert.ReferenceIdeal.main_arg1)

/-- The reference's keys. -/
def rk : S1x2048x64x128.Idx → EReal := m' (((0 : Dev Cert.ReferenceIdeal.nD).tc : Thread Cert.ReferenceIdeal.nD Cert.ReferenceIdeal.τ).loc Cert.ReferenceIdeal.main_arg2)

/-- The reference's values. -/
def rv : S1x2048x64x128.Idx → EReal := m' (((0 : Dev Cert.ReferenceIdeal.nD).tc : Thread Cert.ReferenceIdeal.nD Cert.ReferenceIdeal.τ).loc Cert.ReferenceIdeal.main_arg3)

/-- The reference's output weights. -/
def rwo : Cert.ReferenceIdeal.S8192x1024.Idx → EReal := m' (((0 : Dev Cert.ReferenceIdeal.nD).tc : Thread Cert.ReferenceIdeal.nD Cert.ReferenceIdeal.τ).loc Cert.ReferenceIdeal.main_arg4)

/-- The reference's output. -/
def refOut : S1x2048x1024.Idx → EReal := Cert.ReferenceIdeal.Value.res_main_v47 m' 0

/-- Each device of the kernel holds its blocks of the reference's arguments. -/
def Agree : Prop := ∀ c : Dev nD,
  m ((c.tc : Thread nD τ).loc main_arg0) = m' (((0 : Dev Cert.ReferenceIdeal.nD).tc : Thread Cert.ReferenceIdeal.nD Cert.ReferenceIdeal.τ).loc Cert.ReferenceIdeal.main_arg0)
  ∧ m ((c.tc : Thread nD τ).loc main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
  ∧ m ((c.tc : Thread nD τ).loc main_arg2) = m' (((0 : Dev Cert.ReferenceIdeal.nD).tc : Thread Cert.ReferenceIdeal.nD Cert.ReferenceIdeal.τ).loc Cert.ReferenceIdeal.main_arg2)
  ∧ m ((c.tc : Thread nD τ).loc main_arg3) = m' (((0 : Dev Cert.ReferenceIdeal.nD).tc : Thread Cert.ReferenceIdeal.nD Cert.ReferenceIdeal.τ).loc Cert.ReferenceIdeal.main_arg3)
  ∧ m ((c.tc : Thread nD τ).loc main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))

variable {m m'}

/-- A device's block of the queries' weights, entry by entry. -/
theorem wq_at (A : Agree m m') (c : Dev nD) (e j : Fin 1024) : (m ((c.tc : Thread nD τ).loc main_arg1) (ix2 e j) : EReal) = rwq m' (ix2 e (wide c j)) := by
  refine (congrFun (A c).2.1 (ix2 e j)).trans (congrArg (rwq m') (funext fun a => Fin.ext ?_))
  match a with
  | 0 => rfl
  | 1 => rfl

/-- A device's block of the output weights, entry by entry. -/
theorem wo_at (A : Agree m m') (c : Dev nD) (j n : Fin 1024) : (m ((c.tc : Thread nD τ).loc main_arg4) (ix2 j n) : EReal) = rwo m' (ix2 (wide c j) n) := by
  refine (congrFun (A c).2.2.2.2 (ix2 j n)).trans (congrArg (rwo m') (funext fun a => Fin.ext ?_))
  match a with
  | 0 => rfl
  | 1 => rfl

/-- What a device's windows bring in are its blocks of the reference's arguments. -/
theorem inp_holds (A : Agree m m') (c : Dev nD) : Holds (rx m') (rwq m') (rk m') (rv m') (rwo m') c (inp m c) where
  x := ((x_eq m c).trans (V1_of m c main_arg0 (by decide))).trans (A c).1
  wq e j := (congrFun ((wq_eq m c).trans (V1_of m c main_arg1 (by decide))) (ix2 e j)).trans (wq_at A c e j)
  k k h d := (congrFun (k_eq m c) (ix2 k (col h d))).trans ((keys_at m c k h d).trans (congrFun (A c).2.2.1 (ix4 0 k (hd c h) d)))
  v k h d := (congrFun (v_eq m c) (ix2 k (col h d))).trans ((values_at m c k h d).trans (congrFun (A c).2.2.2.1 (ix4 0 k (hd c h) d)))
  wo j n := (congrFun ((wo_eq m c).trans (V1_of m c main_arg4 (by decide))) (ix2 j n)).trans (wo_at A c j n)

/-- The output's entries are the sum's. -/
theorem outC_at (t : AccC Ideal) (i : Fin 2048) (n : Fin 1024) : outC t (ix3 0 i n) = t (ix2 i n) := by
  unfold outC
  pointwise [k0_pay1]

/-- An index of the output. -/
theorem out_idx (y : S1x2048x1024.Idx) : ∃ (i : Fin 2048) (n : Fin 1024), y = ix3 0 i n := by
  refine ⟨y 1, y 2, funext fun a => ?_⟩
  match a with
  | 0 => exact Subsingleton.elim (α := Fin 1) _ _
  | 1 => rfl
  | 2 => rfl

/-- Under the precondition the reference's scores are real. -/
theorem scores_real [Cert.Pre_finite_KernelIdeal.Facts] (A : Agree m m') (P : Cert.Pre_KernelIdeal_finite_KernelIdeal m) (h : Fin 64) (i k : Fin 2048) :
    IsReal (scores (rx m') (rwq m') (rk m') h i k) := by
  have hx : ∀ y, IsReal (rx m' y) := fun y => by
    have := (real_args _ _ _ _ _ (P 0)).1 y
    rwa [show m (((0 : Dev nD).tc : Thread nD τ).loc main_arg0) = rx m' from (A 0).1] at this
  have hk : ∀ y, IsReal (rk m' y) := fun y => by
    have := (real_args _ _ _ _ _ (P 0)).2.2 y
    rwa [show m (((0 : Dev nD).tc : Thread nD τ).loc main_arg2) = rk m' from (A 0).2.2.1] at this
  have hw : ∀ f J, IsReal (rwq m' (ix2 f J)) := fun f J => by
    have e : J = wide (⟨J.val / 1024, by have := J.isLt; show J.val / 1024 < 8; omega⟩ : Dev nD) ⟨J.val % 1024, Nat.mod_lt _ (by decide)⟩ :=
      Fin.ext (Nat.div_add_mod' J.val 1024).symm
    rw [e, ← wq_at A]
    exact (real_args _ _ _ _ _ (P _)).2.1 _
  unfold scores
  exact (IsReal.sum _ fun e => (IsReal.sum _ fun f => (hx _).mul (hw _ _)).mul (hk _)).mul scale_real

/-- The reference's output at an index: the product of its context's row with a column of the output weights. -/
theorem reference_at [Cert.Pre_finite_KernelIdeal.Facts] (A : Agree m m') (P : Cert.Pre_KernelIdeal_finite_KernelIdeal m) (i : Fin 2048) (n : Fin 1024) :
    refOut m' (ix3 0 i n) = ∑ J : Fin 8192, context (rx m') (rwq m') (rk m') (rv m') i J * rwo m' (ix2 J n) := by
  refine Eq.trans (α := EReal) (congrFun (stages m' 0) (ix3 0 i n)) (Eq.trans (α := EReal) (outT_at _ _ i n) ?_)
  refine Finset.sum_congr rfl fun J _ => congrArg (fun a : EReal => a * rwo m' (ix2 J n)) ?_
  have e : J = ⟨128 * (headOf64 J).val + (lane J).val, by have := J.isLt; change 128 * (J.val / 128) + J.val % 128 < 8192; omega⟩ :=
    Fin.ext (Nat.div_add_mod J.val 128).symm
  choose s hs using fun k => scores_real A P (headOf64 J) i k
  have := context_at (rx m') (rwq m') (rk m') (rv m') i (headOf64 J) (lane J) s hs
  rw [← e] at this
  exact this

/-- The kernel's output is the reference's. -/
theorem outputs_eq [Cert.Pre_finite_KernelIdeal.Facts] (A : Agree m m') (P : Cert.Pre_KernelIdeal_finite_KernelIdeal m) (c : Dev nD) :
    (dat0 m c).arrAt 5 1 = Cert.ReferenceIdeal.Value.res_main_v47 m' 0 := by
  rw [out_arr]
  funext y
  obtain ⟨i, n, rfl⟩ := out_idx y
  refine (outC_at _ i n).trans (((total_at (fun d => av (inp m d)) (ix2 i n)).trans ?_).trans (reference_at A P i n).symm)
  refine (Finset.sum_congr rfl fun d _ => partial_eq (inp_holds A d) i n).trans ?_
  exact pieces fun J => context (rx m') (rwq m') (rk m') (rv m') i J * rwo m' (ix2 J n)

/-- The idealized kernel computes the reference: from agreeing arguments that satisfy the precondition, every device's output
    is the reference's output, and both programs leave their arguments. -/
theorem computes_reference : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' P A
  refine ⟨Cert.ReferenceIdeal.Value.res_main_v47 m' 0, ?_, ?_⟩
  · refine (θ_run defs _ _).mono (fun r h c => ⟨?_, (h.1 c).1⟩) (Flow.run (F := Ideal) m g)
    exact (h.1 c).2.trans (@outputs_eq m m' Cert.Pre_finite_KernelIdeal.Gen.facts A P c)
  · exact (θ_run Cert.ReferenceIdeal.defs _ _).mono (fun r h => h 0) (Cert.ReferenceIdeal.Value.run (F := Ideal) m' g')

end Cert.KernelIdeal.Math

end
-- ==== Proof.lean ====
module

public import proofs.«01_k».proof.Defs
public import proofs.«01_k».proof.Proof.Frames
public import proofs.«01_k».proof.Proof.Algebraic

@[expose] public section

noncomputable section

namespace Cert.Proof

open Cert.KernelIdeal.Flow Cert.KernelIdeal.Math

/-- Every claim of the certificate. -/
theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  kernel_frame, kernelIdeal_frame, kernelIdeal_frame_pre, reference_frame, reference_frame_pre, mask_named, computes_reference⟩

end Cert.Proof

end
